-- ==== Defs.lean ====
def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Qu (m : (ℓ : Loc Cert.Qu.nD Cert.Qu.τ Cert.Qu.sig) → Buf (Elt Bits) ℓ) : Prop :=
  True

def Pre_QuIdeal (m : (ℓ : Loc Cert.QuIdeal.nD Cert.QuIdeal.τ Cert.QuIdeal.sig) → Buf (Elt Ideal) ℓ) : Prop :=
  True

def Pre_QuRefIdeal (m : (ℓ : Loc Cert.QuRefIdeal.nD Cert.QuRefIdeal.τ Cert.QuRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ks (m : (ℓ : Loc Cert.Ks.nD Cert.Ks.τ Cert.Ks.sig) → Buf (Elt Bits) ℓ) : Prop :=
  True

def Pre_KsIdeal (m : (ℓ : Loc Cert.KsIdeal.nD Cert.KsIdeal.τ Cert.KsIdeal.sig) → Buf (Elt Ideal) ℓ) : Prop :=
  True

def Pre_KsRefIdeal (m : (ℓ : Loc Cert.KsRefIdeal.nD Cert.KsRefIdeal.τ Cert.KsRefIdeal.sig) → Buf (Elt Ideal) ℓ) : Prop :=
  True

def Pre_Vs (m : (ℓ : Loc Cert.Vs.nD Cert.Vs.τ Cert.Vs.sig) → Buf (Elt Bits) ℓ) : Prop :=
  True

def Pre_VsIdeal (m : (ℓ : Loc Cert.VsIdeal.nD Cert.VsIdeal.τ Cert.VsIdeal.sig) → Buf (Elt Ideal) ℓ) : Prop :=
  True

def Pre_VsRefIdeal (m : (ℓ : Loc Cert.VsRefIdeal.nD Cert.VsRefIdeal.τ Cert.VsRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Yp (m : (ℓ : Loc Cert.Yp.nD Cert.Yp.τ Cert.Yp.sig) → Buf (Elt Bits) ℓ) : Prop :=
  True

def Pre_YpIdeal (m : (ℓ : Loc Cert.YpIdeal.nD Cert.YpIdeal.τ Cert.YpIdeal.sig) → Buf (Elt Ideal) ℓ) : Prop :=
  True

def Pre_YpRefIdeal (m : (ℓ : Loc Cert.YpRefIdeal.nD Cert.YpRefIdeal.τ Cert.YpRefIdeal.sig) → Buf (Elt Ideal) ℓ) : Prop :=
  True

def Pre_Ys (m : (ℓ : Loc Cert.Ys.nD Cert.Ys.τ Cert.Ys.sig) → Buf (Elt Bits) ℓ) : Prop :=
  True

def Pre_YsIdeal (m : (ℓ : Loc Cert.YsIdeal.nD Cert.YsIdeal.τ Cert.YsIdeal.sig) → Buf (Elt Ideal) ℓ) : Prop :=
  True

def Pre_YsRefIdeal (m : (ℓ : Loc Cert.YsRefIdeal.nD Cert.YsRefIdeal.τ Cert.YsRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Uc (m : (ℓ : Loc Cert.Uc.nD Cert.Uc.τ Cert.Uc.sig) → Buf (Elt Bits) ℓ) : Prop :=
  True

def Pre_UcIdeal (m : (ℓ : Loc Cert.UcIdeal.nD Cert.UcIdeal.τ Cert.UcIdeal.sig) → Buf (Elt Ideal) ℓ) : Prop :=
  True

def Pre_UcRefIdeal (m : (ℓ : Loc Cert.UcRefIdeal.nD Cert.UcRefIdeal.τ Cert.UcRefIdeal.sig) → Buf (Elt Ideal) ℓ) : Prop :=
  True

def Pre_Se (m : (ℓ : Loc Cert.Se.nD Cert.Se.τ Cert.Se.sig) → Buf (Elt Bits) ℓ) : Prop :=
  True

def Pre_SeIdeal (m : (ℓ : Loc Cert.SeIdeal.nD Cert.SeIdeal.τ Cert.SeIdeal.sig) → Buf (Elt Ideal) ℓ) : Prop :=
  True

def Pre_SeRefIdeal (m : (ℓ : Loc Cert.SeRefIdeal.nD Cert.SeRefIdeal.τ Cert.SeRefIdeal.sig) → Buf (Elt Ideal) ℓ) : Prop :=
  True

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Qu [hQu : Cert.Qu.Facts] : Prop :=
  ∀ (m : (ℓ : Loc Cert.Qu.nD Cert.Qu.τ Cert.Qu.sig) → Buf (Elt Bits) ℓ) (g : Dev Cert.Qu.nD → PrngReg), Pre_Qu m →
    θ_run (Cert.Qu.defs (F := Bits)) (onTc (τ := Cert.Qu.τ) (Cert.Qu.main (F := Bits))) ⟨m, fun _ => 0, g⟩ (fun r => (∀ c : Dev Cert.Qu.nD,
      r.2.mem ((c.tc : Thread Cert.Qu.nD Cert.Qu.τ).loc Cert.Qu.main_arg0) = m ((c.tc : Thread Cert.Qu.nD Cert.Qu.τ).loc Cert.Qu.main_arg0)
      ∧ r.2.mem ((c.tc : Thread Cert.Qu.nD Cert.Qu.τ).loc Cert.Qu.main_arg1) = m ((c.tc : Thread Cert.Qu.nD Cert.Qu.τ).loc Cert.Qu.main_arg1))
      ∧ r.2.sem = fun _ => 0)

def quiescent_QuIdeal [hQuIdeal : Cert.QuIdeal.Facts] : Prop :=
  ∀ (m : (ℓ : Loc Cert.QuIdeal.nD Cert.QuIdeal.τ Cert.QuIdeal.sig) → Buf (Elt Ideal) ℓ) (g : Dev Cert.QuIdeal.nD → PrngReg), Pre_QuIdeal m →
    θ_run (Cert.QuIdeal.defs (F := Ideal)) (onTc (τ := Cert.QuIdeal.τ) (Cert.QuIdeal.main (F := Ideal))) ⟨m, fun _ => 0, g⟩ (fun r => (∀ c : Dev Cert.QuIdeal.nD,
      r.2.mem ((c.tc : Thread Cert.QuIdeal.nD Cert.QuIdeal.τ).loc Cert.QuIdeal.main_arg0) = m ((c.tc : Thread Cert.QuIdeal.nD Cert.QuIdeal.τ).loc Cert.QuIdeal.main_arg0)
      ∧ r.2.mem ((c.tc : Thread Cert.QuIdeal.nD Cert.QuIdeal.τ).loc Cert.QuIdeal.main_arg1) = m ((c.tc : Thread Cert.QuIdeal.nD Cert.QuIdeal.τ).loc Cert.QuIdeal.main_arg1))
      ∧ r.2.sem = fun _ => 0)

def quiescent_QuRefIdeal [hQuRefIdeal : Cert.QuRefIdeal.Facts] : Prop :=
  ∀ (m : (ℓ : Loc Cert.QuRefIdeal.nD Cert.QuRefIdeal.τ Cert.QuRefIdeal.sig) → Buf (Elt Ideal) ℓ) (g : Dev Cert.QuRefIdeal.nD → PrngReg), Pre_QuRefIdeal m →
    θ_run (Cert.QuRefIdeal.defs (F := Ideal)) (onTc (τ := Cert.QuRefIdeal.τ) (Cert.QuRefIdeal.main (F := Ideal))) ⟨m, fun _ => 0, g⟩ (fun r => (∀ c : Dev Cert.QuRefIdeal.nD,
      r.2.mem ((c.tc : Thread Cert.QuRefIdeal.nD Cert.QuRefIdeal.τ).loc Cert.QuRefIdeal.main_arg0) = m ((c.tc : Thread Cert.QuRefIdeal.nD Cert.QuRefIdeal.τ).loc Cert.QuRefIdeal.main_arg0)
      ∧ r.2.mem ((c.tc : Thread Cert.QuRefIdeal.nD Cert.QuRefIdeal.τ).loc Cert.QuRefIdeal.main_arg1) = m ((c.tc : Thread Cert.QuRefIdeal.nD Cert.QuRefIdeal.τ).loc Cert.QuRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Ks [hKs : Cert.Ks.Facts] : Prop :=
  ∀ (m : (ℓ : Loc Cert.Ks.nD Cert.Ks.τ Cert.Ks.sig) → Buf (Elt Bits) ℓ) (g : Dev Cert.Ks.nD → PrngReg), Pre_Ks m →
    θ_run (Cert.Ks.defs (F := Bits)) (onTc (τ := Cert.Ks.τ) (Cert.Ks.main (F := Bits))) ⟨m, fun _ => 0, g⟩ (fun r => (∀ c : Dev Cert.Ks.nD,
      r.2.mem ((c.tc : Thread Cert.Ks.nD Cert.Ks.τ).loc Cert.Ks.main_arg0) = m ((c.tc : Thread Cert.Ks.nD Cert.Ks.τ).loc Cert.Ks.main_arg0)
      ∧ r.2.mem ((c.tc : Thread Cert.Ks.nD Cert.Ks.τ).loc Cert.Ks.main_arg1) = m ((c.tc : Thread Cert.Ks.nD Cert.Ks.τ).loc Cert.Ks.main_arg1))
      ∧ r.2.sem = fun _ => 0)

def quiescent_KsIdeal [hKsIdeal : Cert.KsIdeal.Facts] : Prop :=
  ∀ (m : (ℓ : Loc Cert.KsIdeal.nD Cert.KsIdeal.τ Cert.KsIdeal.sig) → Buf (Elt Ideal) ℓ) (g : Dev Cert.KsIdeal.nD → PrngReg), Pre_KsIdeal m →
    θ_run (Cert.KsIdeal.defs (F := Ideal)) (onTc (τ := Cert.KsIdeal.τ) (Cert.KsIdeal.main (F := Ideal))) ⟨m, fun _ => 0, g⟩ (fun r => (∀ c : Dev Cert.KsIdeal.nD,
      r.2.mem ((c.tc : Thread Cert.KsIdeal.nD Cert.KsIdeal.τ).loc Cert.KsIdeal.main_arg0) = m ((c.tc : Thread Cert.KsIdeal.nD Cert.KsIdeal.τ).loc Cert.KsIdeal.main_arg0)
      ∧ r.2.mem ((c.tc : Thread Cert.KsIdeal.nD Cert.KsIdeal.τ).loc Cert.KsIdeal.main_arg1) = m ((c.tc : Thread Cert.KsIdeal.nD Cert.KsIdeal.τ).loc Cert.KsIdeal.main_arg1))
      ∧ r.2.sem = fun _ => 0)

def quiescent_KsRefIdeal [hKsRefIdeal : Cert.KsRefIdeal.Facts] : Prop :=
  ∀ (m : (ℓ : Loc Cert.KsRefIdeal.nD Cert.KsRefIdeal.τ Cert.KsRefIdeal.sig) → Buf (Elt Ideal) ℓ) (g : Dev Cert.KsRefIdeal.nD → PrngReg), Pre_KsRefIdeal m →
    θ_run (Cert.KsRefIdeal.defs (F := Ideal)) (onTc (τ := Cert.KsRefIdeal.τ) (Cert.KsRefIdeal.main (F := Ideal))) ⟨m, fun _ => 0, g⟩ (fun r => (∀ c : Dev Cert.KsRefIdeal.nD,
      r.2.mem ((c.tc : Thread Cert.KsRefIdeal.nD Cert.KsRefIdeal.τ).loc Cert.KsRefIdeal.main_arg0) = m ((c.tc : Thread Cert.KsRefIdeal.nD Cert.KsRefIdeal.τ).loc Cert.KsRefIdeal.main_arg0)
      ∧ r.2.mem ((c.tc : Thread Cert.KsRefIdeal.nD Cert.KsRefIdeal.τ).loc Cert.KsRefIdeal.main_arg1) = m ((c.tc : Thread Cert.KsRefIdeal.nD Cert.KsRefIdeal.τ).loc Cert.KsRefIdeal.main_arg1))
      ∧ r.2.sem = fun _ => 0)

def quiescent_Vs [hVs : Cert.Vs.Facts] : Prop :=
  ∀ (m : (ℓ : Loc Cert.Vs.nD Cert.Vs.τ Cert.Vs.sig) → Buf (Elt Bits) ℓ) (g : Dev Cert.Vs.nD → PrngReg), Pre_Vs m →
    θ_run (Cert.Vs.defs (F := Bits)) (onTc (τ := Cert.Vs.τ) (Cert.Vs.main (F := Bits))) ⟨m, fun _ => 0, g⟩ (fun r => (∀ c : Dev Cert.Vs.nD,
      r.2.mem ((c.tc : Thread Cert.Vs.nD Cert.Vs.τ).loc Cert.Vs.main_arg0) = m ((c.tc : Thread Cert.Vs.nD Cert.Vs.τ).loc Cert.Vs.main_arg0)
      ∧ r.2.mem ((c.tc : Thread Cert.Vs.nD Cert.Vs.τ).loc Cert.Vs.main_arg1) = m ((c.tc : Thread Cert.Vs.nD Cert.Vs.τ).loc Cert.Vs.main_arg1))
      ∧ r.2.sem = fun _ => 0)

def quiescent_VsIdeal [hVsIdeal : Cert.VsIdeal.Facts] : Prop :=
  ∀ (m : (ℓ : Loc Cert.VsIdeal.nD Cert.VsIdeal.τ Cert.VsIdeal.sig) → Buf (Elt Ideal) ℓ) (g : Dev Cert.VsIdeal.nD → PrngReg), Pre_VsIdeal m →
    θ_run (Cert.VsIdeal.defs (F := Ideal)) (onTc (τ := Cert.VsIdeal.τ) (Cert.VsIdeal.main (F := Ideal))) ⟨m, fun _ => 0, g⟩ (fun r => (∀ c : Dev Cert.VsIdeal.nD,
      r.2.mem ((c.tc : Thread Cert.VsIdeal.nD Cert.VsIdeal.τ).loc Cert.VsIdeal.main_arg0) = m ((c.tc : Thread Cert.VsIdeal.nD Cert.VsIdeal.τ).loc Cert.VsIdeal.main_arg0)
      ∧ r.2.mem ((c.tc : Thread Cert.VsIdeal.nD Cert.VsIdeal.τ).loc Cert.VsIdeal.main_arg1) = m ((c.tc : Thread Cert.VsIdeal.nD Cert.VsIdeal.τ).loc Cert.VsIdeal.main_arg1))
      ∧ r.2.sem = fun _ => 0)

def quiescent_VsRefIdeal [hVsRefIdeal : Cert.VsRefIdeal.Facts] : Prop :=
  ∀ (m : (ℓ : Loc Cert.VsRefIdeal.nD Cert.VsRefIdeal.τ Cert.VsRefIdeal.sig) → Buf (Elt Ideal) ℓ) (g : Dev Cert.VsRefIdeal.nD → PrngReg), Pre_VsRefIdeal m →
    θ_run (Cert.VsRefIdeal.defs (F := Ideal)) (onTc (τ := Cert.VsRefIdeal.τ) (Cert.VsRefIdeal.main (F := Ideal))) ⟨m, fun _ => 0, g⟩ (fun r => (∀ c : Dev Cert.VsRefIdeal.nD,
      r.2.mem ((c.tc : Thread Cert.VsRefIdeal.nD Cert.VsRefIdeal.τ).loc Cert.VsRefIdeal.main_arg0) = m ((c.tc : Thread Cert.VsRefIdeal.nD Cert.VsRefIdeal.τ).loc Cert.VsRefIdeal.main_arg0)
      ∧ r.2.mem ((c.tc : Thread Cert.VsRefIdeal.nD Cert.VsRefIdeal.τ).loc Cert.VsRefIdeal.main_arg1) = m ((c.tc : Thread Cert.VsRefIdeal.nD Cert.VsRefIdeal.τ).loc Cert.VsRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Yp [hYp : Cert.Yp.Facts] : Prop :=
  ∀ (m : (ℓ : Loc Cert.Yp.nD Cert.Yp.τ Cert.Yp.sig) → Buf (Elt Bits) ℓ) (g : Dev Cert.Yp.nD → PrngReg), Pre_Yp m →
    θ_run (Cert.Yp.defs (F := Bits)) (onTc (τ := Cert.Yp.τ) (Cert.Yp.main (F := Bits))) ⟨m, fun _ => 0, g⟩ (fun r => (∀ c : Dev Cert.Yp.nD,
      r.2.mem ((c.tc : Thread Cert.Yp.nD Cert.Yp.τ).loc Cert.Yp.main_arg0) = m ((c.tc : Thread Cert.Yp.nD Cert.Yp.τ).loc Cert.Yp.main_arg0)
      ∧ r.2.mem ((c.tc : Thread Cert.Yp.nD Cert.Yp.τ).loc Cert.Yp.main_arg1) = m ((c.tc : Thread Cert.Yp.nD Cert.Yp.τ).loc Cert.Yp.main_arg1))
      ∧ r.2.sem = fun _ => 0)

def quiescent_YpIdeal [hYpIdeal : Cert.YpIdeal.Facts] : Prop :=
  ∀ (m : (ℓ : Loc Cert.YpIdeal.nD Cert.YpIdeal.τ Cert.YpIdeal.sig) → Buf (Elt Ideal) ℓ) (g : Dev Cert.YpIdeal.nD → PrngReg), Pre_YpIdeal m →
    θ_run (Cert.YpIdeal.defs (F := Ideal)) (onTc (τ := Cert.YpIdeal.τ) (Cert.YpIdeal.main (F := Ideal))) ⟨m, fun _ => 0, g⟩ (fun r => (∀ c : Dev Cert.YpIdeal.nD,
      r.2.mem ((c.tc : Thread Cert.YpIdeal.nD Cert.YpIdeal.τ).loc Cert.YpIdeal.main_arg0) = m ((c.tc : Thread Cert.YpIdeal.nD Cert.YpIdeal.τ).loc Cert.YpIdeal.main_arg0)
      ∧ r.2.mem ((c.tc : Thread Cert.YpIdeal.nD Cert.YpIdeal.τ).loc Cert.YpIdeal.main_arg1) = m ((c.tc : Thread Cert.YpIdeal.nD Cert.YpIdeal.τ).loc Cert.YpIdeal.main_arg1))
      ∧ r.2.sem = fun _ => 0)

def quiescent_YpRefIdeal [hYpRefIdeal : Cert.YpRefIdeal.Facts] : Prop :=
  ∀ (m : (ℓ : Loc Cert.YpRefIdeal.nD Cert.YpRefIdeal.τ Cert.YpRefIdeal.sig) → Buf (Elt Ideal) ℓ) (g : Dev Cert.YpRefIdeal.nD → PrngReg), Pre_YpRefIdeal m →
    θ_run (Cert.YpRefIdeal.defs (F := Ideal)) (onTc (τ := Cert.YpRefIdeal.τ) (Cert.YpRefIdeal.main (F := Ideal))) ⟨m, fun _ => 0, g⟩ (fun r => (∀ c : Dev Cert.YpRefIdeal.nD,
      r.2.mem ((c.tc : Thread Cert.YpRefIdeal.nD Cert.YpRefIdeal.τ).loc Cert.YpRefIdeal.main_arg0) = m ((c.tc : Thread Cert.YpRefIdeal.nD Cert.YpRefIdeal.τ).loc Cert.YpRefIdeal.main_arg0)
      ∧ r.2.mem ((c.tc : Thread Cert.YpRefIdeal.nD Cert.YpRefIdeal.τ).loc Cert.YpRefIdeal.main_arg1) = m ((c.tc : Thread Cert.YpRefIdeal.nD Cert.YpRefIdeal.τ).loc Cert.YpRefIdeal.main_arg1))
      ∧ r.2.sem = fun _ => 0)

def quiescent_Ys [hYs : Cert.Ys.Facts] : Prop :=
  ∀ (m : (ℓ : Loc Cert.Ys.nD Cert.Ys.τ Cert.Ys.sig) → Buf (Elt Bits) ℓ) (g : Dev Cert.Ys.nD → PrngReg), Pre_Ys m →
    θ_run (Cert.Ys.defs (F := Bits)) (onTc (τ := Cert.Ys.τ) (Cert.Ys.main (F := Bits))) ⟨m, fun _ => 0, g⟩ (fun r => (∀ c : Dev Cert.Ys.nD,
      r.2.mem ((c.tc : Thread Cert.Ys.nD Cert.Ys.τ).loc Cert.Ys.main_arg0) = m ((c.tc : Thread Cert.Ys.nD Cert.Ys.τ).loc Cert.Ys.main_arg0)
      ∧ r.2.mem ((c.tc : Thread Cert.Ys.nD Cert.Ys.τ).loc Cert.Ys.main_arg1) = m ((c.tc : Thread Cert.Ys.nD Cert.Ys.τ).loc Cert.Ys.main_arg1))
      ∧ r.2.sem = fun _ => 0)

def quiescent_YsIdeal [hYsIdeal : Cert.YsIdeal.Facts] : Prop :=
  ∀ (m : (ℓ : Loc Cert.YsIdeal.nD Cert.YsIdeal.τ Cert.YsIdeal.sig) → Buf (Elt Ideal) ℓ) (g : Dev Cert.YsIdeal.nD → PrngReg), Pre_YsIdeal m →
    θ_run (Cert.YsIdeal.defs (F := Ideal)) (onTc (τ := Cert.YsIdeal.τ) (Cert.YsIdeal.main (F := Ideal))) ⟨m, fun _ => 0, g⟩ (fun r => (∀ c : Dev Cert.YsIdeal.nD,
      r.2.mem ((c.tc : Thread Cert.YsIdeal.nD Cert.YsIdeal.τ).loc Cert.YsIdeal.main_arg0) = m ((c.tc : Thread Cert.YsIdeal.nD Cert.YsIdeal.τ).loc Cert.YsIdeal.main_arg0)
      ∧ r.2.mem ((c.tc : Thread Cert.YsIdeal.nD Cert.YsIdeal.τ).loc Cert.YsIdeal.main_arg1) = m ((c.tc : Thread Cert.YsIdeal.nD Cert.YsIdeal.τ).loc Cert.YsIdeal.main_arg1))
      ∧ r.2.sem = fun _ => 0)

def quiescent_YsRefIdeal [hYsRefIdeal : Cert.YsRefIdeal.Facts] : Prop :=
  ∀ (m : (ℓ : Loc Cert.YsRefIdeal.nD Cert.YsRefIdeal.τ Cert.YsRefIdeal.sig) → Buf (Elt Ideal) ℓ) (g : Dev Cert.YsRefIdeal.nD → PrngReg), Pre_YsRefIdeal m →
    θ_run (Cert.YsRefIdeal.defs (F := Ideal)) (onTc (τ := Cert.YsRefIdeal.τ) (Cert.YsRefIdeal.main (F := Ideal))) ⟨m, fun _ => 0, g⟩ (fun r => (∀ c : Dev Cert.YsRefIdeal.nD,
      r.2.mem ((c.tc : Thread Cert.YsRefIdeal.nD Cert.YsRefIdeal.τ).loc Cert.YsRefIdeal.main_arg0) = m ((c.tc : Thread Cert.YsRefIdeal.nD Cert.YsRefIdeal.τ).loc Cert.YsRefIdeal.main_arg0)
      ∧ r.2.mem ((c.tc : Thread Cert.YsRefIdeal.nD Cert.YsRefIdeal.τ).loc Cert.YsRefIdeal.main_arg1) = m ((c.tc : Thread Cert.YsRefIdeal.nD Cert.YsRefIdeal.τ).loc Cert.YsRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Uc [hUc : Cert.Uc.Facts] : Prop :=
  ∀ (m : (ℓ : Loc Cert.Uc.nD Cert.Uc.τ Cert.Uc.sig) → Buf (Elt Bits) ℓ) (g : Dev Cert.Uc.nD → PrngReg), Pre_Uc m →
    θ_run (Cert.Uc.defs (F := Bits)) (onTc (τ := Cert.Uc.τ) (Cert.Uc.main (F := Bits))) ⟨m, fun _ => 0, g⟩ (fun r => (∀ c : Dev Cert.Uc.nD,
      r.2.mem ((c.tc : Thread Cert.Uc.nD Cert.Uc.τ).loc Cert.Uc.main_arg0) = m ((c.tc : Thread Cert.Uc.nD Cert.Uc.τ).loc Cert.Uc.main_arg0)
      ∧ r.2.mem ((c.tc : Thread Cert.Uc.nD Cert.Uc.τ).loc Cert.Uc.main_arg1) = m ((c.tc : Thread Cert.Uc.nD Cert.Uc.τ).loc Cert.Uc.main_arg1)
      ∧ r.2.mem ((c.tc : Thread Cert.Uc.nD Cert.Uc.τ).loc Cert.Uc.main_arg2) = m ((c.tc : Thread Cert.Uc.nD Cert.Uc.τ).loc Cert.Uc.main_arg2)
      ∧ r.2.mem ((c.tc : Thread Cert.Uc.nD Cert.Uc.τ).loc Cert.Uc.main_arg3) = m ((c.tc : Thread Cert.Uc.nD Cert.Uc.τ).loc Cert.Uc.main_arg3)
      ∧ r.2.mem ((c.tc : Thread Cert.Uc.nD Cert.Uc.τ).loc Cert.Uc.main_arg4) = m ((c.tc : Thread Cert.Uc.nD Cert.Uc.τ).loc Cert.Uc.main_arg4)
      ∧ r.2.mem ((c.tc : Thread Cert.Uc.nD Cert.Uc.τ).loc Cert.Uc.main_arg5) = m ((c.tc : Thread Cert.Uc.nD Cert.Uc.τ).loc Cert.Uc.main_arg5))
      ∧ r.2.sem = fun _ => 0)

def quiescent_UcIdeal [hUcIdeal : Cert.UcIdeal.Facts] : Prop :=
  ∀ (m : (ℓ : Loc Cert.UcIdeal.nD Cert.UcIdeal.τ Cert.UcIdeal.sig) → Buf (Elt Ideal) ℓ) (g : Dev Cert.UcIdeal.nD → PrngReg), Pre_UcIdeal m →
    θ_run (Cert.UcIdeal.defs (F := Ideal)) (onTc (τ := Cert.UcIdeal.τ) (Cert.UcIdeal.main (F := Ideal))) ⟨m, fun _ => 0, g⟩ (fun r => (∀ c : Dev Cert.UcIdeal.nD,
      r.2.mem ((c.tc : Thread Cert.UcIdeal.nD Cert.UcIdeal.τ).loc Cert.UcIdeal.main_arg0) = m ((c.tc : Thread Cert.UcIdeal.nD Cert.UcIdeal.τ).loc Cert.UcIdeal.main_arg0)
      ∧ r.2.mem ((c.tc : Thread Cert.UcIdeal.nD Cert.UcIdeal.τ).loc Cert.UcIdeal.main_arg1) = m ((c.tc : Thread Cert.UcIdeal.nD Cert.UcIdeal.τ).loc Cert.UcIdeal.main_arg1)
      ∧ r.2.mem ((c.tc : Thread Cert.UcIdeal.nD Cert.UcIdeal.τ).loc Cert.UcIdeal.main_arg2) = m ((c.tc : Thread Cert.UcIdeal.nD Cert.UcIdeal.τ).loc Cert.UcIdeal.main_arg2)
      ∧ r.2.mem ((c.tc : Thread Cert.UcIdeal.nD Cert.UcIdeal.τ).loc Cert.UcIdeal.main_arg3) = m ((c.tc : Thread Cert.UcIdeal.nD Cert.UcIdeal.τ).loc Cert.UcIdeal.main_arg3)
      ∧ r.2.mem ((c.tc : Thread Cert.UcIdeal.nD Cert.UcIdeal.τ).loc Cert.UcIdeal.main_arg4) = m ((c.tc : Thread Cert.UcIdeal.nD Cert.UcIdeal.τ).loc Cert.UcIdeal.main_arg4)
      ∧ r.2.mem ((c.tc : Thread Cert.UcIdeal.nD Cert.UcIdeal.τ).loc Cert.UcIdeal.main_arg5) = m ((c.tc : Thread Cert.UcIdeal.nD Cert.UcIdeal.τ).loc Cert.UcIdeal.main_arg5))
      ∧ r.2.sem = fun _ => 0)

def quiescent_UcRefIdeal [hUcRefIdeal : Cert.UcRefIdeal.Facts] : Prop :=
  ∀ (m : (ℓ : Loc Cert.UcRefIdeal.nD Cert.UcRefIdeal.τ Cert.UcRefIdeal.sig) → Buf (Elt Ideal) ℓ) (g : Dev Cert.UcRefIdeal.nD → PrngReg), Pre_UcRefIdeal m →
    θ_run (Cert.UcRefIdeal.defs (F := Ideal)) (onTc (τ := Cert.UcRefIdeal.τ) (Cert.UcRefIdeal.main (F := Ideal))) ⟨m, fun _ => 0, g⟩ (fun r => (∀ c : Dev Cert.UcRefIdeal.nD,
      r.2.mem ((c.tc : Thread Cert.UcRefIdeal.nD Cert.UcRefIdeal.τ).loc Cert.UcRefIdeal.main_arg0) = m ((c.tc : Thread Cert.UcRefIdeal.nD Cert.UcRefIdeal.τ).loc Cert.UcRefIdeal.main_arg0)
      ∧ r.2.mem ((c.tc : Thread Cert.UcRefIdeal.nD Cert.UcRefIdeal.τ).loc Cert.UcRefIdeal.main_arg1) = m ((c.tc : Thread Cert.UcRefIdeal.nD Cert.UcRefIdeal.τ).loc Cert.UcRefIdeal.main_arg1)
      ∧ r.2.mem ((c.tc : Thread Cert.UcRefIdeal.nD Cert.UcRefIdeal.τ).loc Cert.UcRefIdeal.main_arg2) = m ((c.tc : Thread Cert.UcRefIdeal.nD Cert.UcRefIdeal.τ).loc Cert.UcRefIdeal.main_arg2)
      ∧ r.2.mem ((c.tc : Thread Cert.UcRefIdeal.nD Cert.UcRefIdeal.τ).loc Cert.UcRefIdeal.main_arg3) = m ((c.tc : Thread Cert.UcRefIdeal.nD Cert.UcRefIdeal.τ).loc Cert.UcRefIdeal.main_arg3)
      ∧ r.2.mem ((c.tc : Thread Cert.UcRefIdeal.nD Cert.UcRefIdeal.τ).loc Cert.UcRefIdeal.main_arg4) = m ((c.tc : Thread Cert.UcRefIdeal.nD Cert.UcRefIdeal.τ).loc Cert.UcRefIdeal.main_arg4)
      ∧ r.2.mem ((c.tc : Thread Cert.UcRefIdeal.nD Cert.UcRefIdeal.τ).loc Cert.UcRefIdeal.main_arg5) = m ((c.tc : Thread Cert.UcRefIdeal.nD Cert.UcRefIdeal.τ).loc Cert.UcRefIdeal.main_arg5))
      ∧ r.2.sem = fun _ => 0)

def quiescent_Se [hSe : Cert.Se.Facts] : Prop :=
  ∀ (m : (ℓ : Loc Cert.Se.nD Cert.Se.τ Cert.Se.sig) → Buf (Elt Bits) ℓ) (g : Dev Cert.Se.nD → PrngReg), Pre_Se m →
    θ_run (Cert.Se.defs (F := Bits)) (onTc (τ := Cert.Se.τ) (Cert.Se.main (F := Bits))) ⟨m, fun _ => 0, g⟩ (fun r => (∀ c : Dev Cert.Se.nD,
      r.2.mem ((c.tc : Thread Cert.Se.nD Cert.Se.τ).loc Cert.Se.main_arg0) = m ((c.tc : Thread Cert.Se.nD Cert.Se.τ).loc Cert.Se.main_arg0)
      ∧ r.2.mem ((c.tc : Thread Cert.Se.nD Cert.Se.τ).loc Cert.Se.main_arg1) = m ((c.tc : Thread Cert.Se.nD Cert.Se.τ).loc Cert.Se.main_arg1)
      ∧ r.2.mem ((c.tc : Thread Cert.Se.nD Cert.Se.τ).loc Cert.Se.main_arg2) = m ((c.tc : Thread Cert.Se.nD Cert.Se.τ).loc Cert.Se.main_arg2)
      ∧ r.2.mem ((c.tc : Thread Cert.Se.nD Cert.Se.τ).loc Cert.Se.main_arg3) = m ((c.tc : Thread Cert.Se.nD Cert.Se.τ).loc Cert.Se.main_arg3)
      ∧ r.2.mem ((c.tc : Thread Cert.Se.nD Cert.Se.τ).loc Cert.Se.main_arg4) = m ((c.tc : Thread Cert.Se.nD Cert.Se.τ).loc Cert.Se.main_arg4)
      ∧ r.2.mem ((c.tc : Thread Cert.Se.nD Cert.Se.τ).loc Cert.Se.main_arg5) = m ((c.tc : Thread Cert.Se.nD Cert.Se.τ).loc Cert.Se.main_arg5)
      ∧ r.2.mem ((c.tc : Thread Cert.Se.nD Cert.Se.τ).loc Cert.Se.main_arg6) = m ((c.tc : Thread Cert.Se.nD Cert.Se.τ).loc Cert.Se.main_arg6)
      ∧ r.2.mem ((c.tc : Thread Cert.Se.nD Cert.Se.τ).loc Cert.Se.main_arg7) = m ((c.tc : Thread Cert.Se.nD Cert.Se.τ).loc Cert.Se.main_arg7)
      ∧ r.2.mem ((c.tc : Thread Cert.Se.nD Cert.Se.τ).loc Cert.Se.main_arg8) = m ((c.tc : Thread Cert.Se.nD Cert.Se.τ).loc Cert.Se.main_arg8)
      ∧ r.2.mem ((c.tc : Thread Cert.Se.nD Cert.Se.τ).loc Cert.Se.main_arg9) = m ((c.tc : Thread Cert.Se.nD Cert.Se.τ).loc Cert.Se.main_arg9))
      ∧ r.2.sem = fun _ => 0)

def quiescent_SeIdeal [hSeIdeal : Cert.SeIdeal.Facts] : Prop :=
  ∀ (m : (ℓ : Loc Cert.SeIdeal.nD Cert.SeIdeal.τ Cert.SeIdeal.sig) → Buf (Elt Ideal) ℓ) (g : Dev Cert.SeIdeal.nD → PrngReg), Pre_SeIdeal m →
    θ_run (Cert.SeIdeal.defs (F := Ideal)) (onTc (τ := Cert.SeIdeal.τ) (Cert.SeIdeal.main (F := Ideal))) ⟨m, fun _ => 0, g⟩ (fun r => (∀ c : Dev Cert.SeIdeal.nD,
      r.2.mem ((c.tc : Thread Cert.SeIdeal.nD Cert.SeIdeal.τ).loc Cert.SeIdeal.main_arg0) = m ((c.tc : Thread Cert.SeIdeal.nD Cert.SeIdeal.τ).loc Cert.SeIdeal.main_arg0)
      ∧ r.2.mem ((c.tc : Thread Cert.SeIdeal.nD Cert.SeIdeal.τ).loc Cert.SeIdeal.main_arg1) = m ((c.tc : Thread Cert.SeIdeal.nD Cert.SeIdeal.τ).loc Cert.SeIdeal.main_arg1)
      ∧ r.2.mem ((c.tc : Thread Cert.SeIdeal.nD Cert.SeIdeal.τ).loc Cert.SeIdeal.main_arg2) = m ((c.tc : Thread Cert.SeIdeal.nD Cert.SeIdeal.τ).loc Cert.SeIdeal.main_arg2)
      ∧ r.2.mem ((c.tc : Thread Cert.SeIdeal.nD Cert.SeIdeal.τ).loc Cert.SeIdeal.main_arg3) = m ((c.tc : Thread Cert.SeIdeal.nD Cert.SeIdeal.τ).loc Cert.SeIdeal.main_arg3)
      ∧ r.2.mem ((c.tc : Thread Cert.SeIdeal.nD Cert.SeIdeal.τ).loc Cert.SeIdeal.main_arg4) = m ((c.tc : Thread Cert.SeIdeal.nD Cert.SeIdeal.τ).loc Cert.SeIdeal.main_arg4)
      ∧ r.2.mem ((c.tc : Thread Cert.SeIdeal.nD Cert.SeIdeal.τ).loc Cert.SeIdeal.main_arg5) = m ((c.tc : Thread Cert.SeIdeal.nD Cert.SeIdeal.τ).loc Cert.SeIdeal.main_arg5)
      ∧ r.2.mem ((c.tc : Thread Cert.SeIdeal.nD Cert.SeIdeal.τ).loc Cert.SeIdeal.main_arg6) = m ((c.tc : Thread Cert.SeIdeal.nD Cert.SeIdeal.τ).loc Cert.SeIdeal.main_arg6)
      ∧ r.2.mem ((c.tc : Thread Cert.SeIdeal.nD Cert.SeIdeal.τ).loc Cert.SeIdeal.main_arg7) = m ((c.tc : Thread Cert.SeIdeal.nD Cert.SeIdeal.τ).loc Cert.SeIdeal.main_arg7)
      ∧ r.2.mem ((c.tc : Thread Cert.SeIdeal.nD Cert.SeIdeal.τ).loc Cert.SeIdeal.main_arg8) = m ((c.tc : Thread Cert.SeIdeal.nD Cert.SeIdeal.τ).loc Cert.SeIdeal.main_arg8)
      ∧ r.2.mem ((c.tc : Thread Cert.SeIdeal.nD Cert.SeIdeal.τ).loc Cert.SeIdeal.main_arg9) = m ((c.tc : Thread Cert.SeIdeal.nD Cert.SeIdeal.τ).loc Cert.SeIdeal.main_arg9))
      ∧ r.2.sem = fun _ => 0)

def quiescent_SeRefIdeal [hSeRefIdeal : Cert.SeRefIdeal.Facts] : Prop :=
  ∀ (m : (ℓ : Loc Cert.SeRefIdeal.nD Cert.SeRefIdeal.τ Cert.SeRefIdeal.sig) → Buf (Elt Ideal) ℓ) (g : Dev Cert.SeRefIdeal.nD → PrngReg), Pre_SeRefIdeal m →
    θ_run (Cert.SeRefIdeal.defs (F := Ideal)) (onTc (τ := Cert.SeRefIdeal.τ) (Cert.SeRefIdeal.main (F := Ideal))) ⟨m, fun _ => 0, g⟩ (fun r => (∀ c : Dev Cert.SeRefIdeal.nD,
      r.2.mem ((c.tc : Thread Cert.SeRefIdeal.nD Cert.SeRefIdeal.τ).loc Cert.SeRefIdeal.main_arg0) = m ((c.tc : Thread Cert.SeRefIdeal.nD Cert.SeRefIdeal.τ).loc Cert.SeRefIdeal.main_arg0)
      ∧ r.2.mem ((c.tc : Thread Cert.SeRefIdeal.nD Cert.SeRefIdeal.τ).loc Cert.SeRefIdeal.main_arg1) = m ((c.tc : Thread Cert.SeRefIdeal.nD Cert.SeRefIdeal.τ).loc Cert.SeRefIdeal.main_arg1)
      ∧ r.2.mem ((c.tc : Thread Cert.SeRefIdeal.nD Cert.SeRefIdeal.τ).loc Cert.SeRefIdeal.main_arg2) = m ((c.tc : Thread Cert.SeRefIdeal.nD Cert.SeRefIdeal.τ).loc Cert.SeRefIdeal.main_arg2)
      ∧ r.2.mem ((c.tc : Thread Cert.SeRefIdeal.nD Cert.SeRefIdeal.τ).loc Cert.SeRefIdeal.main_arg3) = m ((c.tc : Thread Cert.SeRefIdeal.nD Cert.SeRefIdeal.τ).loc Cert.SeRefIdeal.main_arg3)
      ∧ r.2.mem ((c.tc : Thread Cert.SeRefIdeal.nD Cert.SeRefIdeal.τ).loc Cert.SeRefIdeal.main_arg4) = m ((c.tc : Thread Cert.SeRefIdeal.nD Cert.SeRefIdeal.τ).loc Cert.SeRefIdeal.main_arg4)
      ∧ r.2.mem ((c.tc : Thread Cert.SeRefIdeal.nD Cert.SeRefIdeal.τ).loc Cert.SeRefIdeal.main_arg5) = m ((c.tc : Thread Cert.SeRefIdeal.nD Cert.SeRefIdeal.τ).loc Cert.SeRefIdeal.main_arg5)
      ∧ r.2.mem ((c.tc : Thread Cert.SeRefIdeal.nD Cert.SeRefIdeal.τ).loc Cert.SeRefIdeal.main_arg6) = m ((c.tc : Thread Cert.SeRefIdeal.nD Cert.SeRefIdeal.τ).loc Cert.SeRefIdeal.main_arg6)
      ∧ r.2.mem ((c.tc : Thread Cert.SeRefIdeal.nD Cert.SeRefIdeal.τ).loc Cert.SeRefIdeal.main_arg7) = m ((c.tc : Thread Cert.SeRefIdeal.nD Cert.SeRefIdeal.τ).loc Cert.SeRefIdeal.main_arg7)
      ∧ r.2.mem ((c.tc : Thread Cert.SeRefIdeal.nD Cert.SeRefIdeal.τ).loc Cert.SeRefIdeal.main_arg8) = m ((c.tc : Thread Cert.SeRefIdeal.nD Cert.SeRefIdeal.τ).loc Cert.SeRefIdeal.main_arg8)
      ∧ r.2.mem ((c.tc : Thread Cert.SeRefIdeal.nD Cert.SeRefIdeal.τ).loc Cert.SeRefIdeal.main_arg9) = m ((c.tc : Thread Cert.SeRefIdeal.nD Cert.SeRefIdeal.τ).loc Cert.SeRefIdeal.main_arg9))
      ∧ r.2.sem = fun _ => 0)

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v3) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Qu_QuIdeal : Prop :=
  True

def algebraic_QuIdeal_QuRefIdeal [hQuIdeal : Cert.QuIdeal.Facts] [hQuRefIdeal : Cert.QuRefIdeal.Facts] : Prop :=
  ∀ (m : (ℓ : Loc Cert.QuIdeal.nD Cert.QuIdeal.τ Cert.QuIdeal.sig) → Buf (Elt Ideal) ℓ) (g : Dev Cert.QuIdeal.nD → PrngReg)
    (m' : (ℓ : Loc Cert.QuRefIdeal.nD Cert.QuRefIdeal.τ Cert.QuRefIdeal.sig) → Buf (Elt Ideal) ℓ) (g' : Dev Cert.QuRefIdeal.nD → PrngReg), Pre_QuIdeal m →
    (∀ c : Dev Cert.QuIdeal.nD,
      m' ((c.tc : Thread Cert.QuRefIdeal.nD Cert.QuRefIdeal.τ).loc Cert.QuRefIdeal.main_arg0) = m ((c.tc : Thread Cert.QuIdeal.nD Cert.QuIdeal.τ).loc Cert.QuIdeal.main_arg0)
      ∧ m' ((c.tc : Thread Cert.QuRefIdeal.nD Cert.QuRefIdeal.τ).loc Cert.QuRefIdeal.main_arg1) = m ((c.tc : Thread Cert.QuIdeal.nD Cert.QuIdeal.τ).loc Cert.QuIdeal.main_arg1)) →
    ∃ (v0 : (c : Dev Cert.QuIdeal.nD) → Buf (Elt Ideal) ((c.tc : Thread Cert.QuIdeal.nD Cert.QuIdeal.τ).loc Cert.QuIdeal.main_v0)),
      θ_run (Cert.QuIdeal.defs (F := Ideal)) (onTc (τ := Cert.QuIdeal.τ) (Cert.QuIdeal.main (F := Ideal))) ⟨m, fun _ => 0, g⟩ (fun r => ∀ c : Dev Cert.QuIdeal.nD,
          r.2.mem ((c.tc : Thread Cert.QuIdeal.nD Cert.QuIdeal.τ).loc Cert.QuIdeal.main_v0) = v0 c
          ∧ r.2.mem ((c.tc : Thread Cert.QuIdeal.nD Cert.QuIdeal.τ).loc Cert.QuIdeal.main_arg0) = m ((c.tc : Thread Cert.QuIdeal.nD Cert.QuIdeal.τ).loc Cert.QuIdeal.main_arg0)
          ∧ r.2.mem ((c.tc : Thread Cert.QuIdeal.nD Cert.QuIdeal.τ).loc Cert.QuIdeal.main_arg1) = m ((c.tc : Thread Cert.QuIdeal.nD Cert.QuIdeal.τ).loc Cert.QuIdeal.main_arg1))
      ∧ θ_run (Cert.QuRefIdeal.defs (F := Ideal)) (onTc (τ := Cert.QuRefIdeal.τ) (Cert.QuRefIdeal.main (F := Ideal))) ⟨m', fun _ => 0, g'⟩ (fun r => ∀ c : Dev Cert.QuRefIdeal.nD,
          r.2.mem ((c.tc : Thread Cert.QuRefIdeal.nD Cert.QuRefIdeal.τ).loc Cert.QuRefIdeal.main_v3) = v0 c
          ∧ r.2.mem ((c.tc : Thread Cert.QuRefIdeal.nD Cert.QuRefIdeal.τ).loc Cert.QuRefIdeal.main_arg0) = m' ((c.tc : Thread Cert.QuRefIdeal.nD Cert.QuRefIdeal.τ).loc Cert.QuRefIdeal.main_arg0)
          ∧ r.2.mem ((c.tc : Thread Cert.QuRefIdeal.nD Cert.QuRefIdeal.τ).loc Cert.QuRefIdeal.main_arg1) = m' ((c.tc : Thread Cert.QuRefIdeal.nD Cert.QuRefIdeal.τ).loc Cert.QuRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Ks_KsIdeal : Prop :=
  True

def algebraic_KsIdeal_KsRefIdeal [hKsIdeal : Cert.KsIdeal.Facts] [hKsRefIdeal : Cert.KsRefIdeal.Facts] : Prop :=
  ∀ (m : (ℓ : Loc Cert.KsIdeal.nD Cert.KsIdeal.τ Cert.KsIdeal.sig) → Buf (Elt Ideal) ℓ) (g : Dev Cert.KsIdeal.nD → PrngReg)
    (m' : (ℓ : Loc Cert.KsRefIdeal.nD Cert.KsRefIdeal.τ Cert.KsRefIdeal.sig) → Buf (Elt Ideal) ℓ) (g' : Dev Cert.KsRefIdeal.nD → PrngReg), Pre_KsIdeal m →
    (∀ c : Dev Cert.KsIdeal.nD,
      m' ((c.tc : Thread Cert.KsRefIdeal.nD Cert.KsRefIdeal.τ).loc Cert.KsRefIdeal.main_arg0) = m ((c.tc : Thread Cert.KsIdeal.nD Cert.KsIdeal.τ).loc Cert.KsIdeal.main_arg0)
      ∧ m' ((c.tc : Thread Cert.KsRefIdeal.nD Cert.KsRefIdeal.τ).loc Cert.KsRefIdeal.main_arg1) = m ((c.tc : Thread Cert.KsIdeal.nD Cert.KsIdeal.τ).loc Cert.KsIdeal.main_arg1)) →
    ∃ (v0 : (c : Dev Cert.KsIdeal.nD) → Buf (Elt Ideal) ((c.tc : Thread Cert.KsIdeal.nD Cert.KsIdeal.τ).loc Cert.KsIdeal.main_v0_0)) (v1 : (c : Dev Cert.KsIdeal.nD) → Buf (Elt Ideal) ((c.tc : Thread Cert.KsIdeal.nD Cert.KsIdeal.τ).loc Cert.KsIdeal.main_v0_1)),
      θ_run (Cert.KsIdeal.defs (F := Ideal)) (onTc (τ := Cert.KsIdeal.τ) (Cert.KsIdeal.main (F := Ideal))) ⟨m, fun _ => 0, g⟩ (fun r => ∀ c : Dev Cert.KsIdeal.nD,
          r.2.mem ((c.tc : Thread Cert.KsIdeal.nD Cert.KsIdeal.τ).loc Cert.KsIdeal.main_v0_0) = v0 c
          ∧ r.2.mem ((c.tc : Thread Cert.KsIdeal.nD Cert.KsIdeal.τ).loc Cert.KsIdeal.main_v0_1) = v1 c
          ∧ r.2.mem ((c.tc : Thread Cert.KsIdeal.nD Cert.KsIdeal.τ).loc Cert.KsIdeal.main_arg0) = m ((c.tc : Thread Cert.KsIdeal.nD Cert.KsIdeal.τ).loc Cert.KsIdeal.main_arg0)
          ∧ r.2.mem ((c.tc : Thread Cert.KsIdeal.nD Cert.KsIdeal.τ).loc Cert.KsIdeal.main_arg1) = m ((c.tc : Thread Cert.KsIdeal.nD Cert.KsIdeal.τ).loc Cert.KsIdeal.main_arg1))
      ∧ θ_run (Cert.KsRefIdeal.defs (F := Ideal)) (onTc (τ := Cert.KsRefIdeal.τ) (Cert.KsRefIdeal.main (F := Ideal))) ⟨m', fun _ => 0, g'⟩ (fun r => ∀ c : Dev Cert.KsRefIdeal.nD,
          r.2.mem ((c.tc : Thread Cert.KsRefIdeal.nD Cert.KsRefIdeal.τ).loc Cert.KsRefIdeal.main_v4) = v0 c
          ∧ r.2.mem ((c.tc : Thread Cert.KsRefIdeal.nD Cert.KsRefIdeal.τ).loc Cert.KsRefIdeal.main_v8) = v1 c
          ∧ r.2.mem ((c.tc : Thread Cert.KsRefIdeal.nD Cert.KsRefIdeal.τ).loc Cert.KsRefIdeal.main_arg0) = m' ((c.tc : Thread Cert.KsRefIdeal.nD Cert.KsRefIdeal.τ).loc Cert.KsRefIdeal.main_arg0)
          ∧ r.2.mem ((c.tc : Thread Cert.KsRefIdeal.nD Cert.KsRefIdeal.τ).loc Cert.KsRefIdeal.main_arg1) = m' ((c.tc : Thread Cert.KsRefIdeal.nD Cert.KsRefIdeal.τ).loc Cert.KsRefIdeal.main_arg1))

def preserves_Vs_VsIdeal : Prop :=
  True

def algebraic_VsIdeal_VsRefIdeal [hVsIdeal : Cert.VsIdeal.Facts] [hVsRefIdeal : Cert.VsRefIdeal.Facts] : Prop :=
  ∀ (m : (ℓ : Loc Cert.VsIdeal.nD Cert.VsIdeal.τ Cert.VsIdeal.sig) → Buf (Elt Ideal) ℓ) (g : Dev Cert.VsIdeal.nD → PrngReg)
    (m' : (ℓ : Loc Cert.VsRefIdeal.nD Cert.VsRefIdeal.τ Cert.VsRefIdeal.sig) → Buf (Elt Ideal) ℓ) (g' : Dev Cert.VsRefIdeal.nD → PrngReg), Pre_VsIdeal m →
    (∀ c : Dev Cert.VsIdeal.nD,
      m' ((c.tc : Thread Cert.VsRefIdeal.nD Cert.VsRefIdeal.τ).loc Cert.VsRefIdeal.main_arg0) = m ((c.tc : Thread Cert.VsIdeal.nD Cert.VsIdeal.τ).loc Cert.VsIdeal.main_arg0)
      ∧ m' ((c.tc : Thread Cert.VsRefIdeal.nD Cert.VsRefIdeal.τ).loc Cert.VsRefIdeal.main_arg1) = m ((c.tc : Thread Cert.VsIdeal.nD Cert.VsIdeal.τ).loc Cert.VsIdeal.main_arg1)) →
    ∃ (v0 : (c : Dev Cert.VsIdeal.nD) → Buf (Elt Ideal) ((c.tc : Thread Cert.VsIdeal.nD Cert.VsIdeal.τ).loc Cert.VsIdeal.main_v0_0)) (v1 : (c : Dev Cert.VsIdeal.nD) → Buf (Elt Ideal) ((c.tc : Thread Cert.VsIdeal.nD Cert.VsIdeal.τ).loc Cert.VsIdeal.main_v0_1)),
      θ_run (Cert.VsIdeal.defs (F := Ideal)) (onTc (τ := Cert.VsIdeal.τ) (Cert.VsIdeal.main (F := Ideal))) ⟨m, fun _ => 0, g⟩ (fun r => ∀ c : Dev Cert.VsIdeal.nD,
          r.2.mem ((c.tc : Thread Cert.VsIdeal.nD Cert.VsIdeal.τ).loc Cert.VsIdeal.main_v0_0) = v0 c
          ∧ r.2.mem ((c.tc : Thread Cert.VsIdeal.nD Cert.VsIdeal.τ).loc Cert.VsIdeal.main_v0_1) = v1 c
          ∧ r.2.mem ((c.tc : Thread Cert.VsIdeal.nD Cert.VsIdeal.τ).loc Cert.VsIdeal.main_arg0) = m ((c.tc : Thread Cert.VsIdeal.nD Cert.VsIdeal.τ).loc Cert.VsIdeal.main_arg0)
          ∧ r.2.mem ((c.tc : Thread Cert.VsIdeal.nD Cert.VsIdeal.τ).loc Cert.VsIdeal.main_arg1) = m ((c.tc : Thread Cert.VsIdeal.nD Cert.VsIdeal.τ).loc Cert.VsIdeal.main_arg1))
      ∧ θ_run (Cert.VsRefIdeal.defs (F := Ideal)) (onTc (τ := Cert.VsRefIdeal.τ) (Cert.VsRefIdeal.main (F := Ideal))) ⟨m', fun _ => 0, g'⟩ (fun r => ∀ c : Dev Cert.VsRefIdeal.nD,
          r.2.mem ((c.tc : Thread Cert.VsRefIdeal.nD Cert.VsRefIdeal.τ).loc Cert.VsRefIdeal.main_v4) = v0 c
          ∧ r.2.mem ((c.tc : Thread Cert.VsRefIdeal.nD Cert.VsRefIdeal.τ).loc Cert.VsRefIdeal.main_v8) = v1 c
          ∧ r.2.mem ((c.tc : Thread Cert.VsRefIdeal.nD Cert.VsRefIdeal.τ).loc Cert.VsRefIdeal.main_arg0) = m' ((c.tc : Thread Cert.VsRefIdeal.nD Cert.VsRefIdeal.τ).loc Cert.VsRefIdeal.main_arg0)
          ∧ r.2.mem ((c.tc : Thread Cert.VsRefIdeal.nD Cert.VsRefIdeal.τ).loc Cert.VsRefIdeal.main_arg1) = m' ((c.tc : Thread Cert.VsRefIdeal.nD Cert.VsRefIdeal.τ).loc Cert.VsRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Yp_YpIdeal : Prop :=
  True

def algebraic_YpIdeal_YpRefIdeal [hYpIdeal : Cert.YpIdeal.Facts] [hYpRefIdeal : Cert.YpRefIdeal.Facts] : Prop :=
  ∀ (m : (ℓ : Loc Cert.YpIdeal.nD Cert.YpIdeal.τ Cert.YpIdeal.sig) → Buf (Elt Ideal) ℓ) (g : Dev Cert.YpIdeal.nD → PrngReg)
    (m' : (ℓ : Loc Cert.YpRefIdeal.nD Cert.YpRefIdeal.τ Cert.YpRefIdeal.sig) → Buf (Elt Ideal) ℓ) (g' : Dev Cert.YpRefIdeal.nD → PrngReg), Pre_YpIdeal m →
    (∀ c : Dev Cert.YpIdeal.nD,
      m' ((c.tc : Thread Cert.YpRefIdeal.nD Cert.YpRefIdeal.τ).loc Cert.YpRefIdeal.main_arg0) = m ((c.tc : Thread Cert.YpIdeal.nD Cert.YpIdeal.τ).loc Cert.YpIdeal.main_arg0)
      ∧ m' ((c.tc : Thread Cert.YpRefIdeal.nD Cert.YpRefIdeal.τ).loc Cert.YpRefIdeal.main_arg1) = m ((c.tc : Thread Cert.YpIdeal.nD Cert.YpIdeal.τ).loc Cert.YpIdeal.main_arg1)) →
    ∃ (v0 : (c : Dev Cert.YpIdeal.nD) → Buf (Elt Ideal) ((c.tc : Thread Cert.YpIdeal.nD Cert.YpIdeal.τ).loc Cert.YpIdeal.main_v1)),
      θ_run (Cert.YpIdeal.defs (F := Ideal)) (onTc (τ := Cert.YpIdeal.τ) (Cert.YpIdeal.main (F := Ideal))) ⟨m, fun _ => 0, g⟩ (fun r => ∀ c : Dev Cert.YpIdeal.nD,
          r.2.mem ((c.tc : Thread Cert.YpIdeal.nD Cert.YpIdeal.τ).loc Cert.YpIdeal.main_v1) = v0 c
          ∧ r.2.mem ((c.tc : Thread Cert.YpIdeal.nD Cert.YpIdeal.τ).loc Cert.YpIdeal.main_arg0) = m ((c.tc : Thread Cert.YpIdeal.nD Cert.YpIdeal.τ).loc Cert.YpIdeal.main_arg0)
          ∧ r.2.mem ((c.tc : Thread Cert.YpIdeal.nD Cert.YpIdeal.τ).loc Cert.YpIdeal.main_arg1) = m ((c.tc : Thread Cert.YpIdeal.nD Cert.YpIdeal.τ).loc Cert.YpIdeal.main_arg1))
      ∧ θ_run (Cert.YpRefIdeal.defs (F := Ideal)) (onTc (τ := Cert.YpRefIdeal.τ) (Cert.YpRefIdeal.main (F := Ideal))) ⟨m', fun _ => 0, g'⟩ (fun r => ∀ c : Dev Cert.YpRefIdeal.nD,
          r.2.mem ((c.tc : Thread Cert.YpRefIdeal.nD Cert.YpRefIdeal.τ).loc Cert.YpRefIdeal.main_v12) = v0 c
          ∧ r.2.mem ((c.tc : Thread Cert.YpRefIdeal.nD Cert.YpRefIdeal.τ).loc Cert.YpRefIdeal.main_arg0) = m' ((c.tc : Thread Cert.YpRefIdeal.nD Cert.YpRefIdeal.τ).loc Cert.YpRefIdeal.main_arg0)
          ∧ r.2.mem ((c.tc : Thread Cert.YpRefIdeal.nD Cert.YpRefIdeal.τ).loc Cert.YpRefIdeal.main_arg1) = m' ((c.tc : Thread Cert.YpRefIdeal.nD Cert.YpRefIdeal.τ).loc Cert.YpRefIdeal.main_arg1))

def preserves_Ys_YsIdeal : Prop :=
  True

def algebraic_YsIdeal_YsRefIdeal [hYsIdeal : Cert.YsIdeal.Facts] [hYsRefIdeal : Cert.YsRefIdeal.Facts] : Prop :=
  ∀ (m : (ℓ : Loc Cert.YsIdeal.nD Cert.YsIdeal.τ Cert.YsIdeal.sig) → Buf (Elt Ideal) ℓ) (g : Dev Cert.YsIdeal.nD → PrngReg)
    (m' : (ℓ : Loc Cert.YsRefIdeal.nD Cert.YsRefIdeal.τ Cert.YsRefIdeal.sig) → Buf (Elt Ideal) ℓ) (g' : Dev Cert.YsRefIdeal.nD → PrngReg), Pre_YsIdeal m →
    (∀ c : Dev Cert.YsIdeal.nD,
      m' ((c.tc : Thread Cert.YsRefIdeal.nD Cert.YsRefIdeal.τ).loc Cert.YsRefIdeal.main_arg0) = m ((c.tc : Thread Cert.YsIdeal.nD Cert.YsIdeal.τ).loc Cert.YsIdeal.main_arg0)
      ∧ m' ((c.tc : Thread Cert.YsRefIdeal.nD Cert.YsRefIdeal.τ).loc Cert.YsRefIdeal.main_arg1) = m ((c.tc : Thread Cert.YsIdeal.nD Cert.YsIdeal.τ).loc Cert.YsIdeal.main_arg1)) →
    ∃ (v0 : (c : Dev Cert.YsIdeal.nD) → Buf (Elt Ideal) ((c.tc : Thread Cert.YsIdeal.nD Cert.YsIdeal.τ).loc Cert.YsIdeal.main_v1)),
      θ_run (Cert.YsIdeal.defs (F := Ideal)) (onTc (τ := Cert.YsIdeal.τ) (Cert.YsIdeal.main (F := Ideal))) ⟨m, fun _ => 0, g⟩ (fun r => ∀ c : Dev Cert.YsIdeal.nD,
          r.2.mem ((c.tc : Thread Cert.YsIdeal.nD Cert.YsIdeal.τ).loc Cert.YsIdeal.main_v1) = v0 c
          ∧ r.2.mem ((c.tc : Thread Cert.YsIdeal.nD Cert.YsIdeal.τ).loc Cert.YsIdeal.main_arg0) = m ((c.tc : Thread Cert.YsIdeal.nD Cert.YsIdeal.τ).loc Cert.YsIdeal.main_arg0)
          ∧ r.2.mem ((c.tc : Thread Cert.YsIdeal.nD Cert.YsIdeal.τ).loc Cert.YsIdeal.main_arg1) = m ((c.tc : Thread Cert.YsIdeal.nD Cert.YsIdeal.τ).loc Cert.YsIdeal.main_arg1))
      ∧ θ_run (Cert.YsRefIdeal.defs (F := Ideal)) (onTc (τ := Cert.YsRefIdeal.τ) (Cert.YsRefIdeal.main (F := Ideal))) ⟨m', fun _ => 0, g'⟩ (fun r => ∀ c : Dev Cert.YsRefIdeal.nD,
          r.2.mem ((c.tc : Thread Cert.YsRefIdeal.nD Cert.YsRefIdeal.τ).loc Cert.YsRefIdeal.main_v12) = v0 c
          ∧ r.2.mem ((c.tc : Thread Cert.YsRefIdeal.nD Cert.YsRefIdeal.τ).loc Cert.YsRefIdeal.main_arg0) = m' ((c.tc : Thread Cert.YsRefIdeal.nD Cert.YsRefIdeal.τ).loc Cert.YsRefIdeal.main_arg0)
          ∧ r.2.mem ((c.tc : Thread Cert.YsRefIdeal.nD Cert.YsRefIdeal.τ).loc Cert.YsRefIdeal.main_arg1) = m' ((c.tc : Thread Cert.YsRefIdeal.nD Cert.YsRefIdeal.τ).loc Cert.YsRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)) (v3 : (c : Dev Cert.UpIdeal.nD) → Buf (Elt Ideal) ((c.tc : Thread Cert.UpIdeal.nD Cert.UpIdeal.τ).loc Cert.UpIdeal.main_v1_3)) (v4 : (c : Dev Cert.UpIdeal.nD) → Buf (Elt Ideal) ((c.tc : Thread Cert.UpIdeal.nD Cert.UpIdeal.τ).loc Cert.UpIdeal.main_v1_4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_v1_3) = v3 c
          ∧ r.2.mem ((c.tc : Thread Cert.UpIdeal.nD Cert.UpIdeal.τ).loc Cert.UpIdeal.main_v1_4) = v4 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v43) = v0 c
          ∧ r.2.mem ((c.tc : Thread Cert.UpRefIdeal.nD Cert.UpRefIdeal.τ).loc Cert.UpRefIdeal.main_v49) = v1 c
          ∧ r.2.mem ((c.tc : Thread Cert.UpRefIdeal.nD Cert.UpRefIdeal.τ).loc Cert.UpRefIdeal.main_v50) = v2 c
          ∧ r.2.mem ((c.tc : Thread Cert.UpRefIdeal.nD Cert.UpRefIdeal.τ).loc Cert.UpRefIdeal.main_v51) = v3 c
          ∧ r.2.mem ((c.tc : Thread Cert.UpRefIdeal.nD Cert.UpRefIdeal.τ).loc Cert.UpRefIdeal.main_v52) = v4 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Uc_UcIdeal : Prop :=
  True

def algebraic_UcIdeal_UcRefIdeal [hUcIdeal : Cert.UcIdeal.Facts] [hUcRefIdeal : Cert.UcRefIdeal.Facts] : Prop :=
  ∀ (m : (ℓ : Loc Cert.UcIdeal.nD Cert.UcIdeal.τ Cert.UcIdeal.sig) → Buf (Elt Ideal) ℓ) (g : Dev Cert.UcIdeal.nD → PrngReg)
    (m' : (ℓ : Loc Cert.UcRefIdeal.nD Cert.UcRefIdeal.τ Cert.UcRefIdeal.sig) → Buf (Elt Ideal) ℓ) (g' : Dev Cert.UcRefIdeal.nD → PrngReg), Pre_UcIdeal m →
    (∀ c : Dev Cert.UcIdeal.nD,
      m' ((c.tc : Thread Cert.UcRefIdeal.nD Cert.UcRefIdeal.τ).loc Cert.UcRefIdeal.main_arg0) = m ((c.tc : Thread Cert.UcIdeal.nD Cert.UcIdeal.τ).loc Cert.UcIdeal.main_arg0)
      ∧ m' ((c.tc : Thread Cert.UcRefIdeal.nD Cert.UcRefIdeal.τ).loc Cert.UcRefIdeal.main_arg1) = m ((c.tc : Thread Cert.UcIdeal.nD Cert.UcIdeal.τ).loc Cert.UcIdeal.main_arg1)
      ∧ m' ((c.tc : Thread Cert.UcRefIdeal.nD Cert.UcRefIdeal.τ).loc Cert.UcRefIdeal.main_arg2) = m ((c.tc : Thread Cert.UcIdeal.nD Cert.UcIdeal.τ).loc Cert.UcIdeal.main_arg2)
      ∧ m' ((c.tc : Thread Cert.UcRefIdeal.nD Cert.UcRefIdeal.τ).loc Cert.UcRefIdeal.main_arg3) = m ((c.tc : Thread Cert.UcIdeal.nD Cert.UcIdeal.τ).loc Cert.UcIdeal.main_arg3)
      ∧ m' ((c.tc : Thread Cert.UcRefIdeal.nD Cert.UcRefIdeal.τ).loc Cert.UcRefIdeal.main_arg4) = m ((c.tc : Thread Cert.UcIdeal.nD Cert.UcIdeal.τ).loc Cert.UcIdeal.main_arg4)
      ∧ m' ((c.tc : Thread Cert.UcRefIdeal.nD Cert.UcRefIdeal.τ).loc Cert.UcRefIdeal.main_arg5) = m ((c.tc : Thread Cert.UcIdeal.nD Cert.UcIdeal.τ).loc Cert.UcIdeal.main_arg5)) →
    ∃ (v0 : (c : Dev Cert.UcIdeal.nD) → Buf (Elt Ideal) ((c.tc : Thread Cert.UcIdeal.nD Cert.UcIdeal.τ).loc Cert.UcIdeal.main_v8_0)) (v1 : (c : Dev Cert.UcIdeal.nD) → Buf (Elt Ideal) ((c.tc : Thread Cert.UcIdeal.nD Cert.UcIdeal.τ).loc Cert.UcIdeal.main_v8_1)) (v2 : (c : Dev Cert.UcIdeal.nD) → Buf (Elt Ideal) ((c.tc : Thread Cert.UcIdeal.nD Cert.UcIdeal.τ).loc Cert.UcIdeal.main_v8_2)),
      θ_run (Cert.UcIdeal.defs (F := Ideal)) (onTc (τ := Cert.UcIdeal.τ) (Cert.UcIdeal.main (F := Ideal))) ⟨m, fun _ => 0, g⟩ (fun r => ∀ c : Dev Cert.UcIdeal.nD,
          r.2.mem ((c.tc : Thread Cert.UcIdeal.nD Cert.UcIdeal.τ).loc Cert.UcIdeal.main_v8_0) = v0 c
          ∧ r.2.mem ((c.tc : Thread Cert.UcIdeal.nD Cert.UcIdeal.τ).loc Cert.UcIdeal.main_v8_1) = v1 c
          ∧ r.2.mem ((c.tc : Thread Cert.UcIdeal.nD Cert.UcIdeal.τ).loc Cert.UcIdeal.main_v8_2) = v2 c
          ∧ r.2.mem ((c.tc : Thread Cert.UcIdeal.nD Cert.UcIdeal.τ).loc Cert.UcIdeal.main_arg0) = m ((c.tc : Thread Cert.UcIdeal.nD Cert.UcIdeal.τ).loc Cert.UcIdeal.main_arg0)
          ∧ r.2.mem ((c.tc : Thread Cert.UcIdeal.nD Cert.UcIdeal.τ).loc Cert.UcIdeal.main_arg1) = m ((c.tc : Thread Cert.UcIdeal.nD Cert.UcIdeal.τ).loc Cert.UcIdeal.main_arg1)
          ∧ r.2.mem ((c.tc : Thread Cert.UcIdeal.nD Cert.UcIdeal.τ).loc Cert.UcIdeal.main_arg2) = m ((c.tc : Thread Cert.UcIdeal.nD Cert.UcIdeal.τ).loc Cert.UcIdeal.main_arg2)
          ∧ r.2.mem ((c.tc : Thread Cert.UcIdeal.nD Cert.UcIdeal.τ).loc Cert.UcIdeal.main_arg3) = m ((c.tc : Thread Cert.UcIdeal.nD Cert.UcIdeal.τ).loc Cert.UcIdeal.main_arg3)
          ∧ r.2.mem ((c.tc : Thread Cert.UcIdeal.nD Cert.UcIdeal.τ).loc Cert.UcIdeal.main_arg4) = m ((c.tc : Thread Cert.UcIdeal.nD Cert.UcIdeal.τ).loc Cert.UcIdeal.main_arg4)
          ∧ r.2.mem ((c.tc : Thread Cert.UcIdeal.nD Cert.UcIdeal.τ).loc Cert.UcIdeal.main_arg5) = m ((c.tc : Thread Cert.UcIdeal.nD Cert.UcIdeal.τ).loc Cert.UcIdeal.main_arg5))
      ∧ θ_run (Cert.UcRefIdeal.defs (F := Ideal)) (onTc (τ := Cert.UcRefIdeal.τ) (Cert.UcRefIdeal.main (F := Ideal))) ⟨m', fun _ => 0, g'⟩ (fun r => ∀ c : Dev Cert.UcRefIdeal.nD,
          r.2.mem ((c.tc : Thread Cert.UcRefIdeal.nD Cert.UcRefIdeal.τ).loc Cert.UcRefIdeal.main_v46) = v0 c
          ∧ r.2.mem ((c.tc : Thread Cert.UcRefIdeal.nD Cert.UcRefIdeal.τ).loc Cert.UcRefIdeal.main_v47) = v1 c
          ∧ r.2.mem ((c.tc : Thread Cert.UcRefIdeal.nD Cert.UcRefIdeal.τ).loc Cert.UcRefIdeal.main_v48) = v2 c
          ∧ r.2.mem ((c.tc : Thread Cert.UcRefIdeal.nD Cert.UcRefIdeal.τ).loc Cert.UcRefIdeal.main_arg0) = m' ((c.tc : Thread Cert.UcRefIdeal.nD Cert.UcRefIdeal.τ).loc Cert.UcRefIdeal.main_arg0)
          ∧ r.2.mem ((c.tc : Thread Cert.UcRefIdeal.nD Cert.UcRefIdeal.τ).loc Cert.UcRefIdeal.main_arg1) = m' ((c.tc : Thread Cert.UcRefIdeal.nD Cert.UcRefIdeal.τ).loc Cert.UcRefIdeal.main_arg1)
          ∧ r.2.mem ((c.tc : Thread Cert.UcRefIdeal.nD Cert.UcRefIdeal.τ).loc Cert.UcRefIdeal.main_arg2) = m' ((c.tc : Thread Cert.UcRefIdeal.nD Cert.UcRefIdeal.τ).loc Cert.UcRefIdeal.main_arg2)
          ∧ r.2.mem ((c.tc : Thread Cert.UcRefIdeal.nD Cert.UcRefIdeal.τ).loc Cert.UcRefIdeal.main_arg3) = m' ((c.tc : Thread Cert.UcRefIdeal.nD Cert.UcRefIdeal.τ).loc Cert.UcRefIdeal.main_arg3)
          ∧ r.2.mem ((c.tc : Thread Cert.UcRefIdeal.nD Cert.UcRefIdeal.τ).loc Cert.UcRefIdeal.main_arg4) = m' ((c.tc : Thread Cert.UcRefIdeal.nD Cert.UcRefIdeal.τ).loc Cert.UcRefIdeal.main_arg4)
          ∧ r.2.mem ((c.tc : Thread Cert.UcRefIdeal.nD Cert.UcRefIdeal.τ).loc Cert.UcRefIdeal.main_arg5) = m' ((c.tc : Thread Cert.UcRefIdeal.nD Cert.UcRefIdeal.τ).loc Cert.UcRefIdeal.main_arg5))

def preserves_Se_SeIdeal : Prop :=
  True

def algebraic_SeIdeal_SeRefIdeal [hSeIdeal : Cert.SeIdeal.Facts] [hSeRefIdeal : Cert.SeRefIdeal.Facts] : Prop :=
  ∀ (m : (ℓ : Loc Cert.SeIdeal.nD Cert.SeIdeal.τ Cert.SeIdeal.sig) → Buf (Elt Ideal) ℓ) (g : Dev Cert.SeIdeal.nD → PrngReg)
    (m' : (ℓ : Loc Cert.SeRefIdeal.nD Cert.SeRefIdeal.τ Cert.SeRefIdeal.sig) → Buf (Elt Ideal) ℓ) (g' : Dev Cert.SeRefIdeal.nD → PrngReg), Pre_SeIdeal m →
    (∀ c : Dev Cert.SeIdeal.nD,
      m' ((c.tc : Thread Cert.SeRefIdeal.nD Cert.SeRefIdeal.τ).loc Cert.SeRefIdeal.main_arg0) = m ((c.tc : Thread Cert.SeIdeal.nD Cert.SeIdeal.τ).loc Cert.SeIdeal.main_arg0)
      ∧ m' ((c.tc : Thread Cert.SeRefIdeal.nD Cert.SeRefIdeal.τ).loc Cert.SeRefIdeal.main_arg1) = m ((c.tc : Thread Cert.SeIdeal.nD Cert.SeIdeal.τ).loc Cert.SeIdeal.main_arg1)
      ∧ m' ((c.tc : Thread Cert.SeRefIdeal.nD Cert.SeRefIdeal.τ).loc Cert.SeRefIdeal.main_arg2) = m ((c.tc : Thread Cert.SeIdeal.nD Cert.SeIdeal.τ).loc Cert.SeIdeal.main_arg2)
      ∧ m' ((c.tc : Thread Cert.SeRefIdeal.nD Cert.SeRefIdeal.τ).loc Cert.SeRefIdeal.main_arg3) = m ((c.tc : Thread Cert.SeIdeal.nD Cert.SeIdeal.τ).loc Cert.SeIdeal.main_arg3)
      ∧ m' ((c.tc : Thread Cert.SeRefIdeal.nD Cert.SeRefIdeal.τ).loc Cert.SeRefIdeal.main_arg4) = m ((c.tc : Thread Cert.SeIdeal.nD Cert.SeIdeal.τ).loc Cert.SeIdeal.main_arg4)
      ∧ m' ((c.tc : Thread Cert.SeRefIdeal.nD Cert.SeRefIdeal.τ).loc Cert.SeRefIdeal.main_arg5) = m ((c.tc : Thread Cert.SeIdeal.nD Cert.SeIdeal.τ).loc Cert.SeIdeal.main_arg5)
      ∧ m' ((c.tc : Thread Cert.SeRefIdeal.nD Cert.SeRefIdeal.τ).loc Cert.SeRefIdeal.main_arg6) = m ((c.tc : Thread Cert.SeIdeal.nD Cert.SeIdeal.τ).loc Cert.SeIdeal.main_arg6)
      ∧ m' ((c.tc : Thread Cert.SeRefIdeal.nD Cert.SeRefIdeal.τ).loc Cert.SeRefIdeal.main_arg7) = m ((c.tc : Thread Cert.SeIdeal.nD Cert.SeIdeal.τ).loc Cert.SeIdeal.main_arg7)
      ∧ m' ((c.tc : Thread Cert.SeRefIdeal.nD Cert.SeRefIdeal.τ).loc Cert.SeRefIdeal.main_arg8) = m ((c.tc : Thread Cert.SeIdeal.nD Cert.SeIdeal.τ).loc Cert.SeIdeal.main_arg8)
      ∧ m' ((c.tc : Thread Cert.SeRefIdeal.nD Cert.SeRefIdeal.τ).loc Cert.SeRefIdeal.main_arg9) = m ((c.tc : Thread Cert.SeIdeal.nD Cert.SeIdeal.τ).loc Cert.SeIdeal.main_arg9)) →
    ∃ (v0 : (c : Dev Cert.SeIdeal.nD) → Buf (Elt Ideal) ((c.tc : Thread Cert.SeIdeal.nD Cert.SeIdeal.τ).loc Cert.SeIdeal.main_v66)) (v1 : (c : Dev Cert.SeIdeal.nD) → Buf (Elt Ideal) ((c.tc : Thread Cert.SeIdeal.nD Cert.SeIdeal.τ).loc Cert.SeIdeal.main_v67)),
      θ_run (Cert.SeIdeal.defs (F := Ideal)) (onTc (τ := Cert.SeIdeal.τ) (Cert.SeIdeal.main (F := Ideal))) ⟨m, fun _ => 0, g⟩ (fun r => ∀ c : Dev Cert.SeIdeal.nD,
          r.2.mem ((c.tc : Thread Cert.SeIdeal.nD Cert.SeIdeal.τ).loc Cert.SeIdeal.main_v66) = v0 c
          ∧ r.2.mem ((c.tc : Thread Cert.SeIdeal.nD Cert.SeIdeal.τ).loc Cert.SeIdeal.main_v67) = v1 c
          ∧ r.2.mem ((c.tc : Thread Cert.SeIdeal.nD Cert.SeIdeal.τ).loc Cert.SeIdeal.main_arg0) = m ((c.tc : Thread Cert.SeIdeal.nD Cert.SeIdeal.τ).loc Cert.SeIdeal.main_arg0)
          ∧ r.2.mem ((c.tc : Thread Cert.SeIdeal.nD Cert.SeIdeal.τ).loc Cert.SeIdeal.main_arg1) = m ((c.tc : Thread Cert.SeIdeal.nD Cert.SeIdeal.τ).loc Cert.SeIdeal.main_arg1)
          ∧ r.2.mem ((c.tc : Thread Cert.SeIdeal.nD Cert.SeIdeal.τ).loc Cert.SeIdeal.main_arg2) = m ((c.tc : Thread Cert.SeIdeal.nD Cert.SeIdeal.τ).loc Cert.SeIdeal.main_arg2)
          ∧ r.2.mem ((c.tc : Thread Cert.SeIdeal.nD Cert.SeIdeal.τ).loc Cert.SeIdeal.main_arg3) = m ((c.tc : Thread Cert.SeIdeal.nD Cert.SeIdeal.τ).loc Cert.SeIdeal.main_arg3)
          ∧ r.2.mem ((c.tc : Thread Cert.SeIdeal.nD Cert.SeIdeal.τ).loc Cert.SeIdeal.main_arg4) = m ((c.tc : Thread Cert.SeIdeal.nD Cert.SeIdeal.τ).loc Cert.SeIdeal.main_arg4)
          ∧ r.2.mem ((c.tc : Thread Cert.SeIdeal.nD Cert.SeIdeal.τ).loc Cert.SeIdeal.main_arg5) = m ((c.tc : Thread Cert.SeIdeal.nD Cert.SeIdeal.τ).loc Cert.SeIdeal.main_arg5)
          ∧ r.2.mem ((c.tc : Thread Cert.SeIdeal.nD Cert.SeIdeal.τ).loc Cert.SeIdeal.main_arg6) = m ((c.tc : Thread Cert.SeIdeal.nD Cert.SeIdeal.τ).loc Cert.SeIdeal.main_arg6)
          ∧ r.2.mem ((c.tc : Thread Cert.SeIdeal.nD Cert.SeIdeal.τ).loc Cert.SeIdeal.main_arg7) = m ((c.tc : Thread Cert.SeIdeal.nD Cert.SeIdeal.τ).loc Cert.SeIdeal.main_arg7)
          ∧ r.2.mem ((c.tc : Thread Cert.SeIdeal.nD Cert.SeIdeal.τ).loc Cert.SeIdeal.main_arg8) = m ((c.tc : Thread Cert.SeIdeal.nD Cert.SeIdeal.τ).loc Cert.SeIdeal.main_arg8)
          ∧ r.2.mem ((c.tc : Thread Cert.SeIdeal.nD Cert.SeIdeal.τ).loc Cert.SeIdeal.main_arg9) = m ((c.tc : Thread Cert.SeIdeal.nD Cert.SeIdeal.τ).loc Cert.SeIdeal.main_arg9))
      ∧ θ_run (Cert.SeRefIdeal.defs (F := Ideal)) (onTc (τ := Cert.SeRefIdeal.τ) (Cert.SeRefIdeal.main (F := Ideal))) ⟨m', fun _ => 0, g'⟩ (fun r => ∀ c : Dev Cert.SeRefIdeal.nD,
          r.2.mem ((c.tc : Thread Cert.SeRefIdeal.nD Cert.SeRefIdeal.τ).loc Cert.SeRefIdeal.main_v160) = v0 c
          ∧ r.2.mem ((c.tc : Thread Cert.SeRefIdeal.nD Cert.SeRefIdeal.τ).loc Cert.SeRefIdeal.main_v170) = v1 c
          ∧ r.2.mem ((c.tc : Thread Cert.SeRefIdeal.nD Cert.SeRefIdeal.τ).loc Cert.SeRefIdeal.main_arg0) = m' ((c.tc : Thread Cert.SeRefIdeal.nD Cert.SeRefIdeal.τ).loc Cert.SeRefIdeal.main_arg0)
          ∧ r.2.mem ((c.tc : Thread Cert.SeRefIdeal.nD Cert.SeRefIdeal.τ).loc Cert.SeRefIdeal.main_arg1) = m' ((c.tc : Thread Cert.SeRefIdeal.nD Cert.SeRefIdeal.τ).loc Cert.SeRefIdeal.main_arg1)
          ∧ r.2.mem ((c.tc : Thread Cert.SeRefIdeal.nD Cert.SeRefIdeal.τ).loc Cert.SeRefIdeal.main_arg2) = m' ((c.tc : Thread Cert.SeRefIdeal.nD Cert.SeRefIdeal.τ).loc Cert.SeRefIdeal.main_arg2)
          ∧ r.2.mem ((c.tc : Thread Cert.SeRefIdeal.nD Cert.SeRefIdeal.τ).loc Cert.SeRefIdeal.main_arg3) = m' ((c.tc : Thread Cert.SeRefIdeal.nD Cert.SeRefIdeal.τ).loc Cert.SeRefIdeal.main_arg3)
          ∧ r.2.mem ((c.tc : Thread Cert.SeRefIdeal.nD Cert.SeRefIdeal.τ).loc Cert.SeRefIdeal.main_arg4) = m' ((c.tc : Thread Cert.SeRefIdeal.nD Cert.SeRefIdeal.τ).loc Cert.SeRefIdeal.main_arg4)
          ∧ r.2.mem ((c.tc : Thread Cert.SeRefIdeal.nD Cert.SeRefIdeal.τ).loc Cert.SeRefIdeal.main_arg5) = m' ((c.tc : Thread Cert.SeRefIdeal.nD Cert.SeRefIdeal.τ).loc Cert.SeRefIdeal.main_arg5)
          ∧ r.2.mem ((c.tc : Thread Cert.SeRefIdeal.nD Cert.SeRefIdeal.τ).loc Cert.SeRefIdeal.main_arg6) = m' ((c.tc : Thread Cert.SeRefIdeal.nD Cert.SeRefIdeal.τ).loc Cert.SeRefIdeal.main_arg6)
          ∧ r.2.mem ((c.tc : Thread Cert.SeRefIdeal.nD Cert.SeRefIdeal.τ).loc Cert.SeRefIdeal.main_arg7) = m' ((c.tc : Thread Cert.SeRefIdeal.nD Cert.SeRefIdeal.τ).loc Cert.SeRefIdeal.main_arg7)
          ∧ r.2.mem ((c.tc : Thread Cert.SeRefIdeal.nD Cert.SeRefIdeal.τ).loc Cert.SeRefIdeal.main_arg8) = m' ((c.tc : Thread Cert.SeRefIdeal.nD Cert.SeRefIdeal.τ).loc Cert.SeRefIdeal.main_arg8)
          ∧ r.2.mem ((c.tc : Thread Cert.SeRefIdeal.nD Cert.SeRefIdeal.τ).loc Cert.SeRefIdeal.main_arg9) = m' ((c.tc : Thread Cert.SeRefIdeal.nD Cert.SeRefIdeal.τ).loc Cert.SeRefIdeal.main_arg9))

def Claim : Prop :=
  ∃ (hGates : Cert.Gates.Facts) (hGatesIdeal : Cert.GatesIdeal.Facts) (hGatesRefIdeal : Cert.GatesRefIdeal.Facts) (hQu : Cert.Qu.Facts) (hQuIdeal : Cert.QuIdeal.Facts) (hQuRefIdeal : Cert.QuRefIdeal.Facts) (hKv : Cert.Kv.Facts) (hKvIdeal : Cert.KvIdeal.Facts) (hKvRefIdeal : Cert.KvRefIdeal.Facts) (hKs : Cert.Ks.Facts) (hKsIdeal : Cert.KsIdeal.Facts) (hKsRefIdeal : Cert.KsRefIdeal.Facts) (hVs : Cert.Vs.Facts) (hVsIdeal : Cert.VsIdeal.Facts) (hVsRefIdeal : Cert.VsRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hYp : Cert.Yp.Facts) (hYpIdeal : Cert.YpIdeal.Facts) (hYpRefIdeal : Cert.YpRefIdeal.Facts) (hYs : Cert.Ys.Facts) (hYsIdeal : Cert.YsIdeal.Facts) (hYsRefIdeal : Cert.YsRefIdeal.Facts) (hUp : Cert.Up.Facts) (hUpIdeal : Cert.UpIdeal.Facts) (hUpRefIdeal : Cert.UpRefIdeal.Facts) (hUc : Cert.Uc.Facts) (hUcIdeal : Cert.UcIdeal.Facts) (hUcRefIdeal : Cert.UcRefIdeal.Facts) (hSe : Cert.Se.Facts) (hSeIdeal : Cert.SeIdeal.Facts) (hSeRefIdeal : Cert.SeRefIdeal.Facts),
    quiescent_Gates (hGates := hGates)
    ∧ quiescent_GatesIdeal (hGatesIdeal := hGatesIdeal)
    ∧ quiescent_GatesRefIdeal (hGatesRefIdeal := hGatesRefIdeal)
    ∧ quiescent_Qu (hQu := hQu)
    ∧ quiescent_QuIdeal (hQuIdeal := hQuIdeal)
    ∧ quiescent_QuRefIdeal (hQuRefIdeal := hQuRefIdeal)
    ∧ quiescent_Kv (hKv := hKv)
    ∧ quiescent_KvIdeal (hKvIdeal := hKvIdeal)
    ∧ quiescent_KvRefIdeal (hKvRefIdeal := hKvRefIdeal)
    ∧ quiescent_Ks (hKs := hKs)
    ∧ quiescent_KsIdeal (hKsIdeal := hKsIdeal)
    ∧ quiescent_KsRefIdeal (hKsRefIdeal := hKsRefIdeal)
    ∧ quiescent_Vs (hVs := hVs)
    ∧ quiescent_VsIdeal (hVsIdeal := hVsIdeal)
    ∧ quiescent_VsRefIdeal (hVsRefIdeal := hVsRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Yp (hYp := hYp)
    ∧ quiescent_YpIdeal (hYpIdeal := hYpIdeal)
    ∧ quiescent_YpRefIdeal (hYpRefIdeal := hYpRefIdeal)
    ∧ quiescent_Ys (hYs := hYs)
    ∧ quiescent_YsIdeal (hYsIdeal := hYsIdeal)
    ∧ quiescent_YsRefIdeal (hYsRefIdeal := hYsRefIdeal)
    ∧ quiescent_Up (hUp := hUp)
    ∧ quiescent_UpIdeal (hUpIdeal := hUpIdeal)
    ∧ quiescent_UpRefIdeal (hUpRefIdeal := hUpRefIdeal)
    ∧ quiescent_Uc (hUc := hUc)
    ∧ quiescent_UcIdeal (hUcIdeal := hUcIdeal)
    ∧ quiescent_UcRefIdeal (hUcRefIdeal := hUcRefIdeal)
    ∧ quiescent_Se (hSe := hSe)
    ∧ quiescent_SeIdeal (hSeIdeal := hSeIdeal)
    ∧ quiescent_SeRefIdeal (hSeRefIdeal := hSeRefIdeal)
    ∧ preserves_Gates_GatesIdeal
    ∧ algebraic_GatesIdeal_GatesRefIdeal (hGatesIdeal := hGatesIdeal) (hGatesRefIdeal := hGatesRefIdeal)
    ∧ preserves_Qu_QuIdeal
    ∧ algebraic_QuIdeal_QuRefIdeal (hQuIdeal := hQuIdeal) (hQuRefIdeal := hQuRefIdeal)
    ∧ preserves_Kv_KvIdeal
    ∧ algebraic_KvIdeal_KvRefIdeal (hKvIdeal := hKvIdeal) (hKvRefIdeal := hKvRefIdeal)
    ∧ preserves_Ks_KsIdeal
    ∧ algebraic_KsIdeal_KsRefIdeal (hKsIdeal := hKsIdeal) (hKsRefIdeal := hKsRefIdeal)
    ∧ preserves_Vs_VsIdeal
    ∧ algebraic_VsIdeal_VsRefIdeal (hVsIdeal := hVsIdeal) (hVsRefIdeal := hVsRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Yp_YpIdeal
    ∧ algebraic_YpIdeal_YpRefIdeal (hYpIdeal := hYpIdeal) (hYpRefIdeal := hYpRefIdeal)
    ∧ preserves_Ys_YsIdeal
    ∧ algebraic_YsIdeal_YsRefIdeal (hYsIdeal := hYsIdeal) (hYsRefIdeal := hYsRefIdeal)
    ∧ preserves_Up_UpIdeal
    ∧ algebraic_UpIdeal_UpRefIdeal (hUpIdeal := hUpIdeal) (hUpRefIdeal := hUpRefIdeal)
    ∧ preserves_Uc_UcIdeal
    ∧ algebraic_UcIdeal_UcRefIdeal (hUcIdeal := hUcIdeal) (hUcRefIdeal := hUcRefIdeal)
    ∧ preserves_Se_SeIdeal
    ∧ algebraic_SeIdeal_SeRefIdeal (hSeIdeal := hSeIdeal) (hSeRefIdeal := hSeRefIdeal)
-- ==== Gates.lean ====
abbrev S4x2048x4096 : Shape := ⟨3, ![4, 2048, 4096]⟩
abbrev S1x4096x8192 : Shape := ⟨3, ![1, 4096, 8192]⟩
abbrev S4x2048x8192 : Shape := ⟨3, ![4, 2048, 8192]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x8192, .bf16⟩
  | .hbm, ⟨2, _⟩ => ⟨S4x2048x8192, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== GatesRefIdeal.lean ====
abbrev S4x2048x4096 : Shape := ⟨3, ![4, 2048, 4096]⟩
abbrev S1x4096x8192 : Shape := ⟨3, ![1, 4096, 8192]⟩
abbrev S4096x8192 : Shape := ⟨2, ![4096, 8192]⟩
abbrev S4x2048x8192 : Shape := ⟨3, ![4, 2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x8192, .bf16⟩
  | .hbm, ⟨2, _⟩ => ⟨S4x2048x4096, .f32⟩
  | .hbm, ⟨3, _⟩ => ⟨S4096x8192, .bf16⟩
  | .hbm, ⟨4, _⟩ => ⟨S4096x8192, .f32⟩
  | .hbm, ⟨5, _⟩ => ⟨S4x2048x8192, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Qu.lean ====
abbrev S4x2048x4096 : Shape := ⟨3, ![4, 2048, 4096]⟩
abbrev S1x4096x2048 : Shape := ⟨3, ![1, 4096, 2048]⟩
abbrev S4x2048x2048 : Shape := ⟨3, ![4, 2048, 2048]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x2048, .bf16⟩
  | .hbm, ⟨2, _⟩ => ⟨S4x2048x2048, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== QuRefIdeal.lean ====
abbrev S4x2048x4096 : Shape := ⟨3, ![4, 2048, 4096]⟩
abbrev S1x4096x2048 : Shape := ⟨3, ![1, 4096, 2048]⟩
abbrev S4096x2048 : Shape := ⟨2, ![4096, 2048]⟩
abbrev S4x2048x2048 : Shape := ⟨3, ![4, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x2048, .bf16⟩
  | .hbm, ⟨2, _⟩ => ⟨S4x2048x4096, .f32⟩
  | .hbm, ⟨3, _⟩ => ⟨S4096x2048, .bf16⟩
  | .hbm, ⟨4, _⟩ => ⟨S4096x2048, .f32⟩
  | .hbm, ⟨5, _⟩ => ⟨S4x2048x2048, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S4x2048x4096 : Shape := ⟨3, ![4, 2048, 4096]⟩
abbrev S1x4096x1024 : Shape := ⟨3, ![1, 4096, 1024]⟩
abbrev S4x2048x1024 : Shape := ⟨3, ![4, 2048, 1024]⟩
abbrev S1x1024x4096 : Shape := ⟨3, ![1, 1024, 4096]⟩
abbrev S1x1024x1024 : Shape := ⟨3, ![1, 1024, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x1024, .bf16⟩
  | .hbm, ⟨2, _⟩ => ⟨S4x2048x1024, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x1024, .bf16⟩
  | .local _ .vmem, ⟨3, _⟩ => ⟨S1x1024x1024, .f32⟩
  | .local _ .vmem, ⟨4, _⟩ => ⟨S1x1024x1024, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KvRefIdeal.lean ====
abbrev S4x2048x4096 : Shape := ⟨3, ![4, 2048, 4096]⟩
abbrev S1x4096x1024 : Shape := ⟨3, ![1, 4096, 1024]⟩
abbrev S4096x1024 : Shape := ⟨2, ![4096, 1024]⟩
abbrev S4x2048x1024 : Shape := ⟨3, ![4, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x1024, .bf16⟩
  | .hbm, ⟨2, _⟩ => ⟨S4x2048x4096, .f32⟩
  | .hbm, ⟨3, _⟩ => ⟨S4096x1024, .bf16⟩
  | .hbm, ⟨4, _⟩ => ⟨S4096x1024, .f32⟩
  | .hbm, ⟨5, _⟩ => ⟨S4x2048x1024, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ks.lean ====
abbrev S1x64x4096 : Shape := ⟨3, ![1, 64, 4096]⟩
abbrev S2x4096x14336 : Shape := ⟨3, ![2, 4096, 14336]⟩
abbrev S1x64x1024 : Shape := ⟨3, ![1, 64, 1024]⟩
abbrev S4096x1024 : Shape := ⟨2, ![4096, 1024]⟩
abbrev S1x4096x512 : Shape := ⟨3, ![1, 4096, 512]⟩
abbrev S1x64x512 : Shape := ⟨3, ![1, 64, 512]⟩
abbrev S4096x512 : Shape := ⟨2, ![4096, 512]⟩
abbrev S64x4096 : Shape := ⟨2, ![64, 4096]⟩
abbrev S64x512 : Shape := ⟨2, ![64, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x64x4096, .bf16⟩
  | .hbm, ⟨1, _⟩ => ⟨S2x4096x14336, .f32⟩
  | .hbm, ⟨2, _⟩ => ⟨S1x64x1024, .f32⟩
  | .hbm, ⟨3, _⟩ => ⟨S4096x1024, .bf16⟩
  | .local _ .vmem, ⟨0, _⟩ => ⟨S1x64x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1x64x512, .f32⟩
  | .local _ .vmem, ⟨4, _⟩ => ⟨S1x64x512, .f32⟩
  | .local _ .vmem, ⟨5, _⟩ => ⟨S4096x512, .bf16⟩
  | .local _ .vmem, ⟨6, _⟩ => ⟨S4096x512, .bf16⟩
  | _, _ => ⟨S1x64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

abbrev stage0_0 : Fin 1 → Memref sig .tc .vmem S1x64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]
-- ==== KsRefIdeal.lean ====
abbrev S1x64x4096 : Shape := ⟨3, ![1, 64, 4096]⟩
abbrev S2x4096x14336 : Shape := ⟨3, ![2, 4096, 14336]⟩
abbrev S1x4096x14336 : Shape := ⟨3, ![1, 4096, 14336]⟩
abbrev S4096x14336 : Shape := ⟨2, ![4096, 14336]⟩
abbrev S1x64x14336 : Shape := ⟨3, ![1, 64, 14336]⟩
abbrev S1x64x1024 : Shape := ⟨3, ![1, 64, 1024]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x64x4096, .bf16⟩
  | .hbm, ⟨1, _⟩ => ⟨S2x4096x14336, .f32⟩
  | .hbm, ⟨2, _⟩ => ⟨S1x64x4096, .f32⟩
  | .hbm, ⟨3, _⟩ => ⟨S1x4096x14336, .f32⟩
  | .hbm, ⟨4, _⟩ => ⟨S4096x14336, .f32⟩
  | .hbm, ⟨5, _⟩ => ⟨S1x64x14336, .f32⟩
  | .hbm, ⟨6, _⟩ => ⟨S1x64x1024, .f32⟩
  | .hbm, ⟨7, _⟩ => ⟨S1x4096x14336, .f32⟩
  | .hbm, ⟨8, _⟩ => ⟨S4096x14336, .f32⟩
  | .hbm, ⟨9, _⟩ => ⟨S4096x1024, .f32⟩
  | .hbm, ⟨10, _⟩ => ⟨S4096x1024, .bf16⟩
  | _, _ => ⟨S1x64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Vs.lean ====
abbrev S1x64x4096 : Shape := ⟨3, ![1, 64, 4096]⟩
abbrev S2x4096x14336 : Shape := ⟨3, ![2, 4096, 14336]⟩
abbrev S1x64x1024 : Shape := ⟨3, ![1, 64, 1024]⟩
abbrev S4096x1024 : Shape := ⟨2, ![4096, 1024]⟩
abbrev S1x4096x512 : Shape := ⟨3, ![1, 4096, 512]⟩
abbrev S1x64x512 : Shape := ⟨3, ![1, 64, 512]⟩
abbrev S4096x512 : Shape := ⟨2, ![4096, 512]⟩
abbrev S64x4096 : Shape := ⟨2, ![64, 4096]⟩
abbrev S64x512 : Shape := ⟨2, ![64, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x64x4096, .bf16⟩
  | .hbm, ⟨1, _⟩ => ⟨S2x4096x14336, .f32⟩
  | .hbm, ⟨2, _⟩ => ⟨S1x64x1024, .f32⟩
  | .hbm, ⟨3, _⟩ => ⟨S4096x1024, .bf16⟩
  | .local _ .vmem, ⟨0, _⟩ => ⟨S1x64x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1x64x512, .f32⟩
  | .local _ .vmem, ⟨4, _⟩ => ⟨S1x64x512, .f32⟩
  | .local _ .vmem, ⟨5, _⟩ => ⟨S4096x512, .bf16⟩
  | .local _ .vmem, ⟨6, _⟩ => ⟨S4096x512, .bf16⟩
  | _, _ => ⟨S1x64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg2 c6_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

abbrev stage0_0 : Fin 1 → Memref sig .tc .vmem S1x64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]
-- ==== VsRefIdeal.lean ====
abbrev S1x64x4096 : Shape := ⟨3, ![1, 64, 4096]⟩
abbrev S2x4096x14336 : Shape := ⟨3, ![2, 4096, 14336]⟩
abbrev S1x4096x14336 : Shape := ⟨3, ![1, 4096, 14336]⟩
abbrev S4096x14336 : Shape := ⟨2, ![4096, 14336]⟩
abbrev S1x64x14336 : Shape := ⟨3, ![1, 64, 14336]⟩
abbrev S1x64x1024 : Shape := ⟨3, ![1, 64, 1024]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x64x4096, .bf16⟩
  | .hbm, ⟨1, _⟩ => ⟨S2x4096x14336, .f32⟩
  | .hbm, ⟨2, _⟩ => ⟨S1x64x4096, .f32⟩
  | .hbm, ⟨3, _⟩ => ⟨S1x4096x14336, .f32⟩
  | .hbm, ⟨4, _⟩ => ⟨S4096x14336, .f32⟩
  | .hbm, ⟨5, _⟩ => ⟨S1x64x14336, .f32⟩
  | .hbm, ⟨6, _⟩ => ⟨S1x64x1024, .f32⟩
  | .hbm, ⟨7, _⟩ => ⟨S1x4096x14336, .f32⟩
  | .hbm, ⟨8, _⟩ => ⟨S4096x14336, .f32⟩
  | .hbm, ⟨9, _⟩ => ⟨S4096x1024, .f32⟩
  | .hbm, ⟨10, _⟩ => ⟨S4096x1024, .bf16⟩
  | _, _ => ⟨S1x64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Down.lean ====
abbrev S4x2048x11008 : Shape := ⟨3, ![4, 2048, 11008]⟩
abbrev S1x11008x4096 : Shape := ⟨3, ![1, 11008, 4096]⟩
abbrev S4x2048x4096 : Shape := ⟨3, ![4, 2048, 4096]⟩
abbrev S4x1x4096 : Shape := ⟨3, ![4, 1, 4096]⟩
abbrev S1x1024x11008 : Shape := ⟨3, ![1, 1024, 11008]⟩
abbrev S1x11008x256 : Shape := ⟨3, ![1, 11008, 256]⟩
abbrev S1x1024x256 : Shape := ⟨3, ![1, 1024, 256]⟩
abbrev S1x1x256 : Shape := ⟨3, ![1, 1, 256]⟩
abbrev S1024x11008 : Shape := ⟨2, ![1024, 11008]⟩
abbrev S11008x256 : Shape := ⟨2, ![11008, 256]⟩
abbrev S1024x256 : Shape := ⟨2, ![1024, 256]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S4x2048x11008, .bf16⟩
  | .hbm, ⟨1, _⟩ => ⟨S1x11008x4096, .bf16⟩
  | .hbm, ⟨2, _⟩ => ⟨S4x2048x4096, .f32⟩
  | .hbm, ⟨3, _⟩ => ⟨S4x1x4096, .f32⟩
  | .hbm, ⟨4, _⟩ => ⟨S4x2048x4096, .f32⟩
  | .local _ .vmem, ⟨0, _⟩ => ⟨S1x1024x11008, .bf16⟩
  | .local _ .vmem, ⟨1, _⟩ => ⟨S1x11008x256, .bf16⟩
  | .local _ .vmem, ⟨2, _⟩ => ⟨S1x11008x256, .bf16⟩
  | .local _ .vmem, ⟨3, _⟩ => ⟨S1x1024x256, .f32⟩
  | .local _ .vmem, ⟨4, _⟩ => ⟨S1x1024x256, .f32⟩
  | .local _ .vmem, ⟨5, _⟩ => ⟨S1x1x256, .f32⟩
  | .local _ .vmem, ⟨6, _⟩ => ⟨S1x1x256, .f32⟩
  | .local _ .vmem, ⟨7, _⟩ => ⟨S1x1024x256, .f32⟩
  | .local _ .vmem, ⟨8, _⟩ => ⟨S1x1024x256, .f32⟩
  | _, _ => ⟨S4x2048x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== DownRefIdeal.lean ====
abbrev S4x2048x11008 : Shape := ⟨3, ![4, 2048, 11008]⟩
abbrev S1x11008x4096 : Shape := ⟨3, ![1, 11008, 4096]⟩
abbrev S4x2048x4096 : Shape := ⟨3, ![4, 2048, 4096]⟩
abbrev S4x1x4096 : Shape := ⟨3, ![4, 1, 4096]⟩
abbrev S11008x4096 : Shape := ⟨2, ![11008, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x11008, .bf16⟩
  | .hbm, ⟨1, _⟩ => ⟨S1x11008x4096, .bf16⟩
  | .hbm, ⟨2, _⟩ => ⟨S4x2048x4096, .f32⟩
  | .hbm, ⟨3, _⟩ => ⟨S4x1x4096, .f32⟩
  | .hbm, ⟨4, _⟩ => ⟨S4x2048x11008, .f32⟩
  | .hbm, ⟨5, _⟩ => ⟨S11008x4096, .bf16⟩
  | .hbm, ⟨6, _⟩ => ⟨S11008x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Out.lean ====
abbrev S4x2048x4096 : Shape := ⟨3, ![4, 2048, 4096]⟩
abbrev S2x4096x4096 : Shape := ⟨3, ![2, 4096, 4096]⟩
abbrev S4x1x4096 : Shape := ⟨3, ![4, 1, 4096]⟩
abbrev S1x1024x4096 : Shape := ⟨3, ![1, 1024, 4096]⟩
abbrev S1x4096x512 : Shape := ⟨3, ![1, 4096, 512]⟩
abbrev S1x1024x512 : Shape := ⟨3, ![1, 1024, 512]⟩
abbrev S1x1x512 : Shape := ⟨3, ![1, 1, 512]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x4096, .bf16⟩
  | .hbm, ⟨1, _⟩ => ⟨S2x4096x4096, .bf16⟩
  | .hbm, ⟨2, _⟩ => ⟨S4x2048x4096, .f32⟩
  | .hbm, ⟨3, _⟩ => ⟨S4x1x4096, .f32⟩
  | .hbm, ⟨4, _⟩ => ⟨S4x2048x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutRefIdeal.lean ====
abbrev S4x2048x4096 : Shape := ⟨3, ![4, 2048, 4096]⟩
abbrev S2x4096x4096 : Shape := ⟨3, ![2, 4096, 4096]⟩
abbrev S4x1x4096 : Shape := ⟨3, ![4, 1, 4096]⟩
abbrev S1x4096x4096 : Shape := ⟨3, ![1, 4096, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S2x4096x4096, .bf16⟩
  | .hbm, ⟨2, _⟩ => ⟨S4x2048x4096, .f32⟩
  | .hbm, ⟨3, _⟩ => ⟨S4x1x4096, .f32⟩
  | .hbm, ⟨4, _⟩ => ⟨S4x2048x4096, .f32⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Yp.lean ====
abbrev S4x2048x4096 : Shape := ⟨3, ![4, 2048, 4096]⟩
abbrev S4096 : Shape := ⟨1, ![4096]⟩
abbrev S1x4096 : Shape := ⟨2, ![1, 4096]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S1x4096, .f32⟩
  | .hbm, ⟨3, _⟩ => ⟨S4x2048x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x512x4096, .f32⟩
  | .local _ .vmem, ⟨4, _⟩ => ⟨S1x512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== YpRefIdeal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Ys.lean ====
abbrev S1x64x4096 : Shape := ⟨3, ![1, 64, 4096]⟩
abbrev S4096 : Shape := ⟨1, ![4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x64x4096, .f32⟩
  | .hbm, ⟨1, _⟩ => ⟨S4096, .f32⟩
  | .hbm, ⟨2, _⟩ => ⟨S1x4096, .f32⟩
  | .hbm, ⟨3, _⟩ => ⟨S1x64x4096, .f32⟩
  | .local _ .vmem, ⟨0, _⟩ => ⟨S1x64x4096, .f32⟩
  | .local _ .vmem, ⟨1, _⟩ => ⟨S1x4096, .f32⟩
  | .local _ .vmem, ⟨2, _⟩ => ⟨S1x64x4096, .f32⟩
  | _, _ => ⟨S1x64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== YsRefIdeal.lean ====
abbrev S1x64x4096 : Shape := ⟨3, ![1, 64, 4096]⟩
abbrev S4096 : Shape := ⟨1, ![4096]⟩
abbrev S_ : Shape := ⟨0, ![]⟩
abbrev S1x64 : Shape := ⟨2, ![1, 64]⟩
abbrev S1x64x1 : Shape := ⟨3, ![1, 64, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1x64x4096, .f32⟩
  | .hbm, ⟨1, _⟩ => ⟨S4096, .f32⟩
  | .hbm, ⟨2, _⟩ => ⟨S1x64x4096, .f32⟩
  | .hbm, ⟨3, _⟩ => ⟨S_, .f32⟩
  | .hbm, ⟨4, _⟩ => ⟨S1x64, .f32⟩
  | .hbm, ⟨5, _⟩ => ⟨S1x64x1, .f32⟩
  | .hbm, ⟨6, _⟩ => ⟨S_, .f32⟩
  | .hbm, ⟨7, _⟩ => ⟨S1x64x1, .f32⟩
  | .hbm, ⟨8, _⟩ => ⟨S1x64x1, .f32⟩
  | .hbm, ⟨9, _⟩ => ⟨S_, .f32⟩
  | .hbm, ⟨10, _⟩ => ⟨S1x64x1, .f32⟩
  | .hbm, ⟨11, _⟩ => ⟨S1x64x1, .f32⟩
  | .hbm, ⟨12, _⟩ => ⟨S1x64x1, .f32⟩
  | .hbm, ⟨13, _⟩ => ⟨S1x64x4096, .f32⟩
  | .hbm, ⟨14, _⟩ => ⟨S1x64x4096, .f32⟩
  | .hbm, ⟨15, _⟩ => ⟨S1x1x4096, .f32⟩
  | .hbm, ⟨16, _⟩ => ⟨S1x64x4096, .f32⟩
  | .hbm, ⟨17, _⟩ => ⟨S1x64x4096, .f32⟩
  | _, _ => ⟨S1x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Up.lean ====
abbrev S4x2048x4096 : Shape := ⟨3, ![4, 2048, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S2x1x22016 : Shape := ⟨3, ![2, 1, 22016]⟩
abbrev S4x2048x11008 : Shape := ⟨3, ![4, 2048, 11008]⟩
abbrev S4x2x8x11008 : Shape := ⟨4, ![4, 2, 8, 11008]⟩
abbrev S4096x11008 : Shape := ⟨2, ![4096, 11008]⟩
abbrev S1x1024x4096 : Shape := ⟨3, ![1, 1024, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1x1024x256 : Shape := ⟨3, ![1, 1024, 256]⟩
abbrev S1x1x8x256 : Shape := ⟨4, ![1, 1, 8, 256]⟩
abbrev S4096x256 : Shape := ⟨2, ![4096, 256]⟩
abbrev S2x4096x256 : Shape := ⟨3, ![2, 4096, 256]⟩
abbrev S2x8x256 : Shape := ⟨3, ![2, 8, 256]⟩
abbrev S1024x4096 : Shape := ⟨2, ![1024, 4096]⟩
abbrev S1024x256 : Shape := ⟨2, ![1024, 256]⟩
abbrev S1x8x256 : Shape := ⟨3, ![1, 8, 256]⟩
abbrev S8x256 : Shape := ⟨2, ![8, 256]⟩
abbrev S1032x256 : Shape := ⟨2, ![1032, 256]⟩
abbrev S3x256 : Shape := ⟨2, ![3, 256]⟩
abbrev S1x256 : Shape := ⟨2, ![1, 256]⟩

abbrev nBuf : Space → Nat
  | .hbm => 10
  | .vmem => 26
  | .smem => 0
  | _ => 0

abbrev bufTy : (tb : Table) → Fin (tcTables nBuf tb) → BufTy
  | .hbm, ⟨0, _⟩ => ⟨S4x2048x4096, .bf16⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S2x1x22016, .f32⟩
  | .hbm, ⟨5, _⟩ => ⟨S4x2048x11008, .bf16⟩
  | .hbm, ⟨6, _⟩ => ⟨S4x2x8x11008, .f32⟩
  | .hbm, ⟨7, _⟩ => ⟨S4x2x8x11008, .f32⟩
  | .hbm, ⟨8, _⟩ => ⟨S4096x11008, .bf16⟩
  | .hbm, ⟨9, _⟩ => ⟨S4096x11008, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1024x256, .bf16⟩
  | .local _ .vmem, ⟨15, _⟩ => ⟨S1x1024x256, .bf16⟩
  | .local _ .vmem, ⟨16, _⟩ => ⟨S1x1x8x256, .f32⟩
  | .local _ .vmem, ⟨17, _⟩ => ⟨S1x1x8x256, .f32⟩
  | .local _ .vmem, ⟨18, _⟩ => ⟨S1x1x8x256, .f32⟩
  | .local _ .vmem, ⟨19, _⟩ => ⟨S1x1x8x256, .f32⟩
  | .local _ .vmem, ⟨20, _⟩ => ⟨S4096x256, .bf16⟩
  | .local _ .vmem, ⟨21, _⟩ => ⟨S4096x256, .bf16⟩
  | .local _ .vmem, ⟨22, _⟩ => ⟨S4096x256, .bf16⟩
  | .local _ .vmem, ⟨23, _⟩ => ⟨S4096x256, .bf16⟩
  | .local _ .vmem, ⟨24, _⟩ => ⟨S2x4096x256, .bf16⟩
  | .local _ .vmem, ⟨25, _⟩ => ⟨S2x8x256, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![43, 4, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat, arg0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== UpRefIdeal.lean ====
abbrev S4x2048x4096 : Shape := ⟨3, ![4, 2048, 4096]⟩
abbrev S2x4096x22016 : Shape := ⟨3, ![2, 4096, 22016]⟩
abbrev S2x3x22016 : Shape := ⟨3, ![2, 3, 22016]⟩
abbrev S2x22016 : Shape := ⟨2, ![2, 22016]⟩
abbrev S1x4096x22016 : Shape := ⟨3, ![1, 4096, 22016]⟩
abbrev S4096x22016 : Shape := ⟨2, ![4096, 22016]⟩
abbrev S4x2048x22016 : Shape := ⟨3, ![4, 2048, 22016]⟩
abbrev S_ : Shape := ⟨0, ![]⟩
abbrev S4x2x22016 : Shape := ⟨3, ![4, 2, 22016]⟩
abbrev S4x2050x22016 : Shape := ⟨3, ![4, 2050, 22016]⟩
abbrev S1x22016 : Shape := ⟨2, ![1, 22016]⟩
abbrev S22016 : Shape := ⟨1, ![22016]⟩
abbrev S1x3x22016 : Shape := ⟨3, ![1, 3, 22016]⟩
abbrev S3x22016 : Shape := ⟨2, ![3, 22016]⟩
abbrev S1x1x22016 : Shape := ⟨3, ![1, 1, 22016]⟩
abbrev S4x2048x11008 : Shape := ⟨3, ![4, 2048, 11008]⟩
abbrev S4x2x1024x22016 : Shape := ⟨4, ![4, 2, 1024, 22016]⟩
abbrev S4x2x8x22016 : Shape := ⟨4, ![4, 2, 8, 22016]⟩
abbrev S4x2x8x11008 : Shape := ⟨4, ![4, 2, 8, 11008]⟩
abbrev S4096x11008 : Shape := ⟨2, ![4096, 11008]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S2x4096x22016, .f32⟩
  | .hbm, ⟨2, _⟩ => ⟨S2x3x22016, .f32⟩
  | .hbm, ⟨3, _⟩ => ⟨S2x22016, .f32⟩
  | .hbm, ⟨4, _⟩ => ⟨S4x2048x4096, .f32⟩
  | .hbm, ⟨5, _⟩ => ⟨S1x4096x22016, .f32⟩
  | .hbm, ⟨6, _⟩ => ⟨S4096x22016, .f32⟩
  | .hbm, ⟨7, _⟩ => ⟨S4x2048x22016, .f32⟩
  | .hbm, ⟨8, _⟩ => ⟨S_, .f32⟩
  | .hbm, ⟨9, _⟩ => ⟨S4x2x22016, .f32⟩
  | .hbm, ⟨10, _⟩ => ⟨S4x2050x22016, .f32⟩
  | .hbm, ⟨11, _⟩ => ⟨S1x22016, .f32⟩
  | .hbm, ⟨12, _⟩ => ⟨S22016, .f32⟩
  | .hbm, ⟨13, _⟩ => ⟨S1x3x22016, .f32⟩
  | .hbm, ⟨14, _⟩ => ⟨S3x22016, .f32⟩
  | .hbm, ⟨15, _⟩ => ⟨S1x22016, .f32⟩
  | .hbm, ⟨16, _⟩ => ⟨S22016, .f32⟩
  | .hbm, ⟨17, _⟩ => ⟨S4x2048x22016, .f32⟩
  | .hbm, ⟨18, _⟩ => ⟨S1x1x22016, .f32⟩
  | .hbm, ⟨19, _⟩ => ⟨S4x2048x22016, .f32⟩
  | .hbm, ⟨20, _⟩ => ⟨S4x2048x22016, .f32⟩
  | .hbm, ⟨21, _⟩ => ⟨S_, .f32⟩
  | .hbm, ⟨22, _⟩ => ⟨S4x2048x22016, .f32⟩
  | .hbm, ⟨23, _⟩ => ⟨S4x2048x22016, .f32⟩
  | .hbm, ⟨24, _⟩ => ⟨S1x3x22016, .f32⟩
  | .hbm, ⟨25, _⟩ => ⟨S3x22016, .f32⟩
  | .hbm, ⟨26, _⟩ => ⟨S1x22016, .f32⟩
  | .hbm, ⟨27, _⟩ => ⟨S22016, .f32⟩
  | .hbm, ⟨28, _⟩ => ⟨S4x2048x22016, .f32⟩
  | .hbm, ⟨29, _⟩ => ⟨S1x1x22016, .f32⟩
  | .hbm, ⟨30, _⟩ => ⟨S4x2048x22016, .f32⟩
  | .hbm, ⟨31, _⟩ => ⟨S4x2048x22016, .f32⟩
  | .hbm, ⟨32, _⟩ => ⟨S4x2048x22016, .f32⟩
  | .hbm, ⟨33, _⟩ => ⟨S1x3x22016, .f32⟩
  | .hbm, ⟨34, _⟩ => ⟨S3x22016, .f32⟩
  | .hbm, ⟨35, _⟩ => ⟨S1x22016, .f32⟩
  | .hbm, ⟨36, _⟩ => ⟨S22016, .f32⟩
  | .hbm, ⟨37, _⟩ => ⟨S4x2048x22016, .f32⟩
  | .hbm, ⟨38, _⟩ => ⟨S1x1x22016, .f32⟩
  | .hbm, ⟨39, _⟩ => ⟨S4x2048x22016, .f32⟩
  | .hbm, ⟨40, _⟩ => ⟨S4x2048x22016, .f32⟩
  | .hbm, ⟨41, _⟩ => ⟨S4x2048x22016, .f32⟩
  | .hbm, ⟨42, _⟩ => ⟨S1x1x22016, .f32⟩
  | .hbm, ⟨43, _⟩ => ⟨S4x2048x22016, .f32⟩
  | .hbm, ⟨44, _⟩ => ⟨S4x2048x22016, .f32⟩
  | .hbm, ⟨45, _⟩ => ⟨S4x2048x11008, .f32⟩
  | .hbm, ⟨46, _⟩ => ⟨S4x2048x11008, .f32⟩
  | .hbm, ⟨47, _⟩ => ⟨S4x2048x11008, .f32⟩
  | .hbm, ⟨48, _⟩ => ⟨S4x2048x11008, .f32⟩
  | .hbm, ⟨49, _⟩ => ⟨S_, .f32⟩
  | .hbm, ⟨50, _⟩ => ⟨S4x2048x11008, .f32⟩
  | .hbm, ⟨51, _⟩ => ⟨S4x2048x11008, .f32⟩
  | .hbm, ⟨52, _⟩ => ⟨S_, .f32⟩
  | .hbm, ⟨53, _⟩ => ⟨S4x2048x11008, .f32⟩
  | .hbm, ⟨54, _⟩ => ⟨S4x2048x11008, .f32⟩
  | .hbm, ⟨55, _⟩ => ⟨S4x2048x11008, .f32⟩
  | .hbm, ⟨56, _⟩ => ⟨S4x2048x11008, .f32⟩
  | .hbm, ⟨57, _⟩ => ⟨S4x2048x11008, .bf16⟩
  | .hbm, ⟨58, _⟩ => ⟨S4x2x1024x22016, .f32⟩
  | .hbm, ⟨59, _⟩ => ⟨S4x2x8x22016, .f32⟩
  | .hbm, ⟨60, _⟩ => ⟨S1x4096x22016, .f32⟩
  | .hbm, ⟨61, _⟩ => ⟨S4096x22016, .f32⟩
  | .hbm, ⟨62, _⟩ => ⟨S4096x22016, .bf16⟩
  | .hbm, ⟨63, _⟩ => ⟨S4x2x8x11008, .f32⟩
  | .hbm, ⟨64, _⟩ => ⟨S4x2x8x11008, .f32⟩
  | .hbm, ⟨65, _⟩ => ⟨S4096x11008, .bf16⟩
  | .hbm, ⟨66, _⟩ => ⟨S4096x11008, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Uc.lean ====
abbrev S1x64x4096 : Shape := ⟨3, ![1, 64, 4096]⟩
abbrev S4096x11008 : Shape := ⟨2, ![4096, 11008]⟩
abbrev S2x3x22016 : Shape := ⟨3, ![2, 3, 22016]⟩
abbrev S2x22016 : Shape := ⟨2, ![2, 22016]⟩
abbrev S8x2x22016 : Shape := ⟨3, ![8, 2, 22016]⟩
abbrev S8x1x22016 : Shape := ⟨3, ![8, 1, 22016]⟩
abbrev S_ : Shape := ⟨0, ![]⟩
abbrev S8x7x22016 : Shape := ⟨3, ![8, 7, 22016]⟩
abbrev S8x8x22016 : Shape := ⟨3, ![8, 8, 22016]⟩
abbrev S1x64x22016 : Shape := ⟨3, ![1, 64, 22016]⟩
abbrev S8x6x22016 : Shape := ⟨3, ![8, 6, 22016]⟩
abbrev S2x1x22016 : Shape := ⟨3, ![2, 1, 22016]⟩
abbrev S1x64x11008 : Shape := ⟨3, ![1, 64, 11008]⟩
abbrev S4096x256 : Shape := ⟨2, ![4096, 256]⟩
abbrev S1x3x256 : Shape := ⟨3, ![1, 3, 256]⟩
abbrev S1x1x256 : Shape := ⟨3, ![1, 1, 256]⟩
abbrev S1x64x256 : Shape := ⟨3, ![1, 64, 256]⟩
abbrev S64x4096 : Shape := ⟨2, ![64, 4096]⟩
abbrev S64x256 : Shape := ⟨2, ![64, 256]⟩
abbrev S3x256 : Shape := ⟨2, ![3, 256]⟩
abbrev S1x256 : Shape := ⟨2, ![1, 256]⟩

abbrev nBuf : Space → Nat
  | .hbm => 19
  | .vmem => 27
  | .smem => 0
  | _ => 0

abbrev bufTy : (tb : Table) → Fin (tcTables nBuf tb) → BufTy
  | .hbm, ⟨0, _⟩ => ⟨S1x64x4096, .bf16⟩
  | .hbm, ⟨1, _⟩ => ⟨S4096x11008, .bf16⟩
  | .hbm, ⟨2, _⟩ => ⟨S4096x11008, .bf16⟩
  | .hbm, ⟨3, _⟩ => ⟨S2x3x22016, .f32⟩
  | .hbm, ⟨4, _⟩ => ⟨S2x22016, .f32⟩
  | .hbm, ⟨5, _⟩ => ⟨S8x2x22016, .f32⟩
  | .hbm, ⟨6, _⟩ => ⟨S8x1x22016, .f32⟩
  | .hbm, ⟨7, _⟩ => ⟨S_, .f32⟩
  | .hbm, ⟨8, _⟩ => ⟨S8x7x22016, .f32⟩
  | .hbm, ⟨9, _⟩ => ⟨S8x8x22016, .f32⟩
  | .hbm, ⟨10, _⟩ => ⟨S1x64x22016, .f32⟩
  | .hbm, ⟨11, _⟩ => ⟨S_, .f32⟩
  | .hbm, ⟨12, _⟩ => ⟨S8x6x22016, .f32⟩
  | .hbm, ⟨13, _⟩ => ⟨S8x8x22016, .f32⟩
  | .hbm, ⟨14, _⟩ => ⟨S1x64x22016, .f32⟩
  | .hbm, ⟨15, _⟩ => ⟨S2x1x22016, .f32⟩
  | .hbm, ⟨16, _⟩ => ⟨S1x64x11008, .bf16⟩
  | .hbm, ⟨17, _⟩ => ⟨S1x64x11008, .f32⟩
  | .hbm, ⟨18, _⟩ => ⟨S1x64x11008, .f32⟩
  | .local _ .vmem, ⟨0, _⟩ => ⟨S1x64x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x64x256, .f32⟩
  | .local _ .vmem, ⟨14, _⟩ => ⟨S1x64x256, .f32⟩
  | .local _ .vmem, ⟨15, _⟩ => ⟨S1x64x256, .f32⟩
  | .local _ .vmem, ⟨16, _⟩ => ⟨S1x64x256, .f32⟩
  | .local _ .vmem, ⟨17, _⟩ => ⟨S1x64x256, .f32⟩
  | .local _ .vmem, ⟨18, _⟩ => ⟨S1x64x256, .f32⟩
  | .local _ .vmem, ⟨19, _⟩ => ⟨S1x64x256, .f32⟩
  | .local _ .vmem, ⟨20, _⟩ => ⟨S1x64x256, .f32⟩
  | .local _ .vmem, ⟨21, _⟩ => ⟨S1x64x256, .bf16⟩
  | .local _ .vmem, ⟨22, _⟩ => ⟨S1x64x256, .bf16⟩
  | .local _ .vmem, ⟨23, _⟩ => ⟨S1x64x256, .f32⟩
  | .local _ .vmem, ⟨24, _⟩ => ⟨S1x64x256, .f32⟩
  | .local _ .vmem, ⟨25, _⟩ => ⟨S1x64x256, .f32⟩
  | .local _ .vmem, ⟨26, _⟩ => ⟨S1x64x256, .f32⟩
  | _, _ => ⟨S1x64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![1, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![arg0.toNat, c0_i32.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage0_0 : Fin 1 → Memref sig .tc .vmem S1x64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== UcRefIdeal.lean ====
abbrev S1x64x4096 : Shape := ⟨3, ![1, 64, 4096]⟩
abbrev S4096x11008 : Shape := ⟨2, ![4096, 11008]⟩
abbrev S2x3x22016 : Shape := ⟨3, ![2, 3, 22016]⟩
abbrev S2x22016 : Shape := ⟨2, ![2, 22016]⟩
abbrev S8x2x22016 : Shape := ⟨3, ![8, 2, 22016]⟩
abbrev S8x8x4096 : Shape := ⟨3, ![8, 8, 4096]⟩
abbrev S4096x22016 : Shape := ⟨2, ![4096, 22016]⟩
abbrev S8x8x22016 : Shape := ⟨3, ![8, 8, 22016]⟩
abbrev S8x10x22016 : Shape := ⟨3, ![8, 10, 22016]⟩
abbrev S1x22016 : Shape := ⟨2, ![1, 22016]⟩
abbrev S22016 : Shape := ⟨1, ![22016]⟩
abbrev S1x3x22016 : Shape := ⟨3, ![1, 3, 22016]⟩
abbrev S3x22016 : Shape := ⟨2, ![3, 22016]⟩
abbrev S1x1x22016 : Shape := ⟨3, ![1, 1, 22016]⟩
abbrev S_ : Shape := ⟨0, ![]⟩
abbrev S8x8x11008 : Shape := ⟨3, ![8, 8, 11008]⟩
abbrev S1x64x22016 : Shape := ⟨3, ![1, 64, 22016]⟩
abbrev S1x64x11008 : Shape := ⟨3, ![1, 64, 11008]⟩

abbrev nBuf : Space → Nat
  | .hbm => 64
  | .vmem => 0
  | .smem => 0
  | _ => 0

abbrev bufTy : (tb : Table) → Fin (tcTables nBuf tb) → BufTy
  | .hbm, ⟨0, _⟩ => ⟨S1x64x4096, .bf16⟩
  | .hbm, ⟨1, _⟩ => ⟨S4096x11008, .bf16⟩
  | .hbm, ⟨2, _⟩ => ⟨S4096x11008, .bf16⟩
  | .hbm, ⟨3, _⟩ => ⟨S2x3x22016, .f32⟩
  | .hbm, ⟨4, _⟩ => ⟨S2x22016, .f32⟩
  | .hbm, ⟨5, _⟩ => ⟨S8x2x22016, .f32⟩
  | .hbm, ⟨6, _⟩ => ⟨S1x64x4096, .f32⟩
  | .hbm, ⟨7, _⟩ => ⟨S8x8x4096, .f32⟩
  | .hbm, ⟨8, _⟩ => ⟨S4096x22016, .bf16⟩
  | .hbm, ⟨9, _⟩ => ⟨S4096x22016, .f32⟩
  | .hbm, ⟨10, _⟩ => ⟨S8x8x22016, .f32⟩
  | .hbm, ⟨11, _⟩ => ⟨S8x10x22016, .f32⟩
  | .hbm, ⟨12, _⟩ => ⟨S1x22016, .f32⟩
  | .hbm, ⟨13, _⟩ => ⟨S22016, .f32⟩
  | .hbm, ⟨14, _⟩ => ⟨S1x3x22016, .f32⟩
  | .hbm, ⟨15, _⟩ => ⟨S3x22016, .f32⟩
  | .hbm, ⟨16, _⟩ => ⟨S1x22016, .f32⟩
  | .hbm, ⟨17, _⟩ => ⟨S22016, .f32⟩
  | .hbm, ⟨18, _⟩ => ⟨S8x8x22016, .f32⟩
  | .hbm, ⟨19, _⟩ => ⟨S1x1x22016, .f32⟩
  | .hbm, ⟨20, _⟩ => ⟨S8x8x22016, .f32⟩
  | .hbm, ⟨21, _⟩ => ⟨S8x8x22016, .f32⟩
  | .hbm, ⟨22, _⟩ => ⟨S_, .f32⟩
  | .hbm, ⟨23, _⟩ => ⟨S8x8x22016, .f32⟩
  | .hbm, ⟨24, _⟩ => ⟨S8x8x22016, .f32⟩
  | .hbm, ⟨25, _⟩ => ⟨S1x3x22016, .f32⟩
  | .hbm, ⟨26, _⟩ => ⟨S3x22016, .f32⟩
  | .hbm, ⟨27, _⟩ => ⟨S1x22016, .f32⟩
  | .hbm, ⟨28, _⟩ => ⟨S22016, .f32⟩
  | .hbm, ⟨29, _⟩ => ⟨S8x8x22016, .f32⟩
  | .hbm, ⟨30, _⟩ => ⟨S1x1x22016, .f32⟩
  | .hbm, ⟨31, _⟩ => ⟨S8x8x22016, .f32⟩
  | .hbm, ⟨32, _⟩ => ⟨S8x8x22016, .f32⟩
  | .hbm, ⟨33, _⟩ => ⟨S8x8x22016, .f32⟩
  | .hbm, ⟨34, _⟩ => ⟨S1x3x22016, .f32⟩
  | .hbm, ⟨35, _⟩ => ⟨S3x22016, .f32⟩
  | .hbm, ⟨36, _⟩ => ⟨S1x22016, .f32⟩
  | .hbm, ⟨37, _⟩ => ⟨S22016, .f32⟩
  | .hbm, ⟨38, _⟩ => ⟨S8x8x22016, .f32⟩
  | .hbm, ⟨39, _⟩ => ⟨S1x1x22016, .f32⟩
  | .hbm, ⟨40, _⟩ => ⟨S8x8x22016, .f32⟩
  | .hbm, ⟨41, _⟩ => ⟨S8x8x22016, .f32⟩
  | .hbm, ⟨42, _⟩ => ⟨S8x8x22016, .f32⟩
  | .hbm, ⟨43, _⟩ => ⟨S1x1x22016, .f32⟩
  | .hbm, ⟨44, _⟩ => ⟨S8x8x22016, .f32⟩
  | .hbm, ⟨45, _⟩ => ⟨S8x8x22016, .f32⟩
  | .hbm, ⟨46, _⟩ => ⟨S8x8x11008, .f32⟩
  | .hbm, ⟨47, _⟩ => ⟨S8x8x11008, .f32⟩
  | .hbm, ⟨48, _⟩ => ⟨S8x8x11008, .f32⟩
  | .hbm, ⟨49, _⟩ => ⟨S8x8x11008, .f32⟩
  | .hbm, ⟨50, _⟩ => ⟨S_, .f32⟩
  | .hbm, ⟨51, _⟩ => ⟨S8x8x11008, .f32⟩
  | .hbm, ⟨52, _⟩ => ⟨S8x8x11008, .f32⟩
  | .hbm, ⟨53, _⟩ => ⟨S_, .f32⟩
  | .hbm, ⟨54, _⟩ => ⟨S8x8x11008, .f32⟩
  | .hbm, ⟨55, _⟩ => ⟨S8x8x11008, .f32⟩
  | .hbm, ⟨56, _⟩ => ⟨S8x8x11008, .f32⟩
  | .hbm, ⟨57, _⟩ => ⟨S8x8x11008, .f32⟩
  | .hbm, ⟨58, _⟩ => ⟨S8x8x11008, .bf16⟩
  | .hbm, ⟨59, _⟩ => ⟨S8x8x22016, .f32⟩
  | .hbm, ⟨60, _⟩ => ⟨S1x64x22016, .f32⟩
  | .hbm, ⟨61, _⟩ => ⟨S1x64x11008, .bf16⟩
  | .hbm, ⟨62, _⟩ => ⟨S1x64x11008, .f32⟩
  | .hbm, ⟨63, _⟩ => ⟨S1x64x11008, .f32⟩
  | _, _ => ⟨S1x64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Se.lean ====
abbrev S8x8x2048 : Shape := ⟨3, ![8, 8, 2048]⟩
abbrev S8x128x64 : Shape := ⟨3, ![8, 128, 64]⟩
abbrev S128x64 : Shape := ⟨2, ![128, 64]⟩
abbrev S128x16x64 : Shape := ⟨3, ![128, 16, 64]⟩
abbrev S2048 : Shape := ⟨1, ![2048]⟩
abbrev S8x8 : Shape := ⟨2, ![8, 8]⟩
abbrev S_ : Shape := ⟨0, ![]⟩
abbrev S16x8x16x64 : Shape := ⟨4, ![16, 8, 16, 64]⟩
abbrev S16x8x16x1x64 : Shape := ⟨5, ![16, 8, 16, 1, 64]⟩
abbrev S1x8x1x8x1 : Shape := ⟨5, ![1, 8, 1, 8, 1]⟩
abbrev S16x8x16x8x64 : Shape := ⟨5, ![16, 8, 16, 8, 64]⟩
abbrev S16x128x512 : Shape := ⟨3, ![16, 128, 512]⟩
abbrev S16x8x64x16 : Shape := ⟨4, ![16, 8, 64, 16]⟩
abbrev S16x8x64x1x16 : Shape := ⟨5, ![16, 8, 64, 1, 16]⟩
abbrev S16x8x64x8x16 : Shape := ⟨5, ![16, 8, 64, 8, 16]⟩
abbrev S16x512x128 : Shape := ⟨3, ![16, 512, 128]⟩
abbrev S1x64x2048 : Shape := ⟨3, ![1, 64, 2048]⟩
abbrev S1x8x8192 : Shape := ⟨3, ![1, 8, 8192]⟩
abbrev S1x8192 : Shape := ⟨2, ![1, 8192]⟩
abbrev S1x2048 : Shape := ⟨2, ![1, 2048]⟩
abbrev S8x8192 : Shape := ⟨2, ![8, 8192]⟩
abbrev S64x512 : Shape := ⟨2, ![64, 512]⟩
abbrev S1x64x128 : Shape := ⟨3, ![1, 64, 128]⟩
abbrev S64x128 : Shape := ⟨2, ![64, 128]⟩
abbrev S1x128x512 : Shape := ⟨3, ![1, 128, 512]⟩
abbrev S128x512 : Shape := ⟨2, ![128, 512]⟩
abbrev S1x512 : Shape := ⟨2, ![1, 512]⟩
abbrev S8x512 : Shape := ⟨2, ![8, 512]⟩
abbrev S1x512x128 : Shape := ⟨3, ![1, 512, 128]⟩
abbrev S512x128 : Shape := ⟨2, ![512, 128]⟩
abbrev S1x128 : Shape := ⟨2, ![1, 128]⟩

abbrev nBuf : Space → Nat
  | .hbm => 84
  | .vmem => 17
  | .smem => 0
  | _ => 0

abbrev bufTy : (tb : Table) → Fin (tcTables nBuf tb) → BufTy
  | .hbm, ⟨0, _⟩ => ⟨S8x8x2048, .f32⟩
  | .hbm, ⟨1, _⟩ => ⟨S8x128x64, .f32⟩
  | .hbm, ⟨2, _⟩ => ⟨S8x128x64, .f32⟩
  | .hbm, ⟨3, _⟩ => ⟨S128x64, .f32⟩
  | .hbm, ⟨4, _⟩ => ⟨S128x64, .f32⟩
  | .hbm, ⟨5, _⟩ => ⟨S128x16x64, .f32⟩
  | .hbm, ⟨6, _⟩ => ⟨S128x16x64, .f32⟩
  | .hbm, ⟨7, _⟩ => ⟨S128x16x64, .f32⟩
  | .hbm, ⟨8, _⟩ => ⟨S128x16x64, .f32⟩
  | .hbm, ⟨9, _⟩ => ⟨S2048, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S16x8x16x64, .f32⟩
  | .hbm, ⟨18, _⟩ => ⟨S16x8x16x1x64, .f32⟩
  | .hbm, ⟨19, _⟩ => ⟨S1x8x1x8x1, .f32⟩
  | .hbm, ⟨20, _⟩ => ⟨S16x8x16x8x64, .f32⟩
  | .hbm, ⟨21, _⟩ => ⟨S16x8x16x8x64, .f32⟩
  | .hbm, ⟨22, _⟩ => ⟨S16x8x16x8x64, .f32⟩
  | .hbm, ⟨23, _⟩ => ⟨S16x128x512, .f32⟩
  | .hbm, ⟨24, _⟩ => ⟨S16x128x512, .bf16⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S16x8x16x64, .f32⟩
  | .hbm, ⟨33, _⟩ => ⟨S16x8x16x1x64, .f32⟩
  | .hbm, ⟨34, _⟩ => ⟨S1x8x1x8x1, .f32⟩
  | .hbm, ⟨35, _⟩ => ⟨S16x8x16x8x64, .f32⟩
  | .hbm, ⟨36, _⟩ => ⟨S16x8x16x8x64, .f32⟩
  | .hbm, ⟨37, _⟩ => ⟨S16x8x16x8x64, .f32⟩
  | .hbm, ⟨38, _⟩ => ⟨S16x128x512, .f32⟩
  | .hbm, ⟨39, _⟩ => ⟨S16x128x512, .bf16⟩
  | .hbm, ⟨40, _⟩ => ⟨S8x8, .i32⟩
  | .hbm, ⟨41, _⟩ => ⟨S8x8, .i32⟩
  | .hbm, ⟨42, _⟩ => ⟨S_, .i32⟩
  | .hbm, ⟨43, _⟩ => ⟨S8x8, .i32⟩
  | .hbm, ⟨44, _⟩ => ⟨S8x8, .i32⟩
  | .hbm, ⟨45, _⟩ => ⟨S8x8, .i1⟩
  | .hbm, ⟨46, _⟩ => ⟨S8x8, .f32⟩
  | .hbm, ⟨47, _⟩ => ⟨S16x8x16x64, .f32⟩
  | .hbm, ⟨48, _⟩ => ⟨S16x8x64x16, .f32⟩
  | .hbm, ⟨49, _⟩ => ⟨S16x8x64x1x16, .f32⟩
  | .hbm, ⟨50, _⟩ => ⟨S1x8x1x8x1, .f32⟩
  | .hbm, ⟨51, _⟩ => ⟨S16x8x64x8x16, .f32⟩
  | .hbm, ⟨52, _⟩ => ⟨S16x8x64x8x16, .f32⟩
  | .hbm, ⟨53, _⟩ => ⟨S16x8x64x8x16, .f32⟩
  | .hbm, ⟨54, _⟩ => ⟨S16x512x128, .f32⟩
  | .hbm, ⟨55, _⟩ => ⟨S16x512x128, .bf16⟩
  | .hbm, ⟨56, _⟩ => ⟨S8x8, .i32⟩
  | .hbm, ⟨57, _⟩ => ⟨S8x8, .i32⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i1⟩
  | .hbm, ⟨62, _⟩ => ⟨S8x8, .f32⟩
  | .hbm, ⟨63, _⟩ => ⟨S16x8x16x64, .f32⟩
  | .hbm, ⟨64, _⟩ => ⟨S16x8x64x16, .f32⟩
  | .hbm, ⟨65, _⟩ => ⟨S16x8x64x1x16, .f32⟩
  | .hbm, ⟨66, _⟩ => ⟨S1x8x1x8x1, .f32⟩
  | .hbm, ⟨67, _⟩ => ⟨S16x8x64x8x16, .f32⟩
  | .hbm, ⟨68, _⟩ => ⟨S16x8x64x8x16, .f32⟩
  | .hbm, ⟨69, _⟩ => ⟨S16x8x64x8x16, .f32⟩
  | .hbm, ⟨70, _⟩ => ⟨S16x512x128, .f32⟩
  | .hbm, ⟨71, _⟩ => ⟨S16x512x128, .bf16⟩
  | .hbm, ⟨72, _⟩ => ⟨S8x8x2048, .f32⟩
  | .hbm, ⟨73, _⟩ => ⟨S1x64x2048, .f32⟩
  | .hbm, ⟨74, _⟩ => ⟨S1x8x8192, .f32⟩
  | .hbm, ⟨75, _⟩ => ⟨S1x8x8192, .f32⟩
  | .hbm, ⟨76, _⟩ => ⟨S1x8192, .f32⟩
  | .hbm, ⟨77, _⟩ => ⟨S1x8192, .f32⟩
  | .hbm, ⟨78, _⟩ => ⟨S1x2048, .f32⟩
  | .hbm, ⟨79, _⟩ => ⟨S1x64x2048, .f32⟩
  | .hbm, ⟨80, _⟩ => ⟨S1x8x8192, .f32⟩
  | .hbm, ⟨81, _⟩ => ⟨S1x8x8192, .f32⟩
  | .hbm, ⟨82, _⟩ => ⟨S8x128x64, .f32⟩
  | .hbm, ⟨83, _⟩ => ⟨S8x128x64, .f32⟩
  | .local _ .vmem, ⟨0, _⟩ => ⟨S1x64x2048, .f32⟩
  | .local _ .vmem, ⟨1, _⟩ => ⟨S1x8x8192, .f32⟩
  | .local _ .vmem, ⟨2, _⟩ => ⟨S1x8x8192, .f32⟩
  | .local _ .vmem, ⟨3, _⟩ => ⟨S1x8192, .f32⟩
  | .local _ .vmem, ⟨4, _⟩ => ⟨S1x8192, .f32⟩
  | .local _ .vmem, ⟨5, _⟩ => ⟨S16x128x512, .bf16⟩
  | .local _ .vmem, ⟨6, _⟩ => ⟨S16x128x512, .bf16⟩
  | .local _ .vmem, ⟨7, _⟩ => ⟨S16x512x128, .bf16⟩
  | .local _ .vmem, ⟨8, _⟩ => ⟨S16x512x128, .bf16⟩
  | .local _ .vmem, ⟨9, _⟩ => ⟨S1x2048, .f32⟩
  | .local _ .vmem, ⟨10, _⟩ => ⟨S1x64x2048, .f32⟩
  | .local _ .vmem, ⟨11, _⟩ => ⟨S1x8x8192, .f32⟩
  | .local _ .vmem, ⟨12, _⟩ => ⟨S1x8x8192, .f32⟩
  | .local _ .vmem, ⟨13, _⟩ => ⟨S8x8192, .f32⟩
  | .local _ .vmem, ⟨14, _⟩ => ⟨S8x8192, .f32⟩
  | .local _ .vmem, ⟨15, _⟩ => ⟨S64x512, .f32⟩
  | .local _ .vmem, ⟨16, _⟩ => ⟨S64x512, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65_0 : Ref sig .tc := ⟨.hbm, 79, rfl⟩
abbrev main_v65_1 : Ref sig .tc := ⟨.hbm, 80, rfl⟩
abbrev main_v65_2 : Ref sig .tc := ⟨.hbm, 81, rfl⟩
abbrev main_v66 : Ref sig .tc := ⟨.hbm, 82, rfl⟩
abbrev main_v67 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg19 : BitVec 32 := Scf.iv c0_i32_1 c1_i32 k0_t1
  let c128_i32 : BitVec 32 := 128#32
  let v7 : BitVec 32 := Scalar.muli arg19 c128_i32
  v7
def k0_mult2 (k0_t1 : Fin k0_t1_loop.trips) : BitVec 32 :=
  let c0_i32_1 : BitVec 32 := 0#32
  let c1_i32 : BitVec 32 := 1#32
  let arg19 : BitVec 32 := Scf.iv c0_i32_1 c1_i32 k0_t1
  let c512_i32 : BitVec 32 := 512#32
  let v9 : BitVec 32 := Scalar.muli arg19 c512_i32
  v9
def k0_off1 (k0_t1 : Fin k0_t1_loop.trips) : Fin 3 → Nat :=
  let c0 : Index := 0#32
  let c0_5 : Index := 0#32
  let c0_i32_1 : BitVec 32 := 0#32
  let c1_i32 : BitVec 32 := 1#32
  let arg19 : BitVec 32 := Scf.iv c0_i32_1 c1_i32 k0_t1
  let c128_i32 : BitVec 32 := 128#32
  let v7 : BitVec 32 := Scalar.muli arg19 c128_i32
  let v8 : BitVec 32 := v7
  let v11 : Index := Scalar.indexCast v8
  ![0, 0, v11.toNat]
def k0_off2 (k0_t1 : Fin k0_t1_loop.trips) : Fin 3 → Nat :=
  let c0_i32_1 : BitVec 32 := 0#32
  let c1_i32 : BitVec 32 := 1#32
  let arg19 : BitVec 32 := Scf.iv c0_i32_1 c1_i32 k0_t1
  let v15 : Index := Scalar.indexCast arg19
  let c0_6 : Index := 0#32
  let c0_7 : Index := 0#32
  ![v15.toNat, 0, 0]
def k0_off3 (k0_t1 : Fin k0_t1_loop.trips) : Fin 2 → Nat :=
  let c0_15 : Index := 0#32
  let c0_i32_1 : BitVec 32 := 0#32
  let c1_i32 : BitVec 32 := 1#32
  let arg19 : BitVec 32 := Scf.iv c0_i32_1 c1_i32 k0_t1
  let c512_i32 : BitVec 32 := 512#32
  let v9 : BitVec 32 := Scalar.muli arg19 c512_i32
  let v10 : BitVec 32 := v9
  let v29 : Index := Scalar.indexCast v10
  ![0, v29.toNat]
def k0_off4 (k0_t1 : Fin k0_t1_loop.trips) : Fin 2 → Nat :=
  let c0_17 : Index := 0#32
  let c0_i32_1 : BitVec 32 := 0#32
  let c1_i32 : BitVec 32 := 1#32
  let arg19 : BitVec 32 := Scf.iv c0_i32_1 c1_i32 k0_t1
  let c512_i32 : BitVec 32 := 512#32
  let v9 : BitVec 32 := Scalar.muli arg19 c512_i32
  let v10 : BitVec 32 := v9
  let v39 : Index := Scalar.indexCast v10
  ![0, v39.toNat]
def k0_off5 (k0_t1 : Fin k0_t1_loop.trips) : Fin 3 → Nat :=
  let c0_i32_1 : BitVec 32 := 0#32
  let c1_i32 : BitVec 32 := 1#32
  let arg19 : BitVec 32 := Scf.iv c0_i32_1 c1_i32 k0_t1
  let v181 : Index := Scalar.indexCast arg19
  let c0_80 : Index := 0#32
  let c0_81 : Index := 0#32
  ![v181.toNat, 0, 0]
def k0_off6 (k0_t1 : Fin k0_t1_loop.trips) : Fin 2 → Nat :=
  let c0_88 : Index := 0#32
  let c0_i32_1 : BitVec 32 := 0#32
  let c1_i32 : BitVec 32 := 1#32
  let arg19 : BitVec 32 := Scf.iv c0_i32_1 c1_i32 k0_t1
  let c128_i32 : BitVec 32 := 128#32
  let v7 : BitVec 32 := Scalar.muli arg19 c128_i32
  let v8 : BitVec 32 := v7
  let v192 : Index := Scalar.indexCast v8
  ![0, v192.toNat]
def k0_cond2 (i : grid0.Coords) : BitVec 1 :=
  let arg1 : BitVec 32 := BitVec.ofNat 32 (i 1).val
  let c0_i32_3 : BitVec 32 := 0#32
  let v4 : BitVec 1 := Scalar.cmpi .eq arg1 c0_i32_3
  let v5 : BitVec 32 := Scalar.extui v4
  let c0_i32_4 : BitVec 32 := 0#32
  let v6 : BitVec 1 := Scalar.cmpi .ne v5 c0_i32_4
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x8x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x8x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== SeRefIdeal.lean ====
abbrev S8x8x2048 : Shape := ⟨3, ![8, 8, 2048]⟩
abbrev S8x128x64 : Shape := ⟨3, ![8, 128, 64]⟩
abbrev S128x64 : Shape := ⟨2, ![128, 64]⟩
abbrev S128x16x64 : Shape := ⟨3, ![128, 16, 64]⟩
abbrev S2048 : Shape := ⟨1, ![2048]⟩
abbrev S8x8x128x16 : Shape := ⟨4, ![8, 8, 128, 16]⟩
abbrev S128x64x8x8 : Shape := ⟨4, ![128, 64, 8, 8]⟩
abbrev S8x8x128x64 : Shape := ⟨4, ![8, 8, 128, 64]⟩
abbrev S1x128x64 : Shape := ⟨3, ![1, 128, 64]⟩
abbrev S8x1x128x64 : Shape := ⟨4, ![8, 1, 128, 64]⟩

abbrev nBuf : Space → Nat
  | .hbm => 181
  | .vmem => 0
  | .smem => 0
  | _ => 0

abbrev hbmTy0_0 (i : Nat) : BufTy := match i % 128 with
  | 0 => ⟨S8x8x2048, .f32⟩
  | 1 => ⟨S8x128x64, .f32⟩
  | 2 => ⟨S8x128x64, .f32⟩
  | 3 => ⟨S128x64, .f32⟩
  | 4 => ⟨S128x64, .f32⟩
  | 5 => ⟨S128x16x64, .f32⟩
  | 6 => ⟨S128x16x64, .f32⟩
  | 7 => ⟨S128x16x64, .f32⟩
  | 8 => ⟨S128x16x64, .f32⟩
  | 9 => ⟨S2048, .f32⟩
  | 10 => ⟨S8x8x2048, .bf16⟩
  | 11 => ⟨S8x8x2048, .f32⟩
  | 12 => ⟨S8x8x128x16, .f32⟩
  | 13 => ⟨S128x16x64, .bf16⟩
  | 14 => ⟨S128x16x64, .f32⟩
  | 15 => ⟨S128x64x8x8, .f32⟩
  | 16 => ⟨S8x8x128x64, .f32⟩
  | 17 => ⟨S128x16x64, .bf16⟩
  | 18 => ⟨S128x16x64, .f32⟩
  | 19 => ⟨S128x64x8x8, .f32⟩
  | 20 => ⟨S8x8x128x64, .f32⟩
  | 21 => ⟨S1x128x64, .f32⟩
  | 22 => ⟨S8x128x64, .f32⟩
  | 23 => ⟨S8x128x64, .f32⟩
  | 24 => ⟨S1x128x64, .f32⟩
  | 25 => ⟨S8x128x64, .f32⟩
  | 26 => ⟨S8x128x64, .f32⟩
  | 27 => ⟨S8x128x64, .f32⟩
  | 28 => ⟨S8x1x128x64, .f32⟩
  | 29 => ⟨S8x128x64, .f32⟩
  | 30 => ⟨S8x128x64, .f32⟩
  | 31 => ⟨S1x128x64, .f32⟩
  | 32 => ⟨S8x128x64, .f32⟩
  | 33 => ⟨S8x128x64, .f32⟩
  | 34 => ⟨S1x128x64, .f32⟩
  | 35 => ⟨S8x128x64, .f32⟩
  | 36 => ⟨S8x128x64, .f32⟩
  | 37 => ⟨S8x128x64, .f32⟩
  | 38 => ⟨S8x1x128x64, .f32⟩
  | 39 => ⟨S8x128x64, .f32⟩
  | 40 => ⟨S8x128x64, .f32⟩
  | 41 => ⟨S1x128x64, .f32⟩
  | 42 => ⟨S8x128x64, .f32⟩
  | 43 => ⟨S8x128x64, .f32⟩
  | 44 => ⟨S1x128x64, .f32⟩
  | 45 => ⟨S8x128x64, .f32⟩
  | 46 => ⟨S8x128x64, .f32⟩
  | 47 => ⟨S8x128x64, .f32⟩
  | 48 => ⟨S8x1x128x64, .f32⟩
  | 49 => ⟨S8x128x64, .f32⟩
  | 50 => ⟨S8x128x64, .f32⟩
  | 51 => ⟨S1x128x64, .f32⟩
  | 52 => ⟨S8x128x64, .f32⟩
  | 53 => ⟨S8x128x64, .f32⟩
  | 54 => ⟨S1x128x64, .f32⟩
  | 55 => ⟨S8x128x64, .f32⟩
  | 56 => ⟨S8x128x64, .f32⟩
  | 57 => ⟨S8x128x64, .f32⟩
  | 58 => ⟨S8x1x128x64, .f32⟩
  | 59 => ⟨S8x128x64, .f32⟩
  | 60 => ⟨S8x128x64, .f32⟩
  | 61 => ⟨S1x128x64, .f32⟩
  | 62 => ⟨S8x128x64, .f32⟩
  | 63 => ⟨S8x128x64, .f32⟩
  | 64 => ⟨S1x128x64, .f32⟩
  | 65 => ⟨S8x128x64, .f32⟩
  | 66 => ⟨S8x128x64, .f32⟩
  | 67 => ⟨S8x128x64, .f32⟩
  | 68 => ⟨S8x1x128x64, .f32⟩
  | 69 => ⟨S8x128x64, .f32⟩
  | 70 => ⟨S8x128x64, .f32⟩
  | 71 => ⟨S1x128x64, .f32⟩
  | 72 => ⟨S8x128x64, .f32⟩
  | 73 => ⟨S8x128x64, .f32⟩
  | 74 => ⟨S1x128x64, .f32⟩
  | 75 => ⟨S8x128x64, .f32⟩
  | 76 => ⟨S8x128x64, .f32⟩
  | 77 => ⟨S8x128x64, .f32⟩
  | 78 => ⟨S8x1x128x64, .f32⟩
  | 79 => ⟨S8x128x64, .f32⟩
  | 80 => ⟨S8x128x64, .f32⟩
  | 81 => ⟨S1x128x64, .f32⟩
  | 82 => ⟨S8x128x64, .f32⟩
  | 83 => ⟨S8x128x64, .f32⟩
  | 84 => ⟨S1x128x64, .f32⟩
  | 85 => ⟨S8x128x64, .f32⟩
  | 86 => ⟨S8x128x64, .f32⟩
  | 87 => ⟨S8x128x64, .f32⟩
  | 88 => ⟨S8x1x128x64, .f32⟩
  | 89 => ⟨S8x128x64, .f32⟩
  | 90 => ⟨S8x128x64, .f32⟩
  | 91 => ⟨S1x128x64, .f32⟩
  | 92 => ⟨S8x128x64, .f32⟩
  | 93 => ⟨S8x128x64, .f32⟩
  | 94 => ⟨S1x128x64, .f32⟩
  | 95 => ⟨S8x128x64, .f32⟩
  | 96 => ⟨S8x128x64, .f32⟩
  | 97 => ⟨S8x128x64, .f32⟩
  | 98 => ⟨S8x1x128x64, .f32⟩
  | 99 => ⟨S8x128x64, .f32⟩
  | 100 => ⟨S8x128x64, .f32⟩
  | 101 => ⟨S1x128x64, .f32⟩
  | 102 => ⟨S8x128x64, .f32⟩
  | 103 => ⟨S8x128x64, .f32⟩
  | 104 => ⟨S1x128x64, .f32⟩
  | 105 => ⟨S8x128x64, .f32⟩
  | 106 => ⟨S8x128x64, .f32⟩
  | 107 => ⟨S8x128x64, .f32⟩
  | 108 => ⟨S8x1x128x64, .f32⟩
  | 109 => ⟨S8x128x64, .f32⟩
  | 110 => ⟨S8x128x64, .f32⟩
  | 111 => ⟨S1x128x64, .f32⟩
  | 112 => ⟨S8x128x64, .f32⟩
  | 113 => ⟨S8x128x64, .f32⟩
  | 114 => ⟨S1x128x64, .f32⟩
  | 115 => ⟨S8x128x64, .f32⟩
  | 116 => ⟨S8x128x64, .f32⟩
  | 117 => ⟨S8x128x64, .f32⟩
  | 118 => ⟨S8x1x128x64, .f32⟩
  | 119 => ⟨S8x128x64, .f32⟩
  | 120 => ⟨S8x128x64, .f32⟩
  | 121 => ⟨S1x128x64, .f32⟩
  | 122 => ⟨S8x128x64, .f32⟩
  | 123 => ⟨S8x128x64, .f32⟩
  | 124 => ⟨S1x128x64, .f32⟩
  | 125 => ⟨S8x128x64, .f32⟩
  | 126 => ⟨S8x128x64, .f32⟩
  | 127 => ⟨S8x128x64, .f32⟩
  | _ => ⟨S8x8x2048, .f32⟩

abbrev hbmTy0_1 (i : Nat) : BufTy := match i % 128 with
  | 0 => ⟨S8x1x128x64, .f32⟩
  | 1 => ⟨S8x128x64, .f32⟩
  | 2 => ⟨S8x128x64, .f32⟩
  | 3 => ⟨S1x128x64, .f32⟩
  | 4 => ⟨S8x128x64, .f32⟩
  | 5 => ⟨S8x128x64, .f32⟩
  | 6 => ⟨S1x128x64, .f32⟩
  | 7 => ⟨S8x128x64, .f32⟩
  | 8 => ⟨S8x128x64, .f32⟩
  | 9 => ⟨S8x128x64, .f32⟩
  | 10 => ⟨S8x1x128x64, .f32⟩
  | 11 => ⟨S8x128x64, .f32⟩
  | 12 => ⟨S8x128x64, .f32⟩
  | 13 => ⟨S1x128x64, .f32⟩
  | 14 => ⟨S8x128x64, .f32⟩
  | 15 => ⟨S8x128x64, .f32⟩
  | 16 => ⟨S1x128x64, .f32⟩
  | 17 => ⟨S8x128x64, .f32⟩
  | 18 => ⟨S8x128x64, .f32⟩
  | 19 => ⟨S8x128x64, .f32⟩
  | 20 => ⟨S8x1x128x64, .f32⟩
  | 21 => ⟨S8x128x64, .f32⟩
  | 22 => ⟨S8x128x64, .f32⟩
  | 23 => ⟨S1x128x64, .f32⟩
  | 24 => ⟨S8x128x64, .f32⟩
  | 25 => ⟨S8x128x64, .f32⟩
  | 26 => ⟨S1x128x64, .f32⟩
  | 27 => ⟨S8x128x64, .f32⟩
  | 28 => ⟨S8x128x64, .f32⟩
  | 29 => ⟨S8x128x64, .f32⟩
  | 30 => ⟨S8x1x128x64, .f32⟩
  | 31 => ⟨S8x128x64, .f32⟩
  | 32 => ⟨S8x128x64, .f32⟩
  | 33 => ⟨S1x128x64, .f32⟩
  | 34 => ⟨S8x128x64, .f32⟩
  | 35 => ⟨S8x128x64, .f32⟩
  | 36 => ⟨S1x128x64, .f32⟩
  | 37 => ⟨S8x128x64, .f32⟩
  | 38 => ⟨S8x128x64, .f32⟩
  | 39 => ⟨S8x128x64, .f32⟩
  | 40 => ⟨S8x1x128x64, .f32⟩
  | 41 => ⟨S8x128x64, .f32⟩
  | 42 => ⟨S8x128x64, .f32⟩
  | 43 => ⟨S1x128x64, .f32⟩
  | 44 => ⟨S8x128x64, .f32⟩
  | 45 => ⟨S8x128x64, .f32⟩
  | 46 => ⟨S1x128x64, .f32⟩
  | 47 => ⟨S8x128x64, .f32⟩
  | 48 => ⟨S8x128x64, .f32⟩
  | 49 => ⟨S8x128x64, .f32⟩
  | 50 => ⟨S8x1x128x64, .f32⟩
  | 51 => ⟨S8x128x64, .f32⟩
  | 52 => ⟨S8x128x64, .f32⟩
  | _ => ⟨S8x8x2048, .f32⟩

abbrev hbmTy (i : Nat) : BufTy := match i / 128 with
  | 0 => hbmTy0_0 i
  | 1 => hbmTy0_1 i
  | _ => ⟨S8x8x2048, .f32⟩

abbrev bufTy : (tb : Table) → Fin (tcTables nBuf tb) → BufTy
  | .hbm, ⟨i, _⟩ => hbmTy i
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩

abbrev nD : Nat := 1
abbrev τ : Topo := Topo.v7x

variable {F : FTy → Type} [FloatOps F]
-- ==== Proof.Mm.lean ====
/- Matrix products read at an index, over extended reals: a kernel's product of one block of rows with one block of columns,
   and the host's product of a batch of rows with a matrix. Both are the sum over the contracted coordinate. -/
module

public import Idealize.ShloMosaic.Lib.MatmulPlain
public import Idealize.ShloMosaic.Lib.Pipeline.Value
public import Idealize.ShloMosaic.Lib.ValueIdx
public import Idealize.ShloMosaic.Lib.Quiescent

@[expose] public section

noncomputable section

namespace Cert.Proof.Mm

open Idealize.ShloMosaic Idealize.ShloMosaic.ValueIdx
open scoped BigOperators

/-- The dimension numbers of a batch of rows times a matrix: `[B,M,K] × [K,N] → [B,M,N]`. -/
def rows (B M K N : ℕ) (wf : DotDims.WF ⟨3, ![B, M, K]⟩ ⟨2, ![K, N]⟩ ⟨3, ![B, M, N]⟩ [2] [0] [0, 1] [1] [] []) :
    DotDims ⟨3, ![B, M, K]⟩ ⟨2, ![K, N]⟩ ⟨3, ![B, M, N]⟩ where
  lhsContracting := [2]
  rhsContracting := [0]
  lhsNonContracting := [0, 1]
  rhsNonContracting := [1]
  lhsBatch := []
  rhsBatch := []
  wf := wf

/-- The host's product of a batch of rows with a matrix, at an index: the sum over the contracted coordinate. -/
theorem rows_apply {B M K N : ℕ} {wf} {φ₁ φ₂ : FTy} (prec : Option ContractPrecision)
    (lhs : FVec Ideal ⟨3, ![B, M, K]⟩ φ₁) (rhs : FVec Ideal ⟨2, ![K, N]⟩ φ₂) (i : (⟨3, ![B, M, N]⟩ : Shape).Idx) :
    Host.dotGeneral (rows B M K N wf) prec lhs rhs i = ∑ k : Fin K, lhs (ix3 (i 0) (i 1) k) * rhs (ix2 k (i 2)) := by
  have hr : (rows B M K N wf).contr.rank = 1 := rfl
  have hs : (rows B M K N wf).contr.size ⟨0, by rw [hr]; exact Nat.one_pos⟩ = K := rfl
  show (0 : EReal) + (∑ k : (rows B M K N wf).contr.Idx,
    lhs ((rows B M K N wf).lhsIdx i k) * rhs ((rows B M K N wf).rhsIdx i k)) = _
  rw [zero_add, ← Equiv.sum_comp (contrEquiv1 _ K hr hs).symm]
  refine Finset.sum_congr rfl fun k _ => ?_
  have hk := contrEquiv1_symm_val _ K hr hs k
  have el : (rows B M K N wf).lhsIdx i ((contrEquiv1 _ K hr hs).symm k) = ix3 (i 0) (i 1) k := by
    funext a; apply Fin.ext
    match a with
    | ⟨0, _⟩ => rfl
    | ⟨1, _⟩ => rfl
    | ⟨2, _⟩ => exact hk
  have er : (rows B M K N wf).rhsIdx i ((contrEquiv1 _ K hr hs).symm k) = ix2 k (i 2) := by
    funext a; apply Fin.ext
    match a with
    | ⟨0, _⟩ => exact hk
    | ⟨1, _⟩ => rfl
  rw [el, er]
  rfl

/-- The word of `+0.0` is zero. -/
theorem ofBits_zero : Ideal.ofBits .f32 0x00000000#32 = 0 := by simp [Ideal.ofBits, Ideal.ieee]

/-- A kernel's product of a block of rows with a block of columns, onto a zero accumulator, at an index. -/
theorem plain_apply {M K N : ℕ} {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    matmul (DotDims.plain M K N) prec lhs rhs (constant (F := Ideal) ⟨2, ![M, N]⟩ .f32 0x00000000#32) j
      = ∑ k : Fin K, lhs (ix2 (j 0) k) * rhs (ix2 k (j 1)) := by
  obtain ⟨r, c, rfl⟩ : ∃ r c, j = ix2 r c := ⟨_, _, eq_ix2 j⟩
  refine (Ideal.matmul_plain_apply prec lhs rhs _ r c).trans ?_
  show Ideal.ofBits .f32 0x00000000#32 + _ = _
  rw [ofBits_zero, zero_add]
  rfl

end Cert.Proof.Mm

end
-- ==== Proof.Gates.lean ====
/- The product with the gates' columns of the input weights: what the kernel leaves is, block by block, the product of the rows with the columns, which is the reference's one product. -/
module

public import proofs.«01_k».proof.Defs
public import proofs.«01_k».proof.Proof.Gen.Gates.Frame
public import proofs.«01_k».proof.Proof.Gen.GatesIdeal.Value
public import proofs.«01_k».proof.Proof.Gen.GatesRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Gates

open Cert.GatesIdeal Cert.GatesIdeal.Gen

variable (m : (ℓ : Loc nD τ sig) → Buf (Elt Ideal) ℓ) (ρ : Dev nD → PrngReg)

/-- The product, index by index. -/
abbrev prod (h : S4x2048x4096.Idx → EReal) (w : S1x4096x8192.Idx → EReal) : S4x2048x8192.Idx → EReal :=
  fun i => ∑ k : Fin 4096, h (ix3 (i 0) (i 1) k) * w (ix3 0 k (i 2))

/-- What the result array is shown to hold. -/
abbrev G (c : Dev nD) : Buf (Elt Ideal) ((c : Thread nD τ).loc main_v0) :=
  prod (m ((c : Thread nD τ).loc main_arg0)) (m ((c : Thread nD τ).loc main_arg1))

theorem hz3 : (![0, 0, 0] : Fin 3 → Nat) = fun _ => 0 := funext fun a => by fin_cases a <;> rfl

/-- The body's result at an index: the product of the block's row with the block's column. -/
theorem pay_apply (x : S1x1024x4096.Idx → EReal) (y : S1x4096x1024.Idx → EReal) (j : S1x1024x1024.Idx) :
    k0_pay1 (F := Ideal) x y j = ∑ k : Fin 4096, x (ix3 0 (j 1) k) * y (ix3 0 k (j 2)) := by
  unfold k0_pay1
  refine (shapeCast_addUnit_apply (α := EReal) ![1024, 1024] _ _ j).trans ?_
  refine (Mm.plain_apply none _ _ _).trans (Finset.sum_congr rfl fun k _ => ?_)
  refine congrArg₂ (· * ·) ((shapeCast_dropUnit_apply (α := EReal) ![1024, 4096] _ _ _).trans ?_) ((shapeCast_dropUnit_apply (α := EReal) ![4096, 1024] _ _ _).trans ?_)
  · exact congrArg x (eq_ix3 _)
  · exact congrArg y (eq_ix3 _)

/-- How the three windows move over the grid: the rows' block is the result's, and so is the columns'. -/
theorem idx : ∀ t : Fin cfg0.N, win0_0.index t = ![win0_2.index t 0, win0_2.index t 1, 0] ∧ win0_1.index t = ![0, 0, win0_2.index t 2] :=
  (by decide +kernel : ∀ t : Fin grid0.N, win0_0.index t = ![win0_2.index t 0, win0_2.index t 1, 0] ∧ win0_1.index t = ![0, 0, win0_2.index t 2])

/-- What point `t` writes back is its block of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz3]
  funext j
  show _ = prod (m ((c : Thread nD τ).loc main_arg0)) (m ((c : Thread nD τ).loc main_arg1)) ((win0_2.rect t).emb j)
  refine (pay_apply _ _ _).trans (Finset.sum_congr rfl fun k _ => ?_)
  obtain ⟨e0, e1⟩ := idx t
  have hj : (j 0).val = 0 := by have : (j 0).val < 1 := (j 0).isLt; omega
  have v0 (a) := Pipeline.Window.rect_emb_val win0_0 t (ix3 0 (j 1) k : S1x1024x4096.Idx) a
  have v1 (a) := Pipeline.Window.rect_emb_val win0_1 t (ix3 0 k (j 2) : S1x4096x1024.Idx) a
  have v2 (a) := Pipeline.Window.rect_emb_val win0_2 t j a
  rw [e0] at v0
  rw [e1] at v1
  refine congrArg₂ (· * ·) ?_ ?_
  · refine congrArg (m ((c : Thread nD τ).loc main_arg0)) ?_
    funext a; apply Fin.ext
    match a with
    | ⟨0, _⟩ => exact (v0 0).trans (.trans (by show _ * 1 + 0 = _ * 1 + _; rw [hj]; rfl) (v2 0).symm)
    | ⟨1, _⟩ => exact (v0 1).trans (v2 1).symm
    | ⟨2, _⟩ => exact (v0 2).trans (by show 0 * 4096 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 4096 + k.val = k.val; omega)
    | ⟨2, _⟩ => exact (v1 2).trans (v2 2).symm

/-- Every block of the result is written: the blocks tile the array. -/
theorem surj : ∀ (b : Fin 4) (r : Fin 2) (q : Fin 8), ∃ t : Fin cfg0.N, win0_2.index t = ![b.val, r.val, q.val] :=
  (by decide +kernel : ∀ (b : Fin 4) (r : Fin 2) (q : Fin 8), ∃ t : Fin grid0.N, win0_2.index t = ![b.val, r.val, q.val])

theorem cover (i : S4x2048x8192.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 8192 := (i 2).isLt
  obtain ⟨t, ht⟩ := surj ⟨(i 0).val, h0⟩ ⟨(i 1).val / 1024, by omega⟩ ⟨(i 2).val / 1024, by omega⟩
  refine ⟨t, flush0_2 t, ?_⟩
  show i ∈ ((View.whole main_v0).slice (win0_2.rect t)).set
  rw [View.set_slice_whole, Rect.mem_set_unit]
  intro a
  show win0_2.index t a * win0_2.size a ≤ (i a).val ∧ (i a).val < win0_2.index t a * win0_2.size a + win0_2.size a
  rw [ht]
  match a with
  | ⟨0, _⟩ => show (i 0).val * 1 ≤ (i 0).val ∧ (i 0).val < (i 0).val * 1 + 1; omega
  | ⟨1, _⟩ => show (i 1).val / 1024 * 1024 ≤ (i 1).val ∧ (i 1).val < (i 1).val / 1024 * 1024 + 1024; omega
  | ⟨2, _⟩ => show (i 2).val / 1024 * 1024 ≤ (i 2).val ∧ (i 2).val < (i 2).val / 1024 * 1024 + 1024; omega

/-- So the result array ends holding the product. -/
theorem final (c : Dev nD) : (dats m 0 c).arrAt 2 cfg0.N = G m c :=
  (dats m 0 c).arrAt_eq_of_cover 2 (G m c) (fun t _ => flushed_eq m c t) cover

theorem frame : Cert.quiescent_Gates := fun m ρ _ => Cert.Gates.Gen.frame m ρ
theorem frameIdeal : Cert.quiescent_GatesIdeal := fun m ρ _ => Cert.GatesIdeal.Gen.frame m ρ
theorem frameRef : Cert.quiescent_GatesRefIdeal := fun m ρ _ =>
  (θ_run Cert.GatesRefIdeal.defs _ _).mono (fun r h => ⟨fun c => (h c).2, Idealize.ShloMosaic.sem_eq_zero_of_no_sems (by decide) r.2⟩)
    (Cert.GatesRefIdeal.Value.run (F := Ideal) m ρ)

/-- The kernel's result is the reference's product. -/
theorem algebraic : Cert.algebraic_GatesIdeal_GatesRefIdeal := by
  intro m ρ m' ρ' _ hagree
  refine ⟨fun c => G m c, ?_, ?_⟩
  · exact (θ_run Cert.GatesIdeal.defs _ _).mono (fun _ h c => ⟨(h c).1.trans (final m c), (h c).2⟩) (Cert.GatesIdeal.Value.run_blocks (F := Ideal) m ρ)
  refine (θ_run Cert.GatesRefIdeal.defs _ _).mono (fun _ h c => ⟨(h c).1.trans ?_, (h c).2⟩) (Cert.GatesRefIdeal.Value.run (F := Ideal) m' ρ')
  rw [(hagree c).1, (hagree c).2]
  funext i
  refine (Mm.rows_apply none _ _ i).trans (Finset.sum_congr rfl fun k _ => ?_)
  refine congrArg₂ (· * ·) rfl ((shapeCast_dropUnit_apply (α := EReal) ![4096, 8192] _ _ _).trans ?_)
  exact congrArg (m ((c : Thread nD τ).loc main_arg1)) (eq_ix3 _)

end Cert.Proof.Gates

end
-- ==== Proof.Qu.lean ====
/- The product with the queries' (and the recurrence's) columns of the input weights: what the kernel leaves is, block by block, the product of the rows with the columns, which is the reference's one product. -/
module

public import proofs.«01_k».proof.Defs
public import proofs.«01_k».proof.Proof.Gen.Qu.Frame
public import proofs.«01_k».proof.Proof.Gen.QuIdeal.Value
public import proofs.«01_k».proof.Proof.Gen.QuRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Qu

open Cert.QuIdeal Cert.QuIdeal.Gen

variable (m : (ℓ : Loc nD τ sig) → Buf (Elt Ideal) ℓ) (ρ : Dev nD → PrngReg)

/-- The product, index by index. -/
abbrev prod (h : S4x2048x4096.Idx → EReal) (w : S1x4096x2048.Idx → EReal) : S4x2048x2048.Idx → EReal :=
  fun i => ∑ k : Fin 4096, h (ix3 (i 0) (i 1) k) * w (ix3 0 k (i 2))

/-- What the result array is shown to hold. -/
abbrev G (c : Dev nD) : Buf (Elt Ideal) ((c : Thread nD τ).loc main_v0) :=
  prod (m ((c : Thread nD τ).loc main_arg0)) (m ((c : Thread nD τ).loc main_arg1))

theorem hz3 : (![0, 0, 0] : Fin 3 → Nat) = fun _ => 0 := funext fun a => by fin_cases a <;> rfl

/-- The body's result at an index: the product of the block's row with the block's column. -/
theorem pay_apply (x : S1x1024x4096.Idx → EReal) (y : S1x4096x1024.Idx → EReal) (j : S1x1024x1024.Idx) :
    k0_pay1 (F := Ideal) x y j = ∑ k : Fin 4096, x (ix3 0 (j 1) k) * y (ix3 0 k (j 2)) := by
  unfold k0_pay1
  refine (shapeCast_addUnit_apply (α := EReal) ![1024, 1024] _ _ j).trans ?_
  refine (Mm.plain_apply none _ _ _).trans (Finset.sum_congr rfl fun k _ => ?_)
  refine congrArg₂ (· * ·) ((shapeCast_dropUnit_apply (α := EReal) ![1024, 4096] _ _ _).trans ?_) ((shapeCast_dropUnit_apply (α := EReal) ![4096, 1024] _ _ _).trans ?_)
  · exact congrArg x (eq_ix3 _)
  · exact congrArg y (eq_ix3 _)

/-- How the three windows move over the grid: the rows' block is the result's, and so is the columns'. -/
theorem idx : ∀ t : Fin cfg0.N, win0_0.index t = ![win0_2.index t 0, win0_2.index t 1, 0] ∧ win0_1.index t = ![0, 0, win0_2.index t 2] :=
  (by decide +kernel : ∀ t : Fin grid0.N, win0_0.index t = ![win0_2.index t 0, win0_2.index t 1, 0] ∧ win0_1.index t = ![0, 0, win0_2.index t 2])

/-- What point `t` writes back is its block of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz3]
  funext j
  show _ = prod (m ((c : Thread nD τ).loc main_arg0)) (m ((c : Thread nD τ).loc main_arg1)) ((win0_2.rect t).emb j)
  refine (pay_apply _ _ _).trans (Finset.sum_congr rfl fun k _ => ?_)
  obtain ⟨e0, e1⟩ := idx t
  have hj : (j 0).val = 0 := by have : (j 0).val < 1 := (j 0).isLt; omega
  have v0 (a) := Pipeline.Window.rect_emb_val win0_0 t (ix3 0 (j 1) k : S1x1024x4096.Idx) a
  have v1 (a) := Pipeline.Window.rect_emb_val win0_1 t (ix3 0 k (j 2) : S1x4096x1024.Idx) a
  have v2 (a) := Pipeline.Window.rect_emb_val win0_2 t j a
  rw [e0] at v0
  rw [e1] at v1
  refine congrArg₂ (· * ·) ?_ ?_
  · refine congrArg (m ((c : Thread nD τ).loc main_arg0)) ?_
    funext a; apply Fin.ext
    match a with
    | ⟨0, _⟩ => exact (v0 0).trans (.trans (by show _ * 1 + 0 = _ * 1 + _; rw [hj]; rfl) (v2 0).symm)
    | ⟨1, _⟩ => exact (v0 1).trans (v2 1).symm
    | ⟨2, _⟩ => exact (v0 2).trans (by show 0 * 4096 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 4096 + k.val = k.val; omega)
    | ⟨2, _⟩ => exact (v1 2).trans (v2 2).symm

/-- Every block of the result is written: the blocks tile the array. -/
theorem surj : ∀ (b : Fin 4) (r : Fin 2) (q : Fin 2), ∃ t : Fin cfg0.N, win0_2.index t = ![b.val, r.val, q.val] :=
  (by decide +kernel : ∀ (b : Fin 4) (r : Fin 2) (q : Fin 2), ∃ t : Fin grid0.N, win0_2.index t = ![b.val, r.val, q.val])

theorem cover (i : S4x2048x2048.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  obtain ⟨t, ht⟩ := surj ⟨(i 0).val, h0⟩ ⟨(i 1).val / 1024, by omega⟩ ⟨(i 2).val / 1024, by omega⟩
  refine ⟨t, flush0_2 t, ?_⟩
  show i ∈ ((View.whole main_v0).slice (win0_2.rect t)).set
  rw [View.set_slice_whole, Rect.mem_set_unit]
  intro a
  show win0_2.index t a * win0_2.size a ≤ (i a).val ∧ (i a).val < win0_2.index t a * win0_2.size a + win0_2.size a
  rw [ht]
  match a with
  | ⟨0, _⟩ => show (i 0).val * 1 ≤ (i 0).val ∧ (i 0).val < (i 0).val * 1 + 1; omega
  | ⟨1, _⟩ => show (i 1).val / 1024 * 1024 ≤ (i 1).val ∧ (i 1).val < (i 1).val / 1024 * 1024 + 1024; omega
  | ⟨2, _⟩ => show (i 2).val / 1024 * 1024 ≤ (i 2).val ∧ (i 2).val < (i 2).val / 1024 * 1024 + 1024; omega

/-- So the result array ends holding the product. -/
theorem final (c : Dev nD) : (dats m 0 c).arrAt 2 cfg0.N = G m c :=
  (dats m 0 c).arrAt_eq_of_cover 2 (G m c) (fun t _ => flushed_eq m c t) cover

theorem frame : Cert.quiescent_Qu := fun m ρ _ => Cert.Qu.Gen.frame m ρ
theorem frameIdeal : Cert.quiescent_QuIdeal := fun m ρ _ => Cert.QuIdeal.Gen.frame m ρ
theorem frameRef : Cert.quiescent_QuRefIdeal := fun m ρ _ =>
  (θ_run Cert.QuRefIdeal.defs _ _).mono (fun r h => ⟨fun c => (h c).2, Idealize.ShloMosaic.sem_eq_zero_of_no_sems (by decide) r.2⟩)
    (Cert.QuRefIdeal.Value.run (F := Ideal) m ρ)

/-- The kernel's result is the reference's product. -/
theorem algebraic : Cert.algebraic_QuIdeal_QuRefIdeal := by
  intro m ρ m' ρ' _ hagree
  refine ⟨fun c => G m c, ?_, ?_⟩
  · exact (θ_run Cert.QuIdeal.defs _ _).mono (fun _ h c => ⟨(h c).1.trans (final m c), (h c).2⟩) (Cert.QuIdeal.Value.run_blocks (F := Ideal) m ρ)
  refine (θ_run Cert.QuRefIdeal.defs _ _).mono (fun _ h c => ⟨(h c).1.trans ?_, (h c).2⟩) (Cert.QuRefIdeal.Value.run (F := Ideal) m' ρ')
  rw [(hagree c).1, (hagree c).2]
  funext i
  refine (Mm.rows_apply none _ _ i).trans (Finset.sum_congr rfl fun k _ => ?_)
  refine congrArg₂ (· * ·) rfl ((shapeCast_dropUnit_apply (α := EReal) ![4096, 2048] _ _ _).trans ?_)
  exact congrArg (m ((c : Thread nD τ).loc main_arg1)) (eq_ix3 _)

end Cert.Proof.Qu

end
-- ==== Proof.Kv.lean ====
/- The product with the keys' (and the values') columns of the input weights: what the kernel leaves is, block by block, the product of the rows with the columns, which is the reference's one product. -/
module

public import proofs.«01_k».proof.Defs
public import proofs.«01_k».proof.Proof.Gen.Kv.Frame
public import proofs.«01_k».proof.Proof.Gen.KvIdeal.Value
public import proofs.«01_k».proof.Proof.Gen.KvRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Kv

open Cert.KvIdeal Cert.KvIdeal.Gen

variable (m : (ℓ : Loc nD τ sig) → Buf (Elt Ideal) ℓ) (ρ : Dev nD → PrngReg)

/-- The product, index by index. -/
abbrev prod (h : S4x2048x4096.Idx → EReal) (w : S1x4096x1024.Idx → EReal) : S4x2048x1024.Idx → EReal :=
  fun i => ∑ k : Fin 4096, h (ix3 (i 0) (i 1) k) * w (ix3 0 k (i 2))

/-- What the result array is shown to hold. -/
abbrev G (c : Dev nD) : Buf (Elt Ideal) ((c : Thread nD τ).loc main_v0) :=
  prod (m ((c : Thread nD τ).loc main_arg0)) (m ((c : Thread nD τ).loc main_arg1))

theorem hz3 : (![0, 0, 0] : Fin 3 → Nat) = fun _ => 0 := funext fun a => by fin_cases a <;> rfl

/-- The body's result at an index: the product of the block's row with the block's column. -/
theorem pay_apply (x : S1x1024x4096.Idx → EReal) (y : S1x4096x1024.Idx → EReal) (j : S1x1024x1024.Idx) :
    k0_pay1 (F := Ideal) x y j = ∑ k : Fin 4096, x (ix3 0 (j 1) k) * y (ix3 0 k (j 2)) := by
  unfold k0_pay1
  refine (shapeCast_addUnit_apply (α := EReal) ![1024, 1024] _ _ j).trans ?_
  refine (Mm.plain_apply none _ _ _).trans (Finset.sum_congr rfl fun k _ => ?_)
  refine congrArg₂ (· * ·) ((shapeCast_dropUnit_apply (α := EReal) ![1024, 4096] _ _ _).trans ?_) ((shapeCast_dropUnit_apply (α := EReal) ![4096, 1024] _ _ _).trans ?_)
  · exact congrArg x (eq_ix3 _)
  · exact congrArg y (eq_ix3 _)

/-- How the three windows move over the grid: the rows' block is the result's, and so is the columns'. -/
theorem idx : ∀ t : Fin cfg0.N, win0_0.index t = ![win0_2.index t 0, win0_2.index t 1, 0] ∧ win0_1.index t = ![0, 0, win0_2.index t 2] :=
  (by decide +kernel : ∀ t : Fin grid0.N, win0_0.index t = ![win0_2.index t 0, win0_2.index t 1, 0] ∧ win0_1.index t = ![0, 0, win0_2.index t 2])

/-- What point `t` writes back is its block of the product. -/
theorem flushed_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz3]
  funext j
  show _ = prod (m ((c : Thread nD τ).loc main_arg0)) (m ((c : Thread nD τ).loc main_arg1)) ((win0_2.rect t).emb j)
  refine (pay_apply _ _ _).trans (Finset.sum_congr rfl fun k _ => ?_)
  obtain ⟨e0, e1⟩ := idx t
  have hj : (j 0).val = 0 := by have : (j 0).val < 1 := (j 0).isLt; omega
  have v0 (a) := Pipeline.Window.rect_emb_val win0_0 t (ix3 0 (j 1) k : S1x1024x4096.Idx) a
  have v1 (a) := Pipeline.Window.rect_emb_val win0_1 t (ix3 0 k (j 2) : S1x4096x1024.Idx) a
  have v2 (a) := Pipeline.Window.rect_emb_val win0_2 t j a
  rw [e0] at v0
  rw [e1] at v1
  refine congrArg₂ (· * ·) ?_ ?_
  · refine congrArg (m ((c : Thread nD τ).loc main_arg0)) ?_
    funext a; apply Fin.ext
    match a with
    | ⟨0, _⟩ => exact (v0 0).trans (.trans (by show _ * 1 + 0 = _ * 1 + _; rw [hj]; rfl) (v2 0).symm)
    | ⟨1, _⟩ => exact (v0 1).trans (v2 1).symm
    | ⟨2, _⟩ => exact (v0 2).trans (by show 0 * 4096 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 4096 + k.val = k.val; omega)
    | ⟨2, _⟩ => exact (v1 2).trans (v2 2).symm

/-- Every block of the result is written: the blocks tile the array. -/
theorem surj : ∀ (b : Fin 4) (r : Fin 2) (q : Fin 1), ∃ t : Fin cfg0.N, win0_2.index t = ![b.val, r.val, q.val] :=
  (by decide +kernel : ∀ (b : Fin 4) (r : Fin 2) (q : Fin 1), ∃ t : Fin grid0.N, win0_2.index t = ![b.val, r.val, q.val])

theorem cover (i : S4x2048x1024.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1024 := (i 2).isLt
  obtain ⟨t, ht⟩ := surj ⟨(i 0).val, h0⟩ ⟨(i 1).val / 1024, by omega⟩ ⟨(i 2).val / 1024, by omega⟩
  refine ⟨t, flush0_2 t, ?_⟩
  show i ∈ ((View.whole main_v0).slice (win0_2.rect t)).set
  rw [View.set_slice_whole, Rect.mem_set_unit]
  intro a
  show win0_2.index t a * win0_2.size a ≤ (i a).val ∧ (i a).val < win0_2.index t a * win0_2.size a + win0_2.size a
  rw [ht]
  match a with
  | ⟨0, _⟩ => show (i 0).val * 1 ≤ (i 0).val ∧ (i 0).val < (i 0).val * 1 + 1; omega
  | ⟨1, _⟩ => show (i 1).val / 1024 * 1024 ≤ (i 1).val ∧ (i 1).val < (i 1).val / 1024 * 1024 + 1024; omega
  | ⟨2, _⟩ => show (i 2).val / 1024 * 1024 ≤ (i 2).val ∧ (i 2).val < (i 2).val / 1024 * 1024 + 1024; omega

/-- So the result array ends holding the product. -/
theorem final (c : Dev nD) : (dats m 0 c).arrAt 2 cfg0.N = G m c :=
  (dats m 0 c).arrAt_eq_of_cover 2 (G m c) (fun t _ => flushed_eq m c t) cover

theorem frame : Cert.quiescent_Kv := fun m ρ _ => Cert.Kv.Gen.frame m ρ
theorem frameIdeal : Cert.quiescent_KvIdeal := fun m ρ _ => Cert.KvIdeal.Gen.frame m ρ
theorem frameRef : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)

/-- The kernel's result is the reference's product. -/
theorem algebraic : Cert.algebraic_KvIdeal_KvRefIdeal := by
  intro m ρ m' ρ' _ hagree
  refine ⟨fun c => G m c, ?_, ?_⟩
  · exact (θ_run Cert.KvIdeal.defs _ _).mono (fun _ h c => ⟨(h c).1.trans (final m c), (h c).2⟩) (Cert.KvIdeal.Value.run_blocks (F := Ideal) m ρ)
  refine (θ_run Cert.KvRefIdeal.defs _ _).mono (fun _ h c => ⟨(h c).1.trans ?_, (h c).2⟩) (Cert.KvRefIdeal.Value.run (F := Ideal) m' ρ')
  rw [(hagree c).1, (hagree c).2]
  funext i
  refine (Mm.rows_apply none _ _ i).trans (Finset.sum_congr rfl fun k _ => ?_)
  refine congrArg₂ (· * ·) rfl ((shapeCast_dropUnit_apply (α := EReal) ![4096, 1024] _ _ _).trans ?_)
  exact congrArg (m ((c : Thread nD τ).loc main_arg1)) (eq_ix3 _)

end Cert.Proof.Kv

end
-- ==== Proof.Ks.lean ====
/- The sample tokens' product with the keys' columns of the input weights, which also leaves those columns rounded: both results are the reference's. -/
module

public import proofs.«01_k».proof.Defs
public import proofs.«01_k».proof.Proof.Gen.Ks.Frame
public import proofs.«01_k».proof.Proof.Gen.KsIdeal.Value
public import proofs.«01_k».proof.Proof.Gen.KsRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Ks

open Cert.KsIdeal Cert.KsIdeal.Gen

variable (m : (ℓ : Loc nD τ sig) → Buf (Elt Ideal) ℓ) (ρ : Dev nD → PrngReg)

/-- The product of the rows with the columns from 2048 on, index by index. -/
abbrev prod (h : S1x64x4096.Idx → EReal) (w : S2x4096x14336.Idx → EReal) : S1x64x1024.Idx → EReal :=
  fun i => ∑ k : Fin 4096, h (ix3 (i 0) (i 1) k) * w (ix3 0 k ⟨2048 + (i 2).val, by have : (i 2).val < 1024 := (i 2).isLt; omega⟩)

/-- The first layer's weights of the columns from 2048 on. -/
abbrev cols (w : S2x4096x14336.Idx → EReal) : S4096x1024.Idx → EReal :=
  fun i => w (ix3 0 (i 0) ⟨2048 + (i 1).val, by have : (i 1).val < 1024 := (i 1).isLt; omega⟩)

/-- What the two result arrays are shown to hold. -/
abbrev G (c : Dev nD) : Buf (Elt Ideal) ((c : Thread nD τ).loc main_v0_0) :=
  prod (m ((c : Thread nD τ).loc main_arg0)) (m ((c : Thread nD τ).loc main_arg1))
abbrev H (c : Dev nD) : Buf (Elt Ideal) ((c : Thread nD τ).loc main_v0_1) :=
  cols (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- The weights' block, rounded: ideally the block. -/
theorem pay1_apply (y : S1x4096x512.Idx → EReal) (j : S4096x512.Idx) : k0_pay1 (F := Ideal) y j = y (ix3 0 (j 0) (j 1)) := by
  unfold k0_pay1
  exact (shapeCast_dropUnit_apply (α := EReal) ![4096, 512] _ _ _).trans (congrArg y (eq_ix3 _))

/-- The body's product at an index. -/
theorem pay2_apply (y : S1x4096x512.Idx → EReal) (x : S1x64x4096.Idx → EReal) (j : S1x64x512.Idx) :
    k0_pay2 (F := Ideal) y x j = ∑ k : Fin 4096, x (ix3 0 (j 1) k) * y (ix3 0 k (j 2)) := by
  unfold k0_pay2
  refine (shapeCast_addUnit_apply (α := EReal) ![64, 512] _ _ j).trans ?_
  refine (Mm.plain_apply none _ _ _).trans (Finset.sum_congr rfl fun k _ => ?_)
  refine congrArg₂ (· * ·) ((shapeCast_dropUnit_apply (α := EReal) ![64, 4096] _ _ _).trans ?_) (pay1_apply y _)
  exact congrArg x (eq_ix3 _)

/-- How the windows move over the grid. -/
theorem idx : ∀ t : Fin cfg0.N, win0_0.index t = ![0, 0, 0] ∧ win0_1.index t = ![0, 0, 4 + t.val] ∧ win0_2.index t = ![0, 0, t.val] ∧ win0_3.index t = ![0, t.val] :=
  (by decide +kernel : ∀ t : Fin grid0.N, win0_0.index t = ![0, 0, 0] ∧ win0_1.index t = ![0, 0, 4 + t.val] ∧ win0_2.index t = ![0, 0, t.val] ∧ win0_3.index t = ![0, t.val])

/-- What point `t` writes back is its block of the product … -/
theorem flushed2_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz3]
  funext j
  show _ = prod (m ((c : Thread nD τ).loc main_arg0)) (m ((c : Thread nD τ).loc main_arg1)) ((win0_2.rect t).emb j)
  refine (pay2_apply _ _ _).trans (Finset.sum_congr rfl fun k _ => ?_)
  obtain ⟨e0, e1, e2, _⟩ := idx t
  have hj : (j 0).val = 0 := by have : (j 0).val < 1 := (j 0).isLt; omega
  have v0 (a) := Pipeline.Window.rect_emb_val win0_0 t (ix3 0 (j 1) k : S1x64x4096.Idx) a
  have v1 (a) := Pipeline.Window.rect_emb_val win0_1 t (ix3 0 k (j 2) : S1x4096x512.Idx) a
  have v2 (a) := Pipeline.Window.rect_emb_val win0_2 t j a
  rw [e0] at v0
  rw [e1] at v1
  rw [e2] at v2
  refine congrArg₂ (· * ·) ?_ ?_
  · refine congrArg (m ((c : Thread nD τ).loc main_arg0)) ?_
    funext a; apply Fin.ext
    match a with
    | ⟨0, _⟩ => exact (v0 0).trans (.trans (by show 0 * 1 + 0 = 0 * 1 + (j 0).val; rw [hj]) (v2 0).symm)
    | ⟨1, _⟩ => exact (v0 1).trans (v2 1).symm
    | ⟨2, _⟩ => exact (v0 2).trans (by show 0 * 4096 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 4096 + k.val = k.val; omega)
    | ⟨2, _⟩ => exact (v1 2).trans (.trans (by show (4 + t.val) * 512 + (j 2).val = 2048 + (t.val * 512 + (j 2).val); omega) (congrArg (2048 + ·) (v2 2).symm))

/-- … and its block of the weights' columns. -/
theorem flushed3_eq (c : Dev nD) (t : Fin cfg0.N) :
    (dats m 0 c).flushed 3 t = (win0_3.blk t).view.read (Elt Ideal) (H m c) := by
  rw [Value.flushed3]
  unfold out0_3
  rw [View.canon_unit_zero hz2, View.ld_unit_zero hz3]
  funext j
  show _ = cols (m ((c : Thread nD τ).loc main_arg1)) ((win0_3.rect t).emb j)
  refine (pay1_apply _ _).trans ?_
  obtain ⟨_, e1, _, e3⟩ := idx t
  have v1 (a) := Pipeline.Window.rect_emb_val win0_1 t (ix3 0 (j 0) (j 1) : S1x4096x512.Idx) a
  have v3 (a) := Pipeline.Window.rect_emb_val win0_3 t j a
  rw [e1] at v1
  rw [e3] at v3
  refine congrArg (m ((c : Thread nD τ).loc main_arg1)) ?_
  funext a; apply Fin.ext
  match a with
  | ⟨0, _⟩ => exact (v1 0).trans (by show 0 * 1 + 0 = 0; rfl)
  | ⟨1, _⟩ => exact (v1 1).trans (v3 0).symm
  | ⟨2, _⟩ => exact (v1 2).trans (.trans (by show (4 + t.val) * 512 + (j 1).val = 2048 + (t.val * 512 + (j 1).val); omega) (congrArg (2048 + ·) (v3 1).symm))

/-- Every column block is a point's. -/
theorem surj : ∀ q : Fin 2, ∃ t : Fin cfg0.N, t.val = q.val :=
  (by decide +kernel : ∀ q : Fin 2, ∃ t : Fin grid0.N, t.val = q.val)

theorem cover2 (i : S1x64x1024.Idx) : ∃ t : Fin cfg0.N, (cfg0.win 2).flush t = true ∧ i ∈ ((cfg0.win 2).blk t).view.set := by
  have h0 : (i 0).val < 1 := (i 0).isLt
  have h1 : (i 1).val < 64 := (i 1).isLt
  have h2 : (i 2).val < 1024 := (i 2).isLt
  obtain ⟨t, ht⟩ := surj ⟨(i 2).val / 512, by omega⟩
  have ht : t.val = (i 2).val / 512 := ht
  refine ⟨t, flush0_2 t, ?_⟩
  show i ∈ ((View.whole main_v0_0).slice (win0_2.rect t)).set
  rw [View.set_slice_whole, Rect.mem_set_unit]
  intro a
  show win0_2.index t a * win0_2.size a ≤ (i a).val ∧ (i a).val < win0_2.index t a * win0_2.size a + win0_2.size a
  rw [(idx t).2.2.1, ht]
  match a with
  | ⟨0, _⟩ => show 0 * 1 ≤ (i 0).val ∧ (i 0).val < 0 * 1 + 1; omega
  | ⟨1, _⟩ => show 0 * 64 ≤ (i 1).val ∧ (i 1).val < 0 * 64 + 64; omega
  | ⟨2, _⟩ => show (i 2).val / 512 * 512 ≤ (i 2).val ∧ (i 2).val < (i 2).val / 512 * 512 + 512; omega

theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, ht⟩ := surj ⟨(i 1).val / 512, by omega⟩
  have ht : t.val = (i 1).val / 512 := ht
  refine ⟨t, flush0_3 t, ?_⟩
  show i ∈ ((View.whole main_v0_1).slice (win0_3.rect t)).set
  rw [View.set_slice_whole, Rect.mem_set_unit]
  intro a
  show win0_3.index t a * win0_3.size a ≤ (i a).val ∧ (i a).val < win0_3.index t a * win0_3.size a + win0_3.size a
  rw [(idx t).2.2.2, ht]
  match a with
  | ⟨0, _⟩ => show 0 * 4096 ≤ (i 0).val ∧ (i 0).val < 0 * 4096 + 4096; omega
  | ⟨1, _⟩ => show (i 1).val / 512 * 512 ≤ (i 1).val ∧ (i 1).val < (i 1).val / 512 * 512 + 512; omega

/-- So the result arrays end holding the product and the weights' columns. -/
theorem final2 (c : Dev nD) : (dats m 0 c).arrAt 2 cfg0.N = G m c :=
  (dats m 0 c).arrAt_eq_of_cover 2 (G m c) (fun t _ => flushed2_eq m c t) cover2
theorem final3 (c : Dev nD) : (dats m 0 c).arrAt 3 cfg0.N = H m c :=
  (dats m 0 c).arrAt_eq_of_cover 3 (H m c) (fun t _ => flushed3_eq m c t) cover3

theorem frame : Cert.quiescent_Ks := fun m ρ _ => Cert.Ks.Gen.frame m ρ
theorem frameIdeal : Cert.quiescent_KsIdeal := fun m ρ _ => Cert.KsIdeal.Gen.frame m ρ
theorem frameRef : Cert.quiescent_KsRefIdeal := fun m ρ _ =>
  (θ_run Cert.KsRefIdeal.defs _ _).mono (fun r h => ⟨fun c => (h c).2.2, Idealize.ShloMosaic.sem_eq_zero_of_no_sems (by decide) r.2⟩)
    (Cert.KsRefIdeal.Value.run (F := Ideal) m ρ)

/-- The first layer's weights read at an index, in the reference. -/
theorem ref_weights (w : KsRefIdeal.S2x4096x14336.Idx → EReal) (i : KsRefIdeal.S4096x14336.Idx) :
    shapeCast KsRefIdeal.S4096x14336 (extractStridedSlice KsRefIdeal.S1x4096x14336 ![0, 0, 0] w KsRefIdeal.Gen.slices_S2x4096x14336_S1x4096x14336_0_0_0)
      KsRefIdeal.Gen.shapeCasts_S1x4096x14336_S4096x14336 i = w (ix3 0 (i 0) (i 1)) := by
  refine (shapeCast_dropUnit_apply (α := EReal) ![4096, 14336] _ _ _).trans ?_
  refine extractStridedSlice_apply _ _ _ _ (ix3 0 (i 0) (i 1) : S2x4096x14336.Idx) (fun a => ?_)
  match a with
  | ⟨0, _⟩ => rfl
  | ⟨1, _⟩ => exact (Nat.zero_add _).symm
  | ⟨2, _⟩ => exact (Nat.zero_add _).symm

/-- The kernel's results are the reference's product and columns. -/
theorem algebraic : Cert.algebraic_KsIdeal_KsRefIdeal := by
  intro m ρ m' ρ' _ hagree
  refine ⟨fun c => G m c, fun c => H m c, ?_, ?_⟩
  · exact (θ_run Cert.KsIdeal.defs _ _).mono (fun _ h c => ⟨(h c).1.trans (final2 m c), (h c).2.1.trans (final3 m c), (h c).2.2⟩)
      (Cert.KsIdeal.Value.run_blocks (F := Ideal) m ρ)
  refine (θ_run Cert.KsRefIdeal.defs _ _).mono (fun _ h c => ⟨(h c).1.trans ?_, (h c).2.1.trans ?_, (h c).2.2⟩) (Cert.KsRefIdeal.Value.run (F := Ideal) m' ρ')
  · rw [(hagree c).1, (hagree c).2]
    funext i
    refine (extractStridedSlice_apply _ _ _ _ (ix3 (i 0) (i 1) ⟨2048 + (i 2).val, by have : (i 2).val < 1024 := (i 2).isLt; omega⟩ : KsRefIdeal.S1x64x14336.Idx) (fun a => ?_)).trans ?_
    · match a with
      | ⟨0, _⟩ => exact (Nat.zero_add _).symm
      | ⟨1, _⟩ => exact (Nat.zero_add _).symm
      | ⟨2, _⟩ => rfl
    exact (Mm.rows_apply none _ _ _).trans (Finset.sum_congr rfl fun k _ => congrArg₂ (· * ·) rfl (ref_weights _ _))
  · rw [(hagree c).2]
    funext i
    refine (extractStridedSlice_apply (α := EReal) _ _ KsRefIdeal.Gen.slices_S4096x14336_S4096x1024_0_2048 i (ix2 (i 0) ⟨2048 + (i 1).val, by have : (i 1).val < 1024 := (i 1).isLt; omega⟩ : KsRefIdeal.S4096x14336.Idx) (fun a => ?_)).trans
      (ref_weights _ _)
    match a with
    | ⟨0, _⟩ => exact (Nat.zero_add _).symm
    | ⟨1, _⟩ => rfl

end Cert.Proof.Ks

end
-- ==== Proof.Vs.lean ====
/- The sample tokens' product with the values' columns of the input weights, which also leaves those columns rounded: both results are the reference's. -/
module

public import proofs.«01_k».proof.Defs
public import proofs.«01_k».proof.Proof.Gen.Vs.Frame
public import proofs.«01_k».proof.Proof.Gen.VsIdeal.Value
public import proofs.«01_k».proof.Proof.Gen.VsRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Vs

open Cert.VsIdeal Cert.VsIdeal.Gen

variable (m : (ℓ : Loc nD τ sig) → Buf (Elt Ideal) ℓ) (ρ : Dev nD → PrngReg)

/-- The product of the rows with the columns from 3072 on, index by index. -/
abbrev prod (h : S1x64x4096.Idx → EReal) (w : S2x4096x14336.Idx → EReal) : S1x64x1024.Idx → EReal :=
  fun i => ∑ k : Fin 4096, h (ix3 (i 0) (i 1) k) * w (ix3 0 k ⟨3072 + (i 2).val, by have : (i 2).val < 1024 := (i 2).isLt; omega⟩)

/-- The first layer's weights of the columns from 3072 on. -/
abbrev cols (w : S2x4096x14336.Idx → EReal) : S4096x1024.Idx → EReal :=
  fun i => w (ix3 0 (i 0) ⟨3072 + (i 1).val, by have : (i 1).val < 1024 := (i 1).isLt; omega⟩)

/-- What the two result arrays are shown to hold. -/
abbrev G (c : Dev nD) : Buf (Elt Ideal) ((c : Thread nD τ).loc main_v0_0) :=
  prod (m ((c : Thread nD τ).loc main_arg0)) (m ((c : Thread nD τ).loc main_arg1))
abbrev H (c : Dev nD) : Buf (Elt Ideal) ((c : Thread nD τ).loc main_v0_1) :=
  cols (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- The weights' block, rounded: ideally the block. -/
theorem pay1_apply (y : S1x4096x512.Idx → EReal) (j : S4096x512.Idx) : k0_pay1 (F := Ideal) y j = y (ix3 0 (j 0) (j 1)) := by
  unfold k0_pay1
  exact (shapeCast_dropUnit_apply (α := EReal) ![4096, 512] _ _ _).trans (congrArg y (eq_ix3 _))

/-- The body's product at an index. -/
theorem pay2_apply (y : S1x4096x512.Idx → EReal) (x : S1x64x4096.Idx → EReal) (j : S1x64x512.Idx) :
    k0_pay2 (F := Ideal) y x j = ∑ k : Fin 4096, x (ix3 0 (j 1) k) * y (ix3 0 k (j 2)) := by
  unfold k0_pay2
  refine (shapeCast_addUnit_apply (α := EReal) ![64, 512] _ _ j).trans ?_
  refine (Mm.plain_apply none _ _ _).trans (Finset.sum_congr rfl fun k _ => ?_)
  refine congrArg₂ (· * ·) ((shapeCast_dropUnit_apply (α := EReal) ![64, 4096] _ _ _).trans ?_) (pay1_apply y _)
  exact congrArg x (eq_ix3 _)

/-- How the windows move over the grid. -/
theorem idx : ∀ t : Fin cfg0.N, win0_0.index t = ![0, 0, 0] ∧ win0_1.index t = ![0, 0, 6 + t.val] ∧ win0_2.index t = ![0, 0, t.val] ∧ win0_3.index t = ![0, t.val] :=
  (by decide +kernel : ∀ t : Fin grid0.N, win0_0.index t = ![0, 0, 0] ∧ win0_1.index t = ![0, 0, 6 + t.val] ∧ win0_2.index t = ![0, 0, t.val] ∧ win0_3.index t = ![0, t.val])

/-- What point `t` writes back is its block of the product … -/
theorem flushed2_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz3]
  funext j
  show _ = prod (m ((c : Thread nD τ).loc main_arg0)) (m ((c : Thread nD τ).loc main_arg1)) ((win0_2.rect t).emb j)
  refine (pay2_apply _ _ _).trans (Finset.sum_congr rfl fun k _ => ?_)
  obtain ⟨e0, e1, e2, _⟩ := idx t
  have hj : (j 0).val = 0 := by have : (j 0).val < 1 := (j 0).isLt; omega
  have v0 (a) := Pipeline.Window.rect_emb_val win0_0 t (ix3 0 (j 1) k : S1x64x4096.Idx) a
  have v1 (a) := Pipeline.Window.rect_emb_val win0_1 t (ix3 0 k (j 2) : S1x4096x512.Idx) a
  have v2 (a) := Pipeline.Window.rect_emb_val win0_2 t j a
  rw [e0] at v0
  rw [e1] at v1
  rw [e2] at v2
  refine congrArg₂ (· * ·) ?_ ?_
  · refine congrArg (m ((c : Thread nD τ).loc main_arg0)) ?_
    funext a; apply Fin.ext
    match a with
    | ⟨0, _⟩ => exact (v0 0).trans (.trans (by show 0 * 1 + 0 = 0 * 1 + (j 0).val; rw [hj]) (v2 0).symm)
    | ⟨1, _⟩ => exact (v0 1).trans (v2 1).symm
    | ⟨2, _⟩ => exact (v0 2).trans (by show 0 * 4096 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 4096 + k.val = k.val; omega)
    | ⟨2, _⟩ => exact (v1 2).trans (.trans (by show (6 + t.val) * 512 + (j 2).val = 3072 + (t.val * 512 + (j 2).val); omega) (congrArg (3072 + ·) (v2 2).symm))

/-- … and its block of the weights' columns. -/
theorem flushed3_eq (c : Dev nD) (t : Fin cfg0.N) :
    (dats m 0 c).flushed 3 t = (win0_3.blk t).view.read (Elt Ideal) (H m c) := by
  rw [Value.flushed3]
  unfold out0_3
  rw [View.canon_unit_zero hz2, View.ld_unit_zero hz3]
  funext j
  show _ = cols (m ((c : Thread nD τ).loc main_arg1)) ((win0_3.rect t).emb j)
  refine (pay1_apply _ _).trans ?_
  obtain ⟨_, e1, _, e3⟩ := idx t
  have v1 (a) := Pipeline.Window.rect_emb_val win0_1 t (ix3 0 (j 0) (j 1) : S1x4096x512.Idx) a
  have v3 (a) := Pipeline.Window.rect_emb_val win0_3 t j a
  rw [e1] at v1
  rw [e3] at v3
  refine congrArg (m ((c : Thread nD τ).loc main_arg1)) ?_
  funext a; apply Fin.ext
  match a with
  | ⟨0, _⟩ => exact (v1 0).trans (by show 0 * 1 + 0 = 0; rfl)
  | ⟨1, _⟩ => exact (v1 1).trans (v3 0).symm
  | ⟨2, _⟩ => exact (v1 2).trans (.trans (by show (6 + t.val) * 512 + (j 1).val = 3072 + (t.val * 512 + (j 1).val); omega) (congrArg (3072 + ·) (v3 1).symm))

/-- Every column block is a point's. -/
theorem surj : ∀ q : Fin 2, ∃ t : Fin cfg0.N, t.val = q.val :=
  (by decide +kernel : ∀ q : Fin 2, ∃ t : Fin grid0.N, t.val = q.val)

theorem cover2 (i : S1x64x1024.Idx) : ∃ t : Fin cfg0.N, (cfg0.win 2).flush t = true ∧ i ∈ ((cfg0.win 2).blk t).view.set := by
  have h0 : (i 0).val < 1 := (i 0).isLt
  have h1 : (i 1).val < 64 := (i 1).isLt
  have h2 : (i 2).val < 1024 := (i 2).isLt
  obtain ⟨t, ht⟩ := surj ⟨(i 2).val / 512, by omega⟩
  have ht : t.val = (i 2).val / 512 := ht
  refine ⟨t, flush0_2 t, ?_⟩
  show i ∈ ((View.whole main_v0_0).slice (win0_2.rect t)).set
  rw [View.set_slice_whole, Rect.mem_set_unit]
  intro a
  show win0_2.index t a * win0_2.size a ≤ (i a).val ∧ (i a).val < win0_2.index t a * win0_2.size a + win0_2.size a
  rw [(idx t).2.2.1, ht]
  match a with
  | ⟨0, _⟩ => show 0 * 1 ≤ (i 0).val ∧ (i 0).val < 0 * 1 + 1; omega
  | ⟨1, _⟩ => show 0 * 64 ≤ (i 1).val ∧ (i 1).val < 0 * 64 + 64; omega
  | ⟨2, _⟩ => show (i 2).val / 512 * 512 ≤ (i 2).val ∧ (i 2).val < (i 2).val / 512 * 512 + 512; omega

theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  obtain ⟨t, ht⟩ := surj ⟨(i 1).val / 512, by omega⟩
  have ht : t.val = (i 1).val / 512 := ht
  refine ⟨t, flush0_3 t, ?_⟩
  show i ∈ ((View.whole main_v0_1).slice (win0_3.rect t)).set
  rw [View.set_slice_whole, Rect.mem_set_unit]
  intro a
  show win0_3.index t a * win0_3.size a ≤ (i a).val ∧ (i a).val < win0_3.index t a * win0_3.size a + win0_3.size a
  rw [(idx t).2.2.2, ht]
  match a with
  | ⟨0, _⟩ => show 0 * 4096 ≤ (i 0).val ∧ (i 0).val < 0 * 4096 + 4096; omega
  | ⟨1, _⟩ => show (i 1).val / 512 * 512 ≤ (i 1).val ∧ (i 1).val < (i 1).val / 512 * 512 + 512; omega

/-- So the result arrays end holding the product and the weights' columns. -/
theorem final2 (c : Dev nD) : (dats m 0 c).arrAt 2 cfg0.N = G m c :=
  (dats m 0 c).arrAt_eq_of_cover 2 (G m c) (fun t _ => flushed2_eq m c t) cover2
theorem final3 (c : Dev nD) : (dats m 0 c).arrAt 3 cfg0.N = H m c :=
  (dats m 0 c).arrAt_eq_of_cover 3 (H m c) (fun t _ => flushed3_eq m c t) cover3

theorem frame : Cert.quiescent_Vs := fun m ρ _ => Cert.Vs.Gen.frame m ρ
theorem frameIdeal : Cert.quiescent_VsIdeal := fun m ρ _ => Cert.VsIdeal.Gen.frame m ρ
theorem frameRef : Cert.quiescent_VsRefIdeal := fun m ρ _ =>
  (θ_run Cert.VsRefIdeal.defs _ _).mono (fun r h => ⟨fun c => (h c).2.2, Idealize.ShloMosaic.sem_eq_zero_of_no_sems (by decide) r.2⟩)
    (Cert.VsRefIdeal.Value.run (F := Ideal) m ρ)

/-- The first layer's weights read at an index, in the reference. -/
theorem ref_weights (w : VsRefIdeal.S2x4096x14336.Idx → EReal) (i : VsRefIdeal.S4096x14336.Idx) :
    shapeCast VsRefIdeal.S4096x14336 (extractStridedSlice VsRefIdeal.S1x4096x14336 ![0, 0, 0] w VsRefIdeal.Gen.slices_S2x4096x14336_S1x4096x14336_0_0_0)
      VsRefIdeal.Gen.shapeCasts_S1x4096x14336_S4096x14336 i = w (ix3 0 (i 0) (i 1)) := by
  refine (shapeCast_dropUnit_apply (α := EReal) ![4096, 14336] _ _ _).trans ?_
  refine extractStridedSlice_apply _ _ _ _ (ix3 0 (i 0) (i 1) : S2x4096x14336.Idx) (fun a => ?_)
  match a with
  | ⟨0, _⟩ => rfl
  | ⟨1, _⟩ => exact (Nat.zero_add _).symm
  | ⟨2, _⟩ => exact (Nat.zero_add _).symm

/-- The kernel's results are the reference's product and columns. -/
theorem algebraic : Cert.algebraic_VsIdeal_VsRefIdeal := by
  intro m ρ m' ρ' _ hagree
  refine ⟨fun c => G m c, fun c => H m c, ?_, ?_⟩
  · exact (θ_run Cert.VsIdeal.defs _ _).mono (fun _ h c => ⟨(h c).1.trans (final2 m c), (h c).2.1.trans (final3 m c), (h c).2.2⟩)
      (Cert.VsIdeal.Value.run_blocks (F := Ideal) m ρ)
  refine (θ_run Cert.VsRefIdeal.defs _ _).mono (fun _ h c => ⟨(h c).1.trans ?_, (h c).2.1.trans ?_, (h c).2.2⟩) (Cert.VsRefIdeal.Value.run (F := Ideal) m' ρ')
  · rw [(hagree c).1, (hagree c).2]
    funext i
    refine (extractStridedSlice_apply _ _ _ _ (ix3 (i 0) (i 1) ⟨3072 + (i 2).val, by have : (i 2).val < 1024 := (i 2).isLt; omega⟩ : VsRefIdeal.S1x64x14336.Idx) (fun a => ?_)).trans ?_
    · match a with
      | ⟨0, _⟩ => exact (Nat.zero_add _).symm
      | ⟨1, _⟩ => exact (Nat.zero_add _).symm
      | ⟨2, _⟩ => rfl
    exact (Mm.rows_apply none _ _ _).trans (Finset.sum_congr rfl fun k _ => congrArg₂ (· * ·) rfl (ref_weights _ _))
  · rw [(hagree c).2]
    funext i
    refine (extractStridedSlice_apply (α := EReal) _ _ VsRefIdeal.Gen.slices_S4096x14336_S4096x1024_0_3072 i (ix2 (i 0) ⟨3072 + (i 1).val, by have : (i 1).val < 1024 := (i 1).isLt; omega⟩ : VsRefIdeal.S4096x14336.Idx) (fun a => ?_)).trans
      (ref_weights _ _)
    match a with
    | ⟨0, _⟩ => exact (Nat.zero_add _).symm
    | ⟨1, _⟩ => rfl

end Cert.Proof.Vs

end
-- ==== Proof.Down.lean ====
/- The product with the feed-forward down weights added to the residual stream under a gate: what the kernel leaves, block by block, is the reference's one sum. -/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Down

open Cert.DownIdeal Cert.DownIdeal.Gen

variable (m : (ℓ : Loc nD τ sig) → Buf (Elt Ideal) ℓ) (ρ : Dev nD → PrngReg)

/-- The stream plus the gate times the product, index by index. -/
abbrev sum (h : S4x2048x11008.Idx → EReal) (w : S1x11008x4096.Idx → EReal) (x : S4x2048x4096.Idx → EReal) (g : S4x1x4096.Idx → EReal) : S4x2048x4096.Idx → EReal :=
  fun i => x i + g (ix3 (i 0) 0 (i 2)) * ∑ k : Fin 11008, h (ix3 (i 0) (i 1) k) * w (ix3 0 k (i 2))

/-- What the result array is shown to hold. -/
abbrev G (c : Dev nD) : Buf (Elt Ideal) ((c : Thread nD τ).loc main_v0) :=
  sum (m ((c : Thread nD τ).loc main_arg0)) (m ((c : Thread nD τ).loc main_arg1)) (m ((c : Thread nD τ).loc main_arg2)) (m ((c : Thread nD τ).loc main_arg3))

theorem hz3 : (![0, 0, 0] : Fin 3 → Nat) = fun _ => 0 := funext fun a => by fin_cases a <;> rfl

/-- The body's result at an index. -/
theorem pay_apply (x : S1x1024x11008.Idx → EReal) (y : S1x11008x256.Idx → EReal) (z : S1x1024x256.Idx → EReal) (g : S1x1x256.Idx → EReal) (j : S1x1024x256.Idx) :
    k0_pay1 (F := Ideal) x y z g j = z (ix3 0 (j 1) (j 2)) + g (ix3 0 0 (j 2)) * ∑ k : Fin 11008, x (ix3 0 (j 1) k) * y (ix3 0 k (j 2)) := by
  unfold k0_pay1
  refine (shapeCast_addUnit_apply (α := EReal) ![1024, 256] _ _ j).trans ?_
  refine congrArg₂ (· + ·) ((shapeCast_dropUnit_apply (α := EReal) ![1024, 256] _ _ _).trans (congrArg z (eq_ix3 _))) (congrArg₂ (· * ·) ?_ ?_)
  · refine (broadcastTo_apply _ _ _ (ix2 0 (j 2) : S1x256.Idx) (fun a => by match a with | ⟨0, _⟩ => rfl | ⟨1, _⟩ => rfl)).trans ?_
    exact (shapeCast_dropUnit_apply (α := EReal) ![1, 256] _ _ _).trans (congrArg g (eq_ix3 _))
  refine (Mm.plain_apply none _ _ _).trans (Finset.sum_congr rfl fun k _ => ?_)
  refine congrArg₂ (· * ·) ((shapeCast_dropUnit_apply (α := EReal) ![1024, 11008] _ _ _).trans ?_) ((shapeCast_dropUnit_apply (α := EReal) ![11008, 256] _ _ _).trans ?_)
  · exact congrArg x (eq_ix3 _)
  · exact congrArg y (eq_ix3 _)

/-- How the windows move over the grid: each input's block is read off the result's. -/
theorem idx : ∀ t : Fin cfg0.N, win0_0.index t = ![win0_4.index t 0, win0_4.index t 1, 0] ∧ win0_1.index t = ![0, 0, win0_4.index t 2]
    ∧ win0_2.index t = win0_4.index t ∧ win0_3.index t = ![win0_4.index t 0, 0, win0_4.index t 2] :=
  (by decide +kernel : ∀ t : Fin grid0.N, win0_0.index t = ![win0_4.index t 0, win0_4.index t 1, 0] ∧ win0_1.index t = ![0, 0, win0_4.index t 2]
    ∧ win0_2.index t = win0_4.index t ∧ win0_3.index t = ![win0_4.index t 0, 0, win0_4.index t 2])

/-- What point `t` writes back is its block of the sum. -/
theorem flushed_eq (c : Dev nD) (t : Fin cfg0.N) :
    (dats m 0 c).flushed 4 t = (win0_4.blk t).view.read (Elt Ideal) (G m c) := by
  rw [Value.flushed4]
  unfold out0_4
  rw [View.canon_unit_zero hz3, View.ld_unit_zero hz3, View.ld_unit_zero hz3, View.ld_unit_zero hz3, View.ld_unit_zero hz3]
  funext j
  show _ = sum (m ((c : Thread nD τ).loc main_arg0)) (m ((c : Thread nD τ).loc main_arg1)) (m ((c : Thread nD τ).loc main_arg2)) (m ((c : Thread nD τ).loc main_arg3)) ((win0_4.rect t).emb j)
  refine (pay_apply _ _ _ _ _).trans ?_
  obtain ⟨e0, e1, e2, e3⟩ := idx t
  have hj : (j 0).val = 0 := by have : (j 0).val < 1 := (j 0).isLt; omega
  have v4 (a) := Pipeline.Window.rect_emb_val win0_4 t j a
  refine congrArg₂ (· + ·) ?_ (congrArg₂ (· * ·) ?_ (Finset.sum_congr rfl fun k _ => ?_))
  · have v2 (a) := Pipeline.Window.rect_emb_val win0_2 t (ix3 0 (j 1) (j 2) : S1x1024x256.Idx) a
    rw [e2] at v2
    refine congrArg (m ((c : Thread nD τ).loc main_arg2)) ?_
    funext a; apply Fin.ext
    match a with
    | ⟨0, _⟩ => exact (v2 0).trans (.trans (by show _ * 1 + 0 = _ * 1 + _; rw [hj]) (v4 0).symm)
    | ⟨1, _⟩ => exact (v2 1).trans (v4 1).symm
    | ⟨2, _⟩ => exact (v2 2).trans (v4 2).symm
  · have v3 (a) := Pipeline.Window.rect_emb_val win0_3 t (ix3 0 0 (j 2) : S1x1x256.Idx) a
    rw [e3] at v3
    refine congrArg (m ((c : Thread nD τ).loc main_arg3)) ?_
    funext a; apply Fin.ext
    match a with
    | ⟨0, _⟩ => exact (v3 0).trans (.trans (by show _ * 1 + 0 = _ * 1 + _; rw [hj]; rfl) (v4 0).symm)
    | ⟨1, _⟩ => exact (v3 1).trans (by show 0 * 1 + 0 = 0; rfl)
    | ⟨2, _⟩ => exact (v3 2).trans (v4 2).symm
  have v0 (a) := Pipeline.Window.rect_emb_val win0_0 t (ix3 0 (j 1) k : S1x1024x11008.Idx) a
  have v1 (a) := Pipeline.Window.rect_emb_val win0_1 t (ix3 0 k (j 2) : S1x11008x256.Idx) a
  rw [e0] at v0
  rw [e1] at v1
  refine congrArg₂ (· * ·) ?_ ?_
  · refine congrArg (m ((c : Thread nD τ).loc main_arg0)) ?_
    funext a; apply Fin.ext
    match a with
    | ⟨0, _⟩ => exact (v0 0).trans (.trans (by show _ * 1 + 0 = _ * 1 + _; rw [hj]; rfl) (v4 0).symm)
    | ⟨1, _⟩ => exact (v0 1).trans (v4 1).symm
    | ⟨2, _⟩ => exact (v0 2).trans (by show 0 * 11008 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 11008 + k.val = k.val; omega)
    | ⟨2, _⟩ => exact (v1 2).trans (v4 2).symm

/-- Every block of the result is written: the blocks tile the array. -/
theorem surj : ∀ (b : Fin 4) (r : Fin 2) (q : Fin 16), ∃ t : Fin cfg0.N, win0_4.index t = ![b.val, r.val, q.val] :=
  (by decide +kernel : ∀ (b : Fin 4) (r : Fin 2) (q : Fin 16), ∃ t : Fin grid0.N, win0_4.index t = ![b.val, r.val, q.val])

theorem cover (i : S4x2048x4096.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 4096 := (i 2).isLt
  obtain ⟨t, ht⟩ := surj ⟨(i 0).val, h0⟩ ⟨(i 1).val / 1024, by omega⟩ ⟨(i 2).val / 256, by omega⟩
  refine ⟨t, flush0_4 t, ?_⟩
  show i ∈ ((View.whole main_v0).slice (win0_4.rect t)).set
  rw [View.set_slice_whole, Rect.mem_set_unit]
  intro a
  show win0_4.index t a * win0_4.size a ≤ (i a).val ∧ (i a).val < win0_4.index t a * win0_4.size a + win0_4.size a
  rw [ht]
  match a with
  | ⟨0, _⟩ => show (i 0).val * 1 ≤ (i 0).val ∧ (i 0).val < (i 0).val * 1 + 1; omega
  | ⟨1, _⟩ => show (i 1).val / 1024 * 1024 ≤ (i 1).val ∧ (i 1).val < (i 1).val / 1024 * 1024 + 1024; omega
  | ⟨2, _⟩ => show (i 2).val / 256 * 256 ≤ (i 2).val ∧ (i 2).val < (i 2).val / 256 * 256 + 256; omega

/-- So the result array ends holding the sum. -/
theorem final (c : Dev nD) : (dats m 0 c).arrAt 4 cfg0.N = G m c :=
  (dats m 0 c).arrAt_eq_of_cover 4 (G m c) (fun t _ => flushed_eq m c t) cover

theorem frame : Cert.quiescent_Down := fun m ρ _ => Cert.Down.Gen.frame m ρ
theorem frameIdeal : Cert.quiescent_DownIdeal := fun m ρ _ => Cert.DownIdeal.Gen.frame m ρ
theorem frameRef : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The kernel's result is the reference's sum. -/
theorem algebraic : Cert.algebraic_DownIdeal_DownRefIdeal := by
  intro m ρ m' ρ' _ hagree
  refine ⟨fun c => G m c, ?_, ?_⟩
  · exact (θ_run Cert.DownIdeal.defs _ _).mono (fun _ h c => ⟨(h c).1.trans (final m c), (h c).2⟩) (Cert.DownIdeal.Value.run_blocks (F := Ideal) m ρ)
  refine (θ_run Cert.DownRefIdeal.defs _ _).mono (fun _ h c => ⟨(h c).1.trans ?_, (h c).2⟩) (Cert.DownRefIdeal.Value.run (F := Ideal) m' ρ')
  rw [(hagree c).1, (hagree c).2.1, (hagree c).2.2.1, (hagree c).2.2.2]
  funext i
  refine congrArg₂ (· + ·) rfl (congrArg₂ (· * ·) ?_ ?_)
  · exact broadcastInDim_apply _ _ _ _ (ix3 (i 0) 0 (i 2) : S4x1x4096.Idx) (fun a => by match a with | ⟨0, _⟩ => rfl | ⟨1, _⟩ => rfl | ⟨2, _⟩ => rfl)
  refine (Mm.rows_apply none _ _ i).trans (Finset.sum_congr rfl fun k _ => ?_)
  refine congrArg₂ (· * ·) rfl ((shapeCast_dropUnit_apply (α := EReal) ![11008, 4096] _ _ _).trans ?_)
  exact congrArg (m ((c : Thread nD τ).loc main_arg1)) (eq_ix3 _)

end Cert.Proof.Down

end
-- ==== Proof.Out.lean ====
/- The product with the output weights added to the residual stream under a gate: what the kernel leaves, block by block, is the reference's one sum. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Mm

@[expose] public section

noncomputable section

open Idealize.ShloMosaic Idealize.ShloMosaic.TcCoe Idealize.SL.Sem Idealize.ShloMosaic.ValueIdx
open Idealize.ShloMosaic.Pipeline (Dat)
open scoped BigOperators

namespace Cert.Proof.Out

open Cert.OutIdeal Cert.OutIdeal.Gen

variable (m : (ℓ : Loc nD τ sig) → Buf (Elt Ideal) ℓ) (ρ : Dev nD → PrngReg)

/-- The stream plus the gate times the product, index by index. -/
abbrev sum (h : S4x2048x4096.Idx → EReal) (w : S2x4096x4096.Idx → EReal) (x : S4x2048x4096.Idx → EReal) (g : S4x1x4096.Idx → EReal) : S4x2048x4096.Idx → EReal :=
  fun i => x i + g (ix3 (i 0) 0 (i 2)) * ∑ k : Fin 4096, h (ix3 (i 0) (i 1) k) * w (ix3 0 k (i 2))

/-- What the result array is shown to hold. -/
abbrev G (c : Dev nD) : Buf (Elt Ideal) ((c : Thread nD τ).loc main_v0) :=
  sum (m ((c : Thread nD τ).loc main_arg0)) (m ((c : Thread nD τ).loc main_arg1)) (m ((c : Thread nD τ).loc main_arg2)) (m ((c : Thread nD τ).loc main_arg3))

theorem hz3 : (![0, 0, 0] : Fin 3 → Nat) = fun _ => 0 := funext fun a => by fin_cases a <;> rfl

/-- The body's result at an index. -/
theorem pay_apply (x : S1x1024x4096.Idx → EReal) (y : S1x4096x512.Idx → EReal) (z : S1x1024x512.Idx → EReal) (g : S1x1x512.Idx → EReal) (j : S1x1024x512.Idx) :
    k0_pay1 (F := Ideal) x y z g j = z (ix3 0 (j 1) (j 2)) + g (ix3 0 0 (j 2)) * ∑ k : Fin 4096, x (ix3 0 (j 1) k) * y (ix3 0 k (j 2)) := by
  unfold k0_pay1
  refine (shapeCast_addUnit_apply (α := EReal) ![1024, 512] _ _ j).trans ?_
  refine congrArg₂ (· + ·) ((shapeCast_dropUnit_apply (α := EReal) ![1024, 512] _ _ _).trans (congrArg z (eq_ix3 _))) (congrArg₂ (· * ·) ?_ ?_)
  · refine (broadcastTo_apply _ _ _ (ix2 0 (j 2) : S1x512.Idx) (fun a => by match a with | ⟨0, _⟩ => rfl | ⟨1, _⟩ => rfl)).trans ?_
    exact (shapeCast_dropUnit_apply (α := EReal) ![1, 512] _ _ _).trans (congrArg g (eq_ix3 _))
  refine (Mm.plain_apply none _ _ _).trans (Finset.sum_congr rfl fun k _ => ?_)
  refine congrArg₂ (· * ·) ((shapeCast_dropUnit_apply (α := EReal) ![1024, 4096] _ _ _).trans ?_) ((shapeCast_dropUnit_apply (α := EReal) ![4096, 512] _ _ _).trans ?_)
  · exact congrArg x (eq_ix3 _)
  · exact congrArg y (eq_ix3 _)

/-- How the windows move over the grid: each input's block is read off the result's. -/
theorem idx : ∀ t : Fin cfg0.N, win0_0.index t = ![win0_4.index t 0, win0_4.index t 1, 0] ∧ win0_1.index t = ![0, 0, win0_4.index t 2]
    ∧ win0_2.index t = win0_4.index t ∧ win0_3.index t = ![win0_4.index t 0, 0, win0_4.index t 2] :=
  (by decide +kernel : ∀ t : Fin grid0.N, win0_0.index t = ![win0_4.index t 0, win0_4.index t 1, 0] ∧ win0_1.index t = ![0, 0, win0_4.index t 2]
    ∧ win0_2.index t = win0_4.index t ∧ win0_3.index t = ![win0_4.index t 0, 0, win0_4.index t 2])

/-- What point `t` writes back is its block of the sum. -/
theorem flushed_eq (c : Dev nD) (t : Fin cfg0.N) :
    (dats m 0 c).flushed 4 t = (win0_4.blk t).view.read (Elt Ideal) (G m c) := by
  rw [Value.flushed4]
  unfold out0_4
  rw [View.canon_unit_zero hz3, View.ld_unit_zero hz3, View.ld_unit_zero hz3, View.ld_unit_zero hz3, View.ld_unit_zero hz3]
  funext j
  show _ = sum (m ((c : Thread nD τ).loc main_arg0)) (m ((c : Thread nD τ).loc main_arg1)) (m ((c : Thread nD τ).loc main_arg2)) (m ((c : Thread nD τ).loc main_arg3)) ((win0_4.rect t).emb j)
  refine (pay_apply _ _ _ _ _).trans ?_
  obtain ⟨e0, e1, e2, e3⟩ := idx t
  have hj : (j 0).val = 0 := by have : (j 0).val < 1 := (j 0).isLt; omega
  have v4 (a) := Pipeline.Window.rect_emb_val win0_4 t j a
  refine congrArg₂ (· + ·) ?_ (congrArg₂ (· * ·) ?_ (Finset.sum_congr rfl fun k _ => ?_))
  · have v2 (a) := Pipeline.Window.rect_emb_val win0_2 t (ix3 0 (j 1) (j 2) : S1x1024x512.Idx) a
    rw [e2] at v2
    refine congrArg (m ((c : Thread nD τ).loc main_arg2)) ?_
    funext a; apply Fin.ext
    match a with
    | ⟨0, _⟩ => exact (v2 0).trans (.trans (by show _ * 1 + 0 = _ * 1 + _; rw [hj]) (v4 0).symm)
    | ⟨1, _⟩ => exact (v2 1).trans (v4 1).symm
    | ⟨2, _⟩ => exact (v2 2).trans (v4 2).symm
  · have v3 (a) := Pipeline.Window.rect_emb_val win0_3 t (ix3 0 0 (j 2) : S1x1x512.Idx) a
    rw [e3] at v3
    refine congrArg (m ((c : Thread nD τ).loc main_arg3)) ?_
    funext a; apply Fin.ext
    match a with
    | ⟨0, _⟩ => exact (v3 0).trans (.trans (by show _ * 1 + 0 = _ * 1 + _; rw [hj]; rfl) (v4 0).symm)
    | ⟨1, _⟩ => exact (v3 1).trans (by show 0 * 1 + 0 = 0; rfl)
    | ⟨2, _⟩ => exact (v3 2).trans (v4 2).symm
  have v0 (a) := Pipeline.Window.rect_emb_val win0_0 t (ix3 0 (j 1) k : S1x1024x4096.Idx) a
  have v1 (a) := Pipeline.Window.rect_emb_val win0_1 t (ix3 0 k (j 2) : S1x4096x512.Idx) a
  rw [e0] at v0
  rw [e1] at v1
  refine congrArg₂ (· * ·) ?_ ?_
  · refine congrArg (m ((c : Thread nD τ).loc main_arg0)) ?_
    funext a; apply Fin.ext
    match a with
    | ⟨0, _⟩ => exact (v0 0).trans (.trans (by show _ * 1 + 0 = _ * 1 + _; rw [hj]; rfl) (v4 0).symm)
    | ⟨1, _⟩ => exact (v0 1).trans (v4 1).symm
    | ⟨2, _⟩ => exact (v0 2).trans (by show 0 * 4096 + k.val = k.val; omega)
  · refine congrArg (m ((c : Thread nD τ).loc main_arg1)) ?_
    funext a; apply Fin.ext
    match a with
    | ⟨0, _⟩ => exact (v1 0).trans (by show 0 * 1 + 0 = 0; rfl)
    | ⟨1, _⟩ => exact (v1 1).trans (by show 0 * 4096 + k.val = k.val; omega)
    | ⟨2, _⟩ => exact (v1 2).trans (v4 2).symm

/-- Every block of the result is written: the blocks tile the array. -/
theorem surj : ∀ (b : Fin 4) (r : Fin 2) (q : Fin 8), ∃ t : Fin cfg0.N, win0_4.index t = ![b.val, r.val, q.val] :=
  (by decide +kernel : ∀ (b : Fin 4) (r : Fin 2) (q : Fin 8), ∃ t : Fin grid0.N, win0_4.index t = ![b.val, r.val, q.val])

theorem cover (i : S4x2048x4096.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 4096 := (i 2).isLt
  obtain ⟨t, ht⟩ := surj ⟨(i 0).val, h0⟩ ⟨(i 1).val / 1024, by omega⟩ ⟨(i 2).val / 512, by omega⟩
  refine ⟨t, flush0_4 t, ?_⟩
  show i ∈ ((View.whole main_v0).slice (win0_4.rect t)).set
  rw [View.set_slice_whole, Rect.mem_set_unit]
  intro a
  show win0_4.index t a * win0_4.size a ≤ (i a).val ∧ (i a).val < win0_4.index t a * win0_4.size a + win0_4.size a
  rw [ht]
  match a with
  | ⟨0, _⟩ => show (i 0).val * 1 ≤ (i 0).val ∧ (i 0).val < (i 0).val * 1 + 1; omega
  | ⟨1, _⟩ => show (i 1).val / 1024 * 1024 ≤ (i 1).val ∧ (i 1).val < (i 1).val / 1024 * 1024 + 1024; omega
  | ⟨2, _⟩ => show (i 2).val / 512 * 512 ≤ (i 2).val ∧ (i 2).val < (i 2).val / 512 * 512 + 512; omega

/-- So the result array ends holding the sum. -/
theorem final (c : Dev nD) : (dats m 0 c).arrAt 4 cfg0.N = G m c :=
  (dats m 0 c).arrAt_eq_of_cover 4 (G m c) (fun t _ => flushed_eq m c t) cover

theorem frame : Cert.quiescent_Out := fun m ρ _ => Cert.Out.Gen.frame m ρ
theorem frameIdeal : Cert.quiescent_OutIdeal := fun m ρ _ => Cert.OutIdeal.Gen.frame m ρ
theorem frameRef : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- The kernel's result is the reference's sum. -/
theorem algebraic : Cert.algebraic_OutIdeal_OutRefIdeal := by
  intro m ρ m' ρ' _ hagree
  refine ⟨fun c => G m c, ?_, ?_⟩
  · exact (θ_run Cert.OutIdeal.defs _ _).mono (fun _ h c => ⟨(h c).1.trans (final m c), (h c).2⟩) (Cert.OutIdeal.Value.run_blocks (F := Ideal) m ρ)
  refine (θ_run Cert.OutRefIdeal.defs _ _).mono (fun _ h c => ⟨(h c).1.trans ?_, (h c).2⟩) (Cert.OutRefIdeal.Value.run (F := Ideal) m' ρ')
  rw [(hagree c).1, (hagree c).2.1, (hagree c).2.2.1, (hagree c).2.2.2]
  funext i
  refine congrArg₂ (· + ·) rfl (congrArg₂ (· * ·) ?_ ?_)
  · exact broadcastInDim_apply _ _ _ _ (ix3 (i 0) 0 (i 2) : S4x1x4096.Idx) (fun a => by match a with | ⟨0, _⟩ => rfl | ⟨1, _⟩ => rfl | ⟨2, _⟩ => rfl)
  refine (Mm.rows_apply none _ _ i).trans (Finset.sum_congr rfl fun k _ => ?_)
  refine congrArg₂ (· * ·) rfl ?_
  refine (shapeCast_dropUnit_apply (α := EReal) ![4096, 4096] (extractStridedSlice OutRefIdeal.S1x4096x4096 ![0, 0, 0] (m ((c : Thread nD τ).loc main_arg1))
    OutRefIdeal.Gen.slices_S2x4096x4096_S1x4096x4096_0_0_0) OutRefIdeal.Gen.shapeCasts_S1x4096x4096_S4096x4096 (ix2 k (i 2))).trans ?_
  refine extractStridedSlice_apply _ _ _ _ (ix3 0 k (i 2) : S2x4096x4096.Idx) (fun a => ?_)
  match a with
  | ⟨0, _⟩ => rfl
  | ⟨1, _⟩ => exact (Nat.zero_add _).symm
  | ⟨2, _⟩ => exact (Nat.zero_add _).symm

end Cert.Proof.Out

end
-- ==== Proof.Norm.lean ====
/- A row's root-mean-square normalization at an index: the row's sum as the kernel and as the host reduce it. -/
module

public import Idealize.ShloMosaic.Lib.Pipeline.Value
public import Idealize.ShloMosaic.Lib.Pointwise
public import Idealize.ShloMosaic.Lib.ValueIdxCore
public import Idealize.ShloMosaic.PureOps.Ideal.Laws
public import proofs.«01_k».proof.Proof.Mm

@[expose] public section

noncomputable section

open Idealize.ShloMosaic
open scoped BigOperators

namespace Cert.Proof.Norm

/-- A kernel's sum along the rows of a matrix. -/
theorem rowSum {n k : Nat} (v : (⟨2, ![n, k]⟩ : Shape).Idx → EReal) (acc : BitVec 32) (h : (⟨2, ![n, k]⟩ : Shape).Reduces [1] ⟨1, ![n]⟩)
    (hφ : FKind.Formats .f32) (hacc : acc = FKind.add.neutral .f32 hφ) (j : (⟨1, ![n]⟩ : Shape).Idx) :
    multiReduction (F := Ideal) .add [1] ⟨1, ![n]⟩ v acc h hφ hacc j = ∑ c : Fin k, v (ValueIdx.ix2 (j 0) c) :=
  Ideal.reduceAdd_r2_a1 h v j

/-- The host's sum along the last axis, from zero. -/
theorem hostSum {a n k : Nat} (v : (⟨3, ![a, n, k]⟩ : Shape).Idx → EReal) (h : (⟨3, ![a, n, k]⟩ : Shape).ReducesTo [2] ⟨2, ![a, n]⟩)
    {u : Shape} (hu : 0 < u.numel) (j : (⟨2, ![a, n]⟩ : Shape).Idx) :
    Host.reduceAdd (F := Ideal) (φ := .f32) v (constant u .f32 0x00000000#32) h hu j = ∑ c : Fin k, v (ValueIdx.ix3 (j 0) (j 1) c) := by
  refine (Ideal.hostReduceAdd_r3_a2 h v _ j).trans ?_
  show Ideal.ofBits .f32 0x00000000#32 + _ = _
  rw [Mm.ofBits_zero, zero_add]
  rfl

/-- An entry times the reciprocal root of its row's mean square (plus epsilon), times the entry's weight. -/
def nrm (row : Fin 4096 → EReal) (x g : EReal) : EReal :=
  x * Ideal.rsqrt (Ideal.div (∑ c, row c * row c) (Ideal.ofBits .f32 0x45800000#32) + Ideal.ofBits .f32 0x358637BD#32) * g

end Cert.Proof.Norm

end
-- ==== Proof.Yp.lean ====
/- The final normalization of the prompt tokens: what the kernel leaves, block of rows by block of rows, is the reference's normalized rows. -/
module

public import proofs.«01_k».proof.Defs
public import proofs.«01_k».proof.Proof.Gen.Yp.Frame
public import proofs.«01_k».proof.Proof.Gen.YpIdeal.Value
public import proofs.«01_k».proof.Proof.Gen.YpRefIdeal.Run
public import proofs.«01_k».proof.Proof.Norm

@[expose] public section

noncomputable section

open Idealize.ShloMosaic hiding ix1 ix2 ix3 eq_ix3
open Idealize.ShloMosaic.TcCoe Idealize.SL.Sem Idealize.ShloMosaic.ValueIdx
open Idealize.ShloMosaic.Pipeline (Dat)
open scoped BigOperators

namespace Cert.Proof.Yp

open Cert.YpIdeal Cert.YpIdeal.Gen

variable (m : (ℓ : Loc nD τ sig) → Buf (Elt Ideal) ℓ) (ρ : Dev nD → PrngReg)

/-- The normalized rows, index by index. -/
abbrev rows (x : S4x2048x4096.Idx → EReal) (g : S4096.Idx → EReal) : S4x2048x4096.Idx → EReal :=
  fun i => Norm.nrm (fun k => x (ix3 (i 0) (i 1) k)) (x i) (g (ix1 (i 2)))

/-- What the result array is shown to hold. -/
abbrev G (c : Dev nD) : Buf (Elt Ideal) ((c : Thread nD τ).loc main_v1) :=
  rows (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- The weights as the call takes them: a one-row matrix. -/
theorem gamma (c : Dev nD) : V m c main_v0 = shapeCast S1x4096 (m ((c : Thread nD τ).loc main_arg1)) shapeCasts_S4096_S1x4096 := by
  show StableHlo.after hostOps0 _ _ = _
  after_results <;> rfl

theorem gamma_apply (c : Dev nD) (i : S1x4096.Idx) : V m c main_v0 i = m ((c : Thread nD τ).loc main_arg1) (ix1 (i 1) : S4096.Idx) := by
  rw [gamma]
  refine shapeCast_apply (s := S4096) (t := S1x4096) _ _ _ _ ?_
  rw [Shape.rowMajor_val_one, Shape.rowMajor_val_two]
  have h0 : (i 0).val < 1 := (i 0).isLt
  show (i 1).val = (i 0).val * 4096 + (i 1).val
  omega

/-- The body's result at an index. -/
theorem pay_apply (x : S1x512x4096.Idx → EReal) (g : S1x4096.Idx → EReal) (j : S1x512x4096.Idx) :
    k0_pay1 (F := Ideal) x g j = Norm.nrm (fun k => x (ix3 0 (j 1) k)) (x (ix3 0 (j 1) (j 2))) (g (ix2 0 (j 2))) := by
  have hx (i : S512x4096.Idx) : shapeCast S512x4096 x shapeCasts_S1x512x4096_S512x4096 i = x (ix3 0 (i 0) (i 1)) :=
    (shapeCast_dropUnit_apply (α := EReal) ![512, 4096] _ _ _).trans (congrArg x (eq_ix3 _))
  unfold k0_pay1
  refine (shapeCast_addUnit_apply (α := EReal) ![512, 4096] _ _ j).trans ?_
  refine congrArg₂ (· * ·) (congrArg₂ (· * ·) (hx _) ?_) ?_
  · refine (broadcastTo_apply _ _ _ (ix2 (j 1) 0 : S512x1.Idx) (fun a => by match a with | ⟨0, _⟩ => rfl | ⟨1, _⟩ => rfl)).trans ?_
    refine congrArg Ideal.rsqrt (congrArg (· + Ideal.ofBits .f32 0x358637BD#32) (congrArg (Ideal.div · (Ideal.ofBits .f32 0x45800000#32)) ?_))
    refine (shapeCast_apply _ _ _ (ix1 (j 1) : S512.Idx) ?_).trans ?_
    · rw [Shape.rowMajor_val_one, Shape.rowMajor_val_two]
      show (j 1).val = (j 1).val * 1 + 0
      omega
    exact (Norm.rowSum _ _ _ _ _ _).trans (Finset.sum_congr rfl fun k _ => congrArg₂ (· * ·) (hx _) (hx _))
  · refine (broadcastTo_apply _ _ _ (ix2 0 (j 2) : S1x4096.Idx) (fun a => by match a with | ⟨0, _⟩ => rfl | ⟨1, _⟩ => rfl)).trans ?_
    exact shapeCast_apply _ _ _ _ rfl

/-- How the windows move over the grid. -/
theorem idx : ∀ t : Fin cfg0.N, win0_0.index t = win0_2.index t ∧ win0_1.index t = ![0, 0] ∧ win0_2.index t 2 = 0 :=
  (by decide +kernel : ∀ t : Fin grid0.N, win0_0.index t = win0_2.index t ∧ win0_1.index t = ![0, 0] ∧ win0_2.index t 2 = 0)

/-- What point `t` writes back is its block of the normalized rows. -/
theorem flushed_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz2]
  funext j
  show _ = rows (m ((c : Thread nD τ).loc main_arg0)) (m ((c : Thread nD τ).loc main_arg1)) ((win0_2.rect t).emb j)
  refine (pay_apply _ _ _).trans ?_
  obtain ⟨e0, e1, e2⟩ := idx t
  have hj : (j 0).val = 0 := by have : (j 0).val < 1 := (j 0).isLt; omega
  have v2 (a) := Pipeline.Window.rect_emb_val win0_2 t j a
  have hx (k : Fin 4096) : iblk m c 0 t (ix3 0 (j 1) k : S1x512x4096.Idx) = m ((c : Thread nD τ).loc main_arg0) (ix3 ((win0_2.rect t).emb j 0) ((win0_2.rect t).emb j 1) k) := by
    show V m c main_arg0 ((win0_0.rect t).emb (ix3 0 (j 1) k : S1x512x4096.Idx)) = _
    rw [V_main_arg0]
    have v0 (a) := Pipeline.Window.rect_emb_val win0_0 t (ix3 0 (j 1) k : S1x512x4096.Idx) a
    rw [e0] at v0
    refine congrArg (m ((c : Thread nD τ).loc main_arg0)) ?_
    funext a; apply Fin.ext
    match a with
    | ⟨0, _⟩ => exact (v0 0).trans (.trans (by show _ * 1 + 0 = _ * 1 + _; rw [hj]) (v2 0).symm)
    | ⟨1, _⟩ => exact (v0 1).trans (v2 1).symm
    | ⟨2, _⟩ => exact (v0 2).trans (by rw [e2]; show 0 * 4096 + k.val = k.val; omega)
  have h2 : ((win0_2.rect t).emb j 2).val = (j 2).val := (v2 2).trans (by rw [e2]; show 0 * 4096 + (j 2).val = (j 2).val; omega)
  refine congr (congr (congrArg Norm.nrm (funext hx)) ?_) ?_
  · refine (hx (j 2)).trans (congrArg (m ((c : Thread nD τ).loc main_arg0)) ?_)
    funext a; apply Fin.ext
    match a with
    | ⟨0, _⟩ => rfl
    | ⟨1, _⟩ => rfl
    | ⟨2, _⟩ => exact h2.symm
  · show V m c main_v0 ((win0_1.rect t).emb (ix2 0 (j 2) : S1x4096.Idx)) = _
    refine (gamma_apply m c _).trans (congrArg (m ((c : Thread nD τ).loc main_arg1)) ?_)
    have v1 (a) := Pipeline.Window.rect_emb_val win0_1 t (ix2 0 (j 2) : S1x4096.Idx) a
    rw [e1] at v1
    funext a; apply Fin.ext
    match a with
    | ⟨0, _⟩ => exact (v1 1).trans (.trans (by show 0 * 4096 + (j 2).val = (j 2).val; omega) h2.symm)

/-- Every block of the result is written: the blocks tile the array. -/
theorem surj : ∀ (b : Fin 4) (r : Fin 4), ∃ t : Fin cfg0.N, win0_2.index t = ![b.val, r.val, 0] :=
  (by decide +kernel : ∀ (b : Fin 4) (r : Fin 4), ∃ t : Fin grid0.N, win0_2.index t = ![b.val, r.val, 0])

theorem cover (i : S4x2048x4096.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 4096 := (i 2).isLt
  obtain ⟨t, ht⟩ := surj ⟨(i 0).val, h0⟩ ⟨(i 1).val / 512, by omega⟩
  refine ⟨t, flush0_2 t, ?_⟩
  show i ∈ ((View.whole main_v1).slice (win0_2.rect t)).set
  rw [View.set_slice_whole, Rect.mem_set_unit]
  intro a
  show win0_2.index t a * win0_2.size a ≤ (i a).val ∧ (i a).val < win0_2.index t a * win0_2.size a + win0_2.size a
  rw [ht]
  match a with
  | ⟨0, _⟩ => show (i 0).val * 1 ≤ (i 0).val ∧ (i 0).val < (i 0).val * 1 + 1; omega
  | ⟨1, _⟩ => show (i 1).val / 512 * 512 ≤ (i 1).val ∧ (i 1).val < (i 1).val / 512 * 512 + 512; omega
  | ⟨2, _⟩ => show 0 * 4096 ≤ (i 2).val ∧ (i 2).val < 0 * 4096 + 4096; omega

/-- So the result array ends holding the normalized rows. -/
theorem final (c : Dev nD) : (dats m 0 c).arrAt 2 cfg0.N = G m c :=
  (dats m 0 c).arrAt_eq_of_cover 2 (G m c) (fun t _ => flushed_eq m c t) cover

theorem frame : Cert.quiescent_Yp := fun m ρ _ => Cert.Yp.Gen.frame m ρ
theorem frameIdeal : Cert.quiescent_YpIdeal := fun m ρ _ => Cert.YpIdeal.Gen.frame m ρ
theorem frameRef : Cert.quiescent_YpRefIdeal := fun m ρ _ =>
  (θ_run Cert.YpRefIdeal.defs _ _).mono (fun r h => ⟨fun c => (h c).2, Idealize.ShloMosaic.sem_eq_zero_of_no_sems (by decide) r.2⟩)
    (Cert.YpRefIdeal.Value.run (F := Ideal) m ρ)

/-- The kernel's result is the reference's. -/
theorem algebraic : Cert.algebraic_YpIdeal_YpRefIdeal := by
  intro m ρ m' ρ' _ hagree
  refine ⟨fun c => G m c, ?_, ?_⟩
  · exact (θ_run Cert.YpIdeal.defs _ _).mono (fun _ h c => ⟨(h c).1.trans (final m c), (h c).2⟩) (Cert.YpIdeal.Value.run_blocks (F := Ideal) m ρ)
  refine (θ_run Cert.YpRefIdeal.defs _ _).mono (fun _ h c => ⟨(h c).1.trans ?_, (h c).2⟩) (Cert.YpRefIdeal.Value.run (F := Ideal) m' ρ')
  rw [(hagree c).1, (hagree c).2]
  funext i
  refine congrArg₂ (· * ·) (congrArg₂ (· * ·) rfl ?_) ?_
  · refine (broadcastInDim_apply _ _ _ _ (ix3 (i 0) (i 1) 0 : YpRefIdeal.S4x2048x1.Idx) (fun a => by match a with | ⟨0, _⟩ => rfl | ⟨1, _⟩ => rfl | ⟨2, _⟩ => rfl)).trans ?_
    refine congrArg Ideal.rsqrt (congrArg₂ (· + ·) (congrArg₂ Ideal.div ?_ rfl) rfl)
    refine (broadcastInDim_apply _ _ _ _ (ix2 (i 0) (i 1) : YpRefIdeal.S4x2048.Idx) (fun a => by match a with | ⟨0, _⟩ => rfl | ⟨1, _⟩ => rfl)).trans ?_
    exact Norm.hostSum _ _ _ _
  · refine (broadcastInDim_apply _ _ _ _ (ix3 0 0 (i 2) : YpRefIdeal.S1x1x4096.Idx) (fun a => by match a with | ⟨0, _⟩ => rfl | ⟨1, _⟩ => rfl | ⟨2, _⟩ => rfl)).trans ?_
    exact broadcastInDim_apply _ _ _ _ (ix1 (i 2) : YpRefIdeal.S4096.Idx) (fun a => by match a with | ⟨0, _⟩ => rfl)

end Cert.Proof.Yp

end
-- ==== Proof.Ys.lean ====
/- The final normalization of the sample tokens: what the kernel leaves, block of rows by block of rows, is the reference's normalized rows. -/
module

public import proofs.«01_k».proof.Defs
public import proofs.«01_k».proof.Proof.Gen.Ys.Frame
public import proofs.«01_k».proof.Proof.Gen.YsIdeal.Value
public import proofs.«01_k».proof.Proof.Gen.YsRefIdeal.Run
public import proofs.«01_k».proof.Proof.Norm

@[expose] public section

noncomputable section

open Idealize.ShloMosaic hiding ix1 ix2 ix3 eq_ix3
open Idealize.ShloMosaic.TcCoe Idealize.SL.Sem Idealize.ShloMosaic.ValueIdx
open Idealize.ShloMosaic.Pipeline (Dat)
open scoped BigOperators

namespace Cert.Proof.Ys

open Cert.YsIdeal Cert.YsIdeal.Gen

variable (m : (ℓ : Loc nD τ sig) → Buf (Elt Ideal) ℓ) (ρ : Dev nD → PrngReg)

/-- The normalized rows, index by index. -/
abbrev rows (x : S1x64x4096.Idx → EReal) (g : S4096.Idx → EReal) : S1x64x4096.Idx → EReal :=
  fun i => Norm.nrm (fun k => x (ix3 (i 0) (i 1) k)) (x i) (g (ix1 (i 2)))

/-- What the result array is shown to hold. -/
abbrev G (c : Dev nD) : Buf (Elt Ideal) ((c : Thread nD τ).loc main_v1) :=
  rows (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

/-- The weights as the call takes them: a one-row matrix. -/
theorem gamma (c : Dev nD) : V m c main_v0 = shapeCast S1x4096 (m ((c : Thread nD τ).loc main_arg1)) shapeCasts_S4096_S1x4096 := by
  show StableHlo.after hostOps0 _ _ = _
  after_results <;> rfl

theorem gamma_apply (c : Dev nD) (i : S1x4096.Idx) : V m c main_v0 i = m ((c : Thread nD τ).loc main_arg1) (ix1 (i 1) : S4096.Idx) := by
  rw [gamma]
  refine shapeCast_apply (s := S4096) (t := S1x4096) _ _ _ _ ?_
  rw [Shape.rowMajor_val_one, Shape.rowMajor_val_two]
  have h0 : (i 0).val < 1 := (i 0).isLt
  show (i 1).val = (i 0).val * 4096 + (i 1).val
  omega

/-- The body's result at an index. -/
theorem pay_apply (x : S1x64x4096.Idx → EReal) (g : S1x4096.Idx → EReal) (j : S1x64x4096.Idx) :
    k0_pay1 (F := Ideal) x g j = Norm.nrm (fun k => x (ix3 0 (j 1) k)) (x (ix3 0 (j 1) (j 2))) (g (ix2 0 (j 2))) := by
  have hx (i : S64x4096.Idx) : shapeCast S64x4096 x shapeCasts_S1x64x4096_S64x4096 i = x (ix3 0 (i 0) (i 1)) :=
    (shapeCast_dropUnit_apply (α := EReal) ![64, 4096] _ _ _).trans (congrArg x (eq_ix3 _))
  unfold k0_pay1
  refine (shapeCast_addUnit_apply (α := EReal) ![64, 4096] _ _ j).trans ?_
  refine congrArg₂ (· * ·) (congrArg₂ (· * ·) (hx _) ?_) ?_
  · refine (broadcastTo_apply _ _ _ (ix2 (j 1) 0 : S64x1.Idx) (fun a => by match a with | ⟨0, _⟩ => rfl | ⟨1, _⟩ => rfl)).trans ?_
    refine congrArg Ideal.rsqrt (congrArg (· + Ideal.ofBits .f32 0x358637BD#32) (congrArg (Ideal.div · (Ideal.ofBits .f32 0x45800000#32)) ?_))
    refine (shapeCast_apply _ _ _ (ix1 (j 1) : S64.Idx) ?_).trans ?_
    · rw [Shape.rowMajor_val_one, Shape.rowMajor_val_two]
      show (j 1).val = (j 1).val * 1 + 0
      omega
    exact (Norm.rowSum _ _ _ _ _ _).trans (Finset.sum_congr rfl fun k _ => congrArg₂ (· * ·) (hx _) (hx _))
  · refine (broadcastTo_apply _ _ _ (ix2 0 (j 2) : S1x4096.Idx) (fun a => by match a with | ⟨0, _⟩ => rfl | ⟨1, _⟩ => rfl)).trans ?_
    exact shapeCast_apply _ _ _ _ rfl

/-- How the windows move over the grid. -/
theorem idx : ∀ t : Fin cfg0.N, win0_0.index t = win0_2.index t ∧ win0_1.index t = ![0, 0] ∧ win0_2.index t 2 = 0 :=
  (by decide +kernel : ∀ t : Fin grid0.N, win0_0.index t = win0_2.index t ∧ win0_1.index t = ![0, 0] ∧ win0_2.index t 2 = 0)

/-- What point `t` writes back is its block of the normalized rows. -/
theorem flushed_eq (c : Dev nD) (t : Fin cfg0.N) :
    (dats m 0 c).flushed 2 t = (win0_2.blk t).view.read (Elt Ideal) (G m c) := by
  rw [Value.flushed2]
  unfold out0_2
  rw [View.canon_unit_zero hz3, View.ld_unit_zero hz3, View.ld_unit_zero hz2]
  funext j
  show _ = rows (m ((c : Thread nD τ).loc main_arg0)) (m ((c : Thread nD τ).loc main_arg1)) ((win0_2.rect t).emb j)
  refine (pay_apply _ _ _).trans ?_
  obtain ⟨e0, e1, e2⟩ := idx t
  have hj : (j 0).val = 0 := by have : (j 0).val < 1 := (j 0).isLt; omega
  have v2 (a) := Pipeline.Window.rect_emb_val win0_2 t j a
  have hx (k : Fin 4096) : iblk m c 0 t (ix3 0 (j 1) k : S1x64x4096.Idx) = m ((c : Thread nD τ).loc main_arg0) (ix3 ((win0_2.rect t).emb j 0) ((win0_2.rect t).emb j 1) k) := by
    show V m c main_arg0 ((win0_0.rect t).emb (ix3 0 (j 1) k : S1x64x4096.Idx)) = _
    rw [V_main_arg0]
    have v0 (a) := Pipeline.Window.rect_emb_val win0_0 t (ix3 0 (j 1) k : S1x64x4096.Idx) a
    rw [e0] at v0
    refine congrArg (m ((c : Thread nD τ).loc main_arg0)) ?_
    funext a; apply Fin.ext
    match a with
    | ⟨0, _⟩ => exact (v0 0).trans (.trans (by show _ * 1 + 0 = _ * 1 + _; rw [hj]) (v2 0).symm)
    | ⟨1, _⟩ => exact (v0 1).trans (v2 1).symm
    | ⟨2, _⟩ => exact (v0 2).trans (by rw [e2]; show 0 * 4096 + k.val = k.val; omega)
  have h2 : ((win0_2.rect t).emb j 2).val = (j 2).val := (v2 2).trans (by rw [e2]; show 0 * 4096 + (j 2).val = (j 2).val; omega)
  refine congr (congr (congrArg Norm.nrm (funext hx)) ?_) ?_
  · refine (hx (j 2)).trans (congrArg (m ((c : Thread nD τ).loc main_arg0)) ?_)
    funext a; apply Fin.ext
    match a with
    | ⟨0, _⟩ => rfl
    | ⟨1, _⟩ => rfl
    | ⟨2, _⟩ => exact h2.symm
  · show V m c main_v0 ((win0_1.rect t).emb (ix2 0 (j 2) : S1x4096.Idx)) = _
    refine (gamma_apply m c _).trans (congrArg (m ((c : Thread nD τ).loc main_arg1)) ?_)
    have v1 (a) := Pipeline.Window.rect_emb_val win0_1 t (ix2 0 (j 2) : S1x4096.Idx) a
    rw [e1] at v1
    funext a; apply Fin.ext
    match a with
    | ⟨0, _⟩ => exact (v1 1).trans (.trans (by show 0 * 4096 + (j 2).val = (j 2).val; omega) h2.symm)

/-- Every block of the result is written: the blocks tile the array. -/
theorem surj : ∀ (b : Fin 1) (r : Fin 1), ∃ t : Fin cfg0.N, win0_2.index t = ![b.val, r.val, 0] :=
  (by decide +kernel : ∀ (b : Fin 1) (r : Fin 1), ∃ t : Fin grid0.N, win0_2.index t = ![b.val, r.val, 0])

theorem cover (i : S1x64x4096.Idx) : ∃ t : Fin cfg0.N, (cfg0.win 2).flush t = true ∧ i ∈ ((cfg0.win 2).blk t).view.set := by
  have h0 : (i 0).val < 1 := (i 0).isLt
  have h1 : (i 1).val < 64 := (i 1).isLt
  have h2 : (i 2).val < 4096 := (i 2).isLt
  obtain ⟨t, ht⟩ := surj ⟨(i 0).val, h0⟩ ⟨(i 1).val / 64, by omega⟩
  refine ⟨t, flush0_2 t, ?_⟩
  show i ∈ ((View.whole main_v1).slice (win0_2.rect t)).set
  rw [View.set_slice_whole, Rect.mem_set_unit]
  intro a
  show win0_2.index t a * win0_2.size a ≤ (i a).val ∧ (i a).val < win0_2.index t a * win0_2.size a + win0_2.size a
  rw [ht]
  match a with
  | ⟨0, _⟩ => show (i 0).val * 1 ≤ (i 0).val ∧ (i 0).val < (i 0).val * 1 + 1; omega
  | ⟨1, _⟩ => show (i 1).val / 64 * 64 ≤ (i 1).val ∧ (i 1).val < (i 1).val / 64 * 64 + 64; omega
  | ⟨2, _⟩ => show 0 * 4096 ≤ (i 2).val ∧ (i 2).val < 0 * 4096 + 4096; omega

/-- So the result array ends holding the normalized rows. -/
theorem final (c : Dev nD) : (dats m 0 c).arrAt 2 cfg0.N = G m c :=
  (dats m 0 c).arrAt_eq_of_cover 2 (G m c) (fun t _ => flushed_eq m c t) cover

theorem frame : Cert.quiescent_Ys := fun m ρ _ => Cert.Ys.Gen.frame m ρ
theorem frameIdeal : Cert.quiescent_YsIdeal := fun m ρ _ => Cert.YsIdeal.Gen.frame m ρ
theorem frameRef : Cert.quiescent_YsRefIdeal := fun m ρ _ =>
  (θ_run Cert.YsRefIdeal.defs _ _).mono (fun r h => ⟨fun c => (h c).2, Idealize.ShloMosaic.sem_eq_zero_of_no_sems (by decide) r.2⟩)
    (Cert.YsRefIdeal.Value.run (F := Ideal) m ρ)

/-- The kernel's result is the reference's. -/
theorem algebraic : Cert.algebraic_YsIdeal_YsRefIdeal := by
  intro m ρ m' ρ' _ hagree
  refine ⟨fun c => G m c, ?_, ?_⟩
  · exact (θ_run Cert.YsIdeal.defs _ _).mono (fun _ h c => ⟨(h c).1.trans (final m c), (h c).2⟩) (Cert.YsIdeal.Value.run_blocks (F := Ideal) m ρ)
  refine (θ_run Cert.YsRefIdeal.defs _ _).mono (fun _ h c => ⟨(h c).1.trans ?_, (h c).2⟩) (Cert.YsRefIdeal.Value.run (F := Ideal) m' ρ')
  rw [(hagree c).1, (hagree c).2]
  funext i
  refine congrArg₂ (· * ·) (congrArg₂ (· * ·) rfl ?_) ?_
  · refine (broadcastInDim_apply _ _ _ _ (ix3 (i 0) (i 1) 0 : YsRefIdeal.S1x64x1.Idx) (fun a => by match a with | ⟨0, _⟩ => exact Nat.lt_one_iff.mp (i 0).isLt | ⟨1, _⟩ => rfl | ⟨2, _⟩ => rfl)).trans ?_
    refine congrArg Ideal.rsqrt (congrArg₂ (· + ·) (congrArg₂ Ideal.div ?_ rfl) rfl)
    refine (broadcastInDim_apply _ _ _ _ (ix2 (i 0) (i 1) : YsRefIdeal.S1x64.Idx) (fun a => by match a with | ⟨0, _⟩ => exact Nat.lt_one_iff.mp (i 0).isLt | ⟨1, _⟩ => rfl)).trans ?_
    exact Norm.hostSum _ _ _ _
  · refine (broadcastInDim_apply _ _ _ _ (ix3 0 0 (i 2) : YsRefIdeal.S1x1x4096.Idx) (fun a => by match a with | ⟨0, _⟩ => rfl | ⟨1, _⟩ => rfl | ⟨2, _⟩ => rfl)).trans ?_
    exact broadcastInDim_apply _ _ _ _ (ix1 (i 2) : YsRefIdeal.S4096.Idx) (fun a => by match a with | ⟨0, _⟩ => rfl)

end Cert.Proof.Ys

end
-- ==== Proof.UpRun.lean ====
/-
  The run of the up projection's pipeline: what the body stores at a grid point, case by case, and what the two
  buffers it keeps between points hold.
-/
module

public import proofs.«01_k».proof.Proof.Gen.UpIdeal.Frame
public import proofs.«01_k».proof.Proof.Gen.UpIdeal.Skeleton
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Tactic
public import Idealize.ShloMosaic.Lib.WordCmp

@[expose] public section

set_option maxRecDepth 16384

noncomputable section

namespace Up

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two kept buffers -/

/-- The half of the kept weights that holds the gated block, and the half that holds the gate block. -/
abbrev q0 : Rect S2x4096x256 := Rect.unit (s := S2x4096x256) ![0, 0, 0] S1x4096x256.size inb_S2x4096x256_S1x4096x256_0_0_0
abbrev q1 : Rect S2x4096x256 := Rect.unit (s := S2x4096x256) ![1, 0, 0] S1x4096x256.size inb_S2x4096x256_S1x4096x256_1_0_0
/-- The same for the kept tails. -/
abbrev r0 : Rect S2x8x256 := Rect.unit (s := S2x8x256) ![0, 0, 0] S1x8x256.size inb_S2x8x256_S1x8x256_0_0_0
abbrev r1 : Rect S2x8x256 := Rect.unit (s := S2x8x256) ![1, 0, 0] S1x8x256.size inb_S2x8x256_S1x8x256_1_0_0

/-- A store of a whole buffer, last, leaves what was stored. -/
theorem read_full {sig : RefSig} {κ : Kind} {sp : Space} {s : Shape} {e : EltTy} {Val : EltTy → Type} (v : View sig κ sp s e)
    (f : v.ty.Contents Val) {off : Fin s.rank → ℕ} (inb : ∀ a, off a + s.size a ≤ s.size a) (w : s.Idx → Val e)
    (L : List (View.Piece Val s e)) : v.read Val (v.writes Val f (⟨Rect.unit off (no_index s.size) inb, w⟩ :: L)) = w :=
  View.read_writes_full v f inb w L

/-- A load of the part stored last reads what was stored; -/
theorem ld_newest {sig : RefSig} {κ : Kind} {sp : Space} {s : Shape} {e : EltTy} {Val : EltTy → Type} (v : View sig κ sp s e)
    (f : v.ty.Contents Val) (r : Rect s) (w : r.shape.Idx → Val e) (L : List (View.Piece Val s e)) :
    View.ld (v.read Val (v.writes Val f (⟨r, w⟩ :: L))) r = w :=
  funext fun x => View.read_writes_cons_emb v f r w L x

/-- a load of a part apart from it reads what was there before. -/
theorem ld_older {sig : RefSig} {κ : Kind} {sp : Space} {s : Shape} {e : EltTy} {Val : EltTy → Type} (v : View sig κ sp s e)
    (f : v.ty.Contents Val) (r r' : Rect s) (w : r.shape.Idx → Val e) (L : List (View.Piece Val s e))
    (h : LoadRect.disj r r'.toLoadRect = true) :
    View.ld (v.read Val (v.writes Val f (⟨r, w⟩ :: L))) r' = View.ld (v.read Val (v.writes Val f L)) r' := by
  funext x
  have hy := LoadRect.idx_not_mem_of_disj h x
  rw [← Rect.map_emb_univ] at hy
  show v.read Val (v.writes Val f (⟨r, w⟩ :: L)) (r'.toLoadRect.idx x) = _
  rw [View.writes_cons]
  exact View.read_slice_write_of_not_mem r _ _ _ hy

/-- The tails as they stand at the first rows of a sequence: zeros. -/
def z0 : Vec F S1x8x256 .f32 := View.ld (k0_pay6 (F := F)) r0
def z1 : Vec F S1x8x256 .f32 := View.ld (k0_pay6 (F := F)) r1

/-- The block of activations from the rows, the two weight blocks, the two tails before the rows and the filters. -/
def act (x0 : Vec F S1x1024x4096 .bf16) (wa wg : Vec F S1x4096x256 .bf16) (ta tg : Vec F S1x8x256 .f32)
    (x3 x4 : Vec F S1x3x256 .f32) (x5 x6 : Vec F S1x1x256 .f32) : Vec F S1x1024x256 .bf16 :=
  k0_pay1 (k0_pay15 (k0_pay8 x0 wa) (k0_pay13 x0 wa ta) (k0_pay14 x0 wa ta) x3 x5) (k0_pay16 (k0_pay7 x0) wg)
    (k0_pay21 (k0_pay7 x0) wg tg) (k0_pay22 (k0_pay7 x0) wg tg) x4 x6

/-- The condition under which a point rounds the weights, and the one under which it clears the tails. -/
abbrev first (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev start (i : grid0.Coords) : Prop := (Scalar.cmpi .ne (Scalar.extui (Scalar.cmpi .eq (BitVec.ofNat 32 (i 2).val) 0#32)) 0#32) = 1#1

set_option maxHeartbeats 2000000 in
/-- A point that rounds the weights and clears the tails. -/
theorem runA (c : Dev nD) (i : grid0.Coords) (arg3 : Memref sig .tc .vmem S1x1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1024x256 .bf16) (harg10 : arg10.IsWhole) (arg11 : Memref sig .tc .vmem S1x1x8x256 .f32) (harg11 : arg11.IsWhole) (arg12 : Memref sig .tc .vmem S1x1x8x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S2x4096x256 .bf16) (harg15 : arg15.IsWhole) (arg16 : Memref sig .tc .vmem S2x8x256 .f32) (harg16 : arg16.IsWhole) (hc0 : first i) (hc1 : start i)
    (x0 : Vec F S1x1024x4096 .bf16) (x1 x2 : Vec F S1x4096x256 .f32) (x3 x4 : Vec F S1x3x256 .f32) (x5 x6 : Vec F S1x1x256 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (act x0 (k0_pay3 x1) (k0_pay5 x2) z0 z1 x3 x4 x5 x6) ∗ owns (c : Thread nD τ) arg11 fullShare (k0_pay12 x0 (k0_pay3 x1) z0) ∗ owns (c : Thread nD τ) arg12 fullShare (k0_pay20 (k0_pay7 x0) (k0_pay5 x2) z1) ∗ owns (c : Thread nD τ) arg13 fullShare (k0_pay2 x1) ∗ owns (c : Thread nD τ) arg14 fullShare (k0_pay4 x2) ∗ (∃ X, ⌜View.ld X q0 = (k0_pay3 x1) ∧ View.ld X q1 = (k0_pay5 x2)⌝ ∗ owns (c : Thread nD τ) arg15 fullShare X) ∗ (∃ X, ⌜View.ld X r0 = k0_pay11 x0 (k0_pay3 x1) z0 ∧ View.ld X r1 = k0_pay19 (k0_pay7 x0) (k0_pay5 x2) z1⌝ ∗ owns (c : Thread nD τ) arg16 fullShare X)) -∗ K ⟨⟩))
    ⊢ wp frame (wpE (defs₀ (F := F)) Variants.none c none) E (cc0_convffn_up i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_convffn_up_eq_skeleton]; unfold cc0_convffn_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H8]
  · iexists _; isplitr
    swap; · iexact H8
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H9]
  · iexists _; isplitr
    swap; · iexact H9
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H10]
  · iexists _; isplitr
    swap; · iexact H10
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H11]
  · iexists _; isplitr
    swap; · iexact H11
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [HS0]
  · iexists _; isplitr
    swap
    · iexists _; isplitr
      swap; · iexact HS0
      ipureintro; rfl
    ipureintro; sl_unfold_words
    simp (disch := decide) only [↓ ld_newest, ↓ ld_older, ↓ View.readCov_skip, ↓ View.readCov_cons_toLoadRect, ↓ View.readCov_fill, View.ld_unit_lit, Memref.IsWhole.read_unread, View.readAt_eq_ld]
    all_goals exact ⟨by first | trivial | rfl, by first | trivial | rfl⟩
  iexists _; isplitr
  swap
  · iexists _; isplitr
    swap; · iexact HS1
    ipureintro; rfl
  ipureintro; sl_unfold_words
  simp (disch := decide) only [↓ ld_newest, ↓ ld_older, ↓ View.readCov_skip, ↓ View.readCov_cons_toLoadRect, ↓ View.readCov_fill, View.ld_unit_lit, Memref.IsWhole.read_unread, View.readAt_eq_ld]
  all_goals exact ⟨by first | trivial | rfl, by first | trivial | rfl⟩

set_option maxHeartbeats 2000000 in
/-- A point that clears the tails and finds the weights rounded. -/
theorem runB (c : Dev nD) (i : grid0.Coords) (arg3 : Memref sig .tc .vmem S1x1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1024x256 .bf16) (harg10 : arg10.IsWhole) (arg11 : Memref sig .tc .vmem S1x1x8x256 .f32) (harg11 : arg11.IsWhole) (arg12 : Memref sig .tc .vmem S1x1x8x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S2x4096x256 .bf16) (harg15 : arg15.IsWhole) (arg16 : Memref sig .tc .vmem S2x8x256 .f32) (harg16 : arg16.IsWhole) (hc0 : ¬ first i) (hc1 : start i)
    (x0 : Vec F S1x1024x4096 .bf16) (x1 x2 : Vec F S1x4096x256 .f32) (x3 x4 : Vec F S1x3x256 .f32) (x5 x6 : Vec F S1x1x256 .f32) (wa wg : Vec F S1x4096x256 .bf16) (y13 y14 : Vec F S4096x256 .bf16) (xs0 : Vec F S2x4096x256 .bf16) (hs0 : View.ld xs0 q0 = wa) (hs1 : View.ld xs0 q1 = wg)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y13 ∗ owns (c : Thread nD τ) arg14 fullShare y14 ∗ owns (c : Thread nD τ) arg15 fullShare xs0 ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (act x0 wa wg z0 z1 x3 x4 x5 x6) ∗ owns (c : Thread nD τ) arg11 fullShare (k0_pay12 x0 wa z0) ∗ owns (c : Thread nD τ) arg12 fullShare (k0_pay20 (k0_pay7 x0) wg z1) ∗ owns (c : Thread nD τ) arg13 fullShare y13 ∗ owns (c : Thread nD τ) arg14 fullShare y14 ∗ (∃ X, ⌜View.ld X q0 = wa ∧ View.ld X q1 = wg⌝ ∗ owns (c : Thread nD τ) arg15 fullShare X) ∗ (∃ X, ⌜View.ld X r0 = k0_pay11 x0 wa z0 ∧ View.ld X r1 = k0_pay19 (k0_pay7 x0) wg z1⌝ ∗ owns (c : Thread nD τ) arg16 fullShare X)) -∗ K ⟨⟩))
    ⊢ wp frame (wpE (defs₀ (F := F)) Variants.none c none) E (cc0_convffn_up i arg3 harg3 arg4 harg4 arg5 harg5 arg6 harg6 arg7 harg7 arg8 harg8 arg9 harg9 arg10 harg10 arg11 harg11 arg12 harg12 arg13 harg13 arg14 harg14 arg15 harg15 arg16 harg16) K := by
  subst hs0 hs1
  simp only [cc0_convffn_up_eq_skeleton]; unfold cc0_convffn_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%fs0, %hfs0, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg13.eq_unread hf10; obtain rfl := harg14.eq_unread hf11; obtain rfl := harg15.eq_unread hfs0
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H8]
  · iexists _; isplitr
    swap; · iexact H8
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H9]
  · iexists _; isplitr
    swap; · iexact H9
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H10]
  · iexists _; isplitr; · ipureintro; exact harg13.read_unread _
    iexact H10
  isplitl [H11]
  · iexists _; isplitr; · ipureintro; exact harg14.read_unread _
    iexact H11
  isplitl [HS0]
  · iexists _; isplitr
    swap
    · iexists _; isplitr
      swap; · iexact HS0
      ipureintro; rfl
    ipureintro; sl_unfold_words
    simp (disch := decide) only [↓ ld_newest, ↓ ld_older, ↓ View.readCov_skip, ↓ View.readCov_cons_toLoadRect, ↓ View.readCov_fill, View.ld_unit_lit, Memref.IsWhole.read_unread, View.readAt_eq_ld]
    all_goals exact ⟨by first | trivial | rfl, by first | trivial | rfl⟩
  iexists _; isplitr
  swap
  · iexists _; isplitr
    swap; · iexact HS1
    ipureintro; rfl
  ipureintro; sl_unfold_words
  simp (disch := decide) only [↓ ld_newest, ↓ ld_older, ↓ View.readCov_skip, ↓ View.readCov_cons_toLoadRect, ↓ View.readCov_fill, View.ld_unit_lit, Memref.IsWhole.read_unread, View.readAt_eq_ld]
  all_goals exact ⟨by first | trivial | rfl, by first | trivial | rfl⟩

set_option maxHeartbeats 2000000 in
/-- A point that finds the weights rounded and the tails of the rows before. -/
theorem runC (c : Dev nD) (i : grid0.Coords) (arg3 : Memref sig .tc .vmem S1x1024x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S1x3x256 .f32) (harg6 : arg6.IsWhole) (arg7 : Memref sig .tc .vmem S1x3x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1024x256 .bf16) (harg10 : arg10.IsWhole) (arg11 : Memref sig .tc .vmem S1x1x8x256 .f32) (harg11 : arg11.IsWhole) (arg12 : Memref sig .tc .vmem S1x1x8x256 .f32) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S2x4096x256 .bf16) (harg15 : arg15.IsWhole) (arg16 : Memref sig .tc .vmem S2x8x256 .f32) (harg16 : arg16.IsWhole) (hc0 : ¬ first i) (hc1 : ¬ start i)
    (x0 : Vec F S1x1024x4096 .bf16) (x1 x2 : Vec F S1x4096x256 .f32) (x3 x4 : Vec F S1x3x256 .f32) (x5 x6 : Vec F S1x1x256 .f32) (wa wg : Vec F S1x4096x256 .bf16) (y13 y14 : Vec F S4096x256 .bf16) (xs0 : Vec F S2x4096x256 .bf16) (hs0 : View.ld xs0 q0 = wa) (hs1 : View.ld xs0 q1 = wg) (ta tg : Vec F S1x8x256 .f32) (xs1 : Vec F S2x8x256 .f32) (ht0 : View.ld xs1 r0 = ta) (ht1 : View.ld xs1 r1 = tg)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y13 ∗ owns (c : Thread nD τ) arg14 fullShare y14 ∗ owns (c : Thread nD τ) arg15 fullShare xs0 ∗ owns (c : Thread nD τ) arg16 fullShare xs1
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (act x0 wa wg ta tg x3 x4 x5 x6) ∗ owns (c : Thread nD τ) arg11 fullShare (k0_pay12 x0 wa ta) ∗ owns (c : Thread nD τ) arg12 fullShare (k0_pay20 (k0_pay7 x0) wg tg) ∗ owns (c : Thread nD τ) arg13 fullShare y13 ∗ owns (c : Thread nD τ) arg14 fullShare y14 ∗ (∃ X, ⌜View.ld X q0 = wa ∧ View.ld X q1 = wg⌝ ∗ owns (c : Thread nD τ) arg15 fullShare X) ∗ (∃ X, ⌜View.ld X r0 = k0_pay11 x0 wa ta ∧ View.ld X r1 = k0_pay19 (k0_pay7 x0) wg tg⌝ ∗ owns (c : Thread nD τ) arg16 fullShare X)) -∗ K ⟨⟩))
    ⊢ wp frame (wpE (defs₀ (F := F)) Variants.none c none) E (cc0_convffn_up i arg3 harg3 arg4 harg4 arg5 harg5 arg6 harg6 arg7 harg7 arg8 harg8 arg9 harg9 arg10 harg10 arg11 harg11 arg12 harg12 arg13 harg13 arg14 harg14 arg15 harg15 arg16 harg16) K := by
  subst hs0 hs1
  subst ht0 ht1
  simp only [cc0_convffn_up_eq_skeleton]; unfold cc0_convffn_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg13.eq_unread hf10; obtain rfl := harg14.eq_unread hf11; obtain rfl := harg15.eq_unread hfs0; obtain rfl := harg16.eq_unread hfs1
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H8]
  · iexists _; isplitr
    swap; · iexact H8
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H9]
  · iexists _; isplitr
    swap; · iexact H9
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H10]
  · iexists _; isplitr; · ipureintro; exact harg13.read_unread _
    iexact H10
  isplitl [H11]
  · iexists _; isplitr; · ipureintro; exact harg14.read_unread _
    iexact H11
  isplitl [HS0]
  · iexists _; isplitr
    swap
    · iexists _; isplitr
      swap; · iexact HS0
      ipureintro; rfl
    ipureintro; sl_unfold_words
    simp (disch := decide) only [↓ ld_newest, ↓ ld_older, ↓ View.readCov_skip, ↓ View.readCov_cons_toLoadRect, ↓ View.readCov_fill, View.ld_unit_lit, Memref.IsWhole.read_unread, View.readAt_eq_ld]
    all_goals exact ⟨by first | trivial | rfl, by first | trivial | rfl⟩
  iexists _; isplitr
  swap
  · iexists _; isplitr
    swap; · iexact HS1
    ipureintro; rfl
  ipureintro; sl_unfold_words
  simp (disch := decide) only [↓ ld_newest, ↓ ld_older, ↓ View.readCov_skip, ↓ View.readCov_cons_toLoadRect, ↓ View.readCov_fill, View.ld_unit_lit, Memref.IsWhole.read_unread, View.readAt_eq_ld]
  all_goals exact ⟨by first | trivial | rfl, by first | trivial | rfl⟩

/-! ## What holds between points -/

theorem hfirst : ∀ t : Fin cfg0.N, first (grid0.coords t) ↔ t.val % 8 = 0 :=
  (fun t => by
    have ht : t.val < 344 := Nat.lt_of_lt_of_eq t.isLt N_0
    have e1 : (grid0.coords t 1).val = t.val / 2 % 4 := Pipeline.Grid.coords_val t 1 (by decide) rfl
    have e2 : (grid0.coords t 2).val = t.val / 1 % 2 := Pipeline.Grid.coords_val t 2 (by decide) rfl
    simp only [first, e1, e2]
    word_cmp : ∀ t : Fin grid0.N, first (grid0.coords t) ↔ t.val % 8 = 0)

theorem hstart : ∀ t : Fin cfg0.N, start (grid0.coords t) ↔ t.val % 2 = 0 :=
  (fun t => by
    have ht : t.val < 344 := Nat.lt_of_lt_of_eq t.isLt N_0
    have e2 : (grid0.coords t 2).val = t.val / 1 % 2 := Pipeline.Grid.coords_val t 2 (by decide) rfl
    simp only [start, e2]
    word_cmp : ∀ t : Fin grid0.N, start (grid0.coords t) ↔ t.val % 2 = 0)

theorem lt_N (t : Fin cfg0.N) : t.val < 344 := Nat.lt_of_lt_of_eq t.isLt N_0

/-- The point at which the weights in use at `t` were rounded, and the point before `t`. -/
def bs (t : Fin cfg0.N) : Fin cfg0.N := ⟨8 * (t.val / 8), lt_of_le_of_lt (Nat.mul_div_le _ _) t.isLt⟩
def pv (t : Fin cfg0.N) : Fin cfg0.N := ⟨t.val - 1, lt_of_le_of_lt (Nat.sub_le _ _) t.isLt⟩

theorem bs_pv {t : Fin cfg0.N} (h : t.val % 8 ≠ 0) : bs (pv t) = bs t := Fin.ext (by
  show 8 * ((t.val - 1) / 8) = 8 * (t.val / 8); omega)
theorem bs_eq {t : Fin cfg0.N} (h : t.val % 8 = 0) : bs t = t := Fin.ext (by
  show 8 * (t.val / 8) = t.val; omega)

variable (m : (ℓ : Loc nD τ sig) → Buf (Elt F) ℓ) (ρ : Dev nD → PrngReg)

/-- The blocks a point reads. -/
def bh (c : Dev nD) (t : Fin cfg0.N) : Vec F S1x1024x4096 .bf16 := iblk m c 0 t
def bwa (c : Dev nD) (t : Fin cfg0.N) : Vec F S1x4096x256 .f32 := iblk m c 1 t
def bwg (c : Dev nD) (t : Fin cfg0.N) : Vec F S1x4096x256 .f32 := iblk m c 2 t
def bca (c : Dev nD) (t : Fin cfg0.N) : Vec F S1x3x256 .f32 := iblk m c 3 t
def bcg (c : Dev nD) (t : Fin cfg0.N) : Vec F S1x3x256 .f32 := iblk m c 4 t
def bba (c : Dev nD) (t : Fin cfg0.N) : Vec F S1x1x256 .f32 := iblk m c 5 t
def bbg (c : Dev nD) (t : Fin cfg0.N) : Vec F S1x1x256 .f32 := iblk m c 6 t

/-- The rounded weights in use at `t`. -/
def wa (c : Dev nD) (t : Fin cfg0.N) : Vec F S1x4096x256 .bf16 := k0_pay3 (bwa m c (bs t))
def wg (c : Dev nD) (t : Fin cfg0.N) : Vec F S1x4096x256 .bf16 := k0_pay5 (bwg m c (bs t))

/-- The tails of the rows before: none at the first rows of a sequence, else those of the point before. -/
def ta (c : Dev nD) (t : Fin cfg0.N) : Vec F S1x8x256 .f32 :=
  if t.val % 2 = 0 then z0 else k0_pay11 (bh m c (pv t)) (wa m c t) z0
def tg (c : Dev nD) (t : Fin cfg0.N) : Vec F S1x8x256 .f32 :=
  if t.val % 2 = 0 then z1 else k0_pay19 (k0_pay7 (bh m c (pv t))) (wg m c t) z1

/-- What the body leaves in the five result windows. -/
def o7 (c : Dev nD) (t : Fin cfg0.N) : Vec F S1x1024x256 .bf16 :=
  act (bh m c t) (wa m c t) (wg m c t) (ta m c t) (tg m c t) (bca m c t) (bcg m c t) (bba m c t) (bbg m c t)
def o8 (c : Dev nD) (t : Fin cfg0.N) : Vec F S1x1x8x256 .f32 := k0_pay12 (bh m c t) (wa m c t) (ta m c t)
def o9 (c : Dev nD) (t : Fin cfg0.N) : Vec F S1x1x8x256 .f32 := k0_pay20 (k0_pay7 (bh m c t)) (wg m c t) (tg m c t)
def o10 (c : Dev nD) (t : Fin cfg0.N) : Vec F S4096x256 .bf16 := k0_pay2 (bwa m c (bs t))
def o11 (c : Dev nD) (t : Fin cfg0.N) : Vec F S4096x256 .bf16 := k0_pay4 (bwg m c (bs t))

abbrev scM0 : Memref sig .tc .vmem S2x4096x256 .bf16 := Memref.whole cc0_scratch0
abbrev scM1 : Memref sig .tc .vmem S2x8x256 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- After a point the kept buffers hold the rounded weights in use at it and the last rows of its two products. -/
def Phi (c : Dev nD) : (n : ℕ) → n ≤ cfg0.N → sProp 𝕄
  | 0, _ => Pipeline.ΦA spec0 c
  | n + 1, hn => iprop(iprop(
      (∃ X, ⌜View.ld X q0 = wa m c ⟨n, hn⟩ ∧ View.ld X q1 = wg m c ⟨n, hn⟩⌝ ∗ owns (c : Thread nD τ) scM0 fullShare X)
      ∗ (∃ X, ⌜View.ld X r0 = k0_pay11 (bh m c ⟨n, hn⟩) (wa m c ⟨n, hn⟩) (ta m c ⟨n, hn⟩)
            ∧ View.ld X r1 = k0_pay19 (k0_pay7 (bh m c ⟨n, hn⟩)) (wg m c ⟨n, hn⟩) (tg m c ⟨n, hn⟩)⌝ ∗ owns (c : Thread nD τ) scM1 fullShare X))
      ∗ (∃ r, prngReg c r))

theorem Phi_pos (c : Dev nD) (t : Fin cfg0.N) (hz : t.val ≠ 0) :
    Phi m c t.val (Nat.le_of_lt t.isLt) = iprop(iprop(
      (∃ X, ⌜View.ld X q0 = wa m c (pv t) ∧ View.ld X q1 = wg m c (pv t)⌝ ∗ owns (c : Thread nD τ) scM0 fullShare X)
      ∗ (∃ X, ⌜View.ld X r0 = k0_pay11 (bh m c (pv t)) (wa m c (pv t)) (ta m c (pv t))
            ∧ View.ld X r1 = k0_pay19 (k0_pay7 (bh m c (pv t))) (wg m c (pv t)) (tg m c (pv t))⌝ ∗ owns (c : Thread nD τ) scM1 fullShare X))
      ∗ (∃ r, prngReg c r)) := by
  obtain ⟨n, hn⟩ := t
  cases n with
  | zero => exact absurd rfl hz
  | succ n => rfl

/-- What is proved of the pipeline's arrays and buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => o7 m c t
    | ⟨8, _⟩ => o8 m c t
    | ⟨9, _⟩ => o9 m c t
    | ⟨10, _⟩ => o10 m c t
    | ⟨11, _⟩ => o11 m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = o7 m c t := by dsimp only [dats]
theorem after8 (c : Dev nD) (t : Fin cfg0.N) : (dats m 0 c).after 8 t = o8 m c t := by dsimp only [dats]
theorem after9 (c : Dev nD) (t : Fin cfg0.N) : (dats m 0 c).after 9 t = o9 m c t := by dsimp only [dats]
theorem after10 (c : Dev nD) (t : Fin cfg0.N) : (dats m 0 c).after 10 t = o10 m c t := by dsimp only [dats]
theorem after11 (c : Dev nD) (t : Fin cfg0.N) : (dats m 0 c).after 11 t = o11 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem idle_of {t : Fin cfg0.N} (h : t.val % 8 = 0) : cfg0.idle 10 (cfg0.grid.coords t) = false ∧ cfg0.idle 11 (cfg0.grid.coords t) = false := by
  have e : k0_cond1 (grid0.coords t) = 1#1 := (hfirst t).mpr h
  constructor <;> (show (!(k0_cond1 (grid0.coords t) == 1#1)) = false; rw [e]; rfl)

theorem idle_of_ne {t : Fin cfg0.N} (h : t.val % 8 ≠ 0) : cfg0.idle 10 (cfg0.grid.coords t) = true ∧ cfg0.idle 11 (cfg0.grid.coords t) = true := by
  have e : ¬ k0_cond1 (grid0.coords t) = 1#1 := fun e => h ((hfirst t).mp e)
  constructor <;> (show (!(k0_cond1 (grid0.coords t) == 1#1)) = true; simpa using e)

/-- A point that does not round the weights finds the rounded block as the points before left it. -/
theorem before10 (c : Dev nD) : ∀ (n : ℕ) (t : Fin cfg0.N), t.val = n → t.val % 8 ≠ 0 → ∀ d, (dats m 0 c).before 10 t d = o10 m c t
  | 0, t, ht, h, d => absurd (by rw [ht]) h
  | n + 1, t, ht, h, d => by
    rw [(dats m 0 c).before_of_pos 10 t (by omega) rfl d]
    have hp : (pv t).val = n := by show t.val - 1 = n; omega
    have hf : ¬ (cfg0.win 10).flush (pv t) = true := fun e => by
      have := (flush0_10 (pv t)).mp e
      omega
    show (if (cfg0.win 10).flush (pv t) = true then d else (dats m 0 c).left 10 (pv t) d) = _
    rw [if_neg hf]
    have ho : o10 m c (pv t) = o10 m c t := by unfold o10; rw [bs_pv h]
    unfold Dat.left
    by_cases h' : (pv t).val % 8 = 0
    · rw [(idle_of h').1]
      show (dats m 0 c).kept 10 (pv t) d = _
      rw [← ho, ← after10]
      rfl
    · rw [(idle_of_ne h').1]
      show (dats m 0 c).before 10 (pv t) d = _
      rw [before10 c n (pv t) hp h', ho]

/-- A point that does not round the weights finds the rounded block as the points before left it. -/
theorem before11 (c : Dev nD) : ∀ (n : ℕ) (t : Fin cfg0.N), t.val = n → t.val % 8 ≠ 0 → ∀ d, (dats m 0 c).before 11 t d = o11 m c t
  | 0, t, ht, h, d => absurd (by rw [ht]) h
  | n + 1, t, ht, h, d => by
    rw [(dats m 0 c).before_of_pos 11 t (by omega) rfl d]
    have hp : (pv t).val = n := by show t.val - 1 = n; omega
    have hf : ¬ (cfg0.win 11).flush (pv t) = true := fun e => by
      have := (flush0_11 (pv t)).mp e
      omega
    show (if (cfg0.win 11).flush (pv t) = true then d else (dats m 0 c).left 11 (pv t) d) = _
    rw [if_neg hf]
    have ho : o11 m c (pv t) = o11 m c t := by unfold o11; rw [bs_pv h]
    unfold Dat.left
    by_cases h' : (pv t).val % 8 = 0
    · rw [(idle_of h').2]
      show (dats m 0 c).kept 11 (pv t) d = _
      rw [← ho, ← after11]
      rfl
    · rw [(idle_of_ne h').2]
      show (dats m 0 c).before 11 (pv t) d = _
      rw [before11 c n (pv t) hp h', ho]

/-- A buffer found at what the point leaves is left at it. -/
theorem give (c : Dev nD) (w : Fin cfg0.W) (t : Fin cfg0.N) (d) (h : (dats m 0 c).before w t d = (dats m 0 c).after w t) :
    owns (c : Thread nD τ) ((cfg0.win w).stage (cfg0.slots t w)) fullShare ((dats m 0 c).before w t d) ⊢ (dats m 0 c).leavesExact w t := by
  unfold Dat.leavesExact
  cases cfg0.idle w (cfg0.grid.coords t)
  · rw [h]
  · cases (cfg0.win w).flush t
    · iintro H; iexists d; iexact H
    · rw [h]

theorem give_live (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [h]

/-- The buffer of each window at a point. -/
abbrev ms0 (t : Fin cfg0.N) : Memref sig .tc .vmem S1x1024x4096 .bf16 := win0_0.stage (cfg0.slots t 0)
abbrev ms1 (t : Fin cfg0.N) : Memref sig .tc .vmem S1x4096x256 .f32 := win0_1.stage (cfg0.slots t 1)
abbrev ms2 (t : Fin cfg0.N) : Memref sig .tc .vmem S1x4096x256 .f32 := win0_2.stage (cfg0.slots t 2)
abbrev ms3 (t : Fin cfg0.N) : Memref sig .tc .vmem S1x3x256 .f32 := win0_3.stage (cfg0.slots t 3)
abbrev ms4 (t : Fin cfg0.N) : Memref sig .tc .vmem S1x3x256 .f32 := win0_4.stage (cfg0.slots t 4)
abbrev ms5 (t : Fin cfg0.N) : Memref sig .tc .vmem S1x1x256 .f32 := win0_5.stage (cfg0.slots t 5)
abbrev ms6 (t : Fin cfg0.N) : Memref sig .tc .vmem S1x1x256 .f32 := win0_6.stage (cfg0.slots t 6)
abbrev ms7 (t : Fin cfg0.N) : Memref sig .tc .vmem S1x1024x256 .bf16 := win0_7.stage (cfg0.slots t 7)
abbrev ms8 (t : Fin cfg0.N) : Memref sig .tc .vmem S1x1x8x256 .f32 := win0_8.stage (cfg0.slots t 8)
abbrev ms9 (t : Fin cfg0.N) : Memref sig .tc .vmem S1x1x8x256 .f32 := win0_9.stage (cfg0.slots t 9)
abbrev ms10 (t : Fin cfg0.N) : Memref sig .tc .vmem S4096x256 .bf16 := win0_10.stage (cfg0.slots t 10)
abbrev ms11 (t : Fin cfg0.N) : Memref sig .tc .vmem S4096x256 .bf16 := win0_11.stage (cfg0.slots t 11)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ (dats m 0 c).leavesExact 10 t
    ∗ (dats m 0 c).leavesExact 11 t)

set_option maxHeartbeats 8000000 in
/-- The body at any point, by whether the point rounds the weights and whether it clears the tails. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8, after9]
  rw [show (dats m 0 c).Φ t.succ = Phi m c (t.val + 1) t.isLt from rfl]
  have hN := lt_N t
  unfold Phi
  by_cases h0 : t.val % 8 = 0
  · have h1 : t.val % 2 = 0 := by omega
    by_cases hz : t.val = 0
    · rw [Phi_castSucc, show Phi m c t.val (Nat.le_of_lt t.isLt) = Pipeline.ΦA spec0 c from by obtain ⟨n, hn⟩ := t; cases n with | zero => rfl | succ n => exact absurd hz (Nat.succ_ne_zero n), PhiA_eq]
      have ht : ta m c t = z0 ∧ tg m c t = z1 := by unfold ta tg; rw [if_pos h1, if_pos h1]; exact ⟨rfl, rfl⟩
      have eb : bs t = t := bs_eq h0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) _ _ _ _ _ _ _ _ _ _ _ _ _ _ _ _ _ _ _ _ _ _ _ _ _ _ _ _ ((hfirst t).mpr h0) ((hstart t).mpr h1) (bh m c t) (bwa m c t) (bwg m c t) (bca m c t) (bcg m c t) (bba m c t) (bbg m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, H10, H11, ⟨%X', %hX', HS0⟩, ⟨%Y', %hY', HS1⟩⟩
      isplitl [HS0 HS1 Hg]
      · isplitl [HS0 HS1]
        · isplitl [HS0]
          · iexists _; isplitr; · ipureintro; exact ⟨by rw [hX'.1]; unfold wa; rw [eb], by rw [hX'.2]; unfold wg; rw [eb]⟩
            iexact HS0
          iexists _; isplitr; · ipureintro; exact ⟨by rw [hY'.1]; unfold wa; rw [eb, ht.1], by rw [hY'.2]; unfold wg; rw [eb, ht.2]⟩
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold o7; unfold wa wg; rw [eb, ht.1, ht.2]; iexact H7
      isplitl [H8]
      · unfold o8; unfold wa; rw [eb, ht.1]; iexact H8
      isplitl [H9]
      · unfold o9; unfold wg; rw [eb, ht.2]; iexact H9
      isplitl [H10]
      · iapply (give_live m c 10 t (idle_of h0).1)
        rw [after10]; unfold o10; rw [eb]; iexact H10
      iapply (give_live m c 11 t (idle_of h0).2)
      rw [after11]; unfold o11; rw [eb]; iexact H11
    · rw [Phi_castSucc, Phi_pos m c t hz]
      have ht : ta m c t = z0 ∧ tg m c t = z1 := by unfold ta tg; rw [if_pos h1, if_pos h1]; exact ⟨rfl, rfl⟩
      have eb : bs t = t := bs_eq h0
      iintro ⟨⟨⟨⟨%X, %hX, HS0⟩, ⟨%Y, %hY, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) _ _ _ _ _ _ _ _ _ _ _ _ _ _ _ _ _ _ _ _ _ _ _ _ _ _ _ _ ((hfirst t).mpr h0) ((hstart t).mpr h1) (bh m c t) (bwa m c t) (bwg m c t) (bca m c t) (bcg m c t) (bba m c t) (bbg m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexists _; iexact HS0
      isplitl [HS1]; · iexists _; iexact HS1
      iintro ⟨H0, H1, H2, H3, H4, H5, H6, H7, H8, H9, H10, H11, ⟨%X', %hX', HS0⟩, ⟨%Y', %hY', HS1⟩⟩
      isplitl [HS0 HS1 Hg]
      · isplitl [HS0 HS1]
        · isplitl [HS0]
          · iexists _; isplitr; · ipureintro; exact ⟨by rw [hX'.1]; unfold wa; rw [eb], by rw [hX'.2]; unfold wg; rw [eb]⟩
            iexact HS0
          iexists _; isplitr; · ipureintro; exact ⟨by rw [hY'.1]; unfold wa; rw [eb, ht.1], by rw [hY'.2]; unfold wg; rw [eb, ht.2]⟩
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold o7; unfold wa wg; rw [eb, ht.1, ht.2]; iexact H7
      isplitl [H8]
      · unfold o8; unfold wa; rw [eb, ht.1]; iexact H8
      isplitl [H9]
      · unfold o9; unfold wg; rw [eb, ht.2]; iexact H9
      isplitl [H10]
      · iapply (give_live m c 10 t (idle_of h0).1)
        rw [after10]; unfold o10; rw [eb]; iexact H10
      iapply (give_live m c 11 t (idle_of h0).2)
      rw [after11]; unfold o11; rw [eb]; iexact H11
  · have hz : t.val ≠ 0 := fun h => h0 (by rw [h])
    by_cases h1 : t.val % 2 = 0
    · rw [Phi_castSucc, Phi_pos m c t hz]
      have ew : wa m c (pv t) = wa m c t ∧ wg m c (pv t) = wg m c t := by unfold wa wg; rw [bs_pv h0]; exact ⟨rfl, rfl⟩
      have ht : ta m c t = z0 ∧ tg m c t = z1 := by unfold ta tg; rw [if_pos h1, if_pos h1]; exact ⟨rfl, rfl⟩
      iintro ⟨⟨⟨⟨%X, %hX, HS0⟩, ⟨%Y, %hY, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) _ _ _ _ _ _ _ _ _ _ _ _ _ _ _ _ _ _ _ _ _ _ _ _ _ _ _ _ (fun h => h0 ((hfirst t).mp h)) ((hstart t).mpr h1) (bh m c t) (bwa m c t) (bwg m c t) (bca m c t) (bcg m c t) (bba m c t) (bbg m c t) (wa m c t) (wg m c t) ((dats m 0 c).before 10 t d10) ((dats m 0 c).before 11 t d11) X (hX.1.trans ew.1) (hX.2.trans ew.2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [H11]; · iexact H11
      isplitl [HS0]; · iexact HS0
      isplitl [HS1]; · iexists _; iexact HS1
      iintro ⟨H0, H1, H2, H3, H4, H5, H6, H7, H8, H9, H10, H11, ⟨%X', %hX', HS0⟩, ⟨%Y', %hY', HS1⟩⟩
      isplitl [HS0 HS1 Hg]
      · isplitl [HS0 HS1]
        · isplitl [HS0]
          · iexists _; isplitr; · ipureintro; exact hX'
            iexact HS0
          iexists _; isplitr; · ipureintro; exact ⟨by rw [hY'.1, ht.1], by rw [hY'.2, ht.2]⟩
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold o7; rw [ht.1, ht.2]; iexact H7
      isplitl [H8]
      · unfold o8; rw [ht.1]; iexact H8
      isplitl [H9]
      · unfold o9; rw [ht.2]; iexact H9
      isplitl [H10]
      · iapply (give m c 10 t d10 ((before10 m c t.val t rfl h0 d10).trans (after10 m c t).symm))
        iexact H10
      iapply (give m c 11 t d11 ((before11 m c t.val t rfl h0 d11).trans (after11 m c t).symm))
      iexact H11
    · rw [Phi_castSucc, Phi_pos m c t hz]
      have ew : wa m c (pv t) = wa m c t ∧ wg m c (pv t) = wg m c t := by unfold wa wg; rw [bs_pv h0]; exact ⟨rfl, rfl⟩
      have hp : (pv t).val % 2 = 0 := by show (t.val - 1) % 2 = 0; omega
      have hp' : ta m c (pv t) = z0 ∧ tg m c (pv t) = z1 := by unfold ta tg; rw [if_pos hp, if_pos hp]; exact ⟨rfl, rfl⟩
      have ht : ta m c t = k0_pay11 (bh m c (pv t)) (wa m c t) z0 ∧ tg m c t = k0_pay19 (k0_pay7 (bh m c (pv t))) (wg m c t) z1 := by
        unfold ta tg; rw [if_neg h1, if_neg h1]; exact ⟨rfl, rfl⟩
      iintro ⟨⟨⟨⟨%X, %hX, HS0⟩, ⟨%Y, %hY, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runC c (grid0.coords t) _ _ _ _ _ _ _ _ _ _ _ _ _ _ _ _ _ _ _ _ _ _ _ _ _ _ _ _ (fun h => h0 ((hfirst t).mp h)) (fun h => h1 ((hstart t).mp h)) (bh m c t) (bwa m c t) (bwg m c t) (bca m c t) (bcg m c t) (bba m c t) (bbg m c t) (wa m c t) (wg m c t) ((dats m 0 c).before 10 t d10) ((dats m 0 c).before 11 t d11) X (hX.1.trans ew.1) (hX.2.trans ew.2) (ta m c t) (tg m c t) Y (by rw [hY.1, hp'.1, ew.1, ht.1]) (by rw [hY.2, hp'.2, ew.2, ht.2]) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%X', %hX', HS0⟩, ⟨%Y', %hY', HS1⟩⟩
      isplitl [HS0 HS1 Hg]
      · isplitl [HS0 HS1]
        · isplitl [HS0]
          · iexists _; isplitr; · ipureintro; exact hX'
            iexact HS0
          iexists _; isplitr; · ipureintro; exact hY'
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iapply (give m c 10 t d10 ((before10 m c t.val t rfl h0 d10).trans (after10 m c t).symm))
        iexact H10
      iapply (give m c 11 t d11 ((before11 m c t.val t rfl h0 d11).trans (after11 m c t).symm))
      iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Phi m c (343 + 1) (le_of_eq (show 344 = cfg0.N from N_0.symm)) from by
    dsimp only [dats]; congr 1, PhiA_eq]
  unfold Phi
  iintro ⟨⟨⟨%X, -, HS0⟩, ⟨%Y, -, HS1⟩⟩, Hg⟩
  isplitl [HS0 HS1]
  · isplitl [HS0]
    · iexists _; iexact HS0
    iexists _; iexact HS1
  iexact Hg

set_option backward.isDefEq.respectTransparency.types false in
/-- The launch: every execution ends, with each array at what the points wrote and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Up

end
-- ==== Proof.Up.lean ====
/- The up projection with its convolution and gate for the prompt: what the kernel leaves, block by block, is the reference's convolution of the projected rows. -/
module

public import proofs.«01_k».proof.Defs
public import proofs.«01_k».proof.Proof.Gen.Up.Frame
public import proofs.«01_k».proof.Proof.Gen.UpRefIdeal.Run
public import proofs.«01_k».proof.Proof.UpRun
public import proofs.«01_k».proof.Proof.Mm
public import Idealize.ShloMosaic.Lib.KernelVsHost
public import Idealize.ShloMosaic.Lib.IdealHost

@[expose] public section

noncomputable section

open Idealize.ShloMosaic hiding ix1 ix2 ix3 ix4 eq_ix3
open Idealize.ShloMosaic.TcCoe Idealize.SL.Sem Idealize.ShloMosaic.ValueIdx
open Idealize.ShloMosaic.Pipeline (Dat)
open scoped BigOperators

/-! ## The function both compute -/

namespace Cert.Proof.Up

abbrev lo (q : Fin 11008) : Fin 22016 := ⟨q.val, by omega⟩
abbrev hi (q : Fin 11008) : Fin 22016 := ⟨q.val + 11008, by omega⟩

/-- The projection of one row onto one column. -/
abbrev prod (x : (⟨3, ![4, 2048, 4096]⟩ : Shape).Idx → EReal) (w : (⟨3, ![2, 4096, 22016]⟩ : Shape).Idx → EReal) (b : Fin 4) (r : Fin 2048) (q : Fin 22016) : EReal :=
  ∑ k : Fin 4096, x (ix3 b r k) * w (ix3 0 k q)

/-- The projected rows with two rows of zeros before them. -/
def hist (x : (⟨3, ![4, 2048, 4096]⟩ : Shape).Idx → EReal) (w : (⟨3, ![2, 4096, 22016]⟩ : Shape).Idx → EReal) (b : Fin 4) (n : ℕ) (q : Fin 22016) : EReal :=
  if h : 2 ≤ n ∧ n < 2050 then prod x w b ⟨n - 2, by omega⟩ q else 0

/-- The convolution of three rows, with its bias. -/
def conv (x : (⟨3, ![4, 2048, 4096]⟩ : Shape).Idx → EReal) (w : (⟨3, ![2, 4096, 22016]⟩ : Shape).Idx → EReal) (f : (⟨3, ![2, 3, 22016]⟩ : Shape).Idx → EReal)
    (s : (⟨2, ![2, 22016]⟩ : Shape).Idx → EReal) (b : Fin 4) (r : ℕ) (q : Fin 22016) : EReal :=
  s (ix2 0 q) + (f (ix3 0 0 q) * hist x w b r q + f (ix3 0 1 q) * hist x w b (r + 1) q + f (ix3 0 2 q) * hist x w b (r + 2) q)

/-- The five results. -/
def gate (a g : EReal) : EReal := g * Ideal.logistic g * a
def acts (x : (⟨3, ![4, 2048, 4096]⟩ : Shape).Idx → EReal) (w : (⟨3, ![2, 4096, 22016]⟩ : Shape).Idx → EReal) (f : (⟨3, ![2, 3, 22016]⟩ : Shape).Idx → EReal)
    (s : (⟨2, ![2, 22016]⟩ : Shape).Idx → EReal) : (⟨3, ![4, 2048, 11008]⟩ : Shape).Idx → EReal :=
  fun i => gate (conv x w f s (i 0) (i 1).val (lo (i 2))) (conv x w f s (i 0) (i 1).val (hi (i 2)))
abbrev last (i : Fin 2) (r : Fin 8) : Fin 2048 := ⟨1024 * i.val + (1016 + r.val), by omega⟩
def tails (e : Fin 11008 → Fin 22016) (x : (⟨3, ![4, 2048, 4096]⟩ : Shape).Idx → EReal) (w : (⟨3, ![2, 4096, 22016]⟩ : Shape).Idx → EReal) :
    (⟨4, ![4, 2, 8, 11008]⟩ : Shape).Idx → EReal :=
  fun i => prod x w (i 0) (last (i 1) (i 2)) (e (i 3))
def cols (e : Fin 11008 → Fin 22016) (w : (⟨3, ![2, 4096, 22016]⟩ : Shape).Idx → EReal) : (⟨2, ![4096, 11008]⟩ : Shape).Idx → EReal :=
  fun i => w (ix3 0 (i 0) (e (i 1)))

theorem hist_zero {x : (⟨3, ![4, 2048, 4096]⟩ : Shape).Idx → EReal} {w : (⟨3, ![2, 4096, 22016]⟩ : Shape).Idx → EReal} {b : Fin 4} {n : ℕ} {q : Fin 22016} (h : n < 2) : hist x w b n q = 0 :=
  dif_neg (by omega)
theorem hist_row {x : (⟨3, ![4, 2048, 4096]⟩ : Shape).Idx → EReal} {w : (⟨3, ![2, 4096, 22016]⟩ : Shape).Idx → EReal} {b : Fin 4} {n : ℕ} {q : Fin 22016} (r : Fin 2048) (h : n = r.val + 2) :
    hist x w b n q = prod x w b r q := by
  subst h
  refine (dif_pos ⟨by omega, by omega⟩).trans ?_
  exact congrArg (fun r => prod x w b r q) (Fin.ext (by show r.val + 2 - 2 = r.val; omega))

end Cert.Proof.Up

/-! ## The reference -/

namespace Cert.Proof.UpRef

open Cert.UpRefIdeal Cert.UpRefIdeal.Gen
open Cert.Proof.Up (prod hist conv lo hi hist_zero hist_row acts tails cols last)

variable (x : FVec Ideal S4x2048x4096 .bf16) (w : FVec Ideal S2x4096x22016 .f32) (f : FVec Ideal S2x3x22016 .f32) (s : FVec Ideal S2x22016 .f32)

/-- The projected rows, the same with zeros before them, and the convolution, as the reference writes them. -/
def pd : FVec Ideal S4x2048x22016 .f32 := Host.dotGeneral dot_S4x2048x4096_S4096x22016_S4x2048x22016_2_0_01_1_n_n none (extf .f32 x bitsLt_bf16_f32) (shapeCast _ (extractStridedSlice S1x4096x22016 ![0, 0, 0] w slices_S2x4096x22016_S1x4096x22016_0_0_0) shapeCasts_S1x4096x22016_S4096x22016)
def bf : FVec Ideal S4x2050x22016 .f32 := concatenate S4x2050x22016 1 [⟨S4x2x22016, (broadcastInDim S4x2x22016 ![] bcast_S_S4x2x22016 (constant S_ .f32 0x00000000#32))⟩, ⟨S4x2048x22016, (pd x w)⟩] concatenates_S4x2x22016_S4x2048x22016_S4x2050x22016_d1
def cv : FVec Ideal S4x2048x22016 .f32 := addf (broadcastInDim S4x2048x22016 ![0, 1, 2] bcast_S1x1x22016_S4x2048x22016_0_1_2 (broadcastInDim S1x1x22016 ![2] bcast_S22016_S1x1x22016_2 (shapeCast _ (extractStridedSlice S1x22016 ![0, 0] s slices_S2x22016_S1x22016_0_0) shapeCasts_S1x22016_S22016))) (addf (addf (addf (broadcastInDim S4x2048x22016 ![] bcast_S_S4x2048x22016 (constant S_ .f32 0x00000000#32)) (mulf (broadcastInDim S4x2048x22016 ![0, 1, 2] bcast_S1x1x22016_S4x2048x22016_0_1_2 (broadcastInDim S1x1x22016 ![2] bcast_S22016_S1x1x22016_2 (shapeCast _ (extractStridedSlice S1x22016 ![0, 0] (shapeCast _ (extractStridedSlice S1x3x22016 ![0, 0, 0] f slices_S2x3x22016_S1x3x22016_0_0_0) shapeCasts_S1x3x22016_S3x22016) slices_S3x22016_S1x22016_0_0) shapeCasts_S1x22016_S22016))) (extractStridedSlice S4x2048x22016 ![0, 0, 0] (bf x w) slices_S4x2050x22016_S4x2048x22016_0_0_0))) (mulf (broadcastInDim S4x2048x22016 ![0, 1, 2] bcast_S1x1x22016_S4x2048x22016_0_1_2 (broadcastInDim S1x1x22016 ![2] bcast_S22016_S1x1x22016_2 (shapeCast _ (extractStridedSlice S1x22016 ![1, 0] (shapeCast _ (extractStridedSlice S1x3x22016 ![0, 0, 0] f slices_S2x3x22016_S1x3x22016_0_0_0) shapeCasts_S1x3x22016_S3x22016) slices_S3x22016_S1x22016_1_0) shapeCasts_S1x22016_S22016))) (extractStridedSlice S4x2048x22016 ![0, 1, 0] (bf x w) slices_S4x2050x22016_S4x2048x22016_0_1_0))) (mulf (broadcastInDim S4x2048x22016 ![0, 1, 2] bcast_S1x1x22016_S4x2048x22016_0_1_2 (broadcastInDim S1x1x22016 ![2] bcast_S22016_S1x1x22016_2 (shapeCast _ (extractStridedSlice S1x22016 ![2, 0] (shapeCast _ (extractStridedSlice S1x3x22016 ![0, 0, 0] f slices_S2x3x22016_S1x3x22016_0_0_0) shapeCasts_S1x3x22016_S3x22016) slices_S3x22016_S1x22016_2_0) shapeCasts_S1x22016_S22016))) (extractStridedSlice S4x2048x22016 ![0, 2, 0] (bf x w) slices_S4x2050x22016_S4x2048x22016_0_2_0)))

theorem weight_apply (i : S4096x22016.Idx) :
    shapeCast S4096x22016 (extractStridedSlice S1x4096x22016 ![0, 0, 0] w slices_S2x4096x22016_S1x4096x22016_0_0_0) shapeCasts_S1x4096x22016_S4096x22016 i = w (ix3 0 (i 0) (i 1)) := by
  refine (shapeCast_dropUnit_apply (α := EReal) ![4096, 22016] _ _ _).trans ?_
  exact extractStridedSlice_apply _ _ _ _ (ix3 0 (i 0) (i 1) : S2x4096x22016.Idx)
    (fun a => by match a with | ⟨0, _⟩ => rfl | ⟨1, _⟩ => exact (Nat.zero_add _).symm | ⟨2, _⟩ => exact (Nat.zero_add _).symm)

theorem pd_apply (i : S4x2048x22016.Idx) : pd x w i = prod x w (i 0) (i 1) (i 2) := by
  unfold pd
  refine (Mm.rows_apply none _ _ i).trans (Finset.sum_congr rfl fun k _ => ?_)
  exact congrArg₂ (· * ·) rfl (weight_apply w _)

theorem bf_apply (i : S4x2050x22016.Idx) : bf x w i = hist x w (i 0) (i 1).val (i 2) := by
  have h1 : (i 1).val < 2050 := (i 1).isLt
  unfold bf
  by_cases h : (i 1).val < 2
  · refine (concatenate_pair_apply_left (s₁ := S4x2x22016) 1 _ _ _ i rfl (ix3 (i 0) ⟨(i 1).val, h⟩ (i 2) : S4x2x22016.Idx)
      (fun a => by match a with | ⟨0, _⟩ => rfl | ⟨1, _⟩ => rfl | ⟨2, _⟩ => rfl)).trans ?_
    exact Mm.ofBits_zero.trans (hist_zero h).symm
  · refine (concatenate_pair_apply_right (s₁ := S4x2x22016) (s₂ := S4x2048x22016) 1 _ _ _ i rfl rfl (ix3 (i 0) ⟨(i 1).val - 2, by omega⟩ (i 2) : S4x2048x22016.Idx)
      (fun a ha => by match a with | ⟨0, _⟩ => rfl | ⟨1, _⟩ => exact absurd rfl ha | ⟨2, _⟩ => rfl) (by show (i 1).val - 2 + 2 = (i 1).val; omega)).trans ?_
    exact (pd_apply x w _).trans (hist_row _ (by show (i 1).val = (i 1).val - 2 + 2; omega)).symm

/-- A row of filter weights, spread over the tokens. -/
theorem filt_apply (a : Fin 3) (off : Fin 2 → Nat) (h) (hoff : off = ![a.val, 0]) (i : S4x2048x22016.Idx) :
    broadcastInDim S4x2048x22016 ![0, 1, 2] bcast_S1x1x22016_S4x2048x22016_0_1_2 (broadcastInDim S1x1x22016 ![2] bcast_S22016_S1x1x22016_2
      (shapeCast S22016 (extractStridedSlice S1x22016 off (shapeCast S3x22016 (extractStridedSlice S1x3x22016 ![0, 0, 0] f slices_S2x3x22016_S1x3x22016_0_0_0) shapeCasts_S1x3x22016_S3x22016) h) shapeCasts_S1x22016_S22016)) i
      = f (ix3 0 a (i 2)) := by
  subst hoff
  refine (broadcastInDim_apply _ _ _ _ (ix3 0 0 (i 2) : S1x1x22016.Idx) (fun a => by match a with | ⟨0, _⟩ => rfl | ⟨1, _⟩ => rfl | ⟨2, _⟩ => rfl)).trans ?_
  refine (broadcastInDim_apply _ _ _ _ (ix1 (i 2) : S22016.Idx) (fun a => by match a with | ⟨0, _⟩ => rfl)).trans ?_
  refine (shapeCast_dropUnit_apply (α := EReal) ![22016] _ _ _).trans ?_
  refine (extractStridedSlice_apply _ _ _ _ (ix2 a (i 2) : S3x22016.Idx) (fun b => by match b with | ⟨0, _⟩ => exact (Nat.add_zero _).symm | ⟨1, _⟩ => exact (Nat.zero_add _).symm)).trans ?_
  refine (shapeCast_dropUnit_apply (α := EReal) ![3, 22016] _ _ _).trans ?_
  exact extractStridedSlice_apply _ _ _ _ (ix3 0 a (i 2) : S2x3x22016.Idx)
    (fun b => by match b with | ⟨0, _⟩ => rfl | ⟨1, _⟩ => exact (Nat.zero_add _).symm | ⟨2, _⟩ => exact (Nat.zero_add _).symm)

theorem bias_apply (i : S4x2048x22016.Idx) :
    broadcastInDim S4x2048x22016 ![0, 1, 2] bcast_S1x1x22016_S4x2048x22016_0_1_2 (broadcastInDim S1x1x22016 ![2] bcast_S22016_S1x1x22016_2
      (shapeCast S22016 (extractStridedSlice S1x22016 ![0, 0] s slices_S2x22016_S1x22016_0_0) shapeCasts_S1x22016_S22016)) i = s (ix2 0 (i 2)) := by
  refine (broadcastInDim_apply _ _ _ _ (ix3 0 0 (i 2) : S1x1x22016.Idx) (fun a => by match a with | ⟨0, _⟩ => rfl | ⟨1, _⟩ => rfl | ⟨2, _⟩ => rfl)).trans ?_
  refine (broadcastInDim_apply _ _ _ _ (ix1 (i 2) : S22016.Idx) (fun a => by match a with | ⟨0, _⟩ => rfl)).trans ?_
  refine (shapeCast_dropUnit_apply (α := EReal) ![22016] _ _ _).trans ?_
  exact extractStridedSlice_apply _ _ _ _ (ix2 0 (i 2) : S2x22016.Idx) (fun b => by match b with | ⟨0, _⟩ => rfl | ⟨1, _⟩ => exact (Nat.zero_add _).symm)

theorem shift_apply (a : ℕ) (ha : a < 3) (off : Fin 3 → Nat) (h) (hoff : off = ![0, a, 0]) (i : S4x2048x22016.Idx) :
    extractStridedSlice S4x2048x22016 off (bf x w) h i = hist x w (i 0) ((i 1).val + a) (i 2) := by
  subst hoff
  have h1 : (i 1).val < 2048 := (i 1).isLt
  refine (extractStridedSlice_apply _ _ _ _ (ix3 (i 0) ⟨(i 1).val + a, by omega⟩ (i 2) : S4x2050x22016.Idx)
    (fun b => by match b with | ⟨0, _⟩ => exact (Nat.zero_add _).symm | ⟨1, _⟩ => exact Nat.add_comm _ _ | ⟨2, _⟩ => exact (Nat.zero_add _).symm)).trans ?_
  exact bf_apply x w _

theorem cv_apply (i : S4x2048x22016.Idx) : cv x w f s i = conv x w f s (i 0) (i 1).val (i 2) := by
  unfold cv
  refine congrArg₂ (· + ·) (bias_apply s i) (congrArg₂ (· + ·) (congrArg₂ (· + ·) ?_ ?_) ?_)
  · refine (congrArg₂ (· + ·) Mm.ofBits_zero rfl).trans ((zero_add _).trans ?_)
    exact congrArg₂ (· * ·) (filt_apply f 0 _ _ rfl i) (shift_apply x w 0 (by omega) _ _ rfl i)
  · exact congrArg₂ (· * ·) (filt_apply f 1 _ _ rfl i) (shift_apply x w 1 (by omega) _ _ rfl i)
  · exact congrArg₂ (· * ·) (filt_apply f 2 _ _ rfl i) (shift_apply x w 2 (by omega) _ _ rfl i)

theorem half_lo (y : FVec Ideal S4x2048x22016 .f32) (i : S4x2048x11008.Idx) : extractStridedSlice S4x2048x11008 ![0, 0, 0] y slices_S4x2048x22016_S4x2048x11008_0_0_0 i = y (ix3 (i 0) (i 1) (lo (i 2))) :=
  extractStridedSlice_apply _ _ _ _ (ix3 (i 0) (i 1) (lo (i 2)) : S4x2048x22016.Idx)
    (fun b => by match b with | ⟨0, _⟩ => exact (Nat.zero_add _).symm | ⟨1, _⟩ => exact (Nat.zero_add _).symm | ⟨2, _⟩ => exact (Nat.zero_add _).symm)
theorem half_hi (y : FVec Ideal S4x2048x22016 .f32) (i : S4x2048x11008.Idx) : extractStridedSlice S4x2048x11008 ![0, 0, 11008] y slices_S4x2048x22016_S4x2048x11008_0_0_11008 i = y (ix3 (i 0) (i 1) (hi (i 2))) :=
  extractStridedSlice_apply _ _ _ _ (ix3 (i 0) (i 1) (hi (i 2)) : S4x2048x22016.Idx)
    (fun b => by match b with | ⟨0, _⟩ => exact (Nat.zero_add _).symm | ⟨1, _⟩ => exact (Nat.zero_add _).symm | ⟨2, _⟩ => exact Nat.add_comm _ _)

/-- The reference's activations. -/
theorem acts_eq (m : (ℓ : Loc nD τ sig) → Buf (Elt Ideal) ℓ) (c : Dev nD) :
    Value.res_main_v43 m c = acts (m ((c.tc : Thread nD τ).loc main_arg0)) (m ((c.tc : Thread nD τ).loc main_arg1)) (m ((c.tc : Thread nD τ).loc main_arg2)) (m ((c.tc : Thread nD τ).loc main_arg3)) := by
  generalize hx : m ((c.tc : Thread nD τ).loc main_arg0) = x
  generalize hw : m ((c.tc : Thread nD τ).loc main_arg1) = w
  generalize hf : m ((c.tc : Thread nD τ).loc main_arg2) = f
  generalize hs : m ((c.tc : Thread nD τ).loc main_arg3) = s
  have e : Value.res_main_v43 m c = truncf .bf16 (mulf (mulf (extractStridedSlice S4x2048x11008 ![0, 0, 11008] (cv x w f s) slices_S4x2048x22016_S4x2048x11008_0_0_11008)
      (Host.divf (broadcastInDim S4x2048x11008 ![] bcast_S_S4x2048x11008 (constant S_ .f32 0x3F800000#32))
        (addf (broadcastInDim S4x2048x11008 ![] bcast_S_S4x2048x11008 (constant S_ .f32 0x3F800000#32))
          (Host.exp (Host.negf (extractStridedSlice S4x2048x11008 ![0, 0, 11008] (cv x w f s) slices_S4x2048x22016_S4x2048x11008_0_0_11008))))))
      (extractStridedSlice S4x2048x11008 ![0, 0, 0] (cv x w f s) slices_S4x2048x22016_S4x2048x11008_0_0_0)) bitsLt_bf16_f32 := by
    subst hx hw hf hs
    rfl
  rw [e]
  funext i
  have hg := (half_hi (cv x w f s) i).trans (cv_apply x w f s _)
  have ha := (half_lo (cv x w f s) i).trans (cv_apply x w f s _)
  have h1 : Ideal.ofBits .f32 0x3F800000#32 = 1 := Ideal.ofBits_one_f32
  refine congrArg₂ (· * ·) (congrArg₂ (· * ·) hg ?_) ha
  exact congrArg₂ Ideal.div h1 (congrArg₂ (· + ·) h1 (congrArg (fun z : EReal => Ideal.exp (-z)) hg))

theorem tail_apply (i : S4x2x8x22016.Idx) :
    extractStridedSlice S4x2x8x22016 ![0, 0, 1016, 0] (shapeCast S4x2x1024x22016 (pd x w) shapeCasts_S4x2048x22016_S4x2x1024x22016) slices_S4x2x1024x22016_S4x2x8x22016_0_0_1016_0 i
      = prod x w (i 0) (last (i 1) (i 2)) (i 3) := by
  have h2 : (i 2).val < 8 := (i 2).isLt
  refine (extractStridedSlice_apply _ _ _ _ (ix4 (i 0) (i 1) ⟨1016 + (i 2).val, by omega⟩ (i 3) : S4x2x1024x22016.Idx)
    (fun b => by match b with | ⟨0, _⟩ => exact (Nat.zero_add _).symm | ⟨1, _⟩ => exact (Nat.zero_add _).symm | ⟨2, _⟩ => rfl | ⟨3, _⟩ => exact (Nat.zero_add _).symm)).trans ?_
  refine (shapeCast_apply (s := S4x2048x22016) (t := S4x2x1024x22016) _ _ _ (ix3 (i 0) (last (i 1) (i 2)) (i 3) : S4x2048x22016.Idx) ?_).trans (pd_apply x w _)
  rw [Shape.rowMajor_val_three, Shape.rowMajor_val_four]
  show ((i 0).val * 2048 + (1024 * (i 1).val + (1016 + (i 2).val))) * 22016 + (i 3).val = (((i 0).val * 2 + (i 1).val) * 1024 + (1016 + (i 2).val)) * 22016 + (i 3).val
  omega

theorem tails_lo : extractStridedSlice S4x2x8x11008 ![0, 0, 0, 0] (extractStridedSlice S4x2x8x22016 ![0, 0, 1016, 0] (shapeCast S4x2x1024x22016 (pd x w) shapeCasts_S4x2048x22016_S4x2x1024x22016) slices_S4x2x1024x22016_S4x2x8x22016_0_0_1016_0) slices_S4x2x8x22016_S4x2x8x11008_0_0_0_0
    = tails lo x w := by
  funext i
  refine (extractStridedSlice_apply _ _ _ _ (ix4 (i 0) (i 1) (i 2) (lo (i 3)) : S4x2x8x22016.Idx)
    (fun b => by match b with | ⟨0, _⟩ => exact (Nat.zero_add _).symm | ⟨1, _⟩ => exact (Nat.zero_add _).symm | ⟨2, _⟩ => exact (Nat.zero_add _).symm | ⟨3, _⟩ => exact (Nat.zero_add _).symm)).trans ?_
  exact tail_apply x w _
theorem tails_hi : extractStridedSlice S4x2x8x11008 ![0, 0, 0, 11008] (extractStridedSlice S4x2x8x22016 ![0, 0, 1016, 0] (shapeCast S4x2x1024x22016 (pd x w) shapeCasts_S4x2048x22016_S4x2x1024x22016) slices_S4x2x1024x22016_S4x2x8x22016_0_0_1016_0) slices_S4x2x8x22016_S4x2x8x11008_0_0_0_11008
    = tails hi x w := by
  funext i
  refine (extractStridedSlice_apply _ _ _ _ (ix4 (i 0) (i 1) (i 2) (hi (i 3)) : S4x2x8x22016.Idx)
    (fun b => by match b with | ⟨0, _⟩ => exact (Nat.zero_add _).symm | ⟨1, _⟩ => exact (Nat.zero_add _).symm | ⟨2, _⟩ => exact (Nat.zero_add _).symm | ⟨3, _⟩ => exact Nat.add_comm _ _)).trans ?_
  exact tail_apply x w _

theorem cols_lo : extractStridedSlice S4096x11008 ![0, 0] (shapeCast S4096x22016 (extractStridedSlice S1x4096x22016 ![0, 0, 0] w slices_S2x4096x22016_S1x4096x22016_0_0_0) shapeCasts_S1x4096x22016_S4096x22016) slices_S4096x22016_S4096x11008_0_0
    = cols lo w := by
  funext i
  refine (extractStridedSlice_apply _ _ _ _ (ix2 (i 0) (lo (i 1)) : S4096x22016.Idx) (fun b => by match b with | ⟨0, _⟩ => exact (Nat.zero_add _).symm | ⟨1, _⟩ => exact (Nat.zero_add _).symm)).trans ?_
  exact weight_apply w _
theorem cols_hi : extractStridedSlice S4096x11008 ![0, 11008] (shapeCast S4096x22016 (extractStridedSlice S1x4096x22016 ![0, 0, 0] w slices_S2x4096x22016_S1x4096x22016_0_0_0) shapeCasts_S1x4096x22016_S4096x22016) slices_S4096x22016_S4096x11008_0_11008
    = cols hi w := by
  funext i
  refine (extractStridedSlice_apply _ _ _ _ (ix2 (i 0) (hi (i 1)) : S4096x22016.Idx) (fun b => by match b with | ⟨0, _⟩ => exact (Nat.zero_add _).symm | ⟨1, _⟩ => exact Nat.add_comm _ _)).trans ?_
  exact weight_apply w _

end Cert.Proof.UpRef

/-! ## The kernel -/

namespace Cert.Proof.Up

open Cert.UpIdeal Cert.UpIdeal.Gen

/-! ### The body on blocks -/

section Body

variable (x : S1x1024x4096.Idx → EReal) (w : S1x4096x256.Idx → EReal) (t : S1x8x256.Idx → EReal)

/-- The product of two blocks. -/
abbrev blkProd (r : Fin 1024) (q : Fin 256) : EReal := ∑ k : Fin 4096, x (ix3 0 r k) * w (ix3 0 k q)

/-- The product's rows with the eight rows of a tail before them. -/
def ext (n : ℕ) (q : Fin 256) : EReal :=
  if h : n < 8 then t (ix3 0 ⟨n, h⟩ q) else if h' : n < 1032 then blkProd x w ⟨n - 8, by omega⟩ q else 0

theorem pay8_apply (j : S1024x256.Idx) : k0_pay8 (F := Ideal) x w j = blkProd x w (j 0) (j 1) := by
  unfold k0_pay8
  refine (Mm.plain_apply none _ _ _).trans (Finset.sum_congr rfl fun k _ => congrArg₂ (· * ·) ?_ ?_)
  · exact (shapeCast_dropUnit_apply (α := EReal) ![1024, 4096] _ _ _).trans (congrArg x (eq_ix3 _))
  · exact (shapeCast_dropUnit_apply (α := EReal) ![4096, 256] _ _ _).trans (congrArg w (eq_ix3 _))

theorem pay9_apply (j : S1032x256.Idx) : k0_pay9 (F := Ideal) x w t j = ext x w t (j 0).val (j 1) := by
  have h1 : (j 0).val < 1032 := (j 0).isLt
  unfold k0_pay9 ext
  by_cases h : (j 0).val < 8
  · rw [dif_pos h]
    refine (concatenate_pair_apply_left (s₁ := S8x256) 0 _ _ _ j rfl (ix2 ⟨(j 0).val, h⟩ (j 1) : S8x256.Idx) (fun a => by match a with | ⟨0, _⟩ => rfl | ⟨1, _⟩ => rfl)).trans ?_
    exact (shapeCast_dropUnit_apply (α := EReal) ![8, 256] _ _ _).trans (congrArg t (eq_ix3 _))
  · rw [dif_neg h, dif_pos h1]
    refine (concatenate_pair_apply_right (s₁ := S8x256) (s₂ := S1024x256) 0 _ _ _ j rfl rfl (ix2 ⟨(j 0).val - 8, by omega⟩ (j 1) : S1024x256.Idx)
      (fun a ha => by match a with | ⟨0, _⟩ => exact absurd rfl ha | ⟨1, _⟩ => rfl) (by show (j 0).val - 8 + 8 = (j 0).val; omega)).trans ?_
    exact pay8_apply x w _

theorem pay10_apply (j : S8x256.Idx) : k0_pay10 (F := Ideal) x w t j = blkProd x w ⟨1016 + (j 0).val, by have : (j 0).val < 8 := (j 0).isLt; omega⟩ (j 1) := by
  have h0 : (j 0).val < 8 := (j 0).isLt
  unfold k0_pay10
  refine (extractStridedSlice_apply _ _ _ _ (ix2 ⟨1024 + (j 0).val, by omega⟩ (j 1) : S1032x256.Idx) (fun b => by match b with | ⟨0, _⟩ => rfl | ⟨1, _⟩ => exact (Nat.zero_add _).symm)).trans ?_
  refine (pay9_apply x w t _).trans ((dif_neg (by show ¬ 1024 + (j 0).val < 8; omega)).trans ((dif_pos (by show 1024 + (j 0).val < 1032; omega)).trans ?_))
  exact congrArg (fun r => blkProd x w r (j 1)) (Fin.ext (by show 1024 + (j 0).val - 8 = 1016 + (j 0).val; omega))

theorem pay13_apply (j : S1024x256.Idx) : k0_pay13 (F := Ideal) x w t j = ext x w t ((j 0).val + 7) (j 1) := by
  have h0 : (j 0).val < 1024 := (j 0).isLt
  unfold k0_pay13
  refine (extractStridedSlice_apply _ _ _ _ (ix2 ⟨8 + (j 0).val, by omega⟩ (j 1) : S1032x256.Idx) (fun b => by match b with | ⟨0, _⟩ => rfl | ⟨1, _⟩ => exact (Nat.zero_add _).symm)).trans ?_
  refine (dynamicRotate_apply 0 1#32 _ _ _ (ix2 ⟨(j 0).val + 7, by omega⟩ (j 1) : S1032x256.Idx) (fun b => ?_)).trans (pay9_apply x w t _)
  match b with
  | ⟨0, _⟩ => refine Eq.trans ?_ (if_pos rfl).symm; show (j 0).val + 7 = (8 + (j 0).val + 1032 - 1 % 1032) % 1032; omega
  | ⟨1, _⟩ => rfl

theorem pay14_apply (j : S1024x256.Idx) : k0_pay14 (F := Ideal) x w t j = ext x w t ((j 0).val + 6) (j 1) := by
  have h0 : (j 0).val < 1024 := (j 0).isLt
  unfold k0_pay14
  refine (extractStridedSlice_apply _ _ _ _ (ix2 ⟨8 + (j 0).val, by omega⟩ (j 1) : S1032x256.Idx) (fun b => by match b with | ⟨0, _⟩ => rfl | ⟨1, _⟩ => exact (Nat.zero_add _).symm)).trans ?_
  refine (dynamicRotate_apply 0 2#32 _ _ _ (ix2 ⟨(j 0).val + 6, by omega⟩ (j 1) : S1032x256.Idx) (fun b => ?_)).trans (pay9_apply x w t _)
  match b with
  | ⟨0, _⟩ => refine Eq.trans ?_ (if_pos rfl).symm; show (j 0).val + 6 = (8 + (j 0).val + 1032 - 2 % 1032) % 1032; omega
  | ⟨1, _⟩ => rfl

theorem ext_eight {n : ℕ} (r : Fin 1024) (h : n = r.val + 8) (q : Fin 256) : ext x w t n q = blkProd x w r q := by
  subst h
  refine (dif_neg (by omega)).trans ((dif_pos (by omega)).trans ?_)
  exact congrArg (fun r => blkProd x w r q) (Fin.ext (by show r.val + 8 - 8 = r.val; omega))

/-- A filter row spread over the block's rows. -/
theorem frow (f : S1x3x256.Idx → EReal) (a : Fin 3) (off : Fin 2 → Nat) (h) (hoff : off = ![a.val, 0]) (j : S1024x256.Idx) :
    broadcastTo S1024x256 (extractStridedSlice S1x256 off (shapeCast S3x256 f shapeCasts_S1x3x256_S3x256) h) broadcasts_S1x256_S1024x256 j = f (ix3 0 a (j 1)) := by
  subst hoff
  refine (broadcastTo_apply _ _ _ (ix2 0 (j 1) : S1x256.Idx) (fun a => by match a with | ⟨0, _⟩ => rfl | ⟨1, _⟩ => rfl)).trans ?_
  refine (extractStridedSlice_apply _ _ _ _ (ix2 a (j 1) : S3x256.Idx) (fun b => by match b with | ⟨0, _⟩ => exact (Nat.add_zero _).symm | ⟨1, _⟩ => exact (Nat.zero_add _).symm)).trans ?_
  exact (shapeCast_dropUnit_apply (α := EReal) ![3, 256] _ _ _).trans (congrArg f (eq_ix3 _))

theorem pay15_apply (f : S1x3x256.Idx → EReal) (s : S1x1x256.Idx → EReal) (j : S1024x256.Idx) :
    k0_pay15 (F := Ideal) (k0_pay8 x w) (k0_pay13 x w t) (k0_pay14 x w t) f s j
      = s (ix3 0 0 (j 1)) + (f (ix3 0 0 (j 1)) * ext x w t ((j 0).val + 6) (j 1) + f (ix3 0 1 (j 1)) * ext x w t ((j 0).val + 7) (j 1)
        + f (ix3 0 2 (j 1)) * ext x w t ((j 0).val + 8) (j 1)) := by
  unfold k0_pay15
  refine congrArg₂ (· + ·) ?_ (congrArg₂ (· + ·) (congrArg₂ (· + ·) ?_ ?_) ?_)
  · refine (broadcastTo_apply _ _ _ (ix2 0 (j 1) : S1x256.Idx) (fun a => by match a with | ⟨0, _⟩ => rfl | ⟨1, _⟩ => rfl)).trans ?_
    exact (shapeCast_dropUnit_apply (α := EReal) ![1, 256] _ _ _).trans (congrArg s (eq_ix3 _))
  · exact congrArg₂ (· * ·) (frow f 0 _ _ rfl j) (pay14_apply x w t j)
  · exact congrArg₂ (· * ·) (frow f 1 _ _ rfl j) (pay13_apply x w t j)
  · exact congrArg₂ (· * ·) (frow f 2 _ _ rfl j) ((pay8_apply x w j).trans (ext_eight x w t _ rfl _).symm)

end Body

variable (m : (ℓ : Loc nD τ sig) → Buf (Elt Ideal) ℓ) (ρ : Dev nD → PrngReg)

abbrev X (c : Dev nD) : S4x2048x4096.Idx → EReal := m ((c : Thread nD τ).loc main_arg0)
abbrev W (c : Dev nD) : S2x4096x22016.Idx → EReal := m ((c : Thread nD τ).loc main_arg1)
abbrev C (c : Dev nD) : S2x3x22016.Idx → EReal := m ((c : Thread nD τ).loc main_arg2)
abbrev B (c : Dev nD) : S2x22016.Idx → EReal := m ((c : Thread nD τ).loc main_arg3)

/-! ### The blocks of a point -/

/-- How the windows move over the grid: columns outermost, then sequences, then the halves of a sequence. -/
theorem idx : ∀ t : Fin cfg0.N, win0_0.index t = ![t.val % 8 / 2, t.val % 2, 0] ∧ win0_1.index t = ![0, 0, t.val / 8] ∧ win0_2.index t = ![0, 0, t.val / 8 + 43]
    ∧ win0_3.index t = ![0, 0, t.val / 8] ∧ win0_4.index t = ![0, 0, t.val / 8 + 43] ∧ win0_5.index t = ![0, 0, t.val / 8] ∧ win0_6.index t = ![0, 0, t.val / 8 + 43] :=
  (by decide +kernel : ∀ t : Fin grid0.N, win0_0.index t = ![t.val % 8 / 2, t.val % 2, 0] ∧ win0_1.index t = ![0, 0, t.val / 8] ∧ win0_2.index t = ![0, 0, t.val / 8 + 43]
    ∧ win0_3.index t = ![0, 0, t.val / 8] ∧ win0_4.index t = ![0, 0, t.val / 8 + 43] ∧ win0_5.index t = ![0, 0, t.val / 8] ∧ win0_6.index t = ![0, 0, t.val / 8 + 43])

theorem odx : ∀ t : Fin cfg0.N, win0_7.index t = ![t.val % 8 / 2, t.val % 2, t.val / 8] ∧ win0_8.index t = ![t.val % 8 / 2, t.val % 2, 0, t.val / 8]
    ∧ win0_9.index t = ![t.val % 8 / 2, t.val % 2, 0, t.val / 8] ∧ win0_10.index t = ![0, t.val / 8] ∧ win0_11.index t = ![0, t.val / 8] :=
  (by decide +kernel : ∀ t : Fin grid0.N, win0_7.index t = ![t.val % 8 / 2, t.val % 2, t.val / 8] ∧ win0_8.index t = ![t.val % 8 / 2, t.val % 2, 0, t.val / 8]
    ∧ win0_9.index t = ![t.val % 8 / 2, t.val % 2, 0, t.val / 8] ∧ win0_10.index t = ![0, t.val / 8] ∧ win0_11.index t = ![0, t.val / 8])

/-- The sequence, row and column of a point's block entries. -/
abbrev seq (t : Fin cfg0.N) : Fin 4 := ⟨t.val % 8 / 2, by omega⟩
abbrev row (t : Fin cfg0.N) (r : Fin 1024) : Fin 2048 := ⟨1024 * (t.val % 2) + r.val, by omega⟩
abbrev col (t : Fin cfg0.N) (q : Fin 256) : Fin 11008 := ⟨256 * (t.val / 8) + q.val, by have := _root_.Up.lt_N t; omega⟩

theorem bh_apply (c : Dev nD) (t : Fin cfg0.N) (r : Fin 1024) (k : Fin 4096) : _root_.Up.bh m c t (ix3 0 r k : S1x1024x4096.Idx) = X m c (ix3 (seq t) (row t r) k) := by
  show V m c main_arg0 ((win0_0.rect t).emb (ix3 0 r k : S1x1024x4096.Idx)) = _
  rw [V_main_arg0]
  have v (a) := Pipeline.Window.rect_emb_val win0_0 t (ix3 0 r k : S1x1024x4096.Idx) a
  rw [(idx t).1] at v
  refine congrArg (m ((c : Thread nD τ).loc main_arg0)) ?_
  funext a; apply Fin.ext
  match a with
  | ⟨0, _⟩ => exact (v 0).trans (by show t.val % 8 / 2 * 1 + 0 = t.val % 8 / 2; omega)
  | ⟨1, _⟩ => exact (v 1).trans (by show t.val % 2 * 1024 + r.val = 1024 * (t.val % 2) + r.val; omega)
  | ⟨2, _⟩ => exact (v 2).trans (by show 0 * 4096 + k.val = k.val; omega)

theorem bwa_apply (c : Dev nD) (t : Fin cfg0.N) (k : Fin 4096) (q : Fin 256) : _root_.Up.bwa m c t (ix3 0 k q : S1x4096x256.Idx) = W m c (ix3 0 k (lo (col t q))) := by
  show V m c main_arg1 ((win0_1.rect t).emb (ix3 0 k q : S1x4096x256.Idx)) = _
  rw [V_main_arg1]
  have v (a) := Pipeline.Window.rect_emb_val win0_1 t (ix3 0 k q : S1x4096x256.Idx) a
  rw [(idx t).2.1] at v
  refine congrArg (m ((c : Thread nD τ).loc main_arg1)) ?_
  funext a; apply Fin.ext
  match a with
  | ⟨0, _⟩ => exact (v 0).trans (by show 0 * 1 + 0 = 0; rfl)
  | ⟨1, _⟩ => exact (v 1).trans (by show 0 * 4096 + k.val = k.val; omega)
  | ⟨2, _⟩ => exact (v 2).trans (by show t.val / 8 * 256 + q.val = 256 * (t.val / 8) + q.val; omega)

theorem bwg_apply (c : Dev nD) (t : Fin cfg0.N) (k : Fin 4096) (q : Fin 256) : _root_.Up.bwg m c t (ix3 0 k q : S1x4096x256.Idx) = W m c (ix3 0 k (hi (col t q))) := by
  show V m c main_arg1 ((win0_2.rect t).emb (ix3 0 k q : S1x4096x256.Idx)) = _
  rw [V_main_arg1]
  have v (a) := Pipeline.Window.rect_emb_val win0_2 t (ix3 0 k q : S1x4096x256.Idx) a
  rw [(idx t).2.2.1] at v
  refine congrArg (m ((c : Thread nD τ).loc main_arg1)) ?_
  funext a; apply Fin.ext
  match a with
  | ⟨0, _⟩ => exact (v 0).trans (by show 0 * 1 + 0 = 0; rfl)
  | ⟨1, _⟩ => exact (v 1).trans (by show 0 * 4096 + k.val = k.val; omega)
  | ⟨2, _⟩ => exact (v 2).trans (by show (t.val / 8 + 43) * 256 + q.val = 256 * (t.val / 8) + q.val + 11008; omega)

theorem bca_apply (c : Dev nD) (t : Fin cfg0.N) (k : Fin 3) (q : Fin 256) : _root_.Up.bca m c t (ix3 0 k q : S1x3x256.Idx) = C m c (ix3 0 k (lo (col t q))) := by
  show V m c main_arg2 ((win0_3.rect t).emb (ix3 0 k q : S1x3x256.Idx)) = _
  rw [V_main_arg2]
  have v (a) := Pipeline.Window.rect_emb_val win0_3 t (ix3 0 k q : S1x3x256.Idx) a
  rw [(idx t).2.2.2.1] at v
  refine congrArg (m ((c : Thread nD τ).loc main_arg2)) ?_
  funext a; apply Fin.ext
  match a with
  | ⟨0, _⟩ => exact (v 0).trans (by show 0 * 1 + 0 = 0; rfl)
  | ⟨1, _⟩ => exact (v 1).trans (by show 0 * 3 + k.val = k.val; omega)
  | ⟨2, _⟩ => exact (v 2).trans (by show t.val / 8 * 256 + q.val = 256 * (t.val / 8) + q.val; omega)

theorem bcg_apply (c : Dev nD) (t : Fin cfg0.N) (k : Fin 3) (q : Fin 256) : _root_.Up.bcg m c t (ix3 0 k q : S1x3x256.Idx) = C m c (ix3 0 k (hi (col t q))) := by
  show V m c main_arg2 ((win0_4.rect t).emb (ix3 0 k q : S1x3x256.Idx)) = _
  rw [V_main_arg2]
  have v (a) := Pipeline.Window.rect_emb_val win0_4 t (ix3 0 k q : S1x3x256.Idx) a
  rw [(idx t).2.2.2.2.1] at v
  refine congrArg (m ((c : Thread nD τ).loc main_arg2)) ?_
  funext a; apply Fin.ext
  match a with
  | ⟨0, _⟩ => exact (v 0).trans (by show 0 * 1 + 0 = 0; rfl)
  | ⟨1, _⟩ => exact (v 1).trans (by show 0 * 3 + k.val = k.val; omega)
  | ⟨2, _⟩ => exact (v 2).trans (by show (t.val / 8 + 43) * 256 + q.val = 256 * (t.val / 8) + q.val + 11008; omega)

/-- The biases as the call takes them: one row for each layer. -/
theorem bias (c : Dev nD) : V m c main_v0 = shapeCast S2x1x22016 (m ((c : Thread nD τ).loc main_arg3)) shapeCasts_S2x22016_S2x1x22016 := by
  show StableHlo.after hostOps0 _ _ = _
  after_results <;> rfl

theorem bias_apply (c : Dev nD) (i : S2x1x22016.Idx) : V m c main_v0 i = B m c (ix2 (i 0) (i 2)) := by
  rw [bias]
  refine shapeCast_apply (s := S2x22016) (t := S2x1x22016) _ _ _ _ ?_
  rw [Shape.rowMajor_val_two, Shape.rowMajor_val_three]
  have h1 : (i 1).val < 1 := (i 1).isLt
  show (i 0).val * 22016 + (i 2).val = ((i 0).val * 1 + (i 1).val) * 22016 + (i 2).val
  omega

theorem bba_apply (c : Dev nD) (t : Fin cfg0.N) (q : Fin 256) : _root_.Up.bba m c t (ix3 0 0 q : S1x1x256.Idx) = B m c (ix2 0 (lo (col t q))) := by
  show V m c main_v0 ((win0_5.rect t).emb (ix3 0 0 q : S1x1x256.Idx)) = _
  refine (bias_apply m c _).trans (congrArg (B m c) ?_)
  have v (a) := Pipeline.Window.rect_emb_val win0_5 t (ix3 0 0 q : S1x1x256.Idx) a
  rw [(idx t).2.2.2.2.2.1] at v
  funext a; apply Fin.ext
  match a with
  | ⟨0, _⟩ => exact (v 0).trans (by show 0 * 1 + 0 = 0; rfl)
  | ⟨1, _⟩ => exact (v 2).trans (by show t.val / 8 * 256 + q.val = 256 * (t.val / 8) + q.val; omega)

theorem bbg_apply (c : Dev nD) (t : Fin cfg0.N) (q : Fin 256) : _root_.Up.bbg m c t (ix3 0 0 q : S1x1x256.Idx) = B m c (ix2 0 (hi (col t q))) := by
  show V m c main_v0 ((win0_6.rect t).emb (ix3 0 0 q : S1x1x256.Idx)) = _
  refine (bias_apply m c _).trans (congrArg (B m c) ?_)
  have v (a) := Pipeline.Window.rect_emb_val win0_6 t (ix3 0 0 q : S1x1x256.Idx) a
  rw [(idx t).2.2.2.2.2.2] at v
  funext a; apply Fin.ext
  match a with
  | ⟨0, _⟩ => exact (v 0).trans (by show 0 * 1 + 0 = 0; rfl)
  | ⟨1, _⟩ => exact (v 2).trans (by show (t.val / 8 + 43) * 256 + q.val = 256 * (t.val / 8) + q.val + 11008; omega)

theorem col_bs (t : Fin cfg0.N) (q : Fin 256) : col (_root_.Up.bs t) q = col t q :=
  Fin.ext (by show 256 * (8 * (t.val / 8) / 8) + q.val = 256 * (t.val / 8) + q.val; omega)

/-! ### The rounded weights -/

theorem o10_apply (c : Dev nD) (t : Fin cfg0.N) (j : S4096x256.Idx) : _root_.Up.o10 m c t j = W m c (ix3 0 (j 0) (lo (col t (j 1)))) := by
  show shapeCast S4096x256 (_root_.Up.bwa m c (_root_.Up.bs t)) shapeCasts_S1x4096x256_S4096x256 j = _
  refine (shapeCast_dropUnit_apply (α := EReal) ![4096, 256] _ _ _).trans ?_
  exact (congrArg (_root_.Up.bwa m c (_root_.Up.bs t)) (eq_ix3 _)).trans ((bwa_apply m c _ (j 0) (j 1)).trans (congrArg (fun q => W m c (ix3 0 (j 0) (lo q))) (col_bs t (j 1))))

theorem o11_apply (c : Dev nD) (t : Fin cfg0.N) (j : S4096x256.Idx) : _root_.Up.o11 m c t j = W m c (ix3 0 (j 0) (hi (col t (j 1)))) := by
  show shapeCast S4096x256 (_root_.Up.bwg m c (_root_.Up.bs t)) shapeCasts_S1x4096x256_S4096x256 j = _
  refine (shapeCast_dropUnit_apply (α := EReal) ![4096, 256] _ _ _).trans ?_
  exact (congrArg (_root_.Up.bwg m c (_root_.Up.bs t)) (eq_ix3 _)).trans ((bwg_apply m c _ (j 0) (j 1)).trans (congrArg (fun q => W m c (ix3 0 (j 0) (hi q))) (col_bs t (j 1))))

theorem wa_apply (c : Dev nD) (t : Fin cfg0.N) (k : Fin 4096) (q : Fin 256) : _root_.Up.wa m c t (ix3 0 k q : S1x4096x256.Idx) = W m c (ix3 0 k (lo (col t q))) := by
  unfold _root_.Up.wa k0_pay3
  exact (shapeCast_addUnit_apply (α := EReal) ![4096, 256] _ _ _).trans (o10_apply m c t (ix2 k q))

theorem wg_apply (c : Dev nD) (t : Fin cfg0.N) (k : Fin 4096) (q : Fin 256) : _root_.Up.wg m c t (ix3 0 k q : S1x4096x256.Idx) = W m c (ix3 0 k (hi (col t q))) := by
  unfold _root_.Up.wg k0_pay5
  exact (shapeCast_addUnit_apply (α := EReal) ![4096, 256] _ _ _).trans (o11_apply m c t (ix2 k q))

/-! ### One half of the columns -/

section Half

variable (e : Fin 11008 → Fin 22016) (c : Dev nD) (t : Fin cfg0.N) (w : S1x4096x256.Idx → EReal) (tl z : S1x8x256.Idx → EReal)

theorem blkProd_eq (hw : ∀ k q, w (ix3 0 k q) = W m c (ix3 0 k (e (col t q)))) (u : Fin cfg0.N) (r : Fin 1024) (q : Fin 256) :
    blkProd (_root_.Up.bh m c u) w r q = prod (X m c) (W m c) (seq u) (row u r) (e (col t q)) :=
  Finset.sum_congr rfl fun k _ => congrArg₂ (· * ·) (bh_apply m c u r k) (hw k q)

/-- The last rows of the point before are the rows right before the point's own. -/
theorem tail_eq (hw : ∀ k q, w (ix3 0 k q) = W m c (ix3 0 k (e (col t q)))) (hz : ∀ i, z i = 0)
    (htl : tl = if t.val % 2 = 0 then z else k0_pay11 (F := Ideal) (_root_.Up.bh m c (_root_.Up.pv t)) w z) (n : Fin 8) (hn : 6 ≤ n.val) (q : Fin 256) :
    tl (ix3 0 n q) = hist (X m c) (W m c) (seq t) (1024 * (t.val % 2) + n.val - 6) (e (col t q)) := by
  subst htl
  by_cases h : t.val % 2 = 0
  · rw [if_pos h]
    exact (hz _).trans (hist_zero (by omega)).symm
  · rw [if_neg h]
    have hp : (_root_.Up.pv t).val = t.val - 1 := rfl
    have hs : seq (_root_.Up.pv t) = seq t := Fin.ext (by show (t.val - 1) % 8 / 2 = t.val % 8 / 2; omega)
    unfold k0_pay11
    refine (shapeCast_addUnit_apply (α := EReal) ![8, 256] _ _ _).trans ((pay10_apply _ _ _ _).trans ((blkProd_eq m e c t w hw _ _ _).trans ?_))
    rw [hs]
    refine (hist_row _ ?_).symm
    show 1024 * (t.val % 2) + n.val - 6 = 1024 * ((t.val - 1) % 2) + (1016 + n.val) + 2
    omega

theorem ext_eq (hw : ∀ k q, w (ix3 0 k q) = W m c (ix3 0 k (e (col t q))))
    (ht : ∀ (n : Fin 8), 6 ≤ n.val → ∀ q, tl (ix3 0 n q) = hist (X m c) (W m c) (seq t) (1024 * (t.val % 2) + n.val - 6) (e (col t q)))
    (n : ℕ) (h6 : 6 ≤ n) (hn : n < 1032) (q : Fin 256) :
    ext (_root_.Up.bh m c t) w tl n q = hist (X m c) (W m c) (seq t) (1024 * (t.val % 2) + n - 6) (e (col t q)) := by
  by_cases h : n < 8
  · exact (dif_pos h).trans (ht ⟨n, h⟩ h6 q)
  · refine (ext_eight _ _ _ ⟨n - 8, by omega⟩ (by show n = n - 8 + 8; omega) q).trans ((blkProd_eq m e c t w hw _ _ _).trans (hist_row _ ?_).symm)
    show 1024 * (t.val % 2) + n - 6 = 1024 * (t.val % 2) + (n - 8) + 2
    omega

theorem conv_eq (hw : ∀ k q, w (ix3 0 k q) = W m c (ix3 0 k (e (col t q))))
    (ht : ∀ (n : Fin 8), 6 ≤ n.val → ∀ q, tl (ix3 0 n q) = hist (X m c) (W m c) (seq t) (1024 * (t.val % 2) + n.val - 6) (e (col t q)))
    (f : S1x3x256.Idx → EReal) (s : S1x1x256.Idx → EReal) (hf : ∀ k q, f (ix3 0 k q) = C m c (ix3 0 k (e (col t q)))) (hs : ∀ q, s (ix3 0 0 q) = B m c (ix2 0 (e (col t q))))
    (j : S1024x256.Idx) :
    k0_pay15 (F := Ideal) (k0_pay8 (_root_.Up.bh m c t) w) (k0_pay13 (_root_.Up.bh m c t) w tl) (k0_pay14 (_root_.Up.bh m c t) w tl) f s j
      = conv (X m c) (W m c) (C m c) (B m c) (seq t) (row t (j 0)).val (e (col t (j 1))) := by
  have h0 : (j 0).val < 1024 := (j 0).isLt
  have hh (a : ℕ) (ha : a < 3) : ext (_root_.Up.bh m c t) w tl ((j 0).val + (6 + a)) (j 1) = hist (X m c) (W m c) (seq t) ((row t (j 0)).val + a) (e (col t (j 1))) := by
    refine (ext_eq m e c t w tl hw ht _ (by omega) (by omega) _).trans ?_
    exact congrArg (fun n => hist (X m c) (W m c) (seq t) n (e (col t (j 1)))) (by show 1024 * (t.val % 2) + ((j 0).val + (6 + a)) - 6 = 1024 * (t.val % 2) + (j 0).val + a; omega)
  refine (pay15_apply _ _ _ _ _ _).trans (congrArg₂ (· + ·) (hs _) (congrArg₂ (· + ·) (congrArg₂ (· + ·) ?_ ?_) ?_))
  · exact congrArg₂ (· * ·) (hf 0 _) (hh 0 (by omega))
  · exact congrArg₂ (· * ·) (hf 1 _) (hh 1 (by omega))
  · exact congrArg₂ (· * ·) (hf 2 _) (hh 2 (by omega))

end Half

/-! ### What a point leaves -/

theorem z0_apply (i : S1x8x256.Idx) : _root_.Up.z0 (F := Ideal) i = 0 := Mm.ofBits_zero
theorem z1_apply (i : S1x8x256.Idx) : _root_.Up.z1 (F := Ideal) i = 0 := Mm.ofBits_zero

theorem ta_apply (c : Dev nD) (t : Fin cfg0.N) (n : Fin 8) (hn : 6 ≤ n.val) (q : Fin 256) :
    _root_.Up.ta m c t (ix3 0 n q : S1x8x256.Idx) = hist (X m c) (W m c) (seq t) (1024 * (t.val % 2) + n.val - 6) (lo (col t q)) :=
  tail_eq m lo c t (_root_.Up.wa m c t) _ (_root_.Up.z0 (F := Ideal)) (wa_apply m c t) z0_apply rfl n hn q
theorem tg_apply (c : Dev nD) (t : Fin cfg0.N) (n : Fin 8) (hn : 6 ≤ n.val) (q : Fin 256) :
    _root_.Up.tg m c t (ix3 0 n q : S1x8x256.Idx) = hist (X m c) (W m c) (seq t) (1024 * (t.val % 2) + n.val - 6) (hi (col t q)) :=
  tail_eq m hi c t (_root_.Up.wg m c t) _ (_root_.Up.z1 (F := Ideal)) (wg_apply m c t) z1_apply rfl n hn q

theorem o7_apply (c : Dev nD) (t : Fin cfg0.N) (j : S1x1024x256.Idx) :
    _root_.Up.o7 m c t j = acts (X m c) (W m c) (C m c) (B m c) (ix3 (seq t) (row t (j 1)) (col t (j 2))) := by
  unfold _root_.Up.o7 _root_.Up.act k0_pay1
  refine (shapeCast_addUnit_apply (α := EReal) ![1024, 256] _ _ j).trans ?_
  have hg := conv_eq m hi c t (_root_.Up.wg m c t) (_root_.Up.tg m c t) (wg_apply m c t) (tg_apply m c t) (_root_.Up.bcg m c t) (_root_.Up.bbg m c t) (bcg_apply m c t) (bbg_apply m c t) (fun a => j a.succ)
  have ha := conv_eq m lo c t (_root_.Up.wa m c t) (_root_.Up.ta m c t) (wa_apply m c t) (ta_apply m c t) (_root_.Up.bca m c t) (_root_.Up.bba m c t) (bca_apply m c t) (bba_apply m c t) (fun a => j a.succ)
  exact congrArg₂ (· * ·) (congrArg₂ (· * ·) hg (congrArg Ideal.logistic hg)) ha

theorem o8_apply (c : Dev nD) (t : Fin cfg0.N) (j : S1x1x8x256.Idx) :
    _root_.Up.o8 m c t j = tails lo (X m c) (W m c) (ix4 (seq t) ⟨t.val % 2, by omega⟩ (j 2) (col t (j 3))) := by
  unfold _root_.Up.o8 k0_pay12
  refine (shapeCast_apply (s := S8x256) (t := S1x1x8x256) _ _ _ (ix2 (j 2) (j 3) : S8x256.Idx) ?_).trans ?_
  · rw [Shape.rowMajor_val_two, Shape.rowMajor_val_four]
    have h0 : (j 0).val < 1 := (j 0).isLt
    have h1 : (j 1).val < 1 := (j 1).isLt
    show (j 2).val * 256 + (j 3).val = (((j 0).val * 1 + (j 1).val) * 8 + (j 2).val) * 256 + (j 3).val
    omega
  exact (pay10_apply _ _ _ _).trans (blkProd_eq m lo c t _ (wa_apply m c t) t _ _)

theorem o9_apply (c : Dev nD) (t : Fin cfg0.N) (j : S1x1x8x256.Idx) :
    _root_.Up.o9 m c t j = tails hi (X m c) (W m c) (ix4 (seq t) ⟨t.val % 2, by omega⟩ (j 2) (col t (j 3))) := by
  unfold _root_.Up.o9 k0_pay20
  refine (shapeCast_apply (s := S8x256) (t := S1x1x8x256) _ _ _ (ix2 (j 2) (j 3) : S8x256.Idx) ?_).trans ?_
  · rw [Shape.rowMajor_val_two, Shape.rowMajor_val_four]
    have h0 : (j 0).val < 1 := (j 0).isLt
    have h1 : (j 1).val < 1 := (j 1).isLt
    show (j 2).val * 256 + (j 3).val = (((j 0).val * 1 + (j 1).val) * 8 + (j 2).val) * 256 + (j 3).val
    omega
  exact (pay10_apply (_root_.Up.bh m c t) (_root_.Up.wg m c t) (_root_.Up.tg m c t) _).trans (blkProd_eq m hi c t _ (wg_apply m c t) t _ _)

/-! ### The result arrays -/

theorem flush7 : ∀ t : Fin cfg0.N, (cfg0.win 7).flush t = true := (by decide +kernel : ∀ t : Fin grid0.N, win0_7.flush t = true)
theorem final7 (c : Dev nD) : (_root_.Up.dats m 0 c).arrAt 7 cfg0.N = (acts (X m c) (W m c) (C m c) (B m c) : Buf (Elt Ideal) ((c : Thread nD τ).loc main_v1_0)) := by
  refine (_root_.Up.dats m 0 c).arrAt_eq_of_cover 7 _ (fun t _ => ?_) (fun i => ?_)
  · show (cfg0.win 7).cut (grid0.coords t) ((_root_.Up.dats m 0 c).after 7 t) = _
    rw [_root_.Up.after7]
    funext j
    show _root_.Up.o7 m c t j = acts (X m c) (W m c) (C m c) (B m c) ((win0_7.rect t).emb j)
    refine (o7_apply m c t j).trans (congrArg (acts (X m c) (W m c) (C m c) (B m c)) ?_)
    have v (a) := Pipeline.Window.rect_emb_val win0_7 t j a
    rw [(odx t).1] at v
    have h0 : (j 0).val < 1 := (j 0).isLt
    funext a; apply Fin.ext
    match a with
    | ⟨0, _⟩ => exact .trans (by show t.val % 8 / 2 = t.val % 8 / 2 * 1 + (j 0).val; omega) (v 0).symm
    | ⟨1, _⟩ => exact .trans (by show 1024 * (t.val % 2) + (j 1).val = t.val % 2 * 1024 + (j 1).val; omega) (v 1).symm
    | ⟨2, _⟩ => exact .trans (by show 256 * (t.val / 8) + (j 2).val = t.val / 8 * 256 + (j 2).val; omega) (v 2).symm
  · have h0 : (i 0).val < 4 := (i 0).isLt
    have h1 : (i 1).val < 2048 := (i 1).isLt
    have h2 : (i 2).val < 11008 := (i 2).isLt
    have hl : 8 * ((i 2).val / 256) + 2 * (i 0).val + (i 1).val / 1024 < cfg0.N := Nat.lt_of_lt_of_eq (by omega) N_0.symm
    obtain ⟨t, ht⟩ : ∃ t : Fin cfg0.N, t.val = 8 * ((i 2).val / 256) + 2 * (i 0).val + (i 1).val / 1024 := ⟨⟨_, hl⟩, rfl⟩
    refine ⟨t, flush7 t, ?_⟩
    show i ∈ ((View.whole main_v1_0).slice (win0_7.rect t)).set
    rw [View.set_slice_whole, Rect.mem_set_unit]
    intro a
    show win0_7.index t a * win0_7.size a ≤ (i a).val ∧ (i a).val < win0_7.index t a * win0_7.size a + win0_7.size a
    rw [(odx t).1]
    match a with
    | ⟨0, _⟩ =>
      show t.val % 8 / 2 * 1 ≤ (i 0).val ∧ (i 0).val < t.val % 8 / 2 * 1 + 1
      omega
    | ⟨1, _⟩ =>
      show t.val % 2 * 1024 ≤ (i 1).val ∧ (i 1).val < t.val % 2 * 1024 + 1024
      omega
    | ⟨2, _⟩ =>
      show t.val / 8 * 256 ≤ (i 2).val ∧ (i 2).val < t.val / 8 * 256 + 256
      omega

theorem flush8 : ∀ t : Fin cfg0.N, (cfg0.win 8).flush t = true := (by decide +kernel : ∀ t : Fin grid0.N, win0_8.flush t = true)
theorem final8 (c : Dev nD) : (_root_.Up.dats m 0 c).arrAt 8 cfg0.N = (tails lo (X m c) (W m c) : Buf (Elt Ideal) ((c : Thread nD τ).loc main_v1_1)) := by
  refine (_root_.Up.dats m 0 c).arrAt_eq_of_cover 8 _ (fun t _ => ?_) (fun i => ?_)
  · show (cfg0.win 8).cut (grid0.coords t) ((_root_.Up.dats m 0 c).after 8 t) = _
    rw [_root_.Up.after8]
    funext j
    show _root_.Up.o8 m c t j = tails lo (X m c) (W m c) ((win0_8.rect t).emb j)
    refine (o8_apply m c t j).trans (congrArg (tails lo (X m c) (W m c)) ?_)
    have v (a) := Pipeline.Window.rect_emb_val win0_8 t j a
    rw [(odx t).2.1] at v
    have h0 : (j 0).val < 1 := (j 0).isLt
    have h1 : (j 1).val < 1 := (j 1).isLt
    funext a; apply Fin.ext
    match a with
    | ⟨0, _⟩ => exact .trans (by show t.val % 8 / 2 = t.val % 8 / 2 * 1 + (j 0).val; omega) (v 0).symm
    | ⟨1, _⟩ => exact .trans (by show t.val % 2 = t.val % 2 * 1 + (j 1).val; omega) (v 1).symm
    | ⟨2, _⟩ => exact .trans (by show (j 2).val = 0 * 8 + (j 2).val; omega) (v 2).symm
    | ⟨3, _⟩ => exact .trans (by show 256 * (t.val / 8) + (j 3).val = t.val / 8 * 256 + (j 3).val; omega) (v 3).symm
  · have h0 : (i 0).val < 4 := (i 0).isLt
    have h1 : (i 1).val < 2 := (i 1).isLt
    have h2 : (i 2).val < 8 := (i 2).isLt
    have h3 : (i 3).val < 11008 := (i 3).isLt
    have hl : 8 * ((i 3).val / 256) + 2 * (i 0).val + (i 1).val < cfg0.N := Nat.lt_of_lt_of_eq (by omega) N_0.symm
    obtain ⟨t, ht⟩ : ∃ t : Fin cfg0.N, t.val = 8 * ((i 3).val / 256) + 2 * (i 0).val + (i 1).val := ⟨⟨_, hl⟩, rfl⟩
    refine ⟨t, flush8 t, ?_⟩
    show i ∈ ((View.whole main_v1_1).slice (win0_8.rect t)).set
    rw [View.set_slice_whole, Rect.mem_set_unit]
    intro a
    show win0_8.index t a * win0_8.size a ≤ (i a).val ∧ (i a).val < win0_8.index t a * win0_8.size a + win0_8.size a
    rw [(odx t).2.1]
    match a with
    | ⟨0, _⟩ => show t.val % 8 / 2 * 1 ≤ (i 0).val ∧ (i 0).val < t.val % 8 / 2 * 1 + 1; omega
    | ⟨1, _⟩ => show t.val % 2 * 1 ≤ (i 1).val ∧ (i 1).val < t.val % 2 * 1 + 1; omega
    | ⟨2, _⟩ => show 0 * 8 ≤ (i 2).val ∧ (i 2).val < 0 * 8 + 8; omega
    | ⟨3, _⟩ => show t.val / 8 * 256 ≤ (i 3).val ∧ (i 3).val < t.val / 8 * 256 + 256; omega

theorem flush9 : ∀ t : Fin cfg0.N, (cfg0.win 9).flush t = true := (by decide +kernel : ∀ t : Fin grid0.N, win0_9.flush t = true)
theorem final9 (c : Dev nD) : (_root_.Up.dats m 0 c).arrAt 9 cfg0.N = (tails hi (X m c) (W m c) : Buf (Elt Ideal) ((c : Thread nD τ).loc main_v1_2)) := by
  refine (_root_.Up.dats m 0 c).arrAt_eq_of_cover 9 _ (fun t _ => ?_) (fun i => ?_)
  · show (cfg0.win 9).cut (grid0.coords t) ((_root_.Up.dats m 0 c).after 9 t) = _
    rw [_root_.Up.after9]
    funext j
    show _root_.Up.o9 m c t j = tails hi (X m c) (W m c) ((win0_9.rect t).emb j)
    refine (o9_apply m c t j).trans (congrArg (tails hi (X m c) (W m c)) ?_)
    have v (a) := Pipeline.Window.rect_emb_val win0_9 t j a
    rw [(odx t).2.2.1] at v
    have h0 : (j 0).val < 1 := (j 0).isLt
    have h1 : (j 1).val < 1 := (j 1).isLt
    funext a; apply Fin.ext
    match a with
    | ⟨0, _⟩ => exact .trans (by show t.val % 8 / 2 = t.val % 8 / 2 * 1 + (j 0).val; omega) (v 0).symm
    | ⟨1, _⟩ => exact .trans (by show t.val % 2 = t.val % 2 * 1 + (j 1).val; omega) (v 1).symm
    | ⟨2, _⟩ => exact .trans (by show (j 2).val = 0 * 8 + (j 2).val; omega) (v 2).symm
    | ⟨3, _⟩ => exact .trans (by show 256 * (t.val / 8) + (j 3).val = t.val / 8 * 256 + (j 3).val; omega) (v 3).symm
  · have h0 : (i 0).val < 4 := (i 0).isLt
    have h1 : (i 1).val < 2 := (i 1).isLt
    have h2 : (i 2).val < 8 := (i 2).isLt
    have h3 : (i 3).val < 11008 := (i 3).isLt
    have hl : 8 * ((i 3).val / 256) + 2 * (i 0).val + (i 1).val < cfg0.N := Nat.lt_of_lt_of_eq (by omega) N_0.symm
    obtain ⟨t, ht⟩ : ∃ t : Fin cfg0.N, t.val = 8 * ((i 3).val / 256) + 2 * (i 0).val + (i 1).val := ⟨⟨_, hl⟩, rfl⟩
    refine ⟨t, flush9 t, ?_⟩
    show i ∈ ((View.whole main_v1_2).slice (win0_9.rect t)).set
    rw [View.set_slice_whole, Rect.mem_set_unit]
    intro a
    show win0_9.index t a * win0_9.size a ≤ (i a).val ∧ (i a).val < win0_9.index t a * win0_9.size a + win0_9.size a
    rw [(odx t).2.2.1]
    match a with
    | ⟨0, _⟩ => show t.val % 8 / 2 * 1 ≤ (i 0).val ∧ (i 0).val < t.val % 8 / 2 * 1 + 1; omega
    | ⟨1, _⟩ => show t.val % 2 * 1 ≤ (i 1).val ∧ (i 1).val < t.val % 2 * 1 + 1; omega
    | ⟨2, _⟩ => show 0 * 8 ≤ (i 2).val ∧ (i 2).val < 0 * 8 + 8; omega
    | ⟨3, _⟩ => show t.val / 8 * 256 ≤ (i 3).val ∧ (i 3).val < t.val / 8 * 256 + 256; omega

theorem flush10 : ∀ t : Fin cfg0.N, t.val % 8 = 7 → (cfg0.win 10).flush t = true := (by decide +kernel : ∀ t : Fin grid0.N, t.val % 8 = 7 → win0_10.flush t = true)
theorem final10 (c : Dev nD) : (_root_.Up.dats m 0 c).arrAt 10 cfg0.N = (cols lo (W m c) : Buf (Elt Ideal) ((c : Thread nD τ).loc main_v1_3)) := by
  refine (_root_.Up.dats m 0 c).arrAt_eq_of_cover 10 _ (fun t _ => ?_) (fun i => ?_)
  · show (cfg0.win 10).cut (grid0.coords t) ((_root_.Up.dats m 0 c).after 10 t) = _
    rw [_root_.Up.after10]
    funext j
    show _root_.Up.o10 m c t j = cols lo (W m c) ((win0_10.rect t).emb j)
    have v (a) := Pipeline.Window.rect_emb_val win0_10 t j a
    rw [(odx t).2.2.2.1] at v
    refine (o10_apply m c t j).trans (congrArg (cols lo (W m c)) (?_ : (ix2 (j 0) (col t (j 1)) : S4096x11008.Idx) = (win0_10.rect t).emb j))
    funext a; apply Fin.ext
    match a with
    | ⟨0, _⟩ => exact .trans (by show (j 0).val = 0 * 4096 + (j 0).val; omega) (v 0).symm
    | ⟨1, _⟩ => exact .trans (by show 256 * (t.val / 8) + (j 1).val = t.val / 8 * 256 + (j 1).val; omega) (v 1).symm
  · have h0 : (i 0).val < 4096 := (i 0).isLt
    have h1 : (i 1).val < 11008 := (i 1).isLt
    have hl : 8 * ((i 1).val / 256) + 7 < cfg0.N := Nat.lt_of_lt_of_eq (by omega) N_0.symm
    obtain ⟨t, ht⟩ : ∃ t : Fin cfg0.N, t.val = 8 * ((i 1).val / 256) + 7 := ⟨⟨_, hl⟩, rfl⟩
    refine ⟨t, flush10 t (by show t.val % 8 = 7; omega), ?_⟩
    show i ∈ ((View.whole main_v1_3).slice (win0_10.rect t)).set
    rw [View.set_slice_whole, Rect.mem_set_unit]
    intro a
    show win0_10.index t a * win0_10.size a ≤ (i a).val ∧ (i a).val < win0_10.index t a * win0_10.size a + win0_10.size a
    rw [(odx t).2.2.2.1]
    match a with
    | ⟨0, _⟩ => show 0 * 4096 ≤ (i 0).val ∧ (i 0).val < 0 * 4096 + 4096; omega
    | ⟨1, _⟩ => show t.val / 8 * 256 ≤ (i 1).val ∧ (i 1).val < t.val / 8 * 256 + 256; omega

theorem flush11 : ∀ t : Fin cfg0.N, t.val % 8 = 7 → (cfg0.win 11).flush t = true := (by decide +kernel : ∀ t : Fin grid0.N, t.val % 8 = 7 → win0_11.flush t = true)
theorem final11 (c : Dev nD) : (_root_.Up.dats m 0 c).arrAt 11 cfg0.N = (cols hi (W m c) : Buf (Elt Ideal) ((c : Thread nD τ).loc main_v1_4)) := by
  refine (_root_.Up.dats m 0 c).arrAt_eq_of_cover 11 _ (fun t _ => ?_) (fun i => ?_)
  · show (cfg0.win 11).cut (grid0.coords t) ((_root_.Up.dats m 0 c).after 11 t) = _
    rw [_root_.Up.after11]
    funext j
    show _root_.Up.o11 m c t j = cols hi (W m c) ((win0_11.rect t).emb j)
    have v (a) := Pipeline.Window.rect_emb_val win0_11 t j a
    rw [(odx t).2.2.2.2] at v
    refine (o11_apply m c t j).trans (congrArg (cols hi (W m c)) (?_ : (ix2 (j 0) (col t (j 1)) : S4096x11008.Idx) = (win0_11.rect t).emb j))
    funext a; apply Fin.ext
    match a with
    | ⟨0, _⟩ => exact .trans (by show (j 0).val = 0 * 4096 + (j 0).val; omega) (v 0).symm
    | ⟨1, _⟩ => exact .trans (by show 256 * (t.val / 8) + (j 1).val = t.val / 8 * 256 + (j 1).val; omega) (v 1).symm
  · have h0 : (i 0).val < 4096 := (i 0).isLt
    have h1 : (i 1).val < 11008 := (i 1).isLt
    have hl : 8 * ((i 1).val / 256) + 7 < cfg0.N := Nat.lt_of_lt_of_eq (by omega) N_0.symm
    obtain ⟨t, ht⟩ : ∃ t : Fin cfg0.N, t.val = 8 * ((i 1).val / 256) + 7 := ⟨⟨_, hl⟩, rfl⟩
    refine ⟨t, flush11 t (by show t.val % 8 = 7; omega), ?_⟩
    show i ∈ ((View.whole main_v1_4).slice (win0_11.rect t)).set
    rw [View.set_slice_whole, Rect.mem_set_unit]
    intro a
    show win0_11.index t a * win0_11.size a ≤ (i a).val ∧ (i a).val < win0_11.index t a * win0_11.size a + win0_11.size a
    rw [(odx t).2.2.2.2]
    match a with
    | ⟨0, _⟩ => show 0 * 4096 ≤ (i 0).val ∧ (i 0).val < 0 * 4096 + 4096; omega
    | ⟨1, _⟩ => show t.val / 8 * 256 ≤ (i 1).val ∧ (i 1).val < t.val / 8 * 256 + 256; omega

/-- Over the machine's words the body tables of the two printed programs are the same. -/
theorem bodies : @Cert.Up.defs₀ Bits _ _ = @Cert.UpIdeal.defs₀ Bits _ _ := by
  unfold Cert.Up.defs₀ Cert.UpIdeal.defs₀
  refine congrArg _ ?_
  funext l a
  match l, a with
  | 0, (t, s) => rfl

theorem tables : @Cert.Up.defs Bits _ _ = @Cert.UpIdeal.defs Bits _ _ :=
  congrArg (Pipeline.defs Cert.UpIdeal.pcfgs) bodies

theorem frame : Cert.quiescent_Up := fun m ρ _ => by
  have h := _root_.Up.run_frame (F := Bits) m ρ
  rw [← tables] at h
  exact h
theorem frameIdeal : Cert.quiescent_UpIdeal := fun m ρ _ => _root_.Up.run_frame (F := Ideal) m ρ
theorem frameRef : Cert.quiescent_UpRefIdeal := fun m ρ _ =>
  (θ_run Cert.UpRefIdeal.defs _ _).mono (fun r h => ⟨fun c => (h c).2.2.2.2.2, Idealize.ShloMosaic.sem_eq_zero_of_no_sems (by decide) r.2⟩)
    (Cert.UpRefIdeal.Value.run (F := Ideal) m ρ)

/-- The kernel's results are the reference's. -/
theorem algebraic : Cert.algebraic_UpIdeal_UpRefIdeal := by
  intro m ρ m' ρ' _ hagree
  refine ⟨fun c => acts (X m c) (W m c) (C m c) (B m c), fun c => tails lo (X m c) (W m c), fun c => tails hi (X m c) (W m c), fun c => cols lo (W m c), fun c => cols hi (W m c), ?_, ?_⟩
  · refine (θ_run Cert.UpIdeal.defs _ _).mono (fun _ h c => ⟨((h c).1 7).trans (final7 m c), ((h c).1 8).trans (final8 m c), ((h c).1 9).trans (final9 m c),
      ((h c).1 10).trans (final10 m c), ((h c).1 11).trans (final11 m c),
      ((h c).1 0).trans (((_root_.Up.dats m 0 c).arrAt_in 0 rfl _).trans ((_root_.Up.A_eq m c 0).trans (V_main_arg0 m c))),
      ((h c).1 2).trans (((_root_.Up.dats m 0 c).arrAt_in 2 rfl _).trans ((_root_.Up.A_eq m c 2).trans (V_main_arg1 m c))),
      ((h c).1 4).trans (((_root_.Up.dats m 0 c).arrAt_in 4 rfl _).trans ((_root_.Up.A_eq m c 4).trans (V_main_arg2 m c))),
      ((h c).2 main_arg3 (Pipeline.mem_restRefs_of main_arg3 (by decide) (by decide))).trans (V_main_arg3 m c)⟩) (_root_.Up.run_main (F := Ideal) m ρ)
  refine (θ_run Cert.UpRefIdeal.defs _ _).mono (fun _ h c => ?_) (Cert.UpRefIdeal.Value.run (F := Ideal) m' ρ')
  obtain ⟨h0, h1, h2, h3, h4, hk⟩ := h c
  obtain ⟨a0, a1, a2, a3⟩ := hagree c
  refine ⟨h0.trans ((UpRef.acts_eq m' c).trans ?_), h1.trans ((UpRef.tails_lo _ _).trans ?_), h2.trans ((UpRef.tails_hi _ _).trans ?_), h3.trans ((UpRef.cols_lo _).trans ?_),
    h4.trans ((UpRef.cols_hi _).trans ?_), hk⟩
  · rw [a0, a1, a2, a3]
  · rw [a0, a1]
  · rw [a0, a1]
  · rw [a1]
  · rw [a1]

end Cert.Proof.Up

end
-- ==== Proof.Uc.lean ====
/- The up projection with its convolution and gate for the sample tokens: what the kernel leaves, block by block, is the reference's convolution over the carried rows and the projected ones. -/
module

public import proofs.«01_k».proof.Defs
public import proofs.«01_k».proof.Proof.Gen.Uc.Frame
public import proofs.«01_k».proof.Proof.Gen.UcIdeal.Value
public import proofs.«01_k».proof.Proof.Gen.UcRefIdeal.Run
public import proofs.«01_k».proof.Proof.Mm
public import Idealize.ShloMosaic.Lib.KernelVsHost
public import Idealize.ShloMosaic.Lib.IdealHost

@[expose] public section

noncomputable section

open Idealize.ShloMosaic
open Idealize.ShloMosaic.TcCoe Idealize.SL.Sem Idealize.ShloMosaic.ValueIdx
open Idealize.ShloMosaic.Pipeline (Dat)
open scoped BigOperators

/-! ## The function both compute -/

namespace Cert.Proof.Uc

abbrev A0 := (⟨3, ![1, 64, 4096]⟩ : Shape).Idx → EReal
abbrev A1 := (⟨2, ![4096, 11008]⟩ : Shape).Idx → EReal
abbrev A3 := (⟨3, ![2, 3, 22016]⟩ : Shape).Idx → EReal
abbrev A4 := (⟨2, ![2, 22016]⟩ : Shape).Idx → EReal
abbrev A5 := (⟨3, ![8, 2, 22016]⟩ : Shape).Idx → EReal
abbrev R0 := (⟨3, ![1, 64, 11008]⟩ : Shape).Idx → EReal

abbrev lo (q : Fin 11008) : Fin 22016 := ⟨q.val, by omega⟩
abbrev hi (q : Fin 11008) : Fin 22016 := ⟨q.val + 11008, by omega⟩

/-- The projection of one token onto one column. -/
abbrev prod (x : A0) (w : A1) (r : Fin 64) (q : Fin 11008) : EReal := ∑ k : Fin 4096, x (ix3 0 r k) * w (ix2 k q)

/-- The carried rows of a sequence, then its projected ones. -/
def hist (e : Fin 11008 → Fin 22016) (x : A0) (w : A1) (p : A5) (b : Fin 8) (n : ℕ) (q : Fin 11008) : EReal :=
  if h : n < 2 then p (ix3 b ⟨n, h⟩ (e q)) else if h' : n < 10 then prod x w ⟨8 * b.val + (n - 2), by omega⟩ q else 0

/-- The convolution of three rows, with its bias. -/
def conv (e : Fin 11008 → Fin 22016) (x : A0) (w : A1) (f : A3) (s : A4) (p : A5) (b : Fin 8) (n : ℕ) (q : Fin 11008) : EReal :=
  s (ix2 0 (e q)) + (f (ix3 0 0 (e q)) * hist e x w p b n q + f (ix3 0 1 (e q)) * hist e x w p b (n + 1) q + f (ix3 0 2 (e q)) * hist e x w p b (n + 2) q)

def gate (a g : EReal) : EReal := g * Ideal.logistic g * a

/-- The sequence of a token and its place in it. -/
abbrev seq (r : Fin 64) : Fin 8 := ⟨r.val / 8, by omega⟩
abbrev pos (r : Fin 64) : Fin 8 := ⟨r.val % 8, by omega⟩

/-- The results: the activations, and one half of the projected rows. -/
def acts (x : A0) (wa wg : A1) (f : A3) (s : A4) (p : A5) : R0 :=
  fun i => gate (conv lo x wa f s p (seq (i 1)) (pos (i 1)).val (i 2)) (conv hi x wg f s p (seq (i 1)) (pos (i 1)).val (i 2))
def ups (x : A0) (w : A1) : R0 := fun i => prod x w (i 1) (i 2)

theorem hist_old {e : Fin 11008 → Fin 22016} {x : A0} {w : A1} {p : A5} {b : Fin 8} {n : ℕ} {q : Fin 11008} (a : Fin 2) (h : n = a.val) : hist e x w p b n q = p (ix3 b a (e q)) := by
  subst h
  exact dif_pos a.isLt

theorem hist_row {e : Fin 11008 → Fin 22016} {x : A0} {w : A1} {p : A5} {b : Fin 8} {n : ℕ} {q : Fin 11008} (r : Fin 64) (h2 : 2 ≤ n) (hn : n < 10) (h : r.val = 8 * b.val + (n - 2)) :
    hist e x w p b n q = prod x w r q := by
  refine (dif_neg (by omega)).trans ((dif_pos hn).trans ?_)
  exact congrArg (fun r => prod x w r q) (Fin.ext h.symm)

end Cert.Proof.Uc

/-! ## The reference -/

namespace Cert.Proof.UcRef

open Cert.UcRefIdeal Cert.UcRefIdeal.Gen
open Cert.Proof.Uc (prod hist conv lo hi hist_old hist_row acts ups seq pos)

variable (x : FVec Ideal S1x64x4096 .bf16) (wa wg : FVec Ideal S4096x11008 .bf16) (f : FVec Ideal S2x3x22016 .f32) (s : FVec Ideal S2x22016 .f32) (p : FVec Ideal S8x2x22016 .f32)

/-- The projected rows, the same with the carried ones before them, and the convolution, as the reference writes them. -/
def pd : FVec Ideal S8x8x22016 .f32 := Host.dotGeneral dot_S8x8x4096_S4096x22016_S8x8x22016_2_0_01_1_n_n none (shapeCast _ (extf .f32 x bitsLt_bf16_f32) shapeCasts_S1x64x4096_S8x8x4096) (extf .f32 (concatenate S4096x22016 1 [⟨S4096x11008, wa⟩, ⟨S4096x11008, wg⟩] concatenates_S4096x11008_S4096x11008_S4096x22016_d1) bitsLt_bf16_f32)
def bf : FVec Ideal S8x10x22016 .f32 := concatenate S8x10x22016 1 [⟨S8x2x22016, p⟩, ⟨S8x8x22016, pd x wa wg⟩] concatenates_S8x2x22016_S8x8x22016_S8x10x22016_d1
def cv : FVec Ideal S8x8x22016 .f32 := addf (broadcastInDim S8x8x22016 ![0, 1, 2] bcast_S1x1x22016_S8x8x22016_0_1_2 (broadcastInDim S1x1x22016 ![2] bcast_S22016_S1x1x22016_2 (shapeCast _ (extractStridedSlice S1x22016 ![0, 0] s slices_S2x22016_S1x22016_0_0) shapeCasts_S1x22016_S22016))) (addf (addf (addf (broadcastInDim S8x8x22016 ![] bcast_S_S8x8x22016 (constant S_ .f32 0x00000000#32)) (mulf (broadcastInDim S8x8x22016 ![0, 1, 2] bcast_S1x1x22016_S8x8x22016_0_1_2 (broadcastInDim S1x1x22016 ![2] bcast_S22016_S1x1x22016_2 (shapeCast _ (extractStridedSlice S1x22016 ![0, 0] (shapeCast _ (extractStridedSlice S1x3x22016 ![0, 0, 0] f slices_S2x3x22016_S1x3x22016_0_0_0) shapeCasts_S1x3x22016_S3x22016) slices_S3x22016_S1x22016_0_0) shapeCasts_S1x22016_S22016))) (extractStridedSlice S8x8x22016 ![0, 0, 0] (bf x wa wg p) slices_S8x10x22016_S8x8x22016_0_0_0))) (mulf (broadcastInDim S8x8x22016 ![0, 1, 2] bcast_S1x1x22016_S8x8x22016_0_1_2 (broadcastInDim S1x1x22016 ![2] bcast_S22016_S1x1x22016_2 (shapeCast _ (extractStridedSlice S1x22016 ![1, 0] (shapeCast _ (extractStridedSlice S1x3x22016 ![0, 0, 0] f slices_S2x3x22016_S1x3x22016_0_0_0) shapeCasts_S1x3x22016_S3x22016) slices_S3x22016_S1x22016_1_0) shapeCasts_S1x22016_S22016))) (extractStridedSlice S8x8x22016 ![0, 1, 0] (bf x wa wg p) slices_S8x10x22016_S8x8x22016_0_1_0))) (mulf (broadcastInDim S8x8x22016 ![0, 1, 2] bcast_S1x1x22016_S8x8x22016_0_1_2 (broadcastInDim S1x1x22016 ![2] bcast_S22016_S1x1x22016_2 (shapeCast _ (extractStridedSlice S1x22016 ![2, 0] (shapeCast _ (extractStridedSlice S1x3x22016 ![0, 0, 0] f slices_S2x3x22016_S1x3x22016_0_0_0) shapeCasts_S1x3x22016_S3x22016) slices_S3x22016_S1x22016_2_0) shapeCasts_S1x22016_S22016))) (extractStridedSlice S8x8x22016 ![0, 2, 0] (bf x wa wg p) slices_S8x10x22016_S8x8x22016_0_2_0)))

abbrev tok (b t : Fin 8) : Fin 64 := ⟨8 * b.val + t.val, by omega⟩

theorem x_apply (b t : Fin 8) (k : Fin 4096) : shapeCast S8x8x4096 (extf .f32 x bitsLt_bf16_f32) shapeCasts_S1x64x4096_S8x8x4096 (ix3 b t k) = x (ix3 0 (tok b t) k) := by
  refine shapeCast_apply (s := S1x64x4096) (t := S8x8x4096) _ _ _ (ix3 0 (tok b t) k : S1x64x4096.Idx) ?_
  rw [Shape.rowMajor_val_three, Shape.rowMajor_val_three]
  show (0 * 64 + (8 * b.val + t.val)) * 4096 + k.val = (b.val * 8 + t.val) * 4096 + k.val
  omega

/-- The columns of the two halves side by side, read in one half. -/
theorem pd_apply (e : Fin 11008 → Fin 22016) (w : FVec Ideal S4096x11008 .bf16)
    (hw : ∀ k q, concatenate S4096x22016 1 [⟨S4096x11008, wa⟩, ⟨S4096x11008, wg⟩] concatenates_S4096x11008_S4096x11008_S4096x22016_d1 (ix2 k (e q) : S4096x22016.Idx) = w (ix2 k q))
    (b t : Fin 8) (q : Fin 11008) : pd x wa wg (ix3 b t (e q)) = prod x w (tok b t) q := by
  unfold pd
  refine (Mm.rows_apply none _ _ _).trans (Finset.sum_congr rfl fun k _ => ?_)
  exact congrArg₂ (· * ·) (x_apply x b t k) (hw k q)

theorem w_lo (k : Fin 4096) (q : Fin 11008) : concatenate S4096x22016 1 [⟨S4096x11008, wa⟩, ⟨S4096x11008, wg⟩] concatenates_S4096x11008_S4096x11008_S4096x22016_d1 (ix2 k (lo q) : S4096x22016.Idx) = wa (ix2 k q) :=
  concatenate_pair_apply_left (s₁ := S4096x11008) 1 _ _ _ (ix2 k (lo q) : S4096x22016.Idx) rfl (ix2 k q : S4096x11008.Idx) (fun a => by match a with | ⟨0, _⟩ => rfl | ⟨1, _⟩ => rfl)
theorem w_hi (k : Fin 4096) (q : Fin 11008) : concatenate S4096x22016 1 [⟨S4096x11008, wa⟩, ⟨S4096x11008, wg⟩] concatenates_S4096x11008_S4096x11008_S4096x22016_d1 (ix2 k (hi q) : S4096x22016.Idx) = wg (ix2 k q) :=
  concatenate_pair_apply_right (s₁ := S4096x11008) (s₂ := S4096x11008) 1 _ _ _ (ix2 k (hi q) : S4096x22016.Idx) rfl rfl (ix2 k q : S4096x11008.Idx)
    (fun a ha => by match a with | ⟨0, _⟩ => rfl | ⟨1, _⟩ => exact absurd rfl ha) rfl

section Half

variable (e : Fin 11008 → Fin 22016) (w : FVec Ideal S4096x11008 .bf16)
    (hw : ∀ k q, concatenate S4096x22016 1 [⟨S4096x11008, wa⟩, ⟨S4096x11008, wg⟩] concatenates_S4096x11008_S4096x11008_S4096x22016_d1 (ix2 k (e q) : S4096x22016.Idx) = w (ix2 k q))

include hw

theorem bf_apply (b : Fin 8) (n : Fin 10) (q : Fin 11008) : bf x wa wg p (ix3 b n (e q)) = hist e x w p b n.val q := by
  unfold bf
  by_cases h : n.val < 2
  · refine (concatenate_pair_apply_left (s₁ := S8x2x22016) 1 _ _ _ (ix3 b n (e q) : S8x10x22016.Idx) rfl (ix3 b ⟨n.val, h⟩ (e q) : S8x2x22016.Idx)
      (fun a => by match a with | ⟨0, _⟩ => rfl | ⟨1, _⟩ => rfl | ⟨2, _⟩ => rfl)).trans ?_
    exact (hist_old ⟨n.val, h⟩ rfl).symm
  · refine (concatenate_pair_apply_right (s₁ := S8x2x22016) (s₂ := S8x8x22016) 1 _ _ _ (ix3 b n (e q) : S8x10x22016.Idx) rfl rfl (ix3 b ⟨n.val - 2, by omega⟩ (e q) : S8x8x22016.Idx)
      (fun a ha => by match a with | ⟨0, _⟩ => rfl | ⟨1, _⟩ => exact absurd rfl ha | ⟨2, _⟩ => rfl) (by show n.val - 2 + 2 = n.val; omega)).trans ?_
    exact (pd_apply x wa wg e w hw _ _ _).trans (hist_row _ (by omega) n.isLt rfl).symm

omit hw in
/-- A row of filter weights, spread over the tokens. -/
theorem filt_apply (a : Fin 3) (off : Fin 2 → Nat) (h) (hoff : off = ![a.val, 0]) (i : S8x8x22016.Idx) :
    broadcastInDim S8x8x22016 ![0, 1, 2] bcast_S1x1x22016_S8x8x22016_0_1_2 (broadcastInDim S1x1x22016 ![2] bcast_S22016_S1x1x22016_2
      (shapeCast S22016 (extractStridedSlice S1x22016 off (shapeCast S3x22016 (extractStridedSlice S1x3x22016 ![0, 0, 0] f slices_S2x3x22016_S1x3x22016_0_0_0) shapeCasts_S1x3x22016_S3x22016) h) shapeCasts_S1x22016_S22016)) i
      = f (ix3 0 a (i 2)) := by
  subst hoff
  refine (broadcastInDim_apply _ _ _ _ (ix3 0 0 (i 2) : S1x1x22016.Idx) (fun a => by match a with | ⟨0, _⟩ => rfl | ⟨1, _⟩ => rfl | ⟨2, _⟩ => rfl)).trans ?_
  refine (broadcastInDim_apply _ _ _ _ (ix1 (i 2) : S22016.Idx) (fun a => by match a with | ⟨0, _⟩ => rfl)).trans ?_
  refine (shapeCast_dropUnit_apply (α := EReal) ![22016] _ _ _).trans ?_
  refine (extractStridedSlice_apply _ _ _ _ (ix2 a (i 2) : S3x22016.Idx) (fun b => by match b with | ⟨0, _⟩ => exact (Nat.add_zero _).symm | ⟨1, _⟩ => exact (Nat.zero_add _).symm)).trans ?_
  refine (shapeCast_dropUnit_apply (α := EReal) ![3, 22016] _ _ _).trans ?_
  exact extractStridedSlice_apply _ _ _ _ (ix3 0 a (i 2) : S2x3x22016.Idx)
    (fun b => by match b with | ⟨0, _⟩ => rfl | ⟨1, _⟩ => exact (Nat.zero_add _).symm | ⟨2, _⟩ => exact (Nat.zero_add _).symm)

omit hw in
theorem bias_apply (i : S8x8x22016.Idx) :
    broadcastInDim S8x8x22016 ![0, 1, 2] bcast_S1x1x22016_S8x8x22016_0_1_2 (broadcastInDim S1x1x22016 ![2] bcast_S22016_S1x1x22016_2
      (shapeCast S22016 (extractStridedSlice S1x22016 ![0, 0] s slices_S2x22016_S1x22016_0_0) shapeCasts_S1x22016_S22016)) i = s (ix2 0 (i 2)) := by
  refine (broadcastInDim_apply _ _ _ _ (ix3 0 0 (i 2) : S1x1x22016.Idx) (fun a => by match a with | ⟨0, _⟩ => rfl | ⟨1, _⟩ => rfl | ⟨2, _⟩ => rfl)).trans ?_
  refine (broadcastInDim_apply _ _ _ _ (ix1 (i 2) : S22016.Idx) (fun a => by match a with | ⟨0, _⟩ => rfl)).trans ?_
  refine (shapeCast_dropUnit_apply (α := EReal) ![22016] _ _ _).trans ?_
  exact extractStridedSlice_apply _ _ _ _ (ix2 0 (i 2) : S2x22016.Idx) (fun b => by match b with | ⟨0, _⟩ => rfl | ⟨1, _⟩ => exact (Nat.zero_add _).symm)

theorem shift_apply (a : ℕ) (ha : a < 3) (off : Fin 3 → Nat) (h) (hoff : off = ![0, a, 0]) (b t : Fin 8) (q : Fin 11008) :
    extractStridedSlice S8x8x22016 off (bf x wa wg p) h (ix3 b t (e q)) = hist e x w p b (t.val + a) q := by
  subst hoff
  refine (extractStridedSlice_apply _ _ _ _ (ix3 b ⟨t.val + a, by omega⟩ (e q) : S8x10x22016.Idx)
    (fun b => by match b with | ⟨0, _⟩ => exact (Nat.zero_add _).symm | ⟨1, _⟩ => exact Nat.add_comm _ _ | ⟨2, _⟩ => exact (Nat.zero_add _).symm)).trans ?_
  exact bf_apply x wa wg p e w hw b _ q

theorem cv_apply (b t : Fin 8) (q : Fin 11008) : cv x wa wg f s p (ix3 b t (e q)) = conv e x w f s p b t.val q := by
  unfold cv
  refine congrArg₂ (· + ·) (bias_apply s _) (congrArg₂ (· + ·) (congrArg₂ (· + ·) ?_ ?_) ?_)
  · refine (congrArg₂ (· + ·) Mm.ofBits_zero rfl).trans ((zero_add _).trans ?_)
    exact congrArg₂ (· * ·) (filt_apply f 0 _ _ rfl _) (shift_apply x wa wg p e w hw 0 (by omega) _ _ rfl b t q)
  · exact congrArg₂ (· * ·) (filt_apply f 1 _ _ rfl _) (shift_apply x wa wg p e w hw 1 (by omega) _ _ rfl b t q)
  · exact congrArg₂ (· * ·) (filt_apply f 2 _ _ rfl _) (shift_apply x wa wg p e w hw 2 (by omega) _ _ rfl b t q)

/-- The rows of the last eight of a sequence's ten, laid out token by token. -/
theorem rows_apply (i : S1x64x11008.Idx) :
    shapeCast S1x64x22016 (extractStridedSlice S8x8x22016 ![0, 2, 0] (bf x wa wg p) slices_S8x10x22016_S8x8x22016_0_2_0) shapeCasts_S8x8x22016_S1x64x22016 (ix3 0 (i 1) (e (i 2)) : S1x64x22016.Idx)
      = ups x w i := by
  have h1 : (i 1).val < 64 := (i 1).isLt
  refine (shapeCast_apply (s := S8x8x22016) (t := S1x64x22016) _ _ _ (ix3 (seq (i 1)) (pos (i 1)) (e (i 2)) : S8x8x22016.Idx) ?_).trans ?_
  · rw [Shape.rowMajor_val_three, Shape.rowMajor_val_three]
    show ((i 1).val / 8 * 8 + (i 1).val % 8) * 22016 + (e (i 2)).val = (0 * 64 + (i 1).val) * 22016 + (e (i 2)).val
    omega
  refine (shift_apply x wa wg p e w hw 2 (by omega) _ _ rfl _ _ _).trans (hist_row (i 1) (by omega) (by have := (pos (i 1)).isLt; omega) ?_)
  show (i 1).val = 8 * ((i 1).val / 8) + ((i 1).val % 8 + 2 - 2)
  omega

end Half

theorem ups_lo : extractStridedSlice S1x64x11008 ![0, 0, 0] (shapeCast S1x64x22016 (extractStridedSlice S8x8x22016 ![0, 2, 0] (bf x wa wg p) slices_S8x10x22016_S8x8x22016_0_2_0) shapeCasts_S8x8x22016_S1x64x22016) slices_S1x64x22016_S1x64x11008_0_0_0
    = ups x wa := by
  funext i
  have h0 : (i 0).val < 1 := (i 0).isLt
  refine (extractStridedSlice_apply _ _ _ _ (ix3 0 (i 1) (lo (i 2)) : S1x64x22016.Idx)
    (fun b => by match b with | ⟨0, _⟩ => exact (by show 0 = 0 + (i 0).val; omega) | ⟨1, _⟩ => exact (Nat.zero_add _).symm | ⟨2, _⟩ => exact (Nat.zero_add _).symm)).trans ?_
  exact rows_apply x wa wg p lo wa (w_lo wa wg) i
theorem ups_hi : extractStridedSlice S1x64x11008 ![0, 0, 11008] (shapeCast S1x64x22016 (extractStridedSlice S8x8x22016 ![0, 2, 0] (bf x wa wg p) slices_S8x10x22016_S8x8x22016_0_2_0) shapeCasts_S8x8x22016_S1x64x22016) slices_S1x64x22016_S1x64x11008_0_0_11008
    = ups x wg := by
  funext i
  have h0 : (i 0).val < 1 := (i 0).isLt
  refine (extractStridedSlice_apply _ _ _ _ (ix3 0 (i 1) (hi (i 2)) : S1x64x22016.Idx)
    (fun b => by match b with | ⟨0, _⟩ => exact (by show 0 = 0 + (i 0).val; omega) | ⟨1, _⟩ => exact (Nat.zero_add _).symm | ⟨2, _⟩ => exact Nat.add_comm _ _)).trans ?_
  exact rows_apply x wa wg p hi wg (w_hi wa wg) i

theorem half_lo (y : FVec Ideal S8x8x22016 .f32) (i : S8x8x11008.Idx) : extractStridedSlice S8x8x11008 ![0, 0, 0] y slices_S8x8x22016_S8x8x11008_0_0_0 i = y (ix3 (i 0) (i 1) (lo (i 2))) :=
  extractStridedSlice_apply _ _ _ _ (ix3 (i 0) (i 1) (lo (i 2)) : S8x8x22016.Idx)
    (fun b => by match b with | ⟨0, _⟩ => exact (Nat.zero_add _).symm | ⟨1, _⟩ => exact (Nat.zero_add _).symm | ⟨2, _⟩ => exact (Nat.zero_add _).symm)
theorem half_hi (y : FVec Ideal S8x8x22016 .f32) (i : S8x8x11008.Idx) : extractStridedSlice S8x8x11008 ![0, 0, 11008] y slices_S8x8x22016_S8x8x11008_0_0_11008 i = y (ix3 (i 0) (i 1) (hi (i 2))) :=
  extractStridedSlice_apply _ _ _ _ (ix3 (i 0) (i 1) (hi (i 2)) : S8x8x22016.Idx)
    (fun b => by match b with | ⟨0, _⟩ => exact (Nat.zero_add _).symm | ⟨1, _⟩ => exact (Nat.zero_add _).symm | ⟨2, _⟩ => exact Nat.add_comm _ _)

/-- The reference's activations. -/
theorem acts_eq (m : (ℓ : Loc nD τ sig) → Buf (Elt Ideal) ℓ) (c : Dev nD) :
    Value.res_main_v46 m c = acts (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  generalize hx : m ((c.tc : Thread nD τ).loc main_arg0) = x
  generalize ha : m ((c.tc : Thread nD τ).loc main_arg1) = wa
  generalize hg : m ((c.tc : Thread nD τ).loc main_arg2) = wg
  generalize hf : m ((c.tc : Thread nD τ).loc main_arg3) = f
  generalize hs : m ((c.tc : Thread nD τ).loc main_arg4) = s
  generalize hp : m ((c.tc : Thread nD τ).loc main_arg5) = p
  have e : Value.res_main_v46 m c = shapeCast S1x64x11008 (truncf .bf16 (mulf (mulf (extractStridedSlice S8x8x11008 ![0, 0, 11008] (cv x wa wg f s p) slices_S8x8x22016_S8x8x11008_0_0_11008)
      (Host.divf (broadcastInDim S8x8x11008 ![] bcast_S_S8x8x11008 (constant S_ .f32 0x3F800000#32))
        (addf (broadcastInDim S8x8x11008 ![] bcast_S_S8x8x11008 (constant S_ .f32 0x3F800000#32))
          (Host.exp (Host.negf (extractStridedSlice S8x8x11008 ![0, 0, 11008] (cv x wa wg f s p) slices_S8x8x22016_S8x8x11008_0_0_11008))))))
      (extractStridedSlice S8x8x11008 ![0, 0, 0] (cv x wa wg f s p) slices_S8x8x22016_S8x8x11008_0_0_0)) bitsLt_bf16_f32) shapeCasts_S8x8x11008_S1x64x11008 := by
    subst hx ha hg hf hs hp
    rfl
  rw [e]
  funext i
  have h0 : (i 0).val < 1 := (i 0).isLt
  have h1 : (i 1).val < 64 := (i 1).isLt
  refine (shapeCast_apply (s := S8x8x11008) (t := S1x64x11008) _ _ _ (ix3 (seq (i 1)) (pos (i 1)) (i 2) : S8x8x11008.Idx) ?_).trans ?_
  · rw [Shape.rowMajor_val_three, Shape.rowMajor_val_three]
    show ((i 1).val / 8 * 8 + (i 1).val % 8) * 11008 + (i 2).val = ((i 0).val * 64 + (i 1).val) * 11008 + (i 2).val
    omega
  have hg := (half_hi (cv x wa wg f s p) (ix3 (seq (i 1)) (pos (i 1)) (i 2) : S8x8x11008.Idx)).trans (cv_apply x wa wg f s p hi wg (w_hi wa wg) _ _ _)
  have ha := (half_lo (cv x wa wg f s p) (ix3 (seq (i 1)) (pos (i 1)) (i 2) : S8x8x11008.Idx)).trans (cv_apply x wa wg f s p lo wa (w_lo wa wg) _ _ _)
  have h1 : Ideal.ofBits .f32 0x3F800000#32 = 1 := Ideal.ofBits_one_f32
  refine congrArg₂ (· * ·) (congrArg₂ (· * ·) hg ?_) ha
  exact congrArg₂ Ideal.div h1 (congrArg₂ (· + ·) h1 (congrArg (fun z : EReal => Ideal.exp (-z)) hg))

end Cert.Proof.UcRef

/-! ## The kernel -/

namespace Cert.Proof.Uc

open Cert.UcIdeal Cert.UcIdeal.Gen

/-! ### The body on blocks -/

section Body

variable (x : S1x64x4096.Idx → EReal) (w : S4096x256.Idx → EReal) (p1 p2 : S1x64x256.Idx → EReal)

/-- The product of two blocks. -/
abbrev blkProd (r : Fin 64) (q : Fin 256) : EReal := ∑ k : Fin 4096, x (ix3 0 r k) * w (ix2 k q)

theorem pay2_apply (j : S64x256.Idx) : k0_pay2 (F := Ideal) x w j = blkProd x w (j 0) (j 1) := by
  unfold k0_pay2 k0_pay1
  refine (Mm.plain_apply none _ _ _).trans (Finset.sum_congr rfl fun k _ => congrArg₂ (· * ·) ?_ rfl)
  exact (shapeCast_dropUnit_apply (α := EReal) ![64, 4096] _ _ _).trans (congrArg x (eq_ix3 _))

/-- A token's place in its sequence, compared with a number: the kernel's masks. -/
theorem mask1 (j : S64x256.Idx) : cmpi .slt k0_pay4 (broadcast S64x256 1#32) j = if (j 0).val % 8 < 1 then 1#1 else 0#1 :=
  (rfl : _ = cmpi .slt k0_pay4 (broadcast S64x256 1#32) (ix2 (j 0) 0 : S64x256.Idx)).trans
    ((by decide +kernel : ∀ r : Fin 64, cmpi .slt k0_pay4 (broadcast S64x256 1#32) (ix2 r 0 : S64x256.Idx) = if r.val % 8 < 1 then 1#1 else 0#1) (j 0))
theorem mask2 (j : S64x256.Idx) : k0_pay6 j = if (j 0).val % 8 < 2 then 1#1 else 0#1 :=
  (rfl : _ = k0_pay6 (ix2 (j 0) 0 : S64x256.Idx)).trans
    ((by decide +kernel : ∀ r : Fin 64, k0_pay6 (ix2 r 0 : S64x256.Idx) = if r.val % 8 < 2 then 1#1 else 0#1) (j 0))

/-- The row before a token's: the carried one for a sequence's first token. -/
def old1 (r : Fin 64) (q : Fin 256) : EReal := if r.val % 8 < 1 then p1 (ix3 0 r q) else blkProd x w ⟨r.val - 1, by omega⟩ q
def old2 (r : Fin 64) (q : Fin 256) : EReal := if r.val % 8 < 2 then p2 (ix3 0 r q) else blkProd x w ⟨r.val - 2, by omega⟩ q

theorem pay5_apply (j : S64x256.Idx) : k0_pay5 (F := Ideal) x w p1 j = old1 x w p1 (j 0) (j 1) := by
  have h0 : (j 0).val < 64 := (j 0).isLt
  show Scalar.select (cmpi .slt k0_pay4 (broadcast S64x256 1#32) j) (shapeCast S64x256 p1 shapeCasts_S1x64x256_S64x256 j) (dynamicRotate 0 1#32 none (k0_pay2 (F := Ideal) x w) rotates_S64x256_d0 j) = _
  rw [mask1]
  unfold old1
  by_cases h : (j 0).val % 8 < 1
  · rw [if_pos h, if_pos h]
    refine (rfl : _ = shapeCast S64x256 p1 shapeCasts_S1x64x256_S64x256 j).trans ?_
    exact (shapeCast_dropUnit_apply (α := EReal) ![64, 256] _ _ _).trans (congrArg p1 (eq_ix3 _))
  · rw [if_neg h, if_neg h]
    refine (rfl : _ = dynamicRotate 0 1#32 none (k0_pay2 (F := Ideal) x w) rotates_S64x256_d0 j).trans ?_
    refine (dynamicRotate_apply 0 1#32 (k0_pay2 (F := Ideal) x w) rotates_S64x256_d0 j (ix2 ⟨(j 0).val - 1, by omega⟩ (j 1) : S64x256.Idx) (fun b => ?_)).trans (pay2_apply x w _)
    match b with
    | ⟨0, _⟩ => refine Eq.trans ?_ (if_pos rfl).symm; show (j 0).val - 1 = ((j 0).val + 64 - 1 % 64) % 64; omega
    | ⟨1, _⟩ => rfl

theorem roll2_apply (j : S64x256.Idx) :
    select k0_pay6 (shapeCast S64x256 p2 shapeCasts_S1x64x256_S64x256) (dynamicRotate 0 2#32 none (k0_pay2 (F := Ideal) x w) rotates_S64x256_d0) j = old2 x w p2 (j 0) (j 1) := by
  have h0 : (j 0).val < 64 := (j 0).isLt
  show Scalar.select (k0_pay6 j) (shapeCast S64x256 p2 shapeCasts_S1x64x256_S64x256 j) (dynamicRotate 0 2#32 none (k0_pay2 (F := Ideal) x w) rotates_S64x256_d0 j) = _
  rw [mask2]
  unfold old2
  by_cases h : (j 0).val % 8 < 2
  · rw [if_pos h, if_pos h]
    refine (rfl : _ = shapeCast S64x256 p2 shapeCasts_S1x64x256_S64x256 j).trans ?_
    exact (shapeCast_dropUnit_apply (α := EReal) ![64, 256] _ _ _).trans (congrArg p2 (eq_ix3 _))
  · rw [if_neg h, if_neg h]
    refine (rfl : _ = dynamicRotate 0 2#32 none (k0_pay2 (F := Ideal) x w) rotates_S64x256_d0 j).trans ?_
    refine (dynamicRotate_apply 0 2#32 (k0_pay2 (F := Ideal) x w) rotates_S64x256_d0 j (ix2 ⟨(j 0).val - 2, by omega⟩ (j 1) : S64x256.Idx) (fun b => ?_)).trans (pay2_apply x w _)
    match b with
    | ⟨0, _⟩ => refine Eq.trans ?_ (if_pos rfl).symm; show (j 0).val - 2 = ((j 0).val + 64 - 2 % 64) % 64; omega
    | ⟨1, _⟩ => rfl

/-- A filter row spread over the block's rows. -/
theorem frow (f : S1x3x256.Idx → EReal) (a : Fin 3) (off : Fin 2 → Nat) (h) (hoff : off = ![a.val, 0]) (j : S64x256.Idx) :
    broadcastTo S64x256 (extractStridedSlice S1x256 off (shapeCast S3x256 f shapeCasts_S1x3x256_S3x256) h) broadcasts_S1x256_S64x256 j = f (ix3 0 a (j 1)) := by
  subst hoff
  refine (broadcastTo_apply _ _ _ (ix2 0 (j 1) : S1x256.Idx) (fun a => by match a with | ⟨0, _⟩ => rfl | ⟨1, _⟩ => rfl)).trans ?_
  refine (extractStridedSlice_apply _ _ _ _ (ix2 a (j 1) : S3x256.Idx) (fun b => by match b with | ⟨0, _⟩ => exact (Nat.add_zero _).symm | ⟨1, _⟩ => exact (Nat.zero_add _).symm)).trans ?_
  exact (shapeCast_dropUnit_apply (α := EReal) ![3, 256] _ _ _).trans (congrArg f (eq_ix3 _))

theorem pay7_apply (f : S1x3x256.Idx → EReal) (s : S1x1x256.Idx → EReal) (j : S64x256.Idx) :
    k0_pay7 (F := Ideal) (k0_pay2 x w) (k0_pay5 x w p1) k0_pay6 p2 f s j
      = s (ix3 0 0 (j 1)) + (f (ix3 0 0 (j 1)) * old2 x w p2 (j 0) (j 1) + f (ix3 0 1 (j 1)) * old1 x w p1 (j 0) (j 1) + f (ix3 0 2 (j 1)) * blkProd x w (j 0) (j 1)) := by
  unfold k0_pay7
  refine congrArg₂ (· + ·) ?_ (congrArg₂ (· + ·) (congrArg₂ (· + ·) ?_ ?_) ?_)
  · refine (broadcastTo_apply _ _ _ (ix2 0 (j 1) : S1x256.Idx) (fun a => by match a with | ⟨0, _⟩ => rfl | ⟨1, _⟩ => rfl)).trans ?_
    exact (shapeCast_dropUnit_apply (α := EReal) ![1, 256] _ _ _).trans (congrArg s (eq_ix3 _))
  · exact congrArg₂ (· * ·) (frow f 0 _ _ rfl j) (roll2_apply x w p2 j)
  · exact congrArg₂ (· * ·) (frow f 1 _ _ rfl j) (pay5_apply x w p1 j)
  · exact congrArg₂ (· * ·) (frow f 2 _ _ rfl j) (pay2_apply x w j)

/-- The activations' block: the gate half is the same convolution on its own columns. -/
theorem pay13_eq (a : S64x256.Idx → EReal) (f : S1x3x256.Idx → EReal) (s : S1x1x256.Idx → EReal) (j : S1x64x256.Idx) :
    k0_pay13 (F := Ideal) a (k0_pay2 x w) k0_pay10 k0_pay11 k0_pay12 p1 p2 f s j
      = gate (a (fun b => j b.succ)) (k0_pay7 (F := Ideal) (k0_pay2 x w) (k0_pay5 x w p1) k0_pay6 p2 f s (fun b => j b.succ)) := by
  refine (rfl : _ = shapeCast S1x64x256 (truncf .bf16 (mulf (mulf (k0_pay7 (F := Ideal) (k0_pay2 x w) (k0_pay5 x w p1) k0_pay6 p2 f s)
    (logistic (k0_pay7 (F := Ideal) (k0_pay2 x w) (k0_pay5 x w p1) k0_pay6 p2 f s))) a) bitsLt_bf16_f32) shapeCasts_S64x256_S1x64x256 j).trans ?_
  exact shapeCast_addUnit_apply (α := EReal) ![64, 256] _ _ j

end Body

variable (m : (ℓ : Loc nD τ sig) → Buf (Elt Ideal) ℓ) (ρ : Dev nD → PrngReg)

abbrev X (c : Dev nD) : S1x64x4096.Idx → EReal := m ((c : Thread nD τ).loc main_arg0)
abbrev Wa (c : Dev nD) : S4096x11008.Idx → EReal := m ((c : Thread nD τ).loc main_arg1)
abbrev Wg (c : Dev nD) : S4096x11008.Idx → EReal := m ((c : Thread nD τ).loc main_arg2)
abbrev C (c : Dev nD) : S2x3x22016.Idx → EReal := m ((c : Thread nD τ).loc main_arg3)
abbrev B (c : Dev nD) : S2x22016.Idx → EReal := m ((c : Thread nD τ).loc main_arg4)
abbrev P (c : Dev nD) : S8x2x22016.Idx → EReal := m ((c : Thread nD τ).loc main_arg5)

/-! ### What the host prepares -/

/-- The biases as the call takes them: one row for each layer. -/
theorem bias (c : Dev nD) : V m c main_v7 = shapeCast S2x1x22016 (m ((c : Thread nD τ).loc main_arg4)) shapeCasts_S2x22016_S2x1x22016 := by
  show StableHlo.after hostOps0 _ _ = _
  after_results <;> rfl

theorem bias_apply (c : Dev nD) (i : S2x1x22016.Idx) : V m c main_v7 i = B m c (ix2 (i 0) (i 2)) := by
  rw [bias]
  refine shapeCast_apply (s := S2x22016) (t := S2x1x22016) _ _ _ _ ?_
  rw [Shape.rowMajor_val_two, Shape.rowMajor_val_three]
  have h1 : (i 1).val < 1 := (i 1).isLt
  show (i 0).val * 22016 + (i 2).val = ((i 0).val * 1 + (i 1).val) * 22016 + (i 2).val
  omega

/-- The carried rows as the call takes them: each where the token that needs it looks. -/
def pv1 (c : Dev nD) : S1x64x22016.Idx → EReal := shapeCast S1x64x22016 (concatenate S8x8x22016 1 [⟨S8x1x22016, extractStridedSlice S8x1x22016 ![0, 1, 0] (m ((c : Thread nD τ).loc main_arg5)) slices_S8x2x22016_S8x1x22016_0_1_0⟩,
    ⟨S8x7x22016, broadcastInDim S8x7x22016 ![] bcast_S_S8x7x22016 (constant (F := Ideal) S_ .f32 0x00000000#32)⟩] concatenates_S8x1x22016_S8x7x22016_S8x8x22016_d1) shapeCasts_S8x8x22016_S1x64x22016

theorem prev1 (c : Dev nD) : V m c main_v3 = pv1 m c := by
  show StableHlo.after hostOps0 _ _ = _
  after_results <;> rfl

def pv2 (c : Dev nD) : S1x64x22016.Idx → EReal := shapeCast S1x64x22016 (concatenate S8x8x22016 1 [⟨S8x2x22016, (m ((c : Thread nD τ).loc main_arg5))⟩,
    ⟨S8x6x22016, broadcastInDim S8x6x22016 ![] bcast_S_S8x6x22016 (constant (F := Ideal) S_ .f32 0x00000000#32)⟩] concatenates_S8x2x22016_S8x6x22016_S8x8x22016_d1) shapeCasts_S8x8x22016_S1x64x22016

theorem prev2 (c : Dev nD) : V m c main_v6 = pv2 m c := by
  show StableHlo.after hostOps0 _ _ = _
  after_results <;> rfl

theorem lay (y : S8x8x22016.Idx → EReal) (r : Fin 64) (q : Fin 22016) : shapeCast S1x64x22016 y shapeCasts_S8x8x22016_S1x64x22016 (ix3 0 r q) = y (ix3 (seq r) (pos r) q) := by
  refine shapeCast_apply (s := S8x8x22016) (t := S1x64x22016) _ _ _ (ix3 (seq r) (pos r) q : S8x8x22016.Idx) ?_
  rw [Shape.rowMajor_val_three, Shape.rowMajor_val_three]
  show (r.val / 8 * 8 + r.val % 8) * 22016 + q.val = (0 * 64 + r.val) * 22016 + q.val
  omega

theorem prev1_apply (c : Dev nD) (r : Fin 64) (q : Fin 22016) (h : r.val % 8 < 1) : pv1 m c (ix3 0 r q) = P m c (ix3 (seq r) 1 q) := by
  unfold pv1
  refine (lay _ r q).trans ?_
  refine (concatenate_pair_apply_left (s₁ := S8x1x22016) 1 _ _ _ (ix3 (seq r) (pos r) q : S8x8x22016.Idx) rfl (ix3 (seq r) ⟨r.val % 8, h⟩ q : S8x1x22016.Idx)
    (fun a => by match a with | ⟨0, _⟩ => rfl | ⟨1, _⟩ => rfl | ⟨2, _⟩ => rfl)).trans ?_
  exact extractStridedSlice_apply _ _ _ _ (ix3 (seq r) 1 q : S8x2x22016.Idx)
    (fun b => by match b with | ⟨0, _⟩ => exact (Nat.zero_add _).symm | ⟨1, _⟩ => exact (by show 1 = 1 + r.val % 8; omega) | ⟨2, _⟩ => exact (Nat.zero_add _).symm)

theorem prev2_apply (c : Dev nD) (r : Fin 64) (q : Fin 22016) (h : r.val % 8 < 2) : pv2 m c (ix3 0 r q) = P m c (ix3 (seq r) ⟨r.val % 8, h⟩ q) := by
  unfold pv2
  refine (lay _ r q).trans ?_
  exact concatenate_pair_apply_left (s₁ := S8x2x22016) 1 _ _ _ (ix3 (seq r) (pos r) q : S8x8x22016.Idx) rfl (ix3 (seq r) ⟨r.val % 8, h⟩ q : S8x2x22016.Idx)
    (fun a => by match a with | ⟨0, _⟩ => rfl | ⟨1, _⟩ => rfl | ⟨2, _⟩ => rfl)

/-! ### The blocks of a point -/

/-- How the windows move over the grid: the columns, one block for each point. -/
theorem idx : ∀ t : Fin cfg0.N, win0_0.index t = ![0, 0, 0] ∧ win0_1.index t = ![0, t.val] ∧ win0_2.index t = ![0, t.val] ∧ win0_3.index t = ![0, 0, t.val] ∧ win0_4.index t = ![0, 0, t.val + 43] ∧ win0_5.index t = ![0, 0, t.val] ∧ win0_6.index t = ![0, 0, t.val + 43] ∧ win0_7.index t = ![0, 0, t.val] ∧ win0_8.index t = ![0, 0, t.val] ∧ win0_9.index t = ![0, 0, t.val + 43] ∧ win0_10.index t = ![0, 0, t.val + 43] :=
  (by decide +kernel : ∀ t : Fin grid0.N, win0_0.index t = ![0, 0, 0] ∧ win0_1.index t = ![0, t.val] ∧ win0_2.index t = ![0, t.val] ∧ win0_3.index t = ![0, 0, t.val] ∧ win0_4.index t = ![0, 0, t.val + 43] ∧ win0_5.index t = ![0, 0, t.val] ∧ win0_6.index t = ![0, 0, t.val + 43] ∧ win0_7.index t = ![0, 0, t.val] ∧ win0_8.index t = ![0, 0, t.val] ∧ win0_9.index t = ![0, 0, t.val + 43] ∧ win0_10.index t = ![0, 0, t.val + 43])
theorem odx : ∀ t : Fin cfg0.N, win0_11.index t = ![0, 0, t.val] ∧ win0_12.index t = ![0, 0, t.val] ∧ win0_13.index t = ![0, 0, t.val] :=
  (by decide +kernel : ∀ t : Fin grid0.N, win0_11.index t = ![0, 0, t.val] ∧ win0_12.index t = ![0, 0, t.val] ∧ win0_13.index t = ![0, 0, t.val])

theorem lt_N (t : Fin cfg0.N) : t.val < 43 := Nat.lt_of_lt_of_eq t.isLt N_0

/-- The column of a point's block entry. -/
abbrev col (t : Fin cfg0.N) (q : Fin 256) : Fin 11008 := ⟨256 * t.val + q.val, by have := lt_N t; omega⟩

theorem b0_apply (c : Dev nD) (t : Fin cfg0.N) (r : Fin 64) (k : Fin 4096) : iblk m c 0 t (ix3 0 r k : S1x64x4096.Idx) = X m c (ix3 0 r k) := by
  show V m c main_arg0 ((win0_0.rect t).emb (ix3 0 r k : S1x64x4096.Idx)) = _
  rw [V_main_arg0]
  have v (a) := Pipeline.Window.rect_emb_val win0_0 t (ix3 0 r k : S1x64x4096.Idx) a
  rw [(idx t).1] at v
  refine congrArg (m ((c : Thread nD τ).loc main_arg0)) ?_
  funext a; apply Fin.ext
  match a with
  | ⟨0, _⟩ => exact (v 0).trans (by show 0 * 1 + 0 = 0; rfl)
  | ⟨1, _⟩ => exact (v 1).trans (by show 0 * 64 + r.val = r.val; omega)
  | ⟨2, _⟩ => exact (v 2).trans (by show 0 * 4096 + k.val = k.val; omega)

theorem b1_apply (c : Dev nD) (t : Fin cfg0.N) (k : Fin 4096) (q : Fin 256) : iblk m c 1 t (ix2 k q : S4096x256.Idx) = Wa m c (ix2 k (col t q)) := by
  show V m c main_arg1 ((win0_1.rect t).emb (ix2 k q : S4096x256.Idx)) = _
  rw [V_main_arg1]
  have v (a) := Pipeline.Window.rect_emb_val win0_1 t (ix2 k q : S4096x256.Idx) a
  rw [(idx t).2.1] at v
  refine congrArg (m ((c : Thread nD τ).loc main_arg1)) ?_
  funext a; apply Fin.ext
  match a with
  | ⟨0, _⟩ => exact (v 0).trans (by show 0 * 4096 + k.val = k.val; omega)
  | ⟨1, _⟩ => exact (v 1).trans (by show t.val * 256 + q.val = 256 * t.val + q.val; omega)

theorem b2_apply (c : Dev nD) (t : Fin cfg0.N) (k : Fin 4096) (q : Fin 256) : iblk m c 2 t (ix2 k q : S4096x256.Idx) = Wg m c (ix2 k (col t q)) := by
  show V m c main_arg2 ((win0_2.rect t).emb (ix2 k q : S4096x256.Idx)) = _
  rw [V_main_arg2]
  have v (a) := Pipeline.Window.rect_emb_val win0_2 t (ix2 k q : S4096x256.Idx) a
  rw [(idx t).2.2.1] at v
  refine congrArg (m ((c : Thread nD τ).loc main_arg2)) ?_
  funext a; apply Fin.ext
  match a with
  | ⟨0, _⟩ => exact (v 0).trans (by show 0 * 4096 + k.val = k.val; omega)
  | ⟨1, _⟩ => exact (v 1).trans (by show t.val * 256 + q.val = 256 * t.val + q.val; omega)

theorem b3_apply (c : Dev nD) (t : Fin cfg0.N) (k : Fin 3) (q : Fin 256) : iblk m c 3 t (ix3 0 k q : S1x3x256.Idx) = C m c (ix3 0 k (lo (col t q))) := by
  show V m c main_arg3 ((win0_3.rect t).emb (ix3 0 k q : S1x3x256.Idx)) = _
  rw [V_main_arg3]
  have v (a) := Pipeline.Window.rect_emb_val win0_3 t (ix3 0 k q : S1x3x256.Idx) a
  rw [(idx t).2.2.2.1] at v
  refine congrArg (m ((c : Thread nD τ).loc main_arg3)) ?_
  funext a; apply Fin.ext
  match a with
  | ⟨0, _⟩ => exact (v 0).trans (by show 0 * 1 + 0 = 0; rfl)
  | ⟨1, _⟩ => exact (v 1).trans (by show 0 * 3 + k.val = k.val; omega)
  | ⟨2, _⟩ => exact (v 2).trans (by show t.val * 256 + q.val = 256 * t.val + q.val; omega)

theorem b4_apply (c : Dev nD) (t : Fin cfg0.N) (k : Fin 3) (q : Fin 256) : iblk m c 4 t (ix3 0 k q : S1x3x256.Idx) = C m c (ix3 0 k (hi (col t q))) := by
  show V m c main_arg3 ((win0_4.rect t).emb (ix3 0 k q : S1x3x256.Idx)) = _
  rw [V_main_arg3]
  have v (a) := Pipeline.Window.rect_emb_val win0_4 t (ix3 0 k q : S1x3x256.Idx) a
  rw [(idx t).2.2.2.2.1] at v
  refine congrArg (m ((c : Thread nD τ).loc main_arg3)) ?_
  funext a; apply Fin.ext
  match a with
  | ⟨0, _⟩ => exact (v 0).trans (by show 0 * 1 + 0 = 0; rfl)
  | ⟨1, _⟩ => exact (v 1).trans (by show 0 * 3 + k.val = k.val; omega)
  | ⟨2, _⟩ => exact (v 2).trans (by show (t.val + 43) * 256 + q.val = 256 * t.val + q.val + 11008; omega)

theorem b5_apply (c : Dev nD) (t : Fin cfg0.N) (q : Fin 256) : iblk m c 5 t (ix3 0 0 q : S1x1x256.Idx) = B m c (ix2 0 (lo (col t q))) := by
  show V m c main_v7 ((win0_5.rect t).emb (ix3 0 0 q : S1x1x256.Idx)) = _
  refine (bias_apply m c _).trans (congrArg (B m c) ?_)
  have v (a) := Pipeline.Window.rect_emb_val win0_5 t (ix3 0 0 q : S1x1x256.Idx) a
  rw [(idx t).2.2.2.2.2.1] at v
  funext a; apply Fin.ext
  match a with
  | ⟨0, _⟩ => exact (v 0).trans (by show 0 * 1 + 0 = 0; rfl)
  | ⟨1, _⟩ => exact (v 2).trans (by show t.val * 256 + q.val = 256 * t.val + q.val; omega)

theorem b6_apply (c : Dev nD) (t : Fin cfg0.N) (q : Fin 256) : iblk m c 6 t (ix3 0 0 q : S1x1x256.Idx) = B m c (ix2 0 (hi (col t q))) := by
  show V m c main_v7 ((win0_6.rect t).emb (ix3 0 0 q : S1x1x256.Idx)) = _
  refine (bias_apply m c _).trans (congrArg (B m c) ?_)
  have v (a) := Pipeline.Window.rect_emb_val win0_6 t (ix3 0 0 q : S1x1x256.Idx) a
  rw [(idx t).2.2.2.2.2.2.1] at v
  funext a; apply Fin.ext
  match a with
  | ⟨0, _⟩ => exact (v 0).trans (by show 0 * 1 + 0 = 0; rfl)
  | ⟨1, _⟩ => exact (v 2).trans (by show (t.val + 43) * 256 + q.val = 256 * t.val + q.val + 11008; omega)

theorem blk7 (c : Dev nD) (t : Fin cfg0.N) : iblk m c 7 t = ((cfg0.win 7).blk t).view.read (Elt Ideal) (V m c (Pipeline.arrRef spec0 7)) := rfl
theorem arr7 (c : Dev nD) : V m c (Pipeline.arrRef spec0 7) = pv1 m c := prev1 m c
theorem read7 (t : Fin cfg0.N) (y : S1x64x22016.Idx → EReal) (r : Fin 64) (q : Fin 256) :
    ((cfg0.win 7).blk t).view.read (Elt Ideal) y (ix3 0 r q : S1x64x256.Idx) = y ((win0_7.rect t).emb (ix3 0 r q : S1x64x256.Idx)) := rfl
theorem pre7 (c : Dev nD) (t : Fin cfg0.N) : iblk m c 7 t = ((cfg0.win 7).blk t).view.read (Elt Ideal) (pv1 m c) :=
  (blk7 m c t).trans (congrArg (((cfg0.win 7).blk t).view.read (Elt Ideal)) (arr7 m c))
theorem b7_apply (c : Dev nD) (t : Fin cfg0.N) (r : Fin 64) (q : Fin 256) : r.val % 8 < 1 → iblk m c 7 t (ix3 0 r q : S1x64x256.Idx) = P m c (ix3 (seq r) 1 (lo (col t q))) := by
  intro h
  refine (congrFun (pre7 m c t) _).trans ((read7 t _ r q).trans (Eq.trans (congrArg (pv1 m c) ?_) (prev1_apply m c r (lo (col t q)) h)))
  have v (a) := Pipeline.Window.rect_emb_val win0_7 t (ix3 0 r q : S1x64x256.Idx) a
  rw [(idx t).2.2.2.2.2.2.2.1] at v
  funext a; apply Fin.ext
  match a with
  | ⟨0, _⟩ => exact (v 0).trans (by show 0 * 1 + 0 = 0; rfl)
  | ⟨1, _⟩ => exact (v 1).trans (by show 0 * 64 + r.val = r.val; omega)
  | ⟨2, _⟩ => exact (v 2).trans (by show t.val * 256 + q.val = 256 * t.val + q.val; omega)

theorem blk8 (c : Dev nD) (t : Fin cfg0.N) : iblk m c 8 t = ((cfg0.win 8).blk t).view.read (Elt Ideal) (V m c (Pipeline.arrRef spec0 8)) := rfl
theorem arr8 (c : Dev nD) : V m c (Pipeline.arrRef spec0 8) = pv2 m c := prev2 m c
theorem read8 (t : Fin cfg0.N) (y : S1x64x22016.Idx → EReal) (r : Fin 64) (q : Fin 256) :
    ((cfg0.win 8).blk t).view.read (Elt Ideal) y (ix3 0 r q : S1x64x256.Idx) = y ((win0_8.rect t).emb (ix3 0 r q : S1x64x256.Idx)) := rfl
theorem pre8 (c : Dev nD) (t : Fin cfg0.N) : iblk m c 8 t = ((cfg0.win 8).blk t).view.read (Elt Ideal) (pv2 m c) :=
  (blk8 m c t).trans (congrArg (((cfg0.win 8).blk t).view.read (Elt Ideal)) (arr8 m c))
theorem b8_apply (c : Dev nD) (t : Fin cfg0.N) (r : Fin 64) (q : Fin 256) : (h : r.val % 8 < 2) → iblk m c 8 t (ix3 0 r q : S1x64x256.Idx) = P m c (ix3 (seq r) ⟨r.val % 8, h⟩ (lo (col t q))) := by
  intro h
  refine (congrFun (pre8 m c t) _).trans ((read8 t _ r q).trans (Eq.trans (congrArg (pv2 m c) ?_) (prev2_apply m c r (lo (col t q)) h)))
  have v (a) := Pipeline.Window.rect_emb_val win0_8 t (ix3 0 r q : S1x64x256.Idx) a
  rw [(idx t).2.2.2.2.2.2.2.2.1] at v
  funext a; apply Fin.ext
  match a with
  | ⟨0, _⟩ => exact (v 0).trans (by show 0 * 1 + 0 = 0; rfl)
  | ⟨1, _⟩ => exact (v 1).trans (by show 0 * 64 + r.val = r.val; omega)
  | ⟨2, _⟩ => exact (v 2).trans (by show t.val * 256 + q.val = 256 * t.val + q.val; omega)

theorem blk9 (c : Dev nD) (t : Fin cfg0.N) : iblk m c 9 t = ((cfg0.win 9).blk t).view.read (Elt Ideal) (V m c (Pipeline.arrRef spec0 9)) := rfl
theorem arr9 (c : Dev nD) : V m c (Pipeline.arrRef spec0 9) = pv1 m c := prev1 m c
theorem read9 (t : Fin cfg0.N) (y : S1x64x22016.Idx → EReal) (r : Fin 64) (q : Fin 256) :
    ((cfg0.win 9).blk t).view.read (Elt Ideal) y (ix3 0 r q : S1x64x256.Idx) = y ((win0_9.rect t).emb (ix3 0 r q : S1x64x256.Idx)) := rfl
theorem pre9 (c : Dev nD) (t : Fin cfg0.N) : iblk m c 9 t = ((cfg0.win 9).blk t).view.read (Elt Ideal) (pv1 m c) :=
  (blk9 m c t).trans (congrArg (((cfg0.win 9).blk t).view.read (Elt Ideal)) (arr9 m c))
theorem b9_apply (c : Dev nD) (t : Fin cfg0.N) (r : Fin 64) (q : Fin 256) : r.val % 8 < 1 → iblk m c 9 t (ix3 0 r q : S1x64x256.Idx) = P m c (ix3 (seq r) 1 (hi (col t q))) := by
  intro h
  refine (congrFun (pre9 m c t) _).trans ((read9 t _ r q).trans (Eq.trans (congrArg (pv1 m c) ?_) (prev1_apply m c r (hi (col t q)) h)))
  have v (a) := Pipeline.Window.rect_emb_val win0_9 t (ix3 0 r q : S1x64x256.Idx) a
  rw [(idx t).2.2.2.2.2.2.2.2.2.1] at v
  funext a; apply Fin.ext
  match a with
  | ⟨0, _⟩ => exact (v 0).trans (by show 0 * 1 + 0 = 0; rfl)
  | ⟨1, _⟩ => exact (v 1).trans (by show 0 * 64 + r.val = r.val; omega)
  | ⟨2, _⟩ => exact (v 2).trans (by show (t.val + 43) * 256 + q.val = 256 * t.val + q.val + 11008; omega)

theorem blk10 (c : Dev nD) (t : Fin cfg0.N) : iblk m c 10 t = ((cfg0.win 10).blk t).view.read (Elt Ideal) (V m c (Pipeline.arrRef spec0 10)) := rfl
theorem arr10 (c : Dev nD) : V m c (Pipeline.arrRef spec0 10) = pv2 m c := prev2 m c
theorem read10 (t : Fin cfg0.N) (y : S1x64x22016.Idx → EReal) (r : Fin 64) (q : Fin 256) :
    ((cfg0.win 10).blk t).view.read (Elt Ideal) y (ix3 0 r q : S1x64x256.Idx) = y ((win0_10.rect t).emb (ix3 0 r q : S1x64x256.Idx)) := rfl
theorem pre10 (c : Dev nD) (t : Fin cfg0.N) : iblk m c 10 t = ((cfg0.win 10).blk t).view.read (Elt Ideal) (pv2 m c) :=
  (blk10 m c t).trans (congrArg (((cfg0.win 10).blk t).view.read (Elt Ideal)) (arr10 m c))
theorem b10_apply (c : Dev nD) (t : Fin cfg0.N) (r : Fin 64) (q : Fin 256) : (h : r.val % 8 < 2) → iblk m c 10 t (ix3 0 r q : S1x64x256.Idx) = P m c (ix3 (seq r) ⟨r.val % 8, h⟩ (hi (col t q))) := by
  intro h
  refine (congrFun (pre10 m c t) _).trans ((read10 t _ r q).trans (Eq.trans (congrArg (pv2 m c) ?_) (prev2_apply m c r (hi (col t q)) h)))
  have v (a) := Pipeline.Window.rect_emb_val win0_10 t (ix3 0 r q : S1x64x256.Idx) a
  rw [(idx t).2.2.2.2.2.2.2.2.2.2] at v
  funext a; apply Fin.ext
  match a with
  | ⟨0, _⟩ => exact (v 0).trans (by show 0 * 1 + 0 = 0; rfl)
  | ⟨1, _⟩ => exact (v 1).trans (by show 0 * 64 + r.val = r.val; omega)
  | ⟨2, _⟩ => exact (v 2).trans (by show (t.val + 43) * 256 + q.val = 256 * t.val + q.val + 11008; omega)

/-! ### One half of the columns -/

theorem conv_eq (e : Fin 11008 → Fin 22016) (W : A1) (c : Dev nD) (t : Fin cfg0.N) (w : S4096x256.Idx → EReal) (p1 p2 : S1x64x256.Idx → EReal) (f : S1x3x256.Idx → EReal) (s : S1x1x256.Idx → EReal)
    (hw : ∀ k q, w (ix2 k q) = W (ix2 k (col t q))) (h1 : ∀ r q, r.val % 8 < 1 → p1 (ix3 0 r q) = P m c (ix3 (seq r) 1 (e (col t q))))
    (h2 : ∀ r q, (h : r.val % 8 < 2) → p2 (ix3 0 r q) = P m c (ix3 (seq r) ⟨r.val % 8, h⟩ (e (col t q))))
    (hf : ∀ k q, f (ix3 0 k q) = C m c (ix3 0 k (e (col t q)))) (hs : ∀ q, s (ix3 0 0 q) = B m c (ix2 0 (e (col t q)))) (j : S64x256.Idx) :
    k0_pay7 (F := Ideal) (k0_pay2 (iblk m c 0 t) w) (k0_pay5 (iblk m c 0 t) w p1) k0_pay6 p2 f s j
      = conv e (X m c) W (C m c) (B m c) (P m c) (seq (j 0)) (pos (j 0)).val (col t (j 1)) := by
  have h0 : (j 0).val < 64 := (j 0).isLt
  have hb (r q) : blkProd (iblk m c 0 t) w r q = prod (X m c) W r (col t q) :=
    Finset.sum_congr rfl fun k _ => congrArg₂ (· * ·) (b0_apply m c t r k) (hw k q)
  refine (pay7_apply _ _ _ _ _ _ _).trans (congrArg₂ (· + ·) (hs _) (congrArg₂ (· + ·) (congrArg₂ (· + ·) ?_ ?_) ?_))
  · refine congrArg₂ (· * ·) (hf 0 _) ?_
    unfold old2
    by_cases h : (j 0).val % 8 < 2
    · exact (if_pos h).trans ((h2 _ _ h).trans (hist_old ⟨(j 0).val % 8, h⟩ rfl).symm)
    · refine (if_neg h).trans ((hb _ _).trans (hist_row _ (by show 2 ≤ (j 0).val % 8; omega) (by show (j 0).val % 8 < 10; omega) ?_).symm)
      show (j 0).val - 2 = 8 * ((j 0).val / 8) + ((j 0).val % 8 - 2)
      omega
  · refine congrArg₂ (· * ·) (hf 1 _) ?_
    unfold old1
    by_cases h : (j 0).val % 8 < 1
    · exact (if_pos h).trans ((h1 _ _ h).trans (hist_old 1 (by show (j 0).val % 8 + 1 = 1; omega)).symm)
    · refine (if_neg h).trans ((hb _ _).trans (hist_row _ (by show 2 ≤ (j 0).val % 8 + 1; omega) (by show (j 0).val % 8 + 1 < 10; omega) ?_).symm)
      show (j 0).val - 1 = 8 * ((j 0).val / 8) + ((j 0).val % 8 + 1 - 2)
      omega
  · refine congrArg₂ (· * ·) (hf 2 _) ((hb _ _).trans (hist_row _ (by show 2 ≤ (j 0).val % 8 + 2; omega) (by show (j 0).val % 8 + 2 < 10; omega) ?_).symm)
    show (j 0).val = 8 * ((j 0).val / 8) + ((j 0).val % 8 + 2 - 2)
    omega

theorem hz3 : (![0, 0, 0] : Fin 3 → Nat) = fun _ => 0 := funext fun a => by fin_cases a <;> rfl
theorem hz2 : (![0, 0] : Fin 2 → Nat) = fun _ => 0 := funext fun a => by fin_cases a <;> rfl

/-! ### What a point leaves -/

theorem o11_apply (c : Dev nD) (t : Fin cfg0.N) (j : S1x64x256.Idx) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j
      = acts (X m c) (Wa m c) (Wg m c) (C m c) (B m c) (P m c) (ix3 0 (j 1) (col t (j 2))) := by
  unfold out0_11 k0_pay14
  rw [View.canon_unit_zero hz3]
  simp only [View.ld_unit_zero (S := S1x64x4096) hz3, View.ld_unit_zero (S := S4096x256) hz2, View.ld_unit_zero (S := S1x64x256) hz3, View.ld_unit_zero (S := S1x3x256) hz3, View.ld_unit_zero (S := S1x1x256) hz3]
  refine (pay13_eq (iblk m c 0 t) (iblk m c 2 t) (iblk m c 9 t) (iblk m c 10 t) _ (iblk m c 4 t) (iblk m c 6 t) j).trans ?_
  have hg := conv_eq m hi (Wg m c) c t (iblk m c 2 t) (iblk m c 9 t) (iblk m c 10 t) (iblk m c 4 t) (iblk m c 6 t) (b2_apply m c t) (b9_apply m c t) (b10_apply m c t) (b4_apply m c t) (b6_apply m c t) (fun b => j b.succ)
  have ha := conv_eq m lo (Wa m c) c t (iblk m c 1 t) (iblk m c 7 t) (iblk m c 8 t) (iblk m c 3 t) (iblk m c 5 t) (b1_apply m c t) (b7_apply m c t) (b8_apply m c t) (b3_apply m c t) (b5_apply m c t) (fun b => j b.succ)
  exact congrArg₂ gate ha hg

theorem o12_apply (c : Dev nD) (t : Fin cfg0.N) (j : S1x64x256.Idx) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j = ups (X m c) (Wa m c) (ix3 0 (j 1) (col t (j 2))) := by
  unfold out0_12
  rw [View.canon_unit_zero hz3]
  simp only [View.ld_unit_zero (S := S1x64x4096) hz3, View.ld_unit_zero (S := S4096x256) hz2]
  unfold k0_pay3
  refine (shapeCast_addUnit_apply (α := EReal) ![64, 256] _ _ j).trans ((pay2_apply (iblk m c 0 t) (iblk m c 1 t) _).trans ?_)
  exact Finset.sum_congr rfl fun k _ => congrArg₂ (· * ·) (b0_apply m c t _ k) (b1_apply m c t k _)

theorem o13_apply (c : Dev nD) (t : Fin cfg0.N) (j : S1x64x256.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j = ups (X m c) (Wg m c) (ix3 0 (j 1) (col t (j 2))) := by
  unfold out0_13 k0_pay14
  rw [View.canon_unit_zero hz3]
  simp only [View.ld_unit_zero (S := S1x64x4096) hz3, View.ld_unit_zero (S := S4096x256) hz2]
  unfold k0_pay9
  refine (shapeCast_addUnit_apply (α := EReal) ![64, 256] _ _ j).trans ((pay2_apply (iblk m c 0 t) (iblk m c 2 t) _).trans ?_)
  exact Finset.sum_congr rfl fun k _ => congrArg₂ (· * ·) (b0_apply m c t _ k) (b2_apply m c t k _)

/-! ### The result arrays -/

theorem final11 (c : Dev nD) : (dats m 0 c).arrAt 11 cfg0.N = (acts (X m c) (Wa m c) (Wg m c) (C m c) (B m c) (P m c) : Buf (Elt Ideal) ((c : Thread nD τ).loc main_v8_0)) := by
  refine (dats m 0 c).arrAt_eq_of_cover 11 _ (fun t _ => ?_) (fun i => ?_)
  · rw [Value.flushed11]
    funext j
    show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) j = acts (X m c) (Wa m c) (Wg m c) (C m c) (B m c) (P m c) ((win0_11.rect t).emb j)
    refine (o11_apply m c t j).trans (congrArg (acts (X m c) (Wa m c) (Wg m c) (C m c) (B m c) (P m c)) ?_)
    have v (a) := Pipeline.Window.rect_emb_val win0_11 t j a
    rw [(odx t).1] at v
    have h0 : (j 0).val < 1 := (j 0).isLt
    funext a; apply Fin.ext
    match a with
    | ⟨0, _⟩ => exact .trans (by show 0 = 0 * 1 + (j 0).val; omega) (v 0).symm
    | ⟨1, _⟩ => exact .trans (by show (j 1).val = 0 * 64 + (j 1).val; omega) (v 1).symm
    | ⟨2, _⟩ => exact .trans (by show 256 * t.val + (j 2).val = t.val * 256 + (j 2).val; omega) (v 2).symm
  · have h0 : (i 0).val < 1 := (i 0).isLt
    have h1 : (i 1).val < 64 := (i 1).isLt
    have h2 : (i 2).val < 11008 := (i 2).isLt
    have hl : (i 2).val / 256 < cfg0.N := Nat.lt_of_lt_of_eq (by omega) N_0.symm
    obtain ⟨t, ht⟩ : ∃ t : Fin cfg0.N, t.val = (i 2).val / 256 := ⟨⟨_, hl⟩, rfl⟩
    refine ⟨t, flush0_11 t, ?_⟩
    show i ∈ ((View.whole main_v8_0).slice (win0_11.rect t)).set
    rw [View.set_slice_whole, Rect.mem_set_unit]
    intro a
    show win0_11.index t a * win0_11.size a ≤ (i a).val ∧ (i a).val < win0_11.index t a * win0_11.size a + win0_11.size a
    rw [(odx t).1]
    match a with
    | ⟨0, _⟩ => show 0 * 1 ≤ (i 0).val ∧ (i 0).val < 0 * 1 + 1; omega
    | ⟨1, _⟩ => show 0 * 64 ≤ (i 1).val ∧ (i 1).val < 0 * 64 + 64; omega
    | ⟨2, _⟩ => show t.val * 256 ≤ (i 2).val ∧ (i 2).val < t.val * 256 + 256; omega

theorem final12 (c : Dev nD) : (dats m 0 c).arrAt 12 cfg0.N = (ups (X m c) (Wa m c) : Buf (Elt Ideal) ((c : Thread nD τ).loc main_v8_1)) := by
  refine (dats m 0 c).arrAt_eq_of_cover 12 _ (fun t _ => ?_) (fun i => ?_)
  · rw [Value.flushed12]
    funext j
    show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) j = ups (X m c) (Wa m c) ((win0_12.rect t).emb j)
    refine (o12_apply m c t j).trans (congrArg (ups (X m c) (Wa m c)) ?_)
    have v (a) := Pipeline.Window.rect_emb_val win0_12 t j a
    rw [(odx t).2.1] at v
    have h0 : (j 0).val < 1 := (j 0).isLt
    funext a; apply Fin.ext
    match a with
    | ⟨0, _⟩ => exact .trans (by show 0 = 0 * 1 + (j 0).val; omega) (v 0).symm
    | ⟨1, _⟩ => exact .trans (by show (j 1).val = 0 * 64 + (j 1).val; omega) (v 1).symm
    | ⟨2, _⟩ => exact .trans (by show 256 * t.val + (j 2).val = t.val * 256 + (j 2).val; omega) (v 2).symm
  · have h0 : (i 0).val < 1 := (i 0).isLt
    have h1 : (i 1).val < 64 := (i 1).isLt
    have h2 : (i 2).val < 11008 := (i 2).isLt
    have hl : (i 2).val / 256 < cfg0.N := Nat.lt_of_lt_of_eq (by omega) N_0.symm
    obtain ⟨t, ht⟩ : ∃ t : Fin cfg0.N, t.val = (i 2).val / 256 := ⟨⟨_, hl⟩, rfl⟩
    refine ⟨t, flush0_12 t, ?_⟩
    show i ∈ ((View.whole main_v8_1).slice (win0_12.rect t)).set
    rw [View.set_slice_whole, Rect.mem_set_unit]
    intro a
    show win0_12.index t a * win0_12.size a ≤ (i a).val ∧ (i a).val < win0_12.index t a * win0_12.size a + win0_12.size a
    rw [(odx t).2.1]
    match a with
    | ⟨0, _⟩ => show 0 * 1 ≤ (i 0).val ∧ (i 0).val < 0 * 1 + 1; omega
    | ⟨1, _⟩ => show 0 * 64 ≤ (i 1).val ∧ (i 1).val < 0 * 64 + 64; omega
    | ⟨2, _⟩ => show t.val * 256 ≤ (i 2).val ∧ (i 2).val < t.val * 256 + 256; omega

theorem final13 (c : Dev nD) : (dats m 0 c).arrAt 13 cfg0.N = (ups (X m c) (Wg m c) : Buf (Elt Ideal) ((c : Thread nD τ).loc main_v8_2)) := by
  refine (dats m 0 c).arrAt_eq_of_cover 13 _ (fun t _ => ?_) (fun i => ?_)
  · rw [Value.flushed13]
    funext j
    show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) j = ups (X m c) (Wg m c) ((win0_13.rect t).emb j)
    refine (o13_apply m c t j).trans (congrArg (ups (X m c) (Wg m c)) ?_)
    have v (a) := Pipeline.Window.rect_emb_val win0_13 t j a
    rw [(odx t).2.2] at v
    have h0 : (j 0).val < 1 := (j 0).isLt
    funext a; apply Fin.ext
    match a with
    | ⟨0, _⟩ => exact .trans (by show 0 = 0 * 1 + (j 0).val; omega) (v 0).symm
    | ⟨1, _⟩ => exact .trans (by show (j 1).val = 0 * 64 + (j 1).val; omega) (v 1).symm
    | ⟨2, _⟩ => exact .trans (by show 256 * t.val + (j 2).val = t.val * 256 + (j 2).val; omega) (v 2).symm
  · have h0 : (i 0).val < 1 := (i 0).isLt
    have h1 : (i 1).val < 64 := (i 1).isLt
    have h2 : (i 2).val < 11008 := (i 2).isLt
    have hl : (i 2).val / 256 < cfg0.N := Nat.lt_of_lt_of_eq (by omega) N_0.symm
    obtain ⟨t, ht⟩ : ∃ t : Fin cfg0.N, t.val = (i 2).val / 256 := ⟨⟨_, hl⟩, rfl⟩
    refine ⟨t, flush0_13 t, ?_⟩
    show i ∈ ((View.whole main_v8_2).slice (win0_13.rect t)).set
    rw [View.set_slice_whole, Rect.mem_set_unit]
    intro a
    show win0_13.index t a * win0_13.size a ≤ (i a).val ∧ (i a).val < win0_13.index t a * win0_13.size a + win0_13.size a
    rw [(odx t).2.2]
    match a with
    | ⟨0, _⟩ => show 0 * 1 ≤ (i 0).val ∧ (i 0).val < 0 * 1 + 1; omega
    | ⟨1, _⟩ => show 0 * 64 ≤ (i 1).val ∧ (i 1).val < 0 * 64 + 64; omega
    | ⟨2, _⟩ => show t.val * 256 ≤ (i 2).val ∧ (i 2).val < t.val * 256 + 256; omega

theorem frame : Cert.quiescent_Uc := fun m ρ _ => Cert.Uc.Gen.frame m ρ
theorem frameIdeal : Cert.quiescent_UcIdeal := fun m ρ _ => Cert.UcIdeal.Gen.frame m ρ
theorem frameRef : Cert.quiescent_UcRefIdeal := fun m ρ _ =>
  (θ_run Cert.UcRefIdeal.defs _ _).mono (fun r h => ⟨fun c => (h c).2.2.2, Idealize.ShloMosaic.sem_eq_zero_of_no_sems (by decide) r.2⟩)
    (Cert.UcRefIdeal.Value.run (F := Ideal) m ρ)

/-- The kernel's results are the reference's. -/
theorem algebraic : Cert.algebraic_UcIdeal_UcRefIdeal := by
  intro m ρ m' ρ' _ hagree
  refine ⟨fun c => acts (X m c) (Wa m c) (Wg m c) (C m c) (B m c) (P m c), fun c => ups (X m c) (Wa m c), fun c => ups (X m c) (Wg m c), ?_, ?_⟩
  · exact (θ_run Cert.UcIdeal.defs _ _).mono (fun _ h c => ⟨(h c).1.trans (final11 m c), (h c).2.1.trans (final12 m c), (h c).2.2.1.trans (final13 m c), (h c).2.2.2⟩)
      (Cert.UcIdeal.Value.run_blocks (F := Ideal) m ρ)
  refine (θ_run Cert.UcRefIdeal.defs _ _).mono (fun _ h c => ?_) (Cert.UcRefIdeal.Value.run (F := Ideal) m' ρ')
  obtain ⟨h0, h1, h2, hk⟩ := h c
  obtain ⟨a0, a1, a2, a3, a4, a5⟩ := hagree c
  refine ⟨h0.trans ((UcRef.acts_eq m' c).trans ?_), h1.trans ((UcRef.ups_lo _ _ _ _).trans ?_), h2.trans ((UcRef.ups_hi _ _ _ _).trans ?_), hk⟩
  · rw [a0, a1, a2, a3, a4, a5]
  · rw [a0, a1]
  · rw [a0, a2]

end Cert.Proof.Uc

end
-- ==== Proof.SeRun.lean ====
/-
  The run of the recurrence's pipeline on the sample tokens: what one trip of the loop over the groups of columns
  leaves in the kept states, and so what the whole body leaves.
-/
module

public import proofs.«01_k».proof.Proof.Gen.SeIdeal.Frame
public import proofs.«01_k».proof.Proof.Gen.SeIdeal.Skeleton
public import proofs.«01_k».proof.Proof.Gen.SeIdeal.Points
public import proofs.«01_k».proof.Proof.Gen.SeIdeal.Launch
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Exec
public import Idealize.ShloMosaic.Lib.Tactic
public import Idealize.ShloMosaic.Lib.WordCmp

@[expose] public section

set_option maxRecDepth 16384

noncomputable section

namespace Se

open Cert.SeIdeal Cert.SeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Trip := Fin k0_t1_loop.trips

/-- The columns of the kept states a trip works on, and the columns of the rows it writes. -/
abbrev rs (k : Trip) : Rect S8x8192 := Rect.unit (s := S8x8192) (k0_off4 k) S8x512.size (k0_off4_inb k)
abbrev ry (k : Trip) : Rect S1x64x2048 := Rect.unit (s := S1x64x2048) (k0_off1 k) S1x64x128.size (k0_off1_inb k)
abbrev ra (k : Trip) : Rect S1x8192 := Rect.unit (s := S1x8192) (k0_off3 k) S1x512.size (k0_off3_inb k)
abbrev rb (k : Trip) : Rect S16x128x512 := Rect.unit (s := S16x128x512) (k0_off2 k) S1x128x512.size (k0_off2_inb k)

abbrev rc (k : Trip) : Rect S16x512x128 := Rect.unit (s := S16x512x128) (k0_off5 k) S1x512x128.size (k0_off5_inb k)
abbrev rd (k : Trip) : Rect S1x2048 := Rect.unit (s := S1x2048) (k0_off6 k) S1x128.size (k0_off6_inb k)

/-- Trips work apart from each other. -/
theorem rs_apart : ∀ k j : Trip, k ≠ j → LoadRect.disj (rs k) (rs j).toLoadRect = true := by decide +kernel
theorem ry_apart : ∀ k j : Trip, k ≠ j → LoadRect.disj (ry k) (ry j).toLoadRect = true := by decide +kernel

/-- The eight rows of step `n`, and all rows. -/
abbrev q (n : ℕ) : Rect S64x512 := Rect.unit (s := S64x512) ![8 * (n % 8), 0] S8x512.size (by
  intro a; match a with
  | 0 => show 8 * (n % 8) + 8 ≤ 64; omega
  | 1 => show 0 + 512 ≤ 512; omega)
abbrev qf : Rect S64x512 := Rect.unit (s := S64x512) ![0, 0] S64x512.size inb_S64x512_S64x512_0_0

/-- A load of the part stored last reads what was stored; -/
theorem ld_newest {sig : RefSig} {κ : Kind} {sp : Space} {s : Shape} {e : EltTy} {Val : EltTy → Type} (v : View sig κ sp s e)
    (f : v.ty.Contents Val) (r : Rect s) (w : r.shape.Idx → Val e) (L : List (View.Piece Val s e)) :
    View.ld (v.read Val (v.writes Val f (⟨r, w⟩ :: L))) r = w :=
  funext fun x => View.read_writes_cons_emb v f r w L x

/-- a load of a part apart from it reads what was there before. -/
theorem ld_older {sig : RefSig} {κ : Kind} {sp : Space} {s : Shape} {e : EltTy} {Val : EltTy → Type} (v : View sig κ sp s e)
    (f : v.ty.Contents Val) (r r' : Rect s) (w : r.shape.Idx → Val e) (L : List (View.Piece Val s e))
    (h : LoadRect.disj r r'.toLoadRect = true) :
    View.ld (v.read Val (v.writes Val f (⟨r, w⟩ :: L))) r' = View.ld (v.read Val (v.writes Val f L)) r' := by
  funext x
  have hy := LoadRect.idx_not_mem_of_disj h x
  rw [← Rect.map_emb_univ] at hy
  show v.read Val (v.writes Val f (⟨r, w⟩ :: L)) (r'.toLoadRect.idx x) = _
  rw [View.writes_cons]
  exact View.read_slice_write_of_not_mem r _ _ _ hy

/-- One step of the recurrence on the real parts and on the imaginary parts. -/
def sR (a b r i u : Vec F S8x512 .f32) : Vec F S8x512 .f32 := addf (subf (mulf a r) (mulf b i)) u
def sI (a b r i u : Vec F S8x512 .f32) : Vec F S8x512 .f32 := addf (addf (mulf a i) (mulf b r)) u

/-- The states after `n` steps. -/
def z (a b : Vec F S8x512 .f32) (U W : Vec F S64x512 .f32) (r i : Vec F S8x512 .f32) : ℕ → Vec F S8x512 .f32 × Vec F S8x512 .f32
  | 0 => (r, i)
  | n + 1 => (sR a b (z a b U W r i n).1 (z a b U W r i n).2 (View.ld U (q n)), sI a b (z a b U W r i n).1 (z a b U W r i n).2 (View.ld W (q n)))

/-- The rows a trip keeps: the state after each step over what the inputs gave. -/
def rows (s : ℕ → Vec F S8x512 .f32) (U : Vec F S64x512 .f32) : Vec F S64x512 .f32 := fun j =>
  View.canon (Val := Elt F) (s := S64x512) (e := .f32) [⟨q 7, s 8⟩, ⟨q 6, s 7⟩, ⟨q 5, s 6⟩, ⟨q 4, s 5⟩, ⟨q 3, s 4⟩, ⟨q 2, s 3⟩, ⟨q 1, s 2⟩, ⟨q 0, s 1⟩, ⟨qf, U⟩] (qf.toLoadRect.idx j)

/-- The states a trip steps through, from its part of the inputs and of the kept states. -/
def zs (k : Trip) (x2 : Vec F S1x64x2048 .f32) (x5 x6 : Vec F S1x8192 .f32) (x7 x8 : Vec F S16x128x512 .bf16) (x9 x10 : Vec F S16x512x128 .bf16) (x11 : Vec F S1x2048 .f32) (r i : Vec F S8x8192 .f32) : ℕ → Vec F S8x512 .f32 × Vec F S8x512 .f32 :=
  z (k0_pay10 (View.ld x5 (ra k))) (k0_pay11 (View.ld x6 (ra k))) (k0_pay8 (View.ld x2 (ry k)) (View.ld x7 (rb k)))
    (k0_pay9 (View.ld x2 (ry k)) (View.ld x8 (rb k))) (View.ld r (rs k)) (View.ld i (rs k))

/-- The columns of the rows a trip writes. -/
def yc (k : Trip) (x2 : Vec F S1x64x2048 .f32) (x5 x6 : Vec F S1x8192 .f32) (x7 x8 : Vec F S16x128x512 .bf16) (x9 x10 : Vec F S16x512x128 .bf16) (x11 : Vec F S1x2048 .f32) (r i : Vec F S8x8192 .f32) : Vec F S1x64x128 .f32 :=
  k0_pay3 (k0_pay6 (View.ld x2 (ry k)))
    (k0_pay49 (rows (fun n => (zs k x2 x5 x6 x7 x8 x9 x10 x11 r i n).1) (k0_pay8 (View.ld x2 (ry k)) (View.ld x7 (rb k)))) (View.ld x9 (rc k))
      (rows (fun n => (zs k x2 x5 x6 x7 x8 x9 x10 x11 r i n).2) (k0_pay9 (View.ld x2 (ry k)) (View.ld x8 (rb k)))) (View.ld x10 (rc k)))
    (View.ld x11 (rd k))

/-! The stored values, reshaped to their own shape, are the values. -/

theorem e15 (v45 : FVec F S8x512 .f32) (v46 : Vec F S8x512 .f32) : k0_pay15 v45 v46 = (k0_pay13 v45 v46) := shapeCast_self _ _
theorem e16 (v33 : FVec F S8x512 .f32) (v38 : FVec F S8x512 .f32) (v40 : Vec F S8x512 .f32) (v42 : Vec F S8x512 .f32) (v51 : Vec F S8x512 .f32) : k0_pay16 v33 v38 v40 v42 v51 = (k0_pay14 v33 v38 v40 v42 v51) := shapeCast_self _ _
theorem e19 (v33 : FVec F S8x512 .f32) (v38 : FVec F S8x512 .f32) (v40 : Vec F S8x512 .f32) (v42 : Vec F S8x512 .f32) (v45 : FVec F S8x512 .f32) (v46 : Vec F S8x512 .f32) (v51 : Vec F S8x512 .f32) (v62 : Vec F S8x512 .f32) : k0_pay19 v33 v38 v40 v42 v45 v46 v51 v62 = (k0_pay17 v33 v38 v40 v42 v45 v46 v51 v62) := shapeCast_self _ _
theorem e20 (v33 : FVec F S8x512 .f32) (v38 : FVec F S8x512 .f32) (v40 : Vec F S8x512 .f32) (v42 : Vec F S8x512 .f32) (v45 : FVec F S8x512 .f32) (v46 : Vec F S8x512 .f32) (v51 : Vec F S8x512 .f32) (v67 : Vec F S8x512 .f32) : k0_pay20 v33 v38 v40 v42 v45 v46 v51 v67 = (k0_pay18 v33 v38 v40 v42 v45 v46 v51 v67) := shapeCast_self _ _
theorem e24 (v79 : FVec F S8x512 .f32) : k0_pay24 v79 = v79 := shapeCast_self _ _
theorem e25 (v82 : FVec F S8x512 .f32) (v83 : Vec F S8x512 .f32) : k0_pay25 v82 v83 = (k0_pay23 v82 v83) := shapeCast_self _ _
theorem e28 (v33 : FVec F S8x512 .f32) (v38 : FVec F S8x512 .f32) (v79 : FVec F S8x512 .f32) (v82 : FVec F S8x512 .f32) (v83 : Vec F S8x512 .f32) (v94 : Vec F S8x512 .f32) : k0_pay28 v33 v38 v79 v82 v83 v94 = (k0_pay26 v33 v38 v79 v82 v83 v94) := shapeCast_self _ _
theorem e29 (v33 : FVec F S8x512 .f32) (v38 : FVec F S8x512 .f32) (v79 : FVec F S8x512 .f32) (v82 : FVec F S8x512 .f32) (v83 : Vec F S8x512 .f32) (v99 : Vec F S8x512 .f32) : k0_pay29 v33 v38 v79 v82 v83 v99 = (k0_pay27 v33 v38 v79 v82 v83 v99) := shapeCast_self _ _
theorem e32 (v33 : FVec F S8x512 .f32) (v38 : FVec F S8x512 .f32) (v79 : FVec F S8x512 .f32) (v82 : FVec F S8x512 .f32) (v83 : Vec F S8x512 .f32) (v94 : Vec F S8x512 .f32) (v99 : Vec F S8x512 .f32) (v110 : Vec F S8x512 .f32) : k0_pay32 v33 v38 v79 v82 v83 v94 v99 v110 = (k0_pay30 v33 v38 v79 v82 v83 v94 v99 v110) := shapeCast_self _ _
theorem e33 (v116 : FVec F S8x512 .f32) : k0_pay33 v116 = v116 := shapeCast_self _ _
theorem e36 (v33 : FVec F S8x512 .f32) (v38 : FVec F S8x512 .f32) (v111 : FVec F S8x512 .f32) (v116 : FVec F S8x512 .f32) (v126 : Vec F S8x512 .f32) : k0_pay36 v33 v38 v111 v116 v126 = (k0_pay34 v33 v38 v111 v116 v126) := shapeCast_self _ _
theorem e37 (v33 : FVec F S8x512 .f32) (v38 : FVec F S8x512 .f32) (v111 : FVec F S8x512 .f32) (v116 : FVec F S8x512 .f32) (v131 : Vec F S8x512 .f32) : k0_pay37 v33 v38 v111 v116 v131 = (k0_pay35 v33 v38 v111 v116 v131) := shapeCast_self _ _
theorem e40 (v33 : FVec F S8x512 .f32) (v38 : FVec F S8x512 .f32) (v111 : FVec F S8x512 .f32) (v116 : FVec F S8x512 .f32) (v126 : Vec F S8x512 .f32) (v131 : Vec F S8x512 .f32) (v142 : Vec F S8x512 .f32) : k0_pay40 v33 v38 v111 v116 v126 v131 v142 = (k0_pay38 v33 v38 v111 v116 v126 v131 v142) := shapeCast_self _ _
theorem e41 (v33 : FVec F S8x512 .f32) (v38 : FVec F S8x512 .f32) (v111 : FVec F S8x512 .f32) (v116 : FVec F S8x512 .f32) (v126 : Vec F S8x512 .f32) (v131 : Vec F S8x512 .f32) (v147 : Vec F S8x512 .f32) : k0_pay41 v33 v38 v111 v116 v126 v131 v147 = (k0_pay39 v33 v38 v111 v116 v126 v131 v147) := shapeCast_self _ _
theorem e45 (v38 : FVec F S8x512 .f32) (v148 : FVec F S8x512 .f32) (v155 : FVec F S8x512 .f32) (v158 : Vec F S8x512 .f32) : k0_pay45 v38 v148 v155 v158 = (k0_pay43 v38 v148 v155 v158) := shapeCast_self _ _
theorem e46 (v33 : FVec F S8x512 .f32) (v38 : FVec F S8x512 .f32) (v143 : FVec F S8x512 .f32) (v148 : FVec F S8x512 .f32) (v163 : Vec F S8x512 .f32) : k0_pay46 v33 v38 v143 v148 v163 = (k0_pay44 v33 v38 v143 v148 v163) := shapeCast_self _ _
theorem e47 (v38 : FVec F S8x512 .f32) (v148 : FVec F S8x512 .f32) (v155 : FVec F S8x512 .f32) (v158 : Vec F S8x512 .f32) : k0_pay47 v38 v148 v155 v158 = (k0_pay43 v38 v148 v155 v158) := shapeCast_self _ _
theorem e48 (v33 : FVec F S8x512 .f32) (v38 : FVec F S8x512 .f32) (v143 : FVec F S8x512 .f32) (v148 : FVec F S8x512 .f32) (v163 : Vec F S8x512 .f32) : k0_pay48 v33 v38 v143 v148 v163 = (k0_pay44 v33 v38 v143 v148 v163) := shapeCast_self _ _

set_option maxHeartbeats 4000000 in
/-- One trip. -/
theorem trip (c : Dev nD) (i : grid0.Coords) (arg2 : Memref sig .tc .vmem S1x64x2048 .f32) (harg2 : arg2.IsWhole) (arg3 : Memref sig .tc .vmem S1x8x8192 .f32) (harg3 : arg3.IsWhole) (arg4 : Memref sig .tc .vmem S1x8x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S16x128x512 .bf16) (harg7 : arg7.IsWhole) (arg8 : Memref sig .tc .vmem S16x128x512 .bf16) (harg8 : arg8.IsWhole) (arg9 : Memref sig .tc .vmem S16x512x128 .bf16) (harg9 : arg9.IsWhole) (arg10 : Memref sig .tc .vmem S16x512x128 .bf16) (harg10 : arg10.IsWhole) (arg11 : Memref sig .tc .vmem S1x2048 .f32) (harg11 : arg11.IsWhole) (arg12 : Memref sig .tc .vmem S1x64x2048 .f32) (harg12 : arg12.IsWhole) (arg13 : Memref sig .tc .vmem S1x8x8192 .f32) (harg13 : arg13.IsWhole) (arg14 : Memref sig .tc .vmem S1x8x8192 .f32) (harg14 : arg14.IsWhole) (arg15 : Memref sig .tc .vmem S8x8192 .f32) (harg15 : arg15.IsWhole) (arg16 : Memref sig .tc .vmem S8x8192 .f32) (harg16 : arg16.IsWhole) (arg17 : Memref sig .tc .vmem S64x512 .f32) (harg17 : arg17.IsWhole) (arg18 : Memref sig .tc .vmem S64x512 .f32) (harg18 : arg18.IsWhole) (k : Trip) (x2 : Vec F S1x64x2048 .f32) (x5 x6 : Vec F S1x8192 .f32) (x7 x8 : Vec F S16x128x512 .bf16) (x9 x10 : Vec F S16x512x128 .bf16) (x11 : Vec F S1x2048 .f32)
    (y12 : Vec F S1x64x2048 .f32) (y15 y16 : Vec F S8x8192 .f32) (E : Set ℕ) (K : Unit → sProp 𝕄) :
    iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare y12 ∗ owns (c : Thread nD τ) arg15 fullShare y15 ∗ owns (c : Thread nD τ) arg16 fullShare y16 ∗ (∃ d, owns (c : Thread nD τ) arg17 fullShare d) ∗ (∃ d, owns (c : Thread nD τ) arg18 fullShare d)
      ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ y, ⌜View.ld y (ry k) = yc k x2 x5 x6 x7 x8 x9 x10 x11 y15 y16 ∧ ∀ j, k ≠ j → View.ld y (ry j) = View.ld y12 (ry j)⌝ ∗ owns (c : Thread nD τ) arg12 fullShare y)
          ∗ (∃ y, ⌜View.ld y (rs k) = (zs k x2 x5 x6 x7 x8 x9 x10 x11 y15 y16 8).1 ∧ ∀ j, k ≠ j → View.ld y (rs j) = View.ld y15 (rs j)⌝ ∗ owns (c : Thread nD τ) arg15 fullShare y)
          ∗ (∃ y, ⌜View.ld y (rs k) = (zs k x2 x5 x6 x7 x8 x9 x10 x11 y15 y16 8).2 ∧ ∀ j, k ≠ j → View.ld y (rs j) = View.ld y16 (rs j)⌝ ∗ owns (c : Thread nD τ) arg16 fullShare y) ∗ (∃ d, owns (c : Thread nD τ) arg17 fullShare d) ∗ (∃ d, owns (c : Thread nD τ) arg18 fullShare d)) -∗ K ⟨⟩))
    ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k ⟨⟩) K := by
  have hk : k.val < 16 := Nat.lt_of_lt_of_le k.isLt k0_t1_abs.2.1
  unfold k0_t1_body
  simp only [k0_part1_eq_skeleton, k0_part2_eq_skeleton, k0_part3_eq_skeleton, k0_part4_eq_skeleton, k0_part5_eq_skeleton]
  unfold owns
  iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩, ⟨%d17, %f17, -, H17⟩, ⟨%d18, %f18, -, H18⟩, Hk⟩
  obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16
  sl_exec
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap
    · iexists _; isplitr
      swap; · iexact H12
      ipureintro; rfl
    ipureintro
    refine ⟨(ld_newest _ _ (ry k) _ _).trans ?_, fun j hj => (ld_older _ _ (ry k) (ry j) _ _ (ry_apart k j hj)).trans (congrArg (View.ld · (ry j)) (harg12.read_unread _))⟩
    sl_unfold_words
    simp (disch := decide) only [View.ld_unit_lit, Memref.IsWhole.read_unread, ↓ View.readCov_skip, ↓ View.readCov_cons_toLoadRect, ↓ View.readCov_fill, View.readAt_eq_ld]
    simp only [View.readCov_eq_canon', e15, e16, e19, e20, e24, e25, e28, e29, e32, e33, e36, e37, e40, e41, e45, e46, e47, e48]
    rfl
  isplitl [H15]
  · iexists _; isplitr
    swap
    · iexists _; isplitr
      swap; · iexact H15
      ipureintro; rfl
    ipureintro
    refine ⟨(ld_newest _ _ (rs k) _ _).trans ?_, fun j hj => (ld_older _ _ (rs k) (rs j) _ _ (rs_apart k j hj)).trans (congrArg (View.ld · (rs j)) (harg15.read_unread _))⟩
    sl_unfold_words
    simp (disch := decide) only [View.ld_unit_lit, Memref.IsWhole.read_unread, ↓ View.readCov_skip, ↓ View.readCov_cons_toLoadRect, ↓ View.readCov_fill, View.readAt_eq_ld]
    simp only [e15, e16, e19, e20, e24, e25, e28, e29, e32, e33, e36, e37, e40, e41, e45, e46, e47, e48]
    rfl
  isplitl [H16]
  · iexists _; isplitr
    swap
    · iexists _; isplitr
      swap; · iexact H16
      ipureintro; rfl
    ipureintro
    refine ⟨(ld_newest _ _ (rs k) _ _).trans ?_, fun j hj => (ld_older _ _ (rs k) (rs j) _ _ (rs_apart k j hj)).trans (congrArg (View.ld · (rs j)) (harg16.read_unread _))⟩
    sl_unfold_words
    simp (disch := decide) only [View.ld_unit_lit, Memref.IsWhole.read_unread, ↓ View.readCov_skip, ↓ View.readCov_cons_toLoadRect, ↓ View.readCov_fill, View.readAt_eq_ld]
    simp only [e15, e16, e19, e20, e24, e25, e28, e29, e32, e33, e36, e37, e40, e41, e45, e46, e47, e48]
    rfl
  isplitl [H17]
  · iexists _; iexists _; isplitr
    swap; · iexact H17
    ipureintro; rfl
  iexists _; iexists _; isplitr
  swap; · iexact H18
  ipureintro; rfl

/-! ## All trips -/

theorem trips_eq : k0_t1_loop.trips = 16 := by decide +kernel

/-- A store of a whole buffer, last, leaves what was stored. -/
theorem read_full {sig : RefSig} {κ : Kind} {sp : Space} {s : Shape} {e : EltTy} {Val : EltTy → Type} (v : View sig κ sp s e)
    (f : v.ty.Contents Val) {off : Fin s.rank → ℕ} (inb : ∀ a, off a + s.size a ≤ s.size a) (w : s.Idx → Val e)
    (L : List (View.Piece Val s e)) : v.read Val (v.writes Val f (⟨Rect.unit off (no_index s.size) inb, w⟩ :: L)) = w :=
  View.read_writes_full v f inb w L

theorem rs_at (j : Trip) (x : S8x512.Idx) (l : S8x8192.Idx) (h0 : (l 0).val = (x 0).val) (h1 : (l 1).val = 512 * j.val + (x 1).val) :
    (rs j).idx x = l := by
  funext a
  refine Fin.ext ((Rect.idx_unit_val _ _ _ _ a).trans ?_)
  refine (congrArg (· + (x a).val) (congrFun (k0_off4_eq j) a)).trans ?_
  match a with
  | 0 => exact (Nat.zero_add _).trans h0.symm
  | 1 => exact h1.symm

theorem ry_at (j : Trip) (x : S1x64x128.Idx) (l : S1x64x2048.Idx) (h0 : (l 0).val = (x 0).val) (h1 : (l 1).val = (x 1).val) (h2 : (l 2).val = 128 * j.val + (x 2).val) :
    (ry j).idx x = l := by
  funext a
  refine Fin.ext ((Rect.idx_unit_val _ _ _ _ a).trans ?_)
  refine (congrArg (· + (x a).val) (congrFun (k0_off1_eq j) a)).trans ?_
  match a with
  | 0 => exact (Nat.zero_add _).trans h0.symm
  | 1 => exact (Nat.zero_add _).trans h1.symm
  | 2 => exact h2.symm

/-- The trip a column of the kept states belongs to, and a column of the rows. -/
def ts (l : S8x8192.Idx) : Trip := ⟨(l 1).val / 512, by
  have h : (l 1).val < 8192 := (l 1).isLt
  rw [trips_eq]; omega⟩
def ty (l : S1x64x2048.Idx) : Trip := ⟨(l 2).val / 128, by
  have h : (l 2).val < 2048 := (l 2).isLt
  rw [trips_eq]; omega⟩
def ks (l : S8x8192.Idx) : S8x512.Idx := ix2 (l 0) ⟨(l 1).val % 512, Nat.mod_lt _ (by decide)⟩
def ky (l : S1x64x2048.Idx) : S1x64x128.Idx := ix3 (l 0) (l 1) ⟨(l 2).val % 128, Nat.mod_lt _ (by decide)⟩

/-- The parts of all trips together. -/
def glueS (p : Trip → Vec F S8x512 .f32) : Vec F S8x8192 .f32 := fun l => p (ts l) (ks l)
def glueY (p : Trip → Vec F S1x64x128 .f32) : Vec F S1x64x2048 .f32 := fun l => p (ty l) (ky l)

theorem glueS_of (p : Trip → Vec F S8x512 .f32) (y : Vec F S8x8192 .f32) (h : ∀ j, View.ld y (rs j) = p j) : y = glueS p := by
  funext l
  have e := congrFun (h (ts l)) (ks l)
  rw [View.ld_apply, rs_at (ts l) (ks l) l rfl (by show (l 1).val = 512 * ((l 1).val / 512) + (l 1).val % 512; omega)] at e
  exact e

theorem glueY_of (p : Trip → Vec F S1x64x128 .f32) (y : Vec F S1x64x2048 .f32) (h : ∀ j, View.ld y (ry j) = p j) : y = glueY p := by
  funext l
  have e := congrFun (h (ty l)) (ky l)
  rw [View.ld_apply, ry_at (ty l) (ky l) l rfl rfl (by show (l 2).val = 128 * ((l 2).val / 128) + (l 2).val % 128; omega)] at e
  exact e

/-- What holds before trip `n`: the trips before it have stepped their part of the kept states, the others have not. -/
def inv (c : Dev nD) (arg2 : Memref sig .tc .vmem S1x64x2048 .f32) (harg2 : arg2.IsWhole) (arg3 : Memref sig .tc .vmem S1x8x8192 .f32) (harg3 : arg3.IsWhole) (arg4 : Memref sig .tc .vmem S1x8x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S16x128x512 .bf16) (harg7 : arg7.IsWhole) (arg8 : Memref sig .tc .vmem S16x128x512 .bf16) (harg8 : arg8.IsWhole) (arg9 : Memref sig .tc .vmem S16x512x128 .bf16) (harg9 : arg9.IsWhole) (arg10 : Memref sig .tc .vmem S16x512x128 .bf16) (harg10 : arg10.IsWhole) (arg11 : Memref sig .tc .vmem S1x2048 .f32) (harg11 : arg11.IsWhole) (arg12 : Memref sig .tc .vmem S1x64x2048 .f32) (harg12 : arg12.IsWhole) (arg13 : Memref sig .tc .vmem S1x8x8192 .f32) (harg13 : arg13.IsWhole) (arg14 : Memref sig .tc .vmem S1x8x8192 .f32) (harg14 : arg14.IsWhole) (arg15 : Memref sig .tc .vmem S8x8192 .f32) (harg15 : arg15.IsWhole) (arg16 : Memref sig .tc .vmem S8x8192 .f32) (harg16 : arg16.IsWhole) (arg17 : Memref sig .tc .vmem S64x512 .f32) (harg17 : arg17.IsWhole) (arg18 : Memref sig .tc .vmem S64x512 .f32) (harg18 : arg18.IsWhole) (x2 : Vec F S1x64x2048 .f32) (x5 x6 : Vec F S1x8192 .f32) (x7 x8 : Vec F S16x128x512 .bf16) (x9 x10 : Vec F S16x512x128 .bf16) (x11 : Vec F S1x2048 .f32) (r i : Vec F S8x8192 .f32) (n : ℕ) : sProp 𝕄 :=
  iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
    ∗ (∃ y, ⌜∀ j : Trip, j.val < n → View.ld y (ry j) = yc j x2 x5 x6 x7 x8 x9 x10 x11 r i⌝ ∗ owns (c : Thread nD τ) arg12 fullShare y)
    ∗ (∃ y, ⌜∀ j : Trip, View.ld y (rs j) = if j.val < n then (zs j x2 x5 x6 x7 x8 x9 x10 x11 r i 8).1 else View.ld r (rs j)⌝ ∗ owns (c : Thread nD τ) arg15 fullShare y)
    ∗ (∃ y, ⌜∀ j : Trip, View.ld y (rs j) = if j.val < n then (zs j x2 x5 x6 x7 x8 x9 x10 x11 r i 8).2 else View.ld i (rs j)⌝ ∗ owns (c : Thread nD τ) arg16 fullShare y)
    ∗ (∃ d, owns (c : Thread nD τ) arg17 fullShare d) ∗ (∃ d, owns (c : Thread nD τ) arg18 fullShare d))

theorem zs_congr (k : Trip) (x2 : Vec F S1x64x2048 .f32) (x5 x6 : Vec F S1x8192 .f32) (x7 x8 : Vec F S16x128x512 .bf16) (x9 x10 : Vec F S16x512x128 .bf16) (x11 : Vec F S1x2048 .f32) (r i r' i' : Vec F S8x8192 .f32) (hr : View.ld r' (rs k) = View.ld r (rs k)) (hi : View.ld i' (rs k) = View.ld i (rs k)) :
    zs k x2 x5 x6 x7 x8 x9 x10 x11 r' i' = zs k x2 x5 x6 x7 x8 x9 x10 x11 r i := by
  unfold zs; rw [hr, hi]

theorem yc_congr (k : Trip) (x2 : Vec F S1x64x2048 .f32) (x5 x6 : Vec F S1x8192 .f32) (x7 x8 : Vec F S16x128x512 .bf16) (x9 x10 : Vec F S16x512x128 .bf16) (x11 : Vec F S1x2048 .f32) (r i r' i' : Vec F S8x8192 .f32) (hr : View.ld r' (rs k) = View.ld r (rs k)) (hi : View.ld i' (rs k) = View.ld i (rs k)) :
    yc k x2 x5 x6 x7 x8 x9 x10 x11 r' i' = yc k x2 x5 x6 x7 x8 x9 x10 x11 r i := by
  unfold yc; rw [zs_congr k x2 x5 x6 x7 x8 x9 x10 x11 r i r' i' hr hi]

set_option maxHeartbeats 2000000 in
theorem step (c : Dev nD) (i : grid0.Coords) (arg2 : Memref sig .tc .vmem S1x64x2048 .f32) (harg2 : arg2.IsWhole) (arg3 : Memref sig .tc .vmem S1x8x8192 .f32) (harg3 : arg3.IsWhole) (arg4 : Memref sig .tc .vmem S1x8x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S16x128x512 .bf16) (harg7 : arg7.IsWhole) (arg8 : Memref sig .tc .vmem S16x128x512 .bf16) (harg8 : arg8.IsWhole) (arg9 : Memref sig .tc .vmem S16x512x128 .bf16) (harg9 : arg9.IsWhole) (arg10 : Memref sig .tc .vmem S16x512x128 .bf16) (harg10 : arg10.IsWhole) (arg11 : Memref sig .tc .vmem S1x2048 .f32) (harg11 : arg11.IsWhole) (arg12 : Memref sig .tc .vmem S1x64x2048 .f32) (harg12 : arg12.IsWhole) (arg13 : Memref sig .tc .vmem S1x8x8192 .f32) (harg13 : arg13.IsWhole) (arg14 : Memref sig .tc .vmem S1x8x8192 .f32) (harg14 : arg14.IsWhole) (arg15 : Memref sig .tc .vmem S8x8192 .f32) (harg15 : arg15.IsWhole) (arg16 : Memref sig .tc .vmem S8x8192 .f32) (harg16 : arg16.IsWhole) (arg17 : Memref sig .tc .vmem S64x512 .f32) (harg17 : arg17.IsWhole) (arg18 : Memref sig .tc .vmem S64x512 .f32) (harg18 : arg18.IsWhole) (x2 : Vec F S1x64x2048 .f32) (x5 x6 : Vec F S1x8192 .f32) (x7 x8 : Vec F S16x128x512 .bf16) (x9 x10 : Vec F S16x512x128 .bf16) (x11 : Vec F S1x2048 .f32) (r i0 : Vec F S8x8192 .f32) (E : Set ℕ) (k : Trip) :
    inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x6 x7 x8 x9 x10 x11 r i0 k.val
    ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k ⟨⟩) (fun _ => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x6 x7 x8 x9 x10 x11 r i0 (k.val + 1)) := by
  unfold inv
  iintro ⟨H2, H5, H6, H7, H8, H9, H10, H11, ⟨%y12, %h12, H12⟩, ⟨%y15, %h15, H15⟩, ⟨%y16, %h16, H16⟩, H17, H18⟩
  have e15 := (h15 k).trans (if_neg (Nat.lt_irrefl _))
  have e16 := (h16 k).trans (if_neg (Nat.lt_irrefl _))
  iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k x2 x5 x6 x7 x8 x9 x10 x11 y12 y15 y16 E _)
  isplitl [H2]; · iexact H2
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  isplitl [H16]; · iexact H16
  isplitl [H17]; · iexact H17
  isplitl [H18]; · iexact H18
  iintro ⟨H2, H5, H6, H7, H8, H9, H10, H11, ⟨%z12, %g12, H12⟩, ⟨%z15, %g15, H15⟩, ⟨%z16, %g16, H16⟩, H17, H18⟩
  isplitl [H2]; · iexact H2
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists z12; isplitr; swap; · iexact H12
    ipureintro
    intro j hj
    by_cases e : k = j
    · subst e; exact g12.1.trans (yc_congr k x2 x5 x6 x7 x8 x9 x10 x11 r i0 y15 y16 e15 e16)
    · have hne : j.val ≠ k.val := fun hv => e (Fin.ext hv.symm)
      exact (g12.2 j e).trans (h12 j (by omega))
  isplitl [H15]
  · iexists z15; isplitr; swap; · iexact H15
    ipureintro
    intro j
    by_cases e : k = j
    · subst e; rw [if_pos (Nat.lt_succ_self _), g15.1, zs_congr k x2 x5 x6 x7 x8 x9 x10 x11 r i0 y15 y16 e15 e16]
    · have hne : j.val ≠ k.val := fun hv => e (Fin.ext hv.symm)
      rw [g15.2 j e, h15 j]
      by_cases hl : j.val < k.val
      · rw [if_pos hl, if_pos (Nat.lt_succ_of_lt hl)]
      · rw [if_neg hl, if_neg (by omega)]
  isplitl [H16]
  · iexists z16; isplitr; swap; · iexact H16
    ipureintro
    intro j
    by_cases e : k = j
    · subst e; rw [if_pos (Nat.lt_succ_self _), g16.1, zs_congr k x2 x5 x6 x7 x8 x9 x10 x11 r i0 y15 y16 e15 e16]
    · have hne : j.val ≠ k.val := fun hv => e (Fin.ext hv.symm)
      rw [g16.2 j e, h16 j]
      by_cases hl : j.val < k.val
      · rw [if_pos hl, if_pos (Nat.lt_succ_of_lt hl)]
      · rw [if_neg hl, if_neg (by omega)]
  isplitl [H17]; · iexact H17
  iexact H18

/-- The states the body leaves, and the rows it writes. -/
def endRe (x2 : Vec F S1x64x2048 .f32) (x5 x6 : Vec F S1x8192 .f32) (x7 x8 : Vec F S16x128x512 .bf16) (x9 x10 : Vec F S16x512x128 .bf16) (x11 : Vec F S1x2048 .f32) (r i : Vec F S8x8192 .f32) : Vec F S8x8192 .f32 := glueS fun j => (zs j x2 x5 x6 x7 x8 x9 x10 x11 r i 8).1
def endIm (x2 : Vec F S1x64x2048 .f32) (x5 x6 : Vec F S1x8192 .f32) (x7 x8 : Vec F S16x128x512 .bf16) (x9 x10 : Vec F S16x512x128 .bf16) (x11 : Vec F S1x2048 .f32) (r i : Vec F S8x8192 .f32) : Vec F S8x8192 .f32 := glueS fun j => (zs j x2 x5 x6 x7 x8 x9 x10 x11 r i 8).2
def wrote (x2 : Vec F S1x64x2048 .f32) (x5 x6 : Vec F S1x8192 .f32) (x7 x8 : Vec F S16x128x512 .bf16) (x9 x10 : Vec F S16x512x128 .bf16) (x11 : Vec F S1x2048 .f32) (r i : Vec F S8x8192 .f32) : Vec F S1x64x2048 .f32 := glueY fun j => yc j x2 x5 x6 x7 x8 x9 x10 x11 r i

set_option maxHeartbeats 4000000 in
/-- The body: it takes the states before, steps them, writes rows and states. -/
theorem body (c : Dev nD) (i : grid0.Coords) (hc1 : Scalar.cmpi .ne (Scalar.extui (Scalar.cmpi .eq (BitVec.ofNat 32 (i 1).val) 0#32)) 0#32 = 1#1) (hc2 : k0_cond2 i = 1#1) (arg2 : Memref sig .tc .vmem S1x64x2048 .f32) (harg2 : arg2.IsWhole) (arg3 : Memref sig .tc .vmem S1x8x8192 .f32) (harg3 : arg3.IsWhole) (arg4 : Memref sig .tc .vmem S1x8x8192 .f32) (harg4 : arg4.IsWhole) (arg5 : Memref sig .tc .vmem S1x8192 .f32) (harg5 : arg5.IsWhole) (arg6 : Memref sig .tc .vmem S1x8192 .f32) (harg6 : arg6.IsWhole) (arg7 : Memref sig .tc .vmem S16x128x512 .bf16) (harg7 : arg7.IsWhole) (arg8 : Memref sig .tc .vmem S16x128x512 .bf16) (harg8 : arg8.IsWhole) (arg9 : Memref sig .tc .vmem S16x512x128 .bf16) (harg9 : arg9.IsWhole) (arg10 : Memref sig .tc .vmem S16x512x128 .bf16) (harg10 : arg10.IsWhole) (arg11 : Memref sig .tc .vmem S1x2048 .f32) (harg11 : arg11.IsWhole) (arg12 : Memref sig .tc .vmem S1x64x2048 .f32) (harg12 : arg12.IsWhole) (arg13 : Memref sig .tc .vmem S1x8x8192 .f32) (harg13 : arg13.IsWhole) (arg14 : Memref sig .tc .vmem S1x8x8192 .f32) (harg14 : arg14.IsWhole) (arg15 : Memref sig .tc .vmem S8x8192 .f32) (harg15 : arg15.IsWhole) (arg16 : Memref sig .tc .vmem S8x8192 .f32) (harg16 : arg16.IsWhole) (arg17 : Memref sig .tc .vmem S64x512 .f32) (harg17 : arg17.IsWhole) (arg18 : Memref sig .tc .vmem S64x512 .f32) (harg18 : arg18.IsWhole) (x2 : Vec F S1x64x2048 .f32) (x5 x6 : Vec F S1x8192 .f32) (x7 x8 : Vec F S16x128x512 .bf16) (x9 x10 : Vec F S16x512x128 .bf16) (x11 : Vec F S1x2048 .f32) (x3 x4 : Vec F S1x8x8192 .f32)
    (E : Set ℕ) (K : PUnit → sProp 𝕄) :
    iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg3 fullShare x3 ∗ owns (c : Thread nD τ) arg4 fullShare x4 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg3 fullShare x3 ∗ owns (c : Thread nD τ) arg4 fullShare x4
          ∗ owns (c : Thread nD τ) arg12 fullShare (wrote x2 x5 x6 x7 x8 x9 x10 x11 (k0_pay1 x3) (k0_pay2 x4)) ∗ owns (c : Thread nD τ) arg13 fullShare (k0_pay4 (endRe x2 x5 x6 x7 x8 x9 x10 x11 (k0_pay1 x3) (k0_pay2 x4)))
          ∗ owns (c : Thread nD τ) arg14 fullShare (k0_pay5 (endIm x2 x5 x6 x7 x8 x9 x10 x11 (k0_pay1 x3) (k0_pay2 x4))) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := F)) Variants.none c none) E (cc0_s5_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_s5_scan_eq_skeleton]; unfold cc0_s5_scan_skel
  unfold owns
  iintro ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f3, %hf3, H3⟩, ⟨%f4, %hf4, H4⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg3.eq_unread hf3; obtain rfl := harg4.eq_unread hf4
  sl_exec (disch := first | sl_exact hc1 | sl_exact hc2)
  sl_for (fun n _ => inv c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x6 x7 x8 x9 x10 x11 (k0_pay1 x3) (k0_pay2 x4) n) $$ [H2 H5 H6 H7 H8 H9 H10 H11 H12 H15 H16 H17 H18]
  case region =>
    intro k acc
    exact step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x5 x6 x7 x8 x9 x10 x11 (k0_pay1 x3) (k0_pay2 x4) E k
  · unfold inv owns
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap
      · iexists _; isplitr
        swap; · iexact H12
        ipureintro; rfl
      ipureintro
      intro j hj
      exact absurd hj (Nat.not_lt_zero _)
    isplitl [H15]
    · iexists (k0_pay1 x3); isplitr
      · ipureintro
        intro j
        exact (if_neg (Nat.not_lt_zero _)).symm
      iexists _; isplitr
      swap; · iexact H15
      ipureintro; sl_unfold_words
      simp (disch := decide) only [read_full, View.ld_unit_lit, Memref.IsWhole.read_unread, ↓ View.readCov_skip, ↓ View.readCov_cons_toLoadRect, ↓ View.readCov_fill, View.readAt_eq_ld]
      all_goals rfl
    isplitl [H16]
    · iexists (k0_pay2 x4); isplitr
      · ipureintro
        intro j
        exact (if_neg (Nat.not_lt_zero _)).symm
      iexists _; isplitr
      swap; · iexact H16
      ipureintro; sl_unfold_words
      simp (disch := decide) only [read_full, View.ld_unit_lit, Memref.IsWhole.read_unread, ↓ View.readCov_skip, ↓ View.readCov_cons_toLoadRect, ↓ View.readCov_fill, View.readAt_eq_ld]
      all_goals rfl
    isplitl [H17]
    · iexists _; iexists _; isplitr
      swap; · iexact H17
      ipureintro; rfl
    iexists _; iexists _; isplitr
    swap; · iexact H18
    ipureintro; rfl
  unfold inv owns
  iintro %acc ⟨⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%y12, %h12, %f12, %hf12, H12⟩, ⟨%y15, %h15, %f15, %hf15, H15⟩, ⟨%y16, %h16, %f16, %hf16, H16⟩, ⟨%d17, %f17, -, H17⟩, ⟨%d18, %f18, -, H18⟩⟩
  obtain rfl : y12 = wrote x2 x5 x6 x7 x8 x9 x10 x11 (k0_pay1 x3) (k0_pay2 x4) := glueY_of _ _ fun j => h12 j j.isLt
  obtain rfl : y15 = endRe x2 x5 x6 x7 x8 x9 x10 x11 (k0_pay1 x3) (k0_pay2 x4) := glueS_of _ _ fun j => (h15 j).trans (if_pos j.isLt)
  obtain rfl : y16 = endIm x2 x5 x6 x7 x8 x9 x10 x11 (k0_pay1 x3) (k0_pay2 x4) := glueS_of _ _ fun j => (h16 j).trans (if_pos j.isLt)
  obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16
  sl_exec (disch := first | sl_exact hc1 | sl_exact hc2)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H3]
  · iexists _; isplitr; · ipureintro; exact harg3.read_unread _
    iexact H3
  isplitl [H4]
  · iexists _; isplitr; · ipureintro; exact harg4.read_unread _
    iexact H4
  isplitl [H12]
  · iexists _; isplitr; · ipureintro; exact harg12.read_unread _
    iexact H12
  isplitl [H13]
  · iexists _; isplitr
    swap; · iexact H13
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H14]
  · iexists _; isplitr
    swap; · iexact H14
    ipureintro; sl_unfold_words
    simp (disch := decide) only [read_full, View.ld_unit_lit, Memref.IsWhole.read_unread, ↓ View.readCov_skip, ↓ View.readCov_cons_toLoadRect, ↓ View.readCov_fill, View.readAt_eq_ld]
    all_goals rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  iexists _; iexists _; isplitr
  swap; · iexact H18
  ipureintro; rfl

/-! ## The points -/

theorem hc1 : ∀ t : Fin cfg0.N, Scalar.cmpi .ne (Scalar.extui (Scalar.cmpi .eq (BitVec.ofNat 32 ((grid0.coords t) 1).val) 0#32)) 0#32 = 1#1 := by
  decide +kernel
theorem hc2 : ∀ t : Fin cfg0.N, k0_cond2 (grid0.coords t) = 1#1 := by
  decide +kernel

variable (m : (ℓ : Loc nD τ sig) → Buf (Elt F) ℓ) (ρ : Dev nD → PrngReg)

/-- The blocks a point reads. -/
def bk0 (c : Dev nD) (t : Fin cfg0.N) : Vec F S1x64x2048 .f32 := iblk m c 0 t
def bk1 (c : Dev nD) (t : Fin cfg0.N) : Vec F S1x8x8192 .f32 := iblk m c 1 t
def bk2 (c : Dev nD) (t : Fin cfg0.N) : Vec F S1x8x8192 .f32 := iblk m c 2 t
def bk3 (c : Dev nD) (t : Fin cfg0.N) : Vec F S1x8192 .f32 := iblk m c 3 t
def bk4 (c : Dev nD) (t : Fin cfg0.N) : Vec F S1x8192 .f32 := iblk m c 4 t
def bk5 (c : Dev nD) (t : Fin cfg0.N) : Vec F S16x128x512 .bf16 := iblk m c 5 t
def bk6 (c : Dev nD) (t : Fin cfg0.N) : Vec F S16x128x512 .bf16 := iblk m c 6 t
def bk7 (c : Dev nD) (t : Fin cfg0.N) : Vec F S16x512x128 .bf16 := iblk m c 7 t
def bk8 (c : Dev nD) (t : Fin cfg0.N) : Vec F S16x512x128 .bf16 := iblk m c 8 t
def bk9 (c : Dev nD) (t : Fin cfg0.N) : Vec F S1x2048 .f32 := iblk m c 9 t

/-- What the body leaves in the three result windows. -/
def o10 (c : Dev nD) (t : Fin cfg0.N) : Vec F S1x64x2048 .f32 := wrote (bk0 m c t) (bk3 m c t) (bk4 m c t) (bk5 m c t) (bk6 m c t) (bk7 m c t) (bk8 m c t) (bk9 m c t) (k0_pay1 (bk1 m c t)) (k0_pay2 (bk2 m c t))
def o11 (c : Dev nD) (t : Fin cfg0.N) : Vec F S1x8x8192 .f32 := k0_pay4 (endRe (bk0 m c t) (bk3 m c t) (bk4 m c t) (bk5 m c t) (bk6 m c t) (bk7 m c t) (bk8 m c t) (bk9 m c t) (k0_pay1 (bk1 m c t)) (k0_pay2 (bk2 m c t)))
def o12 (c : Dev nD) (t : Fin cfg0.N) : Vec F S1x8x8192 .f32 := k0_pay5 (endIm (bk0 m c t) (bk3 m c t) (bk4 m c t) (bk5 m c t) (bk6 m c t) (bk7 m c t) (bk8 m c t) (bk9 m c t) (k0_pay1 (bk1 m c t)) (k0_pay2 (bk2 m c t)))

abbrev scM0 : Memref sig .tc .vmem S8x8192 .f32 := Memref.whole cc0_scratch0
abbrev scM1 : Memref sig .tc .vmem S8x8192 .f32 := Memref.whole cc0_scratch1
abbrev scM2 : Memref sig .tc .vmem S64x512 .f32 := Memref.whole cc0_scratch2
abbrev scM3 : Memref sig .tc .vmem S64x512 .f32 := Memref.whole cc0_scratch3

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o10 m c t
    | ⟨11, _⟩ => o11 m c t
    | ⟨12, _⟩ => o12 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = o10 m c t := by dsimp only [dats]
theorem after11 (c : Dev nD) (t : Fin cfg0.N) : (dats m 0 c).after 11 t = o11 m c t := by dsimp only [dats]
theorem after12 (c : Dev nD) (t : Fin cfg0.N) : (dats m 0 c).after 12 t = o12 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

theorem idle11 (t : Fin cfg0.N) : cfg0.idle 11 (cfg0.grid.coords t) = false := by
  have e : k0_cond2 (grid0.coords t) = 1#1 := hc2 t
  show (!(k0_cond2 (grid0.coords t) == 1#1)) = false; rw [e]; rfl
theorem idle12 (t : Fin cfg0.N) : cfg0.idle 12 (cfg0.grid.coords t) = false := by
  have e : k0_cond2 (grid0.coords t) = 1#1 := hc2 t
  show (!(k0_cond2 (grid0.coords t) == 1#1)) = false; rw [e]; rfl

theorem give (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [h]

/-- The buffer of each window at a point. -/
abbrev ms0 (t : Fin cfg0.N) : Memref sig .tc .vmem S1x64x2048 .f32 := win0_0.stage (cfg0.slots t 0)
abbrev ms1 (t : Fin cfg0.N) : Memref sig .tc .vmem S1x8x8192 .f32 := win0_1.stage (cfg0.slots t 1)
abbrev ms2 (t : Fin cfg0.N) : Memref sig .tc .vmem S1x8x8192 .f32 := win0_2.stage (cfg0.slots t 2)
abbrev ms3 (t : Fin cfg0.N) : Memref sig .tc .vmem S1x8192 .f32 := win0_3.stage (cfg0.slots t 3)
abbrev ms4 (t : Fin cfg0.N) : Memref sig .tc .vmem S1x8192 .f32 := win0_4.stage (cfg0.slots t 4)
abbrev ms5 (t : Fin cfg0.N) : Memref sig .tc .vmem S16x128x512 .bf16 := win0_5.stage (cfg0.slots t 5)
abbrev ms6 (t : Fin cfg0.N) : Memref sig .tc .vmem S16x128x512 .bf16 := win0_6.stage (cfg0.slots t 6)
abbrev ms7 (t : Fin cfg0.N) : Memref sig .tc .vmem S16x512x128 .bf16 := win0_7.stage (cfg0.slots t 7)
abbrev ms8 (t : Fin cfg0.N) : Memref sig .tc .vmem S16x512x128 .bf16 := win0_8.stage (cfg0.slots t 8)
abbrev ms9 (t : Fin cfg0.N) : Memref sig .tc .vmem S1x2048 .f32 := win0_9.stage (cfg0.slots t 9)
abbrev ms10 (t : Fin cfg0.N) : Memref sig .tc .vmem S1x64x2048 .f32 := win0_10.stage (cfg0.slots t 10)
abbrev ms11 (t : Fin cfg0.N) : Memref sig .tc .vmem S1x8x8192 .f32 := win0_11.stage (cfg0.slots t 11)
abbrev ms12 (t : Fin cfg0.N) : Memref sig .tc .vmem S1x8x8192 .f32 := win0_12.stage (cfg0.slots t 12)

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ (dats m 0 c).leavesExact 11 t
    ∗ (dats m 0 c).leavesExact 12 t)

set_option maxHeartbeats 4000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after10]
  rw [show (dats m 0 c).Φ t.succ = Pipeline.ΦA spec0 c from rfl, show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body c (grid0.coords t) (hc1 t) (hc2 t) _ _ _ _ _ _ _ _ _ _ _ _ _ _ _ _ _ _ _ _ _ _ _ _ _ _ _ _ _ _ _ _ _ _ (bk0 m c t) (bk3 m c t) (bk4 m c t) (bk5 m c t) (bk6 m c t) (bk7 m c t) (bk8 m c t) (bk9 m c t) (bk1 m c t) (bk2 m c t) Set.univ _)
  isplitl [H0]; · iexact H0
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H1]; · iexact H1
  isplitl [H2]; · iexact H2
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  iintro ⟨H0, H3, H4, H5, H6, H7, H8, H9, H1, H2, H10, H11, H12, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (give m c 11 t (idle11 t)); iexact H11
  iapply (give m c 12 t (idle12 t)); iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends, with each array at what the points wrote and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began, and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Se

end
-- ==== Proof.Se.lean ====
/- The recurrence over the sample tokens: the states the kernel leaves, group of columns by group, are the reference's states
   after its eight steps. -/
module

public import proofs.«01_k».proof.Defs
public import proofs.«01_k».proof.Proof.Gen.Se.Points
public import proofs.«01_k».proof.Proof.Gen.SeRefIdeal.Run
public import proofs.«01_k».proof.Proof.SeRun
public import proofs.«01_k».proof.Proof.Mm
public import Idealize.ShloMosaic.Lib.KernelVsHost
public import Idealize.ShloMosaic.Lib.IdealHost

@[expose] public section

noncomputable section

open Idealize.ShloMosaic hiding ix1 ix2 ix3 ix4 ix5 eq_ix3
open Idealize.ShloMosaic.TcCoe Idealize.SL.Sem Idealize.ShloMosaic.ValueIdx
open Idealize.ShloMosaic.Pipeline (Dat)
open scoped BigOperators

/-! ## The function both compute -/

namespace Cert.Proof.Se

/-- The inputs, the states, the transition of each state, and the input weights of each group. -/
abbrev TU := (⟨3, ![8, 8, 2048]⟩ : Shape).Idx → EReal
abbrev TH := (⟨3, ![8, 128, 64]⟩ : Shape).Idx → EReal
abbrev TA := (⟨2, ![128, 64]⟩ : Shape).Idx → EReal
abbrev TB := (⟨3, ![128, 16, 64]⟩ : Shape).Idx → EReal

/-- The input column of a group's channel. -/
abbrev chan (g : Fin 128) (i : Fin 16) : Fin 2048 := ⟨16 * g.val + i.val, by omega⟩

/-- What the token `n` of a sequence gives to a state. -/
def inp (u : TU) (b : TB) (s n : Fin 8) (g : Fin 128) (p : Fin 64) : EReal := ∑ i : Fin 16, b (ix3 g i p) * u (ix3 s n (chan g i))

/-- A state after `n` tokens: its real and its imaginary part. -/
def st (u : TU) (hr hi : TH) (ar ai : TA) (br bi : TB) (s : Fin 8) (g : Fin 128) (p : Fin 64) : ℕ → EReal × EReal
  | 0 => (hr (ix3 s g p), hi (ix3 s g p))
  | n + 1 =>
    (ar (ix2 g p) * (st u hr hi ar ai br bi s g p n).1 - ai (ix2 g p) * (st u hr hi ar ai br bi s g p n).2 + inp u br s ⟨n % 8, Nat.mod_lt _ (by decide)⟩ g p,
     ar (ix2 g p) * (st u hr hi ar ai br bi s g p n).2 + ai (ix2 g p) * (st u hr hi ar ai br bi s g p n).1 + inp u bi s ⟨n % 8, Nat.mod_lt _ (by decide)⟩ g p)

/-- The states after the eight tokens. -/
def lastRe (u : TU) (hr hi : TH) (ar ai : TA) (br bi : TB) : TH := fun j => (st u hr hi ar ai br bi (j 0) (j 1) (j 2) 8).1
def lastIm (u : TU) (hr hi : TH) (ar ai : TA) (br bi : TB) : TH := fun j => (st u hr hi ar ai br bi (j 0) (j 1) (j 2) 8).2

end Cert.Proof.Se

/-! ## The reference -/

namespace Cert.Proof.SeRef

open Cert.SeRefIdeal Cert.SeRefIdeal.Gen Cert.SeRefIdeal.Value
open Cert.Proof.Se (chan inp st lastRe lastIm)

/-- The transition, spread over the sequences. -/
theorem spread (a : S128x64.Idx → EReal) (s : Fin 8) (g : Fin 128) (p : Fin 64) :
    broadcastInDim S8x128x64 ![0, 1, 2] bcast_S1x128x64_S8x128x64_0_1_2 (broadcastInDim S1x128x64 ![1, 2] bcast_S128x64_S1x128x64_1_2 a) (ix3 s g p) = a (ix2 g p) := by
  refine (broadcastInDim_apply _ _ _ (ix3 s g p : S8x128x64.Idx) (ix3 0 g p : S1x128x64.Idx) (fun x => ?_)).trans ?_
  · match x with
    | ⟨0, _⟩ => rfl
    | ⟨1, _⟩ => rfl
    | ⟨2, _⟩ => rfl
  · refine broadcastInDim_apply _ _ _ (ix3 0 g p : S1x128x64.Idx) (ix2 g p : S128x64.Idx) (fun x => ?_)
    match x with
    | ⟨0, _⟩ => rfl
    | ⟨1, _⟩ => rfl

/-- A token's part of what the inputs give. -/
theorem token (n : Fin 8) (h : S8x8x128x64.Slices ![0, n.val, 0, 0] S8x1x128x64) (v : S8x8x128x64.Idx → EReal) (s : Fin 8) (g : Fin 128) (p : Fin 64) :
    shapeCast S8x128x64 (extractStridedSlice S8x1x128x64 ![0, n.val, 0, 0] v h) shapeCasts_S8x1x128x64_S8x128x64 (ix3 s g p) = v (ix4 s n g p) := by
  refine (shapeCast_apply _ _ (ix3 s g p : S8x128x64.Idx) (ix4 s 0 g p : S8x1x128x64.Idx) ?_).trans ?_
  · rw [Shape.rowMajor_val_four, Shape.rowMajor_val_three]
    show ((s.val * 1 + 0) * 128 + g.val) * 64 + p.val = (s.val * 128 + g.val) * 64 + p.val
    omega
  · refine extractStridedSlice_apply _ _ _ (ix4 s 0 g p : S8x1x128x64.Idx) (ix4 s n g p : S8x8x128x64.Idx) (fun x => ?_)
    match x with
    | ⟨0, _⟩ => show s.val = 0 + s.val; omega
    | ⟨1, _⟩ => show n.val = n.val + 0; omega
    | ⟨2, _⟩ => show g.val = 0 + g.val; omega
    | ⟨3, _⟩ => show p.val = 0 + p.val; omega

/-- The product over the channels of each group, at an index. -/
theorem groups_apply (b : FVec Ideal S128x16x64 .f32) (y : FVec Ideal S8x8x128x16 .f32) (g : Fin 128) (p : Fin 64) (s n : Fin 8) :
    Host.dotGeneral dot_S128x16x64_S8x8x128x16_S128x64x8x8_1_3_2_01_0_2 none b y (ix4 g p s n) = ∑ i : Fin 16, b (ix3 g i p) * y (ix4 s n g i) := by
  have hr : dot_S128x16x64_S8x8x128x16_S128x64x8x8_1_3_2_01_0_2.contr.rank = 1 := rfl
  have hs : dot_S128x16x64_S8x8x128x16_S128x64x8x8_1_3_2_01_0_2.contr.size ⟨0, by rw [hr]; exact Nat.one_pos⟩ = 16 := rfl
  show (0 : EReal) + (∑ k : dot_S128x16x64_S8x8x128x16_S128x64x8x8_1_3_2_01_0_2.contr.Idx,
    b (dot_S128x16x64_S8x8x128x16_S128x64x8x8_1_3_2_01_0_2.lhsIdx (ix4 g p s n) k) * y (dot_S128x16x64_S8x8x128x16_S128x64x8x8_1_3_2_01_0_2.rhsIdx (ix4 g p s n) k)) = _
  rw [zero_add, ← Equiv.sum_comp (contrEquiv1 _ 16 hr hs).symm]
  refine Finset.sum_congr rfl fun k _ => ?_
  have hk := contrEquiv1_symm_val _ 16 hr hs k
  have el : dot_S128x16x64_S8x8x128x16_S128x64x8x8_1_3_2_01_0_2.lhsIdx (ix4 g p s n) ((contrEquiv1 _ 16 hr hs).symm k) = ix3 g k p := by
    funext a; apply Fin.ext
    match a with
    | ⟨0, _⟩ => rfl
    | ⟨1, _⟩ => exact hk
    | ⟨2, _⟩ => rfl
  have er : dot_S128x16x64_S8x8x128x16_S128x64x8x8_1_3_2_01_0_2.rhsIdx (ix4 g p s n) ((contrEquiv1 _ 16 hr hs).symm k) = ix4 s n g k := by
    funext a; apply Fin.ext
    match a with
    | ⟨0, _⟩ => rfl
    | ⟨1, _⟩ => rfl
    | ⟨2, _⟩ => rfl
    | ⟨3, _⟩ => exact hk
  rw [el, er]

/-- What the inputs give, as the reference writes it. -/
theorem given (u : S8x8x2048.Idx → EReal) (b : S128x16x64.Idx → EReal) (s n : Fin 8) (g : Fin 128) (p : Fin 64) :
    transpose S8x8x128x64 [2, 3, 0, 1] (Host.dotGeneral (F := Ideal) (φ₁ := .f32) (φ₂ := .f32) dot_S128x16x64_S8x8x128x16_S128x64x8x8_1_3_2_01_0_2 none b
      (shapeCast S8x8x128x16 u shapeCasts_S8x8x2048_S8x8x128x16)) transposes_S128x64x8x8_S8x8x128x64_2_3_0_1 (ix4 s n g p) = inp u b s n g p := by
  refine (transpose_apply _ _ _ (ix4 s n g p : S8x8x128x64.Idx) (ix4 g p s n : S128x64x8x8.Idx) (fun x => ?_)).trans ((groups_apply _ _ g p s n).trans ?_)
  · match x with
    | ⟨0, _⟩ => rfl
    | ⟨1, _⟩ => rfl
    | ⟨2, _⟩ => rfl
    | ⟨3, _⟩ => rfl
  refine Finset.sum_congr rfl fun i _ => congrArg (b (ix3 g i p) * ·) ?_
  refine shapeCast_apply _ _ (ix4 s n g i : S8x8x128x16.Idx) (ix3 s n (chan g i) : S8x8x2048.Idx) ?_
  rw [Shape.rowMajor_val_four, Shape.rowMajor_val_three]
  show (s.val * 8 + n.val) * 2048 + (16 * g.val + i.val) = ((s.val * 8 + n.val) * 128 + g.val) * 16 + i.val
  omega

variable (V : Valuation τ sig (Elt Ideal))

abbrev U : S8x8x2048.Idx → EReal := V (Proc.devRef .tc main_arg0)
abbrev H : S8x128x64.Idx → EReal := V (Proc.devRef .tc main_arg1)
abbrev I : S8x128x64.Idx → EReal := V (Proc.devRef .tc main_arg2)
abbrev A : S128x64.Idx → EReal := V (Proc.devRef .tc main_arg3)
abbrev B : S128x64.Idx → EReal := V (Proc.devRef .tc main_arg4)
abbrev P : S128x16x64.Idx → EReal := V (Proc.devRef .tc main_arg5)
abbrev Q : S128x16x64.Idx → EReal := V (Proc.devRef .tc main_arg6)

theorem re6 (s n : Fin 8) (g : Fin 128) (p : Fin 64) : res_main_v6 V (ix4 s n g p) = inp (U V) (P V) s n g p := given (U V) (P V) s n g p
theorem im10 (s n : Fin 8) (g : Fin 128) (p : Fin 64) : res_main_v10 V (ix4 s n g p) = inp (U V) (Q V) s n g p := given (U V) (Q V) s n g p

abbrev S (s : Fin 8) (g : Fin 128) (p : Fin 64) (n : ℕ) : EReal × EReal := st (U V) (H V) (I V) (A V) (B V) (P V) (Q V) s g p n

/-- One step of the reference, from states that are right. -/
def stepRe (n : Fin 8) (h : S8x8x128x64.Slices ![0, n.val, 0, 0] S8x1x128x64) (r i : S8x128x64.Idx → EReal) : FVec Ideal S8x128x64 .f32 :=
  addf (subf (mulf (broadcastInDim S8x128x64 ![0, 1, 2] bcast_S1x128x64_S8x128x64_0_1_2 (broadcastInDim S1x128x64 ![1, 2] bcast_S128x64_S1x128x64_1_2 (A V))) r)
    (mulf (broadcastInDim S8x128x64 ![0, 1, 2] bcast_S1x128x64_S8x128x64_0_1_2 (broadcastInDim S1x128x64 ![1, 2] bcast_S128x64_S1x128x64_1_2 (B V))) i))
    (shapeCast S8x128x64 (extractStridedSlice S8x1x128x64 ![0, n.val, 0, 0] (res_main_v6 V) h) shapeCasts_S8x1x128x64_S8x128x64)
def stepIm (n : Fin 8) (h : S8x8x128x64.Slices ![0, n.val, 0, 0] S8x1x128x64) (r i : S8x128x64.Idx → EReal) : FVec Ideal S8x128x64 .f32 :=
  addf (addf (mulf (broadcastInDim S8x128x64 ![0, 1, 2] bcast_S1x128x64_S8x128x64_0_1_2 (broadcastInDim S1x128x64 ![1, 2] bcast_S128x64_S1x128x64_1_2 (A V))) i)
    (mulf (broadcastInDim S8x128x64 ![0, 1, 2] bcast_S1x128x64_S8x128x64_0_1_2 (broadcastInDim S1x128x64 ![1, 2] bcast_S128x64_S1x128x64_1_2 (B V))) r))
    (shapeCast S8x128x64 (extractStridedSlice S8x1x128x64 ![0, n.val, 0, 0] (res_main_v10 V) h) shapeCasts_S8x1x128x64_S8x128x64)

/-- The two arrays hold the states after `n` tokens. -/
def Holds (n : ℕ) (r i : S8x128x64.Idx → EReal) : Prop := ∀ (s : Fin 8) (g : Fin 128) (p : Fin 64), r (ix3 s g p) = (S V s g p n).1 ∧ i (ix3 s g p) = (S V s g p n).2

theorem stepped (n : Fin 8) (h : S8x8x128x64.Slices ![0, n.val, 0, 0] S8x1x128x64) (r i : S8x128x64.Idx → EReal) (hh : Holds V n.val r i) :
    Holds V (n.val + 1) (stepRe V n h r i) (stepIm V n h r i) := fun s g p => by
  obtain ⟨e1, e2⟩ := hh s g p
  have hn : (⟨n.val % 8, Nat.mod_lt _ (by decide)⟩ : Fin 8) = n := Fin.ext (Nat.mod_eq_of_lt n.isLt)
  have q1 : _ = A V (ix2 g p) := spread (A V) s g p
  have q2 : _ = B V (ix2 g p) := spread (B V) s g p
  have q3 := (token n h (res_main_v6 V) s g p).trans (re6 V s n g p)
  have q4 := (token n h (res_main_v10 V) s g p).trans (im10 V s n g p)
  constructor
  · show _ * r (ix3 s g p) - _ * i (ix3 s g p) + _ = _ * _ - _ * _ + inp (U V) (P V) s ⟨n.val % 8, _⟩ g p
    rw [hn, e1, e2]
    exact congrArg₂ (· + ·) (congrArg₂ (· - ·) (congrArg (· * _) q1) (congrArg (· * _) q2)) q3
  · show _ * i (ix3 s g p) + _ * r (ix3 s g p) + _ = _ * _ + _ * _ + inp (U V) (Q V) s ⟨n.val % 8, _⟩ g p
    rw [hn, e1, e2]
    exact congrArg₂ (· + ·) (congrArg₂ (· + ·) (congrArg (· * _) q1) (congrArg (· * _) q2)) q4

theorem holds1 : Holds V 1 (res_main_v20 V) (res_main_v30 V) :=
  stepped V 0 slices_S8x8x128x64_S8x1x128x64_0_0_0_0 (H V) (I V) fun _ _ _ => ⟨rfl, rfl⟩
theorem holds2 : Holds V 2 (res_main_v40 V) (res_main_v50 V) := stepped V 1 slices_S8x8x128x64_S8x1x128x64_0_1_0_0 _ _ (holds1 V)
theorem holds3 : Holds V 3 (res_main_v60 V) (res_main_v70 V) := stepped V 2 slices_S8x8x128x64_S8x1x128x64_0_2_0_0 _ _ (holds2 V)
theorem holds4 : Holds V 4 (res_main_v80 V) (res_main_v90 V) := stepped V 3 slices_S8x8x128x64_S8x1x128x64_0_3_0_0 _ _ (holds3 V)
theorem holds5 : Holds V 5 (res_main_v100 V) (res_main_v110 V) := stepped V 4 slices_S8x8x128x64_S8x1x128x64_0_4_0_0 _ _ (holds4 V)
theorem holds6 : Holds V 6 (res_main_v120 V) (res_main_v130 V) := stepped V 5 slices_S8x8x128x64_S8x1x128x64_0_5_0_0 _ _ (holds5 V)
theorem holds7 : Holds V 7 (res_main_v140 V) (res_main_v150 V) := stepped V 6 slices_S8x8x128x64_S8x1x128x64_0_6_0_0 _ _ (holds6 V)
theorem holds8 : Holds V 8 (stepRe V 7 slices_S8x8x128x64_S8x1x128x64_0_7_0_0 (res_main_v140 V) (res_main_v150 V)) (stepIm V 7 slices_S8x8x128x64_S8x1x128x64_0_7_0_0 (res_main_v140 V) (res_main_v150 V)) :=
  stepped V 7 slices_S8x8x128x64_S8x1x128x64_0_7_0_0 _ _ (holds7 V)

theorem re_eq : stepRe V 7 slices_S8x8x128x64_S8x1x128x64_0_7_0_0 (res_main_v140 V) (res_main_v150 V) = lastRe (U V) (H V) (I V) (A V) (B V) (P V) (Q V) := by
  funext j
  obtain ⟨s, g, p, rfl⟩ : ∃ (s : Fin 8) (g : Fin 128) (p : Fin 64), j = ix3 s g p := ⟨_, _, _, eq_ix3 j⟩
  exact (holds8 V s g p).1
theorem im_eq : stepIm V 7 slices_S8x8x128x64_S8x1x128x64_0_7_0_0 (res_main_v140 V) (res_main_v150 V) = lastIm (U V) (H V) (I V) (A V) (B V) (P V) (Q V) := by
  funext j
  obtain ⟨s, g, p, rfl⟩ : ∃ (s : Fin 8) (g : Fin 128) (p : Fin 64), j = ix3 s g p := ⟨_, _, _, eq_ix3 j⟩
  exact (holds8 V s g p).2

end Cert.Proof.SeRef

/-! ## The kernel -/

namespace Cert.Proof.Se

open Cert.SeIdeal Cert.SeIdeal.Gen
open _root_.Se (Trip rs ry ra rb z zs trips_eq rs_at ry_at ts ks)

section Body

theorem trip_lt (j : Trip) : j.val < 16 := Nat.lt_of_lt_of_eq j.isLt trips_eq

/-- The column of all states, its group and its place in the group, of a column of a trip; and the column of the inputs. -/
abbrev cl (j : Trip) (x : Fin 512) : Fin 8192 := ⟨512 * j.val + x.val, by have := trip_lt j; omega⟩
abbrev gr (j : Trip) (x : Fin 512) : Fin 128 := ⟨8 * j.val + x.val / 64, by have := trip_lt j; omega⟩
abbrev pl (x : Fin 512) : Fin 64 := ⟨x.val % 64, Nat.mod_lt _ (by decide)⟩
abbrev ci (j : Trip) (k : Fin 128) : Fin 2048 := ⟨128 * j.val + k.val, by have := trip_lt j; omega⟩
/-- The row of a token of a sequence, and the column of a state of a group. -/
abbrev rw8 (s n : Fin 8) : Fin 64 := ⟨8 * n.val + s.val, by omega⟩
abbrev cg (g : Fin 128) (p : Fin 64) : Fin 8192 := ⟨64 * g.val + p.val, by omega⟩

theorem cl_eq (j : Trip) (x : Fin 512) : cl j x = cg (gr j x) (pl x) :=
  Fin.ext (by show 512 * j.val + x.val = 64 * (8 * j.val + x.val / 64) + x.val % 64; omega)

theorem pay10_apply (y : S1x512.Idx → EReal) (s : Fin 8) (x : Fin 512) : k0_pay10 (F := Ideal) y (ix2 s x) = y (ix2 0 x) := by
  show broadcastTo S8x512 (shapeCast S1x512 (shapeCast S1x512 y shapeCasts_S1x512_S1x512) shapeCasts_S1x512_S1x512) broadcasts_S1x512_S8x512 (ix2 s x) = _
  rw [shapeCast_self, shapeCast_self]
  refine broadcastTo_apply _ _ (ix2 s x : S8x512.Idx) (ix2 0 x : S1x512.Idx) (fun a => ?_)
  match a with
  | ⟨0, _⟩ => rfl
  | ⟨1, _⟩ => rfl

theorem pay11_apply (y : S1x512.Idx → EReal) (s : Fin 8) (x : Fin 512) : k0_pay11 (F := Ideal) y (ix2 s x) = y (ix2 0 x) := pay10_apply y s x

theorem pay8_apply (v : S1x64x128.Idx → EReal) (w : S1x128x512.Idx → EReal) (r : Fin 64) (x : Fin 512) :
    k0_pay8 (F := Ideal) v w (ix2 r x) = ∑ k : Fin 128, v (ix3 0 r k) * w (ix3 0 k x) := by
  show shapeCast S64x512 (matmul (F := Ideal) (φ₁ := .bf16) (φ₂ := .bf16) dot_S64x128_S128x512_S64x512_1_0_0_1_n_n none (k0_pay7 (F := Ideal) v)
    (shapeCast S128x512 w shapeCasts_S1x128x512_S128x512) (constant S64x512 .f32 0x00000000#32)) shapeCasts_S64x512_S64x512 (ix2 r x) = _
  rw [shapeCast_self]
  refine (Mm.plain_apply none _ _ _).trans (Finset.sum_congr rfl fun k _ => congrArg₂ (· * ·) ?_ ?_)
  · refine shapeCast_apply v shapeCasts_S1x64x128_S64x128 (ix2 r k : S64x128.Idx) (ix3 0 r k : S1x64x128.Idx) ?_
    rw [Shape.rowMajor_val_three, Shape.rowMajor_val_two]
    show (0 * 64 + r.val) * 128 + k.val = r.val * 128 + k.val
    omega
  · refine shapeCast_apply w shapeCasts_S1x128x512_S128x512 (ix2 k x : S128x512.Idx) (ix3 0 k x : S1x128x512.Idx) ?_
    rw [Shape.rowMajor_val_three, Shape.rowMajor_val_two]
    show (0 * 128 + k.val) * 512 + x.val = k.val * 512 + x.val
    omega

theorem pay9_apply (v : S1x64x128.Idx → EReal) (w : S1x128x512.Idx → EReal) (r : Fin 64) (x : Fin 512) :
    k0_pay9 (F := Ideal) v w (ix2 r x) = ∑ k : Fin 128, v (ix3 0 r k) * w (ix3 0 k x) := pay8_apply v w r x

theorem ra_at (j : Trip) (x : Fin 512) : (ra j).idx (ix2 0 x : S1x512.Idx) = (ix2 0 (cl j x) : S1x8192.Idx) := by
  funext a
  refine Fin.ext ((Rect.idx_unit_val _ _ _ _ a).trans ?_)
  refine (congrArg (· + ((ix2 0 x : S1x512.Idx) a).val) (congrFun (k0_off3_eq j) a)).trans ?_
  match a with
  | ⟨0, _⟩ => rfl
  | ⟨1, _⟩ => rfl

theorem rb_at (j : Trip) (k : Fin 128) (x : Fin 512) : (rb j).idx (ix3 0 k x : S1x128x512.Idx) = (ix3 ⟨j.val, trip_lt j⟩ k x : S16x128x512.Idx) := by
  funext a
  refine Fin.ext ((Rect.idx_unit_val _ _ _ _ a).trans ?_)
  refine (congrArg (· + ((ix3 0 k x : S1x128x512.Idx) a).val) (congrFun (k0_off2_eq j) a)).trans ?_
  match a with
  | ⟨0, _⟩ => rfl
  | ⟨1, _⟩ => exact Nat.zero_add _
  | ⟨2, _⟩ => exact Nat.zero_add _

theorem q_at (n : ℕ) (s : Fin 8) (x : Fin 512) : (_root_.Se.q n).idx (ix2 s x : S8x512.Idx) = (ix2 (rw8 s ⟨n % 8, Nat.mod_lt _ (by decide)⟩) x : S64x512.Idx) := by
  funext a
  refine Fin.ext ((Rect.idx_unit_val _ _ _ _ a).trans ?_)
  match a with
  | ⟨0, _⟩ => rfl
  | ⟨1, _⟩ => exact Nat.zero_add _

/-- A sum over the channels of eight groups, of which one group's count. -/
theorem sum_block (f : Fin 128 → EReal) (a : Fin 8) (h : ∀ k, k.val / 16 ≠ a.val → f k = 0) :
    ∑ k, f k = ∑ i : Fin 16, f ⟨16 * a.val + i.val, by omega⟩ := by
  show (∑ k : Fin (8 * 16), f k) = _
  rw [← Equiv.sum_comp (finProdFinEquiv : Fin 8 × Fin 16 ≃ Fin (8 * 16)), Fintype.sum_prod_type, Finset.sum_eq_single a]
  · exact Finset.sum_congr rfl fun i _ => congrArg f (Fin.ext (by show i.val + 16 * a.val = 16 * a.val + i.val; omega))
  · intro b _ hb
    have hne : b.val ≠ a.val := fun e => hb (Fin.ext e)
    exact Finset.sum_eq_zero fun i _ => h _ (by show (i.val + 16 * b.val) / 16 ≠ a.val; omega)
  · exact fun hh => absurd (Finset.mem_univ a) hh

variable (u : TU) (hr hi : TH) (ar ai : TA) (br bi : TB)
variable (x2 : S1x64x2048.Idx → EReal) (x5 x6 : S1x8192.Idx → EReal) (x7 x8 : S16x128x512.Idx → EReal) (x9 x10 : S16x512x128.Idx → EReal)
  (x11 : S1x2048.Idx → EReal) (r i : S8x8192.Idx → EReal)

/-- The rows are the tokens, and a weight block is a group's weights, with zeros between different groups. -/
abbrev Rows (x2 : S1x64x2048.Idx → EReal) : Prop := ∀ (s n : Fin 8) (k : Fin 2048), x2 (ix3 0 (rw8 s n) k) = u (ix3 s n k)
abbrev Diag (b : TB) (x7 : S16x128x512.Idx → EReal) : Prop := ∀ (j : Fin 16) (k : Fin 128) (x : Fin 512),
  x7 (ix3 j k x) = b (ix3 ⟨8 * j.val + k.val / 16, by omega⟩ ⟨k.val % 16, Nat.mod_lt _ (by decide)⟩ (pl x)) * (if k.val / 16 = x.val / 64 then 1 else 0)
abbrev Flat (a : TA) (x5 : S1x8192.Idx → EReal) : Prop := ∀ (g : Fin 128) (p : Fin 64), x5 (ix2 0 (cg g p)) = a (ix2 g p)
abbrev Flat8 (h : TH) (r : S8x8192.Idx → EReal) : Prop := ∀ (s : Fin 8) (g : Fin 128) (p : Fin 64), r (ix2 s (cg g p)) = h (ix3 s g p)

/-- The product with the weight block is what the token gives to the state. -/
theorem fed (b : TB) (h2 : Rows u x2) (h7 : Diag b x7) (j : Trip) (s n : Fin 8) (x : Fin 512) :
    (∑ k : Fin 128, View.ld (Val := Elt Ideal) (e' := .f32) x2 (ry j) (ix3 0 (rw8 s n) k) * View.ld (Val := Elt Ideal) (e' := .bf16) x7 (rb j) (ix3 0 k x)) = inp u b s n (gr j x) (pl x) := by
  have e (k : Fin 128) : View.ld (Val := Elt Ideal) (e' := .f32) x2 (ry j) (ix3 0 (rw8 s n) k) * View.ld (Val := Elt Ideal) (e' := .bf16) x7 (rb j) (ix3 0 k x)
      = u (ix3 s n (ci j k)) * (b (ix3 ⟨8 * j.val + k.val / 16, by have := trip_lt j; omega⟩ ⟨k.val % 16, Nat.mod_lt _ (by decide)⟩ (pl x)) * (if k.val / 16 = x.val / 64 then 1 else 0)) := by
    refine congrArg₂ (· * ·) ?_ ?_
    · exact (congrArg x2 (ry_at j (ix3 0 (rw8 s n) k : S1x64x128.Idx) (ix3 0 (rw8 s n) (ci j k) : S1x64x2048.Idx) rfl rfl rfl)).trans (h2 s n (ci j k))
    · exact (congrArg x7 (rb_at j k x)).trans (h7 ⟨j.val, trip_lt j⟩ k x)
  rw [Finset.sum_congr rfl fun k _ => e k, sum_block _ ⟨x.val / 64, by omega⟩ (fun k hk => by rw [if_neg hk, mul_zero, mul_zero])]
  refine Finset.sum_congr rfl fun y _ => ?_
  have hd : (16 * (x.val / 64) + y.val) / 16 = x.val / 64 := by omega
  have hm : (16 * (x.val / 64) + y.val) % 16 = y.val := by omega
  show u (ix3 s n ⟨128 * j.val + (16 * (x.val / 64) + y.val), _⟩) * (b (ix3 ⟨8 * j.val + (16 * (x.val / 64) + y.val) / 16, _⟩ ⟨(16 * (x.val / 64) + y.val) % 16, _⟩ (pl x)) * (if (16 * (x.val / 64) + y.val) / 16 = x.val / 64 then 1 else 0)) = _
  rw [if_pos hd, mul_one, mul_comm]
  refine congrArg₂ (· * ·) (congrArg b ?_) (congrArg u ?_)
  · funext a; apply Fin.ext
    match a with
    | ⟨0, _⟩ => show 8 * j.val + (16 * (x.val / 64) + y.val) / 16 = 8 * j.val + x.val / 64; rw [hd]
    | ⟨1, _⟩ => exact hm
    | ⟨2, _⟩ => rfl
  · funext a; apply Fin.ext
    match a with
    | ⟨0, _⟩ => rfl
    | ⟨1, _⟩ => rfl
    | ⟨2, _⟩ => show 128 * j.val + (16 * (x.val / 64) + y.val) = 16 * (8 * j.val + x.val / 64) + y.val; omega

/-- The states a trip steps through are the states after so many tokens. -/
theorem trip_eq (h2 : Rows u x2) (h5 : Flat ar x5) (h6 : Flat ai x6) (h7 : Diag br x7) (h8 : Diag bi x8) (hr' : Flat8 hr r) (hi' : Flat8 hi i)
    (j : Trip) (s : Fin 8) (x : Fin 512) : ∀ n : ℕ,
    (zs (F := Ideal) j x2 x5 x6 x7 x8 x9 x10 x11 r i n).1 (ix2 s x) = (st u hr hi ar ai br bi s (gr j x) (pl x) n).1
    ∧ (zs (F := Ideal) j x2 x5 x6 x7 x8 x9 x10 x11 r i n).2 (ix2 s x) = (st u hr hi ar ai br bi s (gr j x) (pl x) n).2
  | 0 => by
    have e : (rs j).idx (ix2 s x : S8x512.Idx) = (ix2 s (cg (gr j x) (pl x)) : S8x8192.Idx) := (rs_at j _ (ix2 s (cl j x) : S8x8192.Idx) rfl rfl).trans (congrArg (ix2 s) (cl_eq j x))
    exact ⟨(congrArg r e).trans (hr' s _ _), (congrArg i e).trans (hi' s _ _)⟩
  | n + 1 => by
    obtain ⟨e1, e2⟩ := trip_eq h2 h5 h6 h7 h8 hr' hi' j s x n
    have a1 : k0_pay10 (F := Ideal) (View.ld (Val := Elt Ideal) (e' := .f32) x5 (ra j)) (ix2 s x) = ar (ix2 (gr j x) (pl x)) :=
      (pay10_apply _ s x).trans ((congrArg x5 ((ra_at j x).trans (congrArg (ix2 0) (cl_eq j x)))).trans (h5 _ _))
    have a2 : k0_pay11 (F := Ideal) (View.ld (Val := Elt Ideal) (e' := .f32) x6 (ra j)) (ix2 s x) = ai (ix2 (gr j x) (pl x)) :=
      (pay11_apply _ s x).trans ((congrArg x6 ((ra_at j x).trans (congrArg (ix2 0) (cl_eq j x)))).trans (h6 _ _))
    have f1 : k0_pay8 (F := Ideal) (View.ld (Val := Elt Ideal) (e' := .f32) x2 (ry j)) (View.ld (Val := Elt Ideal) (e' := .bf16) x7 (rb j)) ((_root_.Se.q n).idx (ix2 s x : S8x512.Idx)) = inp u br s ⟨n % 8, Nat.mod_lt _ (by decide)⟩ (gr j x) (pl x) :=
      (congrArg _ (q_at n s x)).trans ((pay8_apply _ _ _ _).trans (fed u x2 x7 br h2 h7 j s _ x))
    have f2 : k0_pay9 (F := Ideal) (View.ld (Val := Elt Ideal) (e' := .f32) x2 (ry j)) (View.ld (Val := Elt Ideal) (e' := .bf16) x8 (rb j)) ((_root_.Se.q n).idx (ix2 s x : S8x512.Idx)) = inp u bi s ⟨n % 8, Nat.mod_lt _ (by decide)⟩ (gr j x) (pl x) :=
      (congrArg _ (q_at n s x)).trans ((pay9_apply _ _ _ _).trans (fed u x2 x8 bi h2 h8 j s _ x))
    constructor
    · show _ * (zs (F := Ideal) j x2 x5 x6 x7 x8 x9 x10 x11 r i n).1 (ix2 s x) - _ * (zs (F := Ideal) j x2 x5 x6 x7 x8 x9 x10 x11 r i n).2 (ix2 s x) + _ = _ * _ - _ * _ + _
      rw [e1, e2]
      exact congrArg₂ (· + ·) (congrArg₂ (· - ·) (congrArg (· * _) a1) (congrArg (· * _) a2)) f1
    · show _ * (zs (F := Ideal) j x2 x5 x6 x7 x8 x9 x10 x11 r i n).2 (ix2 s x) + _ * (zs (F := Ideal) j x2 x5 x6 x7 x8 x9 x10 x11 r i n).1 (ix2 s x) + _ = _ * _ + _ * _ + _
      rw [e1, e2]
      exact congrArg₂ (· + ·) (congrArg₂ (· + ·) (congrArg (· * _) a1) (congrArg (· * _) a2)) f2

/-- So all states at the end of the loop are the states after the eight tokens. -/
theorem end_eq (h2 : Rows u x2) (h5 : Flat ar x5) (h6 : Flat ai x6) (h7 : Diag br x7) (h8 : Diag bi x8) (hr' : Flat8 hr r) (hi' : Flat8 hi i) (s : Fin 8) (g : Fin 128) (p : Fin 64) :
    _root_.Se.endRe (F := Ideal) x2 x5 x6 x7 x8 x9 x10 x11 r i (ix2 s (cg g p)) = lastRe u hr hi ar ai br bi (ix3 s g p)
    ∧ _root_.Se.endIm (F := Ideal) x2 x5 x6 x7 x8 x9 x10 x11 r i (ix2 s (cg g p)) = lastIm u hr hi ar ai br bi (ix3 s g p) := by
  have e := trip_eq u hr hi ar ai br bi x2 x5 x6 x7 x8 x9 x10 x11 r i h2 h5 h6 h7 h8 hr' hi' (ts (ix2 s (cg g p) : S8x8192.Idx)) s ⟨(64 * g.val + p.val) % 512, Nat.mod_lt _ (by decide)⟩ 8
  have eg : gr (ts (ix2 s (cg g p) : S8x8192.Idx)) ⟨(64 * g.val + p.val) % 512, Nat.mod_lt _ (by decide)⟩ = g :=
    Fin.ext (by show 8 * ((64 * g.val + p.val) / 512) + (64 * g.val + p.val) % 512 / 64 = g.val; omega)
  have ep : pl ⟨(64 * g.val + p.val) % 512, Nat.mod_lt _ (by decide)⟩ = p := Fin.ext (by show (64 * g.val + p.val) % 512 % 64 = p.val; omega)
  rw [eg, ep] at e
  exact e

end Body
end Cert.Proof.Se

end
-- ==== Proof.SeSame.lean ====
/- The two programs of the recurrence's call are the same text: part by part, then the body, the table of bodies and the host code. -/
module

public import proofs.«01_k».proof.Defs
public import proofs.«01_k».proof.Proof.Gen.Se.Points
public import proofs.«01_k».proof.Proof.Gen.SeIdeal.Points

@[expose] public section

noncomputable section

open Idealize.ShloMosaic
open Idealize.ShloMosaic.TcCoe Idealize.SL.Sem

namespace Cert.Proof.Se

set_option maxHeartbeats 1000000 in
theorem part1 : @Cert.Se.k0_part1 Bits _ _ = @Cert.SeIdeal.k0_part1 Bits _ _ := by unfold Cert.Se.k0_part1 Cert.SeIdeal.k0_part1; rfl
set_option maxHeartbeats 1000000 in
theorem part2 : @Cert.Se.k0_part2 Bits _ _ = @Cert.SeIdeal.k0_part2 Bits _ _ := by unfold Cert.Se.k0_part2 Cert.SeIdeal.k0_part2; rfl
set_option maxHeartbeats 1000000 in
theorem part3 : @Cert.Se.k0_part3 Bits _ _ = @Cert.SeIdeal.k0_part3 Bits _ _ := by unfold Cert.Se.k0_part3 Cert.SeIdeal.k0_part3; rfl
set_option maxHeartbeats 1000000 in
theorem part4 : @Cert.Se.k0_part4 Bits _ _ = @Cert.SeIdeal.k0_part4 Bits _ _ := by unfold Cert.Se.k0_part4 Cert.SeIdeal.k0_part4; rfl
set_option maxHeartbeats 1000000 in
theorem part5 : @Cert.Se.k0_part5 Bits _ _ = @Cert.SeIdeal.k0_part5 Bits _ _ := by unfold Cert.Se.k0_part5 Cert.SeIdeal.k0_part5; rfl
set_option maxHeartbeats 1000000 in
theorem scan : @Cert.Se.cc0_s5_scan Bits _ _ = @Cert.SeIdeal.cc0_s5_scan Bits _ _ := by
  unfold Cert.Se.cc0_s5_scan Cert.SeIdeal.cc0_s5_scan
  rw [part1, part2, part3, part4, part5]
  rfl
set_option maxHeartbeats 1000000 in
theorem bodies : @Cert.Se.defs₀ Bits _ _ = @Cert.SeIdeal.defs₀ Bits _ _ := by
  unfold Cert.Se.defs₀ Cert.SeIdeal.defs₀
  refine congrArg _ ?_
  funext l a
  match l, a with
  | 0, (t, s) => rw [scan]; rfl
theorem tables : @Cert.Se.defs Bits _ _ = @Cert.SeIdeal.defs Bits _ _ := congrArg (Pipeline.defs Cert.SeIdeal.pcfgs) bodies

set_option maxHeartbeats 1000000 in
theorem main0 : @Cert.Se.main_part0 Bits _ _ = @Cert.SeIdeal.main_part0 Bits _ _ := by unfold Cert.Se.main_part0 Cert.SeIdeal.main_part0; rfl
set_option maxHeartbeats 1000000 in
theorem main1 : @Cert.Se.main_part1 Bits _ _ = @Cert.SeIdeal.main_part1 Bits _ _ := by unfold Cert.Se.main_part1 Cert.SeIdeal.main_part1; rfl
set_option maxHeartbeats 1000000 in
theorem mains : @Cert.Se.main Bits _ _ = @Cert.SeIdeal.main Bits _ _ := by
  unfold Cert.Se.main Cert.SeIdeal.main
  rw [main0, main1]
  rfl

end Cert.Proof.Se

end
-- ==== Proof.SeEnd.lean ====
/- The recurrence over the sample tokens, from the call's arguments to its two results: what the host lines before the call lay
   out, the states the call leaves, the host lines after it, and the claims. -/
module

public import proofs.«01_k».proof.Proof.Se
public import proofs.«01_k».proof.Proof.SeSame

@[expose] public section

noncomputable section

open Idealize.ShloMosaic hiding ix1 ix2 ix3 ix4 ix5 eq_ix3
open Idealize.ShloMosaic.TcCoe Idealize.SL.Sem Idealize.ShloMosaic.ValueIdx
open Idealize.ShloMosaic.Pipeline (Dat)
open scoped BigOperators

namespace Cert.Proof.Se

open Cert.SeIdeal Cert.SeIdeal.Gen

/-! ### The arrays the call takes -/

/-- One where the two coordinates are the same, zero elsewhere. -/
def eye : S8x8.Idx → EReal := uitofp (F := Ideal) .f32 (cmpi .eq (addi (iotaInDim S8x8 32 0) (broadcastInDim S8x8 ![] bcast_S_S8x8 (constantI S_ 32 0#32))) (iotaInDim S8x8 32 1))

theorem bits : ∀ a b : Fin 8, IntOp.cmpi .eq (BitVec.ofNat 32 a.val + 0#32) (BitVec.ofNat 32 b.val) = if a.val = b.val then 1#1 else 0#1 := by decide

theorem eye_apply (a b : Fin 8) : eye (ix2 a b) = if a.val = b.val then 1 else 0 := by
  show (((IntOp.cmpi .eq (BitVec.ofNat 32 a.val + 0#32) (BitVec.ofNat 32 b.val)).toNat : ℝ) : EReal) = _
  rw [bits]
  by_cases h : a.val = b.val
  · rw [if_pos h, if_pos h]; simp
  · rw [if_neg h, if_neg h]; simp

/-- The weights of sixteen times eight groups, each group's in the block of its own on the diagonal. -/
def wide (b : TB) : S16x128x512.Idx → EReal :=
  shapeCast S16x128x512 (mulf (F := Ideal) (φ := .f32)
    (broadcastInDim S16x8x16x8x64 ![0, 1, 2, 3, 4] bcast_S16x8x16x1x64_S16x8x16x8x64_0_1_2_3_4 (broadcastInDim S16x8x16x1x64 ![0, 1, 2, 4] bcast_S16x8x16x64_S16x8x16x1x64_0_1_2_4 (shapeCast S16x8x16x64 b shapeCasts_S128x16x64_S16x8x16x64)))
    (broadcastInDim S16x8x16x8x64 ![0, 1, 2, 3, 4] bcast_S1x8x1x8x1_S16x8x16x8x64_0_1_2_3_4 (broadcastInDim S1x8x1x8x1 ![1, 3] bcast_S8x8_S1x8x1x8x1_1_3 eye)))
    shapeCasts_S16x8x16x8x64_S16x128x512
def diag (b : TB) : S16x128x512.Idx → EReal := truncf (F := Ideal) (φ := .f32) .bf16 (wide b) bitsLt_bf16_f32

theorem diag_apply (b : TB) : Diag b (diag b) := by
  intro j k x
  have hk : k.val / 16 < 8 := by omega
  have hx : x.val / 64 < 8 := by omega
  show wide b (ix3 j k x) = _
  unfold wide
  refine (shapeCast_apply (s := S16x8x16x8x64) (t := S16x128x512) _ shapeCasts_S16x8x16x8x64_S16x128x512 (ix3 j k x : S16x128x512.Idx)
    (ix5 j ⟨k.val / 16, hk⟩ ⟨k.val % 16, Nat.mod_lt _ (by decide)⟩ ⟨x.val / 64, hx⟩ (pl x) : S16x8x16x8x64.Idx) ?_).trans ?_
  · rw [Shape.rowMajor_val_five, Shape.rowMajor_val_three]
    show (((j.val * 8 + k.val / 16) * 16 + k.val % 16) * 8 + x.val / 64) * 64 + x.val % 64 = (j.val * 128 + k.val) * 512 + x.val
    omega
  refine congrArg₂ (· * ·) ?_ ?_
  · refine (broadcastInDim_apply _ _ _ _ (ix5 j ⟨k.val / 16, hk⟩ ⟨k.val % 16, Nat.mod_lt _ (by decide)⟩ 0 (pl x) : S16x8x16x1x64.Idx)
      (fun a => by match a with | ⟨0, _⟩ => rfl | ⟨1, _⟩ => rfl | ⟨2, _⟩ => rfl | ⟨3, _⟩ => rfl | ⟨4, _⟩ => rfl)).trans ?_
    refine (broadcastInDim_apply _ _ _ _ (ix4 j ⟨k.val / 16, hk⟩ ⟨k.val % 16, Nat.mod_lt _ (by decide)⟩ (pl x) : S16x8x16x64.Idx)
      (fun a => by match a with | ⟨0, _⟩ => rfl | ⟨1, _⟩ => rfl | ⟨2, _⟩ => rfl | ⟨3, _⟩ => rfl)).trans ?_
    refine shapeCast_apply (s := S128x16x64) (t := S16x8x16x64) _ _ _ _ ?_
    rw [Shape.rowMajor_val_three, Shape.rowMajor_val_four]
    show ((8 * j.val + k.val / 16) * 16 + k.val % 16) * 64 + x.val % 64 = ((j.val * 8 + k.val / 16) * 16 + k.val % 16) * 64 + x.val % 64
    omega
  · refine (broadcastInDim_apply _ _ _ _ (ix5 0 ⟨k.val / 16, hk⟩ 0 ⟨x.val / 64, hx⟩ 0 : S1x8x1x8x1.Idx)
      (fun a => by match a with | ⟨0, _⟩ => rfl | ⟨1, _⟩ => rfl | ⟨2, _⟩ => rfl | ⟨3, _⟩ => rfl | ⟨4, _⟩ => rfl)).trans ?_
    refine (broadcastInDim_apply _ _ _ _ (ix2 ⟨k.val / 16, hk⟩ ⟨x.val / 64, hx⟩ : S8x8.Idx)
      (fun a => by match a with | ⟨0, _⟩ => rfl | ⟨1, _⟩ => rfl)).trans ?_
    exact eye_apply _ _

variable (m : (ℓ : Loc nD τ sig) → Buf (Elt Ideal) ℓ)

/-- The arguments: inputs, states, transitions, input weights. -/
abbrev U (c : Dev nD) : TU := m ((c : Thread nD τ).loc main_arg0)
abbrev H (c : Dev nD) : TH := m ((c : Thread nD τ).loc main_arg1)
abbrev I (c : Dev nD) : TH := m ((c : Thread nD τ).loc main_arg2)
abbrev A (c : Dev nD) : TA := m ((c : Thread nD τ).loc main_arg3)
abbrev B (c : Dev nD) : TA := m ((c : Thread nD τ).loc main_arg4)
abbrev P (c : Dev nD) : TB := m ((c : Thread nD τ).loc main_arg5)
abbrev Q (c : Dev nD) : TB := m ((c : Thread nD τ).loc main_arg6)

/-- The tokens as rows, token after token. -/
def rows (u : TU) : S1x64x2048.Idx → EReal := shapeCast S1x64x2048 (transpose S8x8x2048 [1, 0, 2] u transposes_S8x8x2048_S8x8x2048_1_0_2) shapeCasts_S8x8x2048_S1x64x2048

theorem rows_apply (u : TU) : Rows u (rows u) := by
  intro s n k
  refine (shapeCast_apply (s := S8x8x2048) (t := S1x64x2048) _ _ _ (ix3 n s k : S8x8x2048.Idx) ?_).trans ?_
  · rw [Shape.rowMajor_val_three, Shape.rowMajor_val_three]
    show (n.val * 8 + s.val) * 2048 + k.val = (0 * 64 + (8 * n.val + s.val)) * 2048 + k.val
    omega
  · exact transpose_apply _ _ _ _ (ix3 s n k : S8x8x2048.Idx) (fun b => by match b with | ⟨0, _⟩ => rfl | ⟨1, _⟩ => rfl | ⟨2, _⟩ => rfl)

/-- The transitions in one row, and the states in a row for each sequence. -/
def flat (a : TA) : S1x8192.Idx → EReal := shapeCast S1x8192 a shapeCasts_S128x64_S1x8192
def flat8 (h : TH) : S1x8x8192.Idx → EReal := shapeCast S1x8x8192 h shapeCasts_S8x128x64_S1x8x8192

theorem flat_apply (a : TA) : Flat a (flat a) := by
  intro g p
  refine shapeCast_apply (s := S128x64) (t := S1x8192) _ _ _ (ix2 g p : S128x64.Idx) ?_
  rw [Shape.rowMajor_val_two, Shape.rowMajor_val_two]
  show g.val * 64 + p.val = 0 * 8192 + (64 * g.val + p.val)
  omega

theorem flat8_apply (h : TH) (s : Fin 8) (g : Fin 128) (p : Fin 64) : flat8 h (ix3 0 s (cg g p)) = h (ix3 s g p) := by
  refine shapeCast_apply (s := S8x128x64) (t := S1x8x8192) _ _ _ (ix3 s g p : S8x128x64.Idx) ?_
  rw [Shape.rowMajor_val_three, Shape.rowMajor_val_three]
  show (s.val * 128 + g.val) * 64 + p.val = (0 * 8 + s.val) * 8192 + (64 * g.val + p.val)
  omega

theorem pay1_apply (y : S1x8x8192.Idx → EReal) (s : Fin 8) (q : Fin 8192) : k0_pay1 (F := Ideal) y (ix2 s q) = y (ix3 0 s q) := by
  show shapeCast S8x8192 (shapeCast S8x8192 y shapeCasts_S1x8x8192_S8x8192) shapeCasts_S8x8192_S8x8192 (ix2 s q) = _
  rw [shapeCast_self]
  refine shapeCast_apply (s := S1x8x8192) (t := S8x8192) _ _ _ (ix3 0 s q : S1x8x8192.Idx) ?_
  rw [Shape.rowMajor_val_three, Shape.rowMajor_val_two]
  show (0 * 8 + s.val) * 8192 + q.val = s.val * 8192 + q.val
  omega

theorem pay2_apply (y : S1x8x8192.Idx → EReal) (s : Fin 8) (q : Fin 8192) : k0_pay2 (F := Ideal) y (ix2 s q) = y (ix3 0 s q) := pay1_apply y s q

theorem arr0 (c : Dev nD) : V m c (Pipeline.arrRef spec0 0) = rows (U m c) := by
  show StableHlo.after hostOps0 _ (Proc.devRef .tc main_v59) = _
  after_results <;> rfl
theorem arr1 (c : Dev nD) : V m c (Pipeline.arrRef spec0 1) = flat8 (H m c) := by
  show StableHlo.after hostOps0 _ (Proc.devRef .tc main_v60) = _
  after_results <;> rfl
theorem arr2 (c : Dev nD) : V m c (Pipeline.arrRef spec0 2) = flat8 (I m c) := by
  show StableHlo.after hostOps0 _ (Proc.devRef .tc main_v61) = _
  after_results <;> rfl
theorem arr3 (c : Dev nD) : V m c (Pipeline.arrRef spec0 3) = flat (A m c) := by
  show StableHlo.after hostOps0 _ (Proc.devRef .tc main_v62) = _
  after_results <;> rfl
theorem arr4 (c : Dev nD) : V m c (Pipeline.arrRef spec0 4) = flat (B m c) := by
  show StableHlo.after hostOps0 _ (Proc.devRef .tc main_v63) = _
  after_results <;> rfl
theorem arr5 (c : Dev nD) : V m c (Pipeline.arrRef spec0 5) = diag (P m c) := by
  show StableHlo.after hostOps0 _ (Proc.devRef .tc main_v13) = _
  after_results <;> rfl
theorem arr6 (c : Dev nD) : V m c (Pipeline.arrRef spec0 6) = diag (Q m c) := by
  show StableHlo.after hostOps0 _ (Proc.devRef .tc main_v27) = _
  after_results <;> rfl

/-! ### The blocks, each a whole array -/

theorem idx : ∀ t : Fin cfg0.N, win0_0.index t = ![0, 0, 0] ∧ win0_1.index t = ![0, 0, 0] ∧ win0_2.index t = ![0, 0, 0] ∧ win0_3.index t = ![0, 0] ∧ win0_4.index t = ![0, 0]
    ∧ win0_5.index t = ![0, 0, 0] ∧ win0_6.index t = ![0, 0, 0] ∧ win0_11.index t = ![0, 0, 0] ∧ win0_12.index t = ![0, 0, 0] :=
  (by decide +kernel : ∀ t : Fin grid0.N, win0_0.index t = ![0, 0, 0] ∧ win0_1.index t = ![0, 0, 0] ∧ win0_2.index t = ![0, 0, 0] ∧ win0_3.index t = ![0, 0] ∧ win0_4.index t = ![0, 0]
    ∧ win0_5.index t = ![0, 0, 0] ∧ win0_6.index t = ![0, 0, 0] ∧ win0_11.index t = ![0, 0, 0] ∧ win0_12.index t = ![0, 0, 0])

theorem whole0 (t : Fin cfg0.N) (y : S1x64x2048.Idx → EReal) : ((cfg0.win 0).blk t).view.read (Elt Ideal) y = y := by
  funext j
  show y ((win0_0.rect t).emb j) = y j
  have v (a) := Pipeline.Window.rect_emb_val win0_0 t j a
  rw [(idx t).1] at v
  refine congrArg y ?_
  funext a; apply Fin.ext
  match a with
  | ⟨0, _⟩ => exact (v 0).trans (by show 0 * 1 + (j 0).val = (j 0).val; omega)
  | ⟨1, _⟩ => exact (v 1).trans (by show 0 * 64 + (j 1).val = (j 1).val; omega)
  | ⟨2, _⟩ => exact (v 2).trans (by show 0 * 2048 + (j 2).val = (j 2).val; omega)

theorem whole1 (t : Fin cfg0.N) (y : S1x8x8192.Idx → EReal) : ((cfg0.win 1).blk t).view.read (Elt Ideal) y = y := by
  funext j
  show y ((win0_1.rect t).emb j) = y j
  have v (a) := Pipeline.Window.rect_emb_val win0_1 t j a
  rw [(idx t).2.1] at v
  refine congrArg y ?_
  funext a; apply Fin.ext
  match a with
  | ⟨0, _⟩ => exact (v 0).trans (by show 0 * 1 + (j 0).val = (j 0).val; omega)
  | ⟨1, _⟩ => exact (v 1).trans (by show 0 * 8 + (j 1).val = (j 1).val; omega)
  | ⟨2, _⟩ => exact (v 2).trans (by show 0 * 8192 + (j 2).val = (j 2).val; omega)

theorem whole2 (t : Fin cfg0.N) (y : S1x8x8192.Idx → EReal) : ((cfg0.win 2).blk t).view.read (Elt Ideal) y = y := by
  funext j
  show y ((win0_2.rect t).emb j) = y j
  have v (a) := Pipeline.Window.rect_emb_val win0_2 t j a
  rw [(idx t).2.2.1] at v
  refine congrArg y ?_
  funext a; apply Fin.ext
  match a with
  | ⟨0, _⟩ => exact (v 0).trans (by show 0 * 1 + (j 0).val = (j 0).val; omega)
  | ⟨1, _⟩ => exact (v 1).trans (by show 0 * 8 + (j 1).val = (j 1).val; omega)
  | ⟨2, _⟩ => exact (v 2).trans (by show 0 * 8192 + (j 2).val = (j 2).val; omega)

theorem whole3 (t : Fin cfg0.N) (y : S1x8192.Idx → EReal) : ((cfg0.win 3).blk t).view.read (Elt Ideal) y = y := by
  funext j
  show y ((win0_3.rect t).emb j) = y j
  have v (a) := Pipeline.Window.rect_emb_val win0_3 t j a
  rw [(idx t).2.2.2.1] at v
  refine congrArg y ?_
  funext a; apply Fin.ext
  match a with
  | ⟨0, _⟩ => exact (v 0).trans (by show 0 * 1 + (j 0).val = (j 0).val; omega)
  | ⟨1, _⟩ => exact (v 1).trans (by show 0 * 8192 + (j 1).val = (j 1).val; omega)

theorem whole4 (t : Fin cfg0.N) (y : S1x8192.Idx → EReal) : ((cfg0.win 4).blk t).view.read (Elt Ideal) y = y := by
  funext j
  show y ((win0_4.rect t).emb j) = y j
  have v (a) := Pipeline.Window.rect_emb_val win0_4 t j a
  rw [(idx t).2.2.2.2.1] at v
  refine congrArg y ?_
  funext a; apply Fin.ext
  match a with
  | ⟨0, _⟩ => exact (v 0).trans (by show 0 * 1 + (j 0).val = (j 0).val; omega)
  | ⟨1, _⟩ => exact (v 1).trans (by show 0 * 8192 + (j 1).val = (j 1).val; omega)

theorem whole5 (t : Fin cfg0.N) (y : S16x128x512.Idx → EReal) : ((cfg0.win 5).blk t).view.read (Elt Ideal) y = y := by
  funext j
  show y ((win0_5.rect t).emb j) = y j
  have v (a) := Pipeline.Window.rect_emb_val win0_5 t j a
  rw [(idx t).2.2.2.2.2.1] at v
  refine congrArg y ?_
  funext a; apply Fin.ext
  match a with
  | ⟨0, _⟩ => exact (v 0).trans (by show 0 * 16 + (j 0).val = (j 0).val; omega)
  | ⟨1, _⟩ => exact (v 1).trans (by show 0 * 128 + (j 1).val = (j 1).val; omega)
  | ⟨2, _⟩ => exact (v 2).trans (by show 0 * 512 + (j 2).val = (j 2).val; omega)

theorem whole6 (t : Fin cfg0.N) (y : S16x128x512.Idx → EReal) : ((cfg0.win 6).blk t).view.read (Elt Ideal) y = y := by
  funext j
  show y ((win0_6.rect t).emb j) = y j
  have v (a) := Pipeline.Window.rect_emb_val win0_6 t j a
  rw [(idx t).2.2.2.2.2.2.1] at v
  refine congrArg y ?_
  funext a; apply Fin.ext
  match a with
  | ⟨0, _⟩ => exact (v 0).trans (by show 0 * 16 + (j 0).val = (j 0).val; omega)
  | ⟨1, _⟩ => exact (v 1).trans (by show 0 * 128 + (j 1).val = (j 1).val; omega)
  | ⟨2, _⟩ => exact (v 2).trans (by show 0 * 512 + (j 2).val = (j 2).val; omega)

theorem bk0_eq (c : Dev nD) (t : Fin cfg0.N) : _root_.Se.bk0 m c t = rows (U m c) := (congrArg (((cfg0.win 0).blk t).view.read (Elt Ideal)) (arr0 m c)).trans (whole0 t _)
theorem bk1_eq (c : Dev nD) (t : Fin cfg0.N) : _root_.Se.bk1 m c t = flat8 (H m c) := (congrArg (((cfg0.win 1).blk t).view.read (Elt Ideal)) (arr1 m c)).trans (whole1 t _)
theorem bk2_eq (c : Dev nD) (t : Fin cfg0.N) : _root_.Se.bk2 m c t = flat8 (I m c) := (congrArg (((cfg0.win 2).blk t).view.read (Elt Ideal)) (arr2 m c)).trans (whole2 t _)
theorem bk3_eq (c : Dev nD) (t : Fin cfg0.N) : _root_.Se.bk3 m c t = flat (A m c) := (congrArg (((cfg0.win 3).blk t).view.read (Elt Ideal)) (arr3 m c)).trans (whole3 t _)
theorem bk4_eq (c : Dev nD) (t : Fin cfg0.N) : _root_.Se.bk4 m c t = flat (B m c) := (congrArg (((cfg0.win 4).blk t).view.read (Elt Ideal)) (arr4 m c)).trans (whole4 t _)
theorem bk5_eq (c : Dev nD) (t : Fin cfg0.N) : _root_.Se.bk5 m c t = diag (P m c) := (congrArg (((cfg0.win 5).blk t).view.read (Elt Ideal)) (arr5 m c)).trans (whole5 t _)
theorem bk6_eq (c : Dev nD) (t : Fin cfg0.N) : _root_.Se.bk6 m c t = diag (Q m c) := (congrArg (((cfg0.win 6).blk t).view.read (Elt Ideal)) (arr6 m c)).trans (whole6 t _)

/-! ### What the call leaves, and the results -/

theorem ends (c : Dev nD) (t : Fin cfg0.N) (s : Fin 8) (g : Fin 128) (p : Fin 64) :
    _root_.Se.o11 m c t (ix3 0 s (cg g p)) = lastRe (U m c) (H m c) (I m c) (A m c) (B m c) (P m c) (Q m c) (ix3 s g p)
    ∧ _root_.Se.o12 m c t (ix3 0 s (cg g p)) = lastIm (U m c) (H m c) (I m c) (A m c) (B m c) (P m c) (Q m c) (ix3 s g p) := by
  have e := end_eq (U m c) (H m c) (I m c) (A m c) (B m c) (P m c) (Q m c) (_root_.Se.bk0 m c t) (_root_.Se.bk3 m c t) (_root_.Se.bk4 m c t) (_root_.Se.bk5 m c t) (_root_.Se.bk6 m c t)
    (_root_.Se.bk7 m c t) (_root_.Se.bk8 m c t) (_root_.Se.bk9 m c t) (k0_pay1 (_root_.Se.bk1 m c t)) (k0_pay2 (_root_.Se.bk2 m c t))
    (by rw [bk0_eq]; exact rows_apply _) (by rw [bk3_eq]; exact flat_apply _) (by rw [bk4_eq]; exact flat_apply _) (by rw [bk5_eq]; exact diag_apply _) (by rw [bk6_eq]; exact diag_apply _)
    (fun s g p => (pay1_apply _ s _).trans (by rw [bk1_eq]; exact flat8_apply _ s g p)) (fun s g p => (pay2_apply _ s _).trans (by rw [bk2_eq]; exact flat8_apply _ s g p)) s g p
  have r (y : S8x8192.Idx → EReal) : shapeCast S1x8x8192 y shapeCasts_S8x8192_S1x8x8192 (ix3 0 s (cg g p)) = y (ix2 s (cg g p)) := by
    refine shapeCast_apply (s := S8x8192) (t := S1x8x8192) _ _ _ (ix2 s (cg g p) : S8x8192.Idx) ?_
    rw [Shape.rowMajor_val_three, Shape.rowMajor_val_two]
    show s.val * 8192 + (64 * g.val + p.val) = (0 * 8 + s.val) * 8192 + (64 * g.val + p.val)
    omega
  exact ⟨(r _).trans e.1, (r _).trans e.2⟩

theorem final11 (c : Dev nD) : (_root_.Se.dats m 0 c).arrAt 11 cfg0.N = (_root_.Se.o11 m c t0_0 : Buf (Elt Ideal) ((c : Thread nD τ).loc main_v65_1)) := by
  refine (_root_.Se.dats m 0 c).arrAt_eq_of_cover 11 _ (fun t _ => ?_) (fun i => ?_)
  · show (cfg0.win 11).cut (grid0.coords t) ((_root_.Se.dats m 0 c).after 11 t) = _
    rw [_root_.Se.after11]
    funext j
    obtain rfl : t = t0_0 := fin_N0 t
    show _root_.Se.o11 m c t0_0 j = _root_.Se.o11 m c t0_0 ((win0_11.rect t0_0).emb j)
    have v (a) := Pipeline.Window.rect_emb_val win0_11 t0_0 j a
    rw [(idx t0_0).2.2.2.2.2.2.2.1] at v
    refine congrArg (_root_.Se.o11 m c t0_0) (?_ : (j : S1x8x8192.Idx) = _)
    funext a; apply Fin.ext
    match a with
    | ⟨0, _⟩ => exact .trans (by show (j 0).val = 0 * 1 + (j 0).val; omega) (v 0).symm
    | ⟨1, _⟩ => exact .trans (by show (j 1).val = 0 * 8 + (j 1).val; omega) (v 1).symm
    | ⟨2, _⟩ => exact .trans (by show (j 2).val = 0 * 8192 + (j 2).val; omega) (v 2).symm
  · have h0 : (i 0).val < 1 := (i 0).isLt
    have h1 : (i 1).val < 8 := (i 1).isLt
    have h2 : (i 2).val < 8192 := (i 2).isLt
    refine ⟨t0_0, flush0_11 t0_0, ?_⟩
    show i ∈ ((View.whole main_v65_1).slice (win0_11.rect t0_0)).set
    rw [View.set_slice_whole, Rect.mem_set_unit]
    intro a
    show win0_11.index t0_0 a * win0_11.size a ≤ (i a).val ∧ (i a).val < win0_11.index t0_0 a * win0_11.size a + win0_11.size a
    rw [(idx t0_0).2.2.2.2.2.2.2.1]
    match a with
    | ⟨0, _⟩ => show 0 * 1 ≤ (i 0).val ∧ (i 0).val < 0 * 1 + 1; omega
    | ⟨1, _⟩ => show 0 * 8 ≤ (i 1).val ∧ (i 1).val < 0 * 8 + 8; omega
    | ⟨2, _⟩ => show 0 * 8192 ≤ (i 2).val ∧ (i 2).val < 0 * 8192 + 8192; omega

theorem final12 (c : Dev nD) : (_root_.Se.dats m 0 c).arrAt 12 cfg0.N = (_root_.Se.o12 m c t0_0 : Buf (Elt Ideal) ((c : Thread nD τ).loc main_v65_2)) := by
  refine (_root_.Se.dats m 0 c).arrAt_eq_of_cover 12 _ (fun t _ => ?_) (fun i => ?_)
  · show (cfg0.win 12).cut (grid0.coords t) ((_root_.Se.dats m 0 c).after 12 t) = _
    rw [_root_.Se.after12]
    funext j
    obtain rfl : t = t0_0 := fin_N0 t
    show _root_.Se.o12 m c t0_0 j = _root_.Se.o12 m c t0_0 ((win0_12.rect t0_0).emb j)
    have v (a) := Pipeline.Window.rect_emb_val win0_12 t0_0 j a
    rw [(idx t0_0).2.2.2.2.2.2.2.2] at v
    refine congrArg (_root_.Se.o12 m c t0_0) (?_ : (j : S1x8x8192.Idx) = _)
    funext a; apply Fin.ext
    match a with
    | ⟨0, _⟩ => exact .trans (by show (j 0).val = 0 * 1 + (j 0).val; omega) (v 0).symm
    | ⟨1, _⟩ => exact .trans (by show (j 1).val = 0 * 8 + (j 1).val; omega) (v 1).symm
    | ⟨2, _⟩ => exact .trans (by show (j 2).val = 0 * 8192 + (j 2).val; omega) (v 2).symm
  · have h0 : (i 0).val < 1 := (i 0).isLt
    have h1 : (i 1).val < 8 := (i 1).isLt
    have h2 : (i 2).val < 8192 := (i 2).isLt
    refine ⟨t0_0, flush0_12 t0_0, ?_⟩
    show i ∈ ((View.whole main_v65_2).slice (win0_12.rect t0_0)).set
    rw [View.set_slice_whole, Rect.mem_set_unit]
    intro a
    show win0_12.index t0_0 a * win0_12.size a ≤ (i a).val ∧ (i a).val < win0_12.index t0_0 a * win0_12.size a + win0_12.size a
    rw [(idx t0_0).2.2.2.2.2.2.2.2]
    match a with
    | ⟨0, _⟩ => show 0 * 1 ≤ (i 0).val ∧ (i 0).val < 0 * 1 + 1; omega
    | ⟨1, _⟩ => show 0 * 8 ≤ (i 1).val ∧ (i 1).val < 0 * 8 + 8; omega
    | ⟨2, _⟩ => show 0 * 8192 ≤ (i 2).val ∧ (i 2).val < 0 * 8192 + 8192; omega

theorem spread : Function.Injective (Pipeline.arrRef spec0) := by decide

theorem left11 (c : Dev nD) : Pipeline.withArrays (cfgs 0).spec c (V0 m c) (fun w => (_root_.Se.dats m 0 c).arrAt w (cfgs 0).N) (Proc.devRef .tc main_v65_1) = _root_.Se.o11 m c t0_0 :=
  (Pipeline.withArrays_arr spec0 spread c (V0 m c) (fun w => (_root_.Se.dats m 0 c).arrAt w cfg0.N) 11).trans (final11 m c)
theorem left12 (c : Dev nD) : Pipeline.withArrays (cfgs 0).spec c (V0 m c) (fun w => (_root_.Se.dats m 0 c).arrAt w (cfgs 0).N) (Proc.devRef .tc main_v65_2) = _root_.Se.o12 m c t0_0 :=
  (Pipeline.withArrays_arr spec0 spread c (V0 m c) (fun w => (_root_.Se.dats m 0 c).arrAt w cfg0.N) 12).trans (final12 m c)

/-- The host lines after the call, from any contents. -/
theorem tailRe (W : Valuation τ sig (Elt Ideal)) : StableHlo.after (List.flatten [hostOps1]) W (Proc.devRef .tc main_v66) = shapeCast S8x128x64 (W (Proc.devRef .tc main_v65_1)) shapeCasts_S1x8x8192_S8x128x64 := by
  show StableHlo.after hostOps1 _ _ = _
  after_results <;> rfl
theorem tailIm (W : Valuation τ sig (Elt Ideal)) : StableHlo.after (List.flatten [hostOps1]) W (Proc.devRef .tc main_v67) = shapeCast S8x128x64 (W (Proc.devRef .tc main_v65_2)) shapeCasts_S1x8x8192_S8x128x64 := by
  show StableHlo.after hostOps1 _ _ = _
  after_results <;> rfl

theorem parted (y : S1x8x8192.Idx → EReal) (s : Fin 8) (g : Fin 128) (p : Fin 64) : shapeCast S8x128x64 y shapeCasts_S1x8x8192_S8x128x64 (ix3 s g p) = y (ix3 0 s (cg g p)) := by
  refine shapeCast_apply (s := S1x8x8192) (t := S8x128x64) _ _ _ (ix3 0 s (cg g p) : S1x8x8192.Idx) ?_
  rw [Shape.rowMajor_val_three, Shape.rowMajor_val_three]
  show (0 * 8 + s.val) * 8192 + (64 * g.val + p.val) = (s.val * 128 + g.val) * 64 + p.val
  omega

theorem resRe (c : Dev nD) : Pipeline.afterTail₀ cfgs (_root_.Se.dats m) 0 (V0 m) [hostOps1] c main_v66 = lastRe (U m c) (H m c) (I m c) (A m c) (B m c) (P m c) (Q m c) := by
  unfold Pipeline.afterTail₀
  refine (tailRe _).trans ?_
  rw [left11]
  funext j
  obtain ⟨s, g, p, rfl⟩ : ∃ (s : Fin 8) (g : Fin 128) (p : Fin 64), j = ix3 s g p := ⟨_, _, _, eq_ix3 j⟩
  exact (parted _ s g p).trans (ends m c t0_0 s g p).1

theorem resIm (c : Dev nD) : Pipeline.afterTail₀ cfgs (_root_.Se.dats m) 0 (V0 m) [hostOps1] c main_v67 = lastIm (U m c) (H m c) (I m c) (A m c) (B m c) (P m c) (Q m c) := by
  unfold Pipeline.afterTail₀
  refine (tailIm _).trans ?_
  rw [left12]
  funext j
  obtain ⟨s, g, p, rfl⟩ : ∃ (s : Fin 8) (g : Fin 128) (p : Fin 64), j = ix3 s g p := ⟨_, _, _, eq_ix3 j⟩
  exact (parted _ s g p).trans (ends m c t0_0 s g p).2

/-! ### The claims -/

theorem frame : Cert.quiescent_Se := fun m ρ _ => by
  have h := _root_.Se.run_frame (F := Bits) m ρ
  rw [← tables, ← mains] at h
  exact h
theorem frameIdeal : Cert.quiescent_SeIdeal := fun m ρ _ => _root_.Se.run_frame (F := Ideal) m ρ
theorem frameRef : Cert.quiescent_SeRefIdeal := fun m ρ _ =>
  (θ_run Cert.SeRefIdeal.defs _ _).mono (fun r h => ⟨fun c => (h c).2.2, Idealize.ShloMosaic.sem_eq_zero_of_no_sems (by decide) r.2⟩)
    (Cert.SeRefIdeal.Value.run (F := Ideal) m ρ)

theorem algebraic : Cert.algebraic_SeIdeal_SeRefIdeal := by
  intro m ρ m' ρ' _ hagree
  refine ⟨fun c => lastRe (U m c) (H m c) (I m c) (A m c) (B m c) (P m c) (Q m c), fun c => lastIm (U m c) (H m c) (I m c) (A m c) (B m c) (P m c) (Q m c), ?_, ?_⟩
  · have hf := _root_.Se.run_main (F := Ideal) m ρ
    exact (θ_run Cert.SeIdeal.defs _ _).mono (fun _ h c => ⟨((h c).2 main_v66 (Pipeline.mem_restRefs_of main_v66 (by decide) (by decide))).trans (resRe m c),
      ((h c).2 main_v67 (Pipeline.mem_restRefs_of main_v67 (by decide) (by decide))).trans (resIm m c),
      ((h c).2 main_arg0 (Pipeline.mem_restRefs_of main_arg0 (by decide) (by decide))).trans (W_main_arg0 m (_root_.Se.dats m) c),
      ((h c).2 main_arg1 (Pipeline.mem_restRefs_of main_arg1 (by decide) (by decide))).trans (W_main_arg1 m (_root_.Se.dats m) c),
      ((h c).2 main_arg2 (Pipeline.mem_restRefs_of main_arg2 (by decide) (by decide))).trans (W_main_arg2 m (_root_.Se.dats m) c),
      ((h c).2 main_arg3 (Pipeline.mem_restRefs_of main_arg3 (by decide) (by decide))).trans (W_main_arg3 m (_root_.Se.dats m) c),
      ((h c).2 main_arg4 (Pipeline.mem_restRefs_of main_arg4 (by decide) (by decide))).trans (W_main_arg4 m (_root_.Se.dats m) c),
      ((h c).2 main_arg5 (Pipeline.mem_restRefs_of main_arg5 (by decide) (by decide))).trans (W_main_arg5 m (_root_.Se.dats m) c),
      ((h c).2 main_arg6 (Pipeline.mem_restRefs_of main_arg6 (by decide) (by decide))).trans (W_main_arg6 m (_root_.Se.dats m) c),
      ((h c).2 main_arg7 (Pipeline.mem_restRefs_of main_arg7 (by decide) (by decide))).trans (W_main_arg7 m (_root_.Se.dats m) c),
      ((h c).2 main_arg8 (Pipeline.mem_restRefs_of main_arg8 (by decide) (by decide))).trans (W_main_arg8 m (_root_.Se.dats m) c),
      ((h c).2 main_arg9 (Pipeline.mem_restRefs_of main_arg9 (by decide) (by decide))).trans (W_main_arg9 m (_root_.Se.dats m) c)⟩) hf
  refine (θ_run Cert.SeRefIdeal.defs _ _).mono (fun _ h c => ?_) (Cert.SeRefIdeal.Value.run (F := Ideal) m' ρ')
  obtain ⟨h0, h1, hk⟩ := h c
  obtain ⟨a0, a1, a2, a3, a4, a5, a6, _, _, _⟩ := hagree c
  have e0 : SeRef.U (StableHlo.launchContents m' c) = U m c := a0
  have e1 : SeRef.H (StableHlo.launchContents m' c) = H m c := a1
  have e2 : SeRef.I (StableHlo.launchContents m' c) = I m c := a2
  have e3 : SeRef.A (StableHlo.launchContents m' c) = A m c := a3
  have e4 : SeRef.B (StableHlo.launchContents m' c) = B m c := a4
  have e5 : SeRef.P (StableHlo.launchContents m' c) = P m c := a5
  have e6 : SeRef.Q (StableHlo.launchContents m' c) = Q m c := a6
  refine ⟨h0.trans ((SeRef.re_eq (StableHlo.launchContents m' c)).trans ?_), h1.trans ((SeRef.im_eq (StableHlo.launchContents m' c)).trans ?_), hk⟩
  · rw [e0, e1, e2, e3, e4, e5, e6]
  · rw [e0, e1, e2, e3, e4, e5, e6]

end Cert.Proof.Se

end
-- ==== Proof.lean ====
module

public import proofs.«01_k».proof.Defs
public import proofs.«01_k».proof.Proof.Gates
public import proofs.«01_k».proof.Proof.Qu
public import proofs.«01_k».proof.Proof.Kv
public import proofs.«01_k».proof.Proof.Ks
public import proofs.«01_k».proof.Proof.Vs
public import proofs.«01_k».proof.Proof.Down
public import proofs.«01_k».proof.Proof.Out
public import proofs.«01_k».proof.Proof.Yp
public import proofs.«01_k».proof.Proof.Ys
public import proofs.«01_k».proof.Proof.Up
public import proofs.«01_k».proof.Proof.Uc
public import proofs.«01_k».proof.Proof.SeEnd

@[expose] public section

namespace Cert.Proof

theorem claim : Cert.Claim :=
  ⟨Cert.Gates.Gen.facts, Cert.GatesIdeal.Gen.facts, Cert.GatesRefIdeal.Gen.facts, Cert.Qu.Gen.facts, Cert.QuIdeal.Gen.facts, Cert.QuRefIdeal.Gen.facts, Cert.Kv.Gen.facts, Cert.KvIdeal.Gen.facts, Cert.KvRefIdeal.Gen.facts, Cert.Ks.Gen.facts, Cert.KsIdeal.Gen.facts, Cert.KsRefIdeal.Gen.facts, Cert.Vs.Gen.facts, Cert.VsIdeal.Gen.facts, Cert.VsRefIdeal.Gen.facts, Cert.Down.Gen.facts, Cert.DownIdeal.Gen.facts, Cert.DownRefIdeal.Gen.facts, Cert.Out.Gen.facts, Cert.OutIdeal.Gen.facts, Cert.OutRefIdeal.Gen.facts, Cert.Yp.Gen.facts, Cert.YpIdeal.Gen.facts, Cert.YpRefIdeal.Gen.facts, Cert.Ys.Gen.facts, Cert.YsIdeal.Gen.facts, Cert.YsRefIdeal.Gen.facts, Cert.Up.Gen.facts, Cert.UpIdeal.Gen.facts, Cert.UpRefIdeal.Gen.facts, Cert.Uc.Gen.facts, Cert.UcIdeal.Gen.facts, Cert.UcRefIdeal.Gen.facts, Cert.Se.Gen.facts, Cert.SeIdeal.Gen.facts, Cert.SeRefIdeal.Gen.facts,
    Gates.frame, Gates.frameIdeal, Gates.frameRef, Qu.frame, Qu.frameIdeal, Qu.frameRef, Kv.frame, Kv.frameIdeal, Kv.frameRef, Ks.frame, Ks.frameIdeal, Ks.frameRef, Vs.frame, Vs.frameIdeal, Vs.frameRef, Down.frame, Down.frameIdeal, Down.frameRef, Out.frame, Out.frameIdeal, Out.frameRef, Yp.frame, Yp.frameIdeal, Yp.frameRef, Ys.frame, Ys.frameIdeal, Ys.frameRef, Up.frame, Up.frameIdeal, Up.frameRef, Uc.frame, Uc.frameIdeal, Uc.frameRef, Se.frame, Se.frameIdeal, Se.frameRef,
    trivial, Gates.algebraic, trivial, Qu.algebraic, trivial, Kv.algebraic, trivial, Ks.algebraic, trivial, Vs.algebraic, trivial, Down.algebraic, trivial, Out.algebraic, trivial, Yp.algebraic, trivial, Ys.algebraic, trivial, Up.algebraic, trivial, Uc.algebraic, trivial, Se.algebraic⟩

end Cert.Proof
